-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_scans_finite [hPre_scans_finite : Cert.Pre_scans_finite.Facts] (m : (ℓ : Loc Cert.MergeIdeal.nD Cert.MergeIdeal.τ Cert.MergeIdeal.sig) → Buf (Elt Ideal) ℓ) : Prop :=
  ∀ c : Dev Cert.MergeIdeal.nD,
    (Cert.Pre_scans_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_scans_finite [hPre_scans_finite : Cert.Pre_scans_finite.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_scans_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11))) = (fun _ => 1#1)

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_router_finite [hPre_router_finite : Cert.Pre_router_finite.Facts] (m : (ℓ : Loc Cert.RouterIdeal.nD Cert.RouterIdeal.τ Cert.RouterIdeal.sig) → Buf (Elt Ideal) ℓ) : Prop :=
  ∀ c : Dev Cert.RouterIdeal.nD,
    (Cert.Pre_router_finite.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2))) = (fun _ => 1#1)

def Pre_RouterRefIdeal (m : (ℓ : Loc Cert.RouterRefIdeal.nD Cert.RouterRefIdeal.τ Cert.RouterRefIdeal.sig) → Buf (Elt Ideal) ℓ) : Prop :=
  True

def Pre_RouterRefIdeal_router_finite [hPre_router_finite : Cert.Pre_router_finite.Facts] (m : (ℓ : Loc Cert.RouterRefIdeal.nD Cert.RouterRefIdeal.τ Cert.RouterRefIdeal.sig) → Buf (Elt Ideal) ℓ) : Prop :=
  ∀ c : Dev Cert.RouterRefIdeal.nD,
    (Cert.Pre_router_finite.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2))) = (fun _ => 1#1)

def Pre_Rwprep (m : (ℓ : Loc Cert.Rwprep.nD Cert.Rwprep.τ Cert.Rwprep.sig) → Buf (Elt Bits) ℓ) : Prop :=
  True

def Pre_RwprepIdeal (m : (ℓ : Loc Cert.RwprepIdeal.nD Cert.RwprepIdeal.τ Cert.RwprepIdeal.sig) → Buf (Elt Ideal) ℓ) : Prop :=
  True

def Pre_RwprepIdeal_keys_finite [hPre_keys_finite : Cert.Pre_keys_finite.Facts] (m : (ℓ : Loc Cert.RwprepIdeal.nD Cert.RwprepIdeal.τ Cert.RwprepIdeal.sig) → Buf (Elt Ideal) ℓ) : Prop :=
  ∀ c : Dev Cert.RwprepIdeal.nD,
    (Cert.Pre_keys_finite.fn (F := Ideal) (m ((c.tc : Thread Cert.RwprepIdeal.nD Cert.RwprepIdeal.τ).loc Cert.RwprepIdeal.main_arg0)) (m ((c.tc : Thread Cert.RwprepIdeal.nD Cert.RwprepIdeal.τ).loc Cert.RwprepIdeal.main_arg1)) (m ((c.tc : Thread Cert.RwprepIdeal.nD Cert.RwprepIdeal.τ).loc Cert.RwprepIdeal.main_arg2)) (m ((c.tc : Thread Cert.RwprepIdeal.nD Cert.RwprepIdeal.τ).loc Cert.RwprepIdeal.main_arg3)) (m ((c.tc : Thread Cert.RwprepIdeal.nD Cert.RwprepIdeal.τ).loc Cert.RwprepIdeal.main_arg4)) (m ((c.tc : Thread Cert.RwprepIdeal.nD Cert.RwprepIdeal.τ).loc Cert.RwprepIdeal.main_arg5)) (m ((c.tc : Thread Cert.RwprepIdeal.nD Cert.RwprepIdeal.τ).loc Cert.RwprepIdeal.main_arg6)) (m ((c.tc : Thread Cert.RwprepIdeal.nD Cert.RwprepIdeal.τ).loc Cert.RwprepIdeal.main_arg7)) (m ((c.tc : Thread Cert.RwprepIdeal.nD Cert.RwprepIdeal.τ).loc Cert.RwprepIdeal.main_arg8))) = (fun _ => 1#1)

def Pre_RwprepRefIdeal (m : (ℓ : Loc Cert.RwprepRefIdeal.nD Cert.RwprepRefIdeal.τ Cert.RwprepRefIdeal.sig) → Buf (Elt Ideal) ℓ) : Prop :=
  True

def Pre_RwprepRefIdeal_keys_finite [hPre_keys_finite : Cert.Pre_keys_finite.Facts] (m : (ℓ : Loc Cert.RwprepRefIdeal.nD Cert.RwprepRefIdeal.τ Cert.RwprepRefIdeal.sig) → Buf (Elt Ideal) ℓ) : Prop :=
  ∀ c : Dev Cert.RwprepRefIdeal.nD,
    (Cert.Pre_keys_finite.fn (F := Ideal) (m ((c.tc : Thread Cert.RwprepRefIdeal.nD Cert.RwprepRefIdeal.τ).loc Cert.RwprepRefIdeal.main_arg0)) (m ((c.tc : Thread Cert.RwprepRefIdeal.nD Cert.RwprepRefIdeal.τ).loc Cert.RwprepRefIdeal.main_arg1)) (m ((c.tc : Thread Cert.RwprepRefIdeal.nD Cert.RwprepRefIdeal.τ).loc Cert.RwprepRefIdeal.main_arg2)) (m ((c.tc : Thread Cert.RwprepRefIdeal.nD Cert.RwprepRefIdeal.τ).loc Cert.RwprepRefIdeal.main_arg3)) (m ((c.tc : Thread Cert.RwprepRefIdeal.nD Cert.RwprepRefIdeal.τ).loc Cert.RwprepRefIdeal.main_arg4)) (m ((c.tc : Thread Cert.RwprepRefIdeal.nD Cert.RwprepRefIdeal.τ).loc Cert.RwprepRefIdeal.main_arg5)) (m ((c.tc : Thread Cert.RwprepRefIdeal.nD Cert.RwprepRefIdeal.τ).loc Cert.RwprepRefIdeal.main_arg6)) (m ((c.tc : Thread Cert.RwprepRefIdeal.nD Cert.RwprepRefIdeal.τ).loc Cert.RwprepRefIdeal.main_arg7)) (m ((c.tc : Thread Cert.RwprepRefIdeal.nD Cert.RwprepRefIdeal.τ).loc Cert.RwprepRefIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeIdeal_pre_scans_finite [hMergeIdeal : Cert.MergeIdeal.Facts] [hPre_scans_finite : Cert.Pre_scans_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_scans_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_MergeRefIdeal_pre_scans_finite [hMergeRefIdeal : Cert.MergeRefIdeal.Facts] [hPre_scans_finite : Cert.Pre_scans_finite.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_scans_finite m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ r.2.sem = fun _ => 0)

def quiescent_RouterIdeal_pre_router_finite [hRouterIdeal : Cert.RouterIdeal.Facts] [hPre_router_finite : Cert.Pre_router_finite.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_router_finite m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2))
      ∧ r.2.sem = fun _ => 0)

def quiescent_RouterRefIdeal_pre_router_finite [hRouterRefIdeal : Cert.RouterRefIdeal.Facts] [hPre_router_finite : Cert.Pre_router_finite.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal_router_finite m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2))
      ∧ r.2.sem = fun _ => 0)

def quiescent_Rwprep [hRwprep : Cert.Rwprep.Facts] : Prop :=
  ∀ (m : (ℓ : Loc Cert.Rwprep.nD Cert.Rwprep.τ Cert.Rwprep.sig) → Buf (Elt Bits) ℓ) (g : Dev Cert.Rwprep.nD → PrngReg), Pre_Rwprep m →
    θ_run (Cert.Rwprep.defs (F := Bits)) (onTc (τ := Cert.Rwprep.τ) (Cert.Rwprep.main (F := Bits))) ⟨m, fun _ => 0, g⟩ (fun r => (∀ c : Dev Cert.Rwprep.nD,
      r.2.mem ((c.tc : Thread Cert.Rwprep.nD Cert.Rwprep.τ).loc Cert.Rwprep.main_arg0) = m ((c.tc : Thread Cert.Rwprep.nD Cert.Rwprep.τ).loc Cert.Rwprep.main_arg0)
      ∧ r.2.mem ((c.tc : Thread Cert.Rwprep.nD Cert.Rwprep.τ).loc Cert.Rwprep.main_arg1) = m ((c.tc : Thread Cert.Rwprep.nD Cert.Rwprep.τ).loc Cert.Rwprep.main_arg1)
      ∧ r.2.mem ((c.tc : Thread Cert.Rwprep.nD Cert.Rwprep.τ).loc Cert.Rwprep.main_arg2) = m ((c.tc : Thread Cert.Rwprep.nD Cert.Rwprep.τ).loc Cert.Rwprep.main_arg2)
      ∧ r.2.mem ((c.tc : Thread Cert.Rwprep.nD Cert.Rwprep.τ).loc Cert.Rwprep.main_arg3) = m ((c.tc : Thread Cert.Rwprep.nD Cert.Rwprep.τ).loc Cert.Rwprep.main_arg3)
      ∧ r.2.mem ((c.tc : Thread Cert.Rwprep.nD Cert.Rwprep.τ).loc Cert.Rwprep.main_arg4) = m ((c.tc : Thread Cert.Rwprep.nD Cert.Rwprep.τ).loc Cert.Rwprep.main_arg4)
      ∧ r.2.mem ((c.tc : Thread Cert.Rwprep.nD Cert.Rwprep.τ).loc Cert.Rwprep.main_arg5) = m ((c.tc : Thread Cert.Rwprep.nD Cert.Rwprep.τ).loc Cert.Rwprep.main_arg5)
      ∧ r.2.mem ((c.tc : Thread Cert.Rwprep.nD Cert.Rwprep.τ).loc Cert.Rwprep.main_arg6) = m ((c.tc : Thread Cert.Rwprep.nD Cert.Rwprep.τ).loc Cert.Rwprep.main_arg6)
      ∧ r.2.mem ((c.tc : Thread Cert.Rwprep.nD Cert.Rwprep.τ).loc Cert.Rwprep.main_arg7) = m ((c.tc : Thread Cert.Rwprep.nD Cert.Rwprep.τ).loc Cert.Rwprep.main_arg7)
      ∧ r.2.mem ((c.tc : Thread Cert.Rwprep.nD Cert.Rwprep.τ).loc Cert.Rwprep.main_arg8) = m ((c.tc : Thread Cert.Rwprep.nD Cert.Rwprep.τ).loc Cert.Rwprep.main_arg8))
      ∧ r.2.sem = fun _ => 0)

def quiescent_RwprepIdeal [hRwprepIdeal : Cert.RwprepIdeal.Facts] : Prop :=
  ∀ (m : (ℓ : Loc Cert.RwprepIdeal.nD Cert.RwprepIdeal.τ Cert.RwprepIdeal.sig) → Buf (Elt Ideal) ℓ) (g : Dev Cert.RwprepIdeal.nD → PrngReg), Pre_RwprepIdeal m →
    θ_run (Cert.RwprepIdeal.defs (F := Ideal)) (onTc (τ := Cert.RwprepIdeal.τ) (Cert.RwprepIdeal.main (F := Ideal))) ⟨m, fun _ => 0, g⟩ (fun r => (∀ c : Dev Cert.RwprepIdeal.nD,
      r.2.mem ((c.tc : Thread Cert.RwprepIdeal.nD Cert.RwprepIdeal.τ).loc Cert.RwprepIdeal.main_arg0) = m ((c.tc : Thread Cert.RwprepIdeal.nD Cert.RwprepIdeal.τ).loc Cert.RwprepIdeal.main_arg0)
      ∧ r.2.mem ((c.tc : Thread Cert.RwprepIdeal.nD Cert.RwprepIdeal.τ).loc Cert.RwprepIdeal.main_arg1) = m ((c.tc : Thread Cert.RwprepIdeal.nD Cert.RwprepIdeal.τ).loc Cert.RwprepIdeal.main_arg1)
      ∧ r.2.mem ((c.tc : Thread Cert.RwprepIdeal.nD Cert.RwprepIdeal.τ).loc Cert.RwprepIdeal.main_arg2) = m ((c.tc : Thread Cert.RwprepIdeal.nD Cert.RwprepIdeal.τ).loc Cert.RwprepIdeal.main_arg2)
      ∧ r.2.mem ((c.tc : Thread Cert.RwprepIdeal.nD Cert.RwprepIdeal.τ).loc Cert.RwprepIdeal.main_arg3) = m ((c.tc : Thread Cert.RwprepIdeal.nD Cert.RwprepIdeal.τ).loc Cert.RwprepIdeal.main_arg3)
      ∧ r.2.mem ((c.tc : Thread Cert.RwprepIdeal.nD Cert.RwprepIdeal.τ).loc Cert.RwprepIdeal.main_arg4) = m ((c.tc : Thread Cert.RwprepIdeal.nD Cert.RwprepIdeal.τ).loc Cert.RwprepIdeal.main_arg4)
      ∧ r.2.mem ((c.tc : Thread Cert.RwprepIdeal.nD Cert.RwprepIdeal.τ).loc Cert.RwprepIdeal.main_arg5) = m ((c.tc : Thread Cert.RwprepIdeal.nD Cert.RwprepIdeal.τ).loc Cert.RwprepIdeal.main_arg5)
      ∧ r.2.mem ((c.tc : Thread Cert.RwprepIdeal.nD Cert.RwprepIdeal.τ).loc Cert.RwprepIdeal.main_arg6) = m ((c.tc : Thread Cert.RwprepIdeal.nD Cert.RwprepIdeal.τ).loc Cert.RwprepIdeal.main_arg6)
      ∧ r.2.mem ((c.tc : Thread Cert.RwprepIdeal.nD Cert.RwprepIdeal.τ).loc Cert.RwprepIdeal.main_arg7) = m ((c.tc : Thread Cert.RwprepIdeal.nD Cert.RwprepIdeal.τ).loc Cert.RwprepIdeal.main_arg7)
      ∧ r.2.mem ((c.tc : Thread Cert.RwprepIdeal.nD Cert.RwprepIdeal.τ).loc Cert.RwprepIdeal.main_arg8) = m ((c.tc : Thread Cert.RwprepIdeal.nD Cert.RwprepIdeal.τ).loc Cert.RwprepIdeal.main_arg8))
      ∧ r.2.sem = fun _ => 0)

def quiescent_RwprepIdeal_pre_keys_finite [hRwprepIdeal : Cert.RwprepIdeal.Facts] [hPre_keys_finite : Cert.Pre_keys_finite.Facts] : Prop :=
  ∀ (m : (ℓ : Loc Cert.RwprepIdeal.nD Cert.RwprepIdeal.τ Cert.RwprepIdeal.sig) → Buf (Elt Ideal) ℓ) (g : Dev Cert.RwprepIdeal.nD → PrngReg), Pre_RwprepIdeal_keys_finite m →
    θ_run (Cert.RwprepIdeal.defs (F := Ideal)) (onTc (τ := Cert.RwprepIdeal.τ) (Cert.RwprepIdeal.main (F := Ideal))) ⟨m, fun _ => 0, g⟩ (fun r => (∀ c : Dev Cert.RwprepIdeal.nD,
      r.2.mem ((c.tc : Thread Cert.RwprepIdeal.nD Cert.RwprepIdeal.τ).loc Cert.RwprepIdeal.main_arg0) = m ((c.tc : Thread Cert.RwprepIdeal.nD Cert.RwprepIdeal.τ).loc Cert.RwprepIdeal.main_arg0)
      ∧ r.2.mem ((c.tc : Thread Cert.RwprepIdeal.nD Cert.RwprepIdeal.τ).loc Cert.RwprepIdeal.main_arg1) = m ((c.tc : Thread Cert.RwprepIdeal.nD Cert.RwprepIdeal.τ).loc Cert.RwprepIdeal.main_arg1)
      ∧ r.2.mem ((c.tc : Thread Cert.RwprepIdeal.nD Cert.RwprepIdeal.τ).loc Cert.RwprepIdeal.main_arg2) = m ((c.tc : Thread Cert.RwprepIdeal.nD Cert.RwprepIdeal.τ).loc Cert.RwprepIdeal.main_arg2)
      ∧ r.2.mem ((c.tc : Thread Cert.RwprepIdeal.nD Cert.RwprepIdeal.τ).loc Cert.RwprepIdeal.main_arg3) = m ((c.tc : Thread Cert.RwprepIdeal.nD Cert.RwprepIdeal.τ).loc Cert.RwprepIdeal.main_arg3)
      ∧ r.2.mem ((c.tc : Thread Cert.RwprepIdeal.nD Cert.RwprepIdeal.τ).loc Cert.RwprepIdeal.main_arg4) = m ((c.tc : Thread Cert.RwprepIdeal.nD Cert.RwprepIdeal.τ).loc Cert.RwprepIdeal.main_arg4)
      ∧ r.2.mem ((c.tc : Thread Cert.RwprepIdeal.nD Cert.RwprepIdeal.τ).loc Cert.RwprepIdeal.main_arg5) = m ((c.tc : Thread Cert.RwprepIdeal.nD Cert.RwprepIdeal.τ).loc Cert.RwprepIdeal.main_arg5)
      ∧ r.2.mem ((c.tc : Thread Cert.RwprepIdeal.nD Cert.RwprepIdeal.τ).loc Cert.RwprepIdeal.main_arg6) = m ((c.tc : Thread Cert.RwprepIdeal.nD Cert.RwprepIdeal.τ).loc Cert.RwprepIdeal.main_arg6)
      ∧ r.2.mem ((c.tc : Thread Cert.RwprepIdeal.nD Cert.RwprepIdeal.τ).loc Cert.RwprepIdeal.main_arg7) = m ((c.tc : Thread Cert.RwprepIdeal.nD Cert.RwprepIdeal.τ).loc Cert.RwprepIdeal.main_arg7)
      ∧ r.2.mem ((c.tc : Thread Cert.RwprepIdeal.nD Cert.RwprepIdeal.τ).loc Cert.RwprepIdeal.main_arg8) = m ((c.tc : Thread Cert.RwprepIdeal.nD Cert.RwprepIdeal.τ).loc Cert.RwprepIdeal.main_arg8))
      ∧ r.2.sem = fun _ => 0)

def quiescent_RwprepRefIdeal [hRwprepRefIdeal : Cert.RwprepRefIdeal.Facts] : Prop :=
  ∀ (m : (ℓ : Loc Cert.RwprepRefIdeal.nD Cert.RwprepRefIdeal.τ Cert.RwprepRefIdeal.sig) → Buf (Elt Ideal) ℓ) (g : Dev Cert.RwprepRefIdeal.nD → PrngReg), Pre_RwprepRefIdeal m →
    θ_run (Cert.RwprepRefIdeal.defs (F := Ideal)) (onTc (τ := Cert.RwprepRefIdeal.τ) (Cert.RwprepRefIdeal.main (F := Ideal))) ⟨m, fun _ => 0, g⟩ (fun r => (∀ c : Dev Cert.RwprepRefIdeal.nD,
      r.2.mem ((c.tc : Thread Cert.RwprepRefIdeal.nD Cert.RwprepRefIdeal.τ).loc Cert.RwprepRefIdeal.main_arg0) = m ((c.tc : Thread Cert.RwprepRefIdeal.nD Cert.RwprepRefIdeal.τ).loc Cert.RwprepRefIdeal.main_arg0)
      ∧ r.2.mem ((c.tc : Thread Cert.RwprepRefIdeal.nD Cert.RwprepRefIdeal.τ).loc Cert.RwprepRefIdeal.main_arg1) = m ((c.tc : Thread Cert.RwprepRefIdeal.nD Cert.RwprepRefIdeal.τ).loc Cert.RwprepRefIdeal.main_arg1)
      ∧ r.2.mem ((c.tc : Thread Cert.RwprepRefIdeal.nD Cert.RwprepRefIdeal.τ).loc Cert.RwprepRefIdeal.main_arg2) = m ((c.tc : Thread Cert.RwprepRefIdeal.nD Cert.RwprepRefIdeal.τ).loc Cert.RwprepRefIdeal.main_arg2)
      ∧ r.2.mem ((c.tc : Thread Cert.RwprepRefIdeal.nD Cert.RwprepRefIdeal.τ).loc Cert.RwprepRefIdeal.main_arg3) = m ((c.tc : Thread Cert.RwprepRefIdeal.nD Cert.RwprepRefIdeal.τ).loc Cert.RwprepRefIdeal.main_arg3)
      ∧ r.2.mem ((c.tc : Thread Cert.RwprepRefIdeal.nD Cert.RwprepRefIdeal.τ).loc Cert.RwprepRefIdeal.main_arg4) = m ((c.tc : Thread Cert.RwprepRefIdeal.nD Cert.RwprepRefIdeal.τ).loc Cert.RwprepRefIdeal.main_arg4)
      ∧ r.2.mem ((c.tc : Thread Cert.RwprepRefIdeal.nD Cert.RwprepRefIdeal.τ).loc Cert.RwprepRefIdeal.main_arg5) = m ((c.tc : Thread Cert.RwprepRefIdeal.nD Cert.RwprepRefIdeal.τ).loc Cert.RwprepRefIdeal.main_arg5)
      ∧ r.2.mem ((c.tc : Thread Cert.RwprepRefIdeal.nD Cert.RwprepRefIdeal.τ).loc Cert.RwprepRefIdeal.main_arg6) = m ((c.tc : Thread Cert.RwprepRefIdeal.nD Cert.RwprepRefIdeal.τ).loc Cert.RwprepRefIdeal.main_arg6)
      ∧ r.2.mem ((c.tc : Thread Cert.RwprepRefIdeal.nD Cert.RwprepRefIdeal.τ).loc Cert.RwprepRefIdeal.main_arg7) = m ((c.tc : Thread Cert.RwprepRefIdeal.nD Cert.RwprepRefIdeal.τ).loc Cert.RwprepRefIdeal.main_arg7)
      ∧ r.2.mem ((c.tc : Thread Cert.RwprepRefIdeal.nD Cert.RwprepRefIdeal.τ).loc Cert.RwprepRefIdeal.main_arg8) = m ((c.tc : Thread Cert.RwprepRefIdeal.nD Cert.RwprepRefIdeal.τ).loc Cert.RwprepRefIdeal.main_arg8))
      ∧ r.2.sem = fun _ => 0)

def quiescent_RwprepRefIdeal_pre_keys_finite [hRwprepRefIdeal : Cert.RwprepRefIdeal.Facts] [hPre_keys_finite : Cert.Pre_keys_finite.Facts] : Prop :=
  ∀ (m : (ℓ : Loc Cert.RwprepRefIdeal.nD Cert.RwprepRefIdeal.τ Cert.RwprepRefIdeal.sig) → Buf (Elt Ideal) ℓ) (g : Dev Cert.RwprepRefIdeal.nD → PrngReg), Pre_RwprepRefIdeal_keys_finite m →
    θ_run (Cert.RwprepRefIdeal.defs (F := Ideal)) (onTc (τ := Cert.RwprepRefIdeal.τ) (Cert.RwprepRefIdeal.main (F := Ideal))) ⟨m, fun _ => 0, g⟩ (fun r => (∀ c : Dev Cert.RwprepRefIdeal.nD,
      r.2.mem ((c.tc : Thread Cert.RwprepRefIdeal.nD Cert.RwprepRefIdeal.τ).loc Cert.RwprepRefIdeal.main_arg0) = m ((c.tc : Thread Cert.RwprepRefIdeal.nD Cert.RwprepRefIdeal.τ).loc Cert.RwprepRefIdeal.main_arg0)
      ∧ r.2.mem ((c.tc : Thread Cert.RwprepRefIdeal.nD Cert.RwprepRefIdeal.τ).loc Cert.RwprepRefIdeal.main_arg1) = m ((c.tc : Thread Cert.RwprepRefIdeal.nD Cert.RwprepRefIdeal.τ).loc Cert.RwprepRefIdeal.main_arg1)
      ∧ r.2.mem ((c.tc : Thread Cert.RwprepRefIdeal.nD Cert.RwprepRefIdeal.τ).loc Cert.RwprepRefIdeal.main_arg2) = m ((c.tc : Thread Cert.RwprepRefIdeal.nD Cert.RwprepRefIdeal.τ).loc Cert.RwprepRefIdeal.main_arg2)
      ∧ r.2.mem ((c.tc : Thread Cert.RwprepRefIdeal.nD Cert.RwprepRefIdeal.τ).loc Cert.RwprepRefIdeal.main_arg3) = m ((c.tc : Thread Cert.RwprepRefIdeal.nD Cert.RwprepRefIdeal.τ).loc Cert.RwprepRefIdeal.main_arg3)
      ∧ r.2.mem ((c.tc : Thread Cert.RwprepRefIdeal.nD Cert.RwprepRefIdeal.τ).loc Cert.RwprepRefIdeal.main_arg4) = m ((c.tc : Thread Cert.RwprepRefIdeal.nD Cert.RwprepRefIdeal.τ).loc Cert.RwprepRefIdeal.main_arg4)
      ∧ r.2.mem ((c.tc : Thread Cert.RwprepRefIdeal.nD Cert.RwprepRefIdeal.τ).loc Cert.RwprepRefIdeal.main_arg5) = m ((c.tc : Thread Cert.RwprepRefIdeal.nD Cert.RwprepRefIdeal.τ).loc Cert.RwprepRefIdeal.main_arg5)
      ∧ r.2.mem ((c.tc : Thread Cert.RwprepRefIdeal.nD Cert.RwprepRefIdeal.τ).loc Cert.RwprepRefIdeal.main_arg6) = m ((c.tc : Thread Cert.RwprepRefIdeal.nD Cert.RwprepRefIdeal.τ).loc Cert.RwprepRefIdeal.main_arg6)
      ∧ r.2.mem ((c.tc : Thread Cert.RwprepRefIdeal.nD Cert.RwprepRefIdeal.τ).loc Cert.RwprepRefIdeal.main_arg7) = m ((c.tc : Thread Cert.RwprepRefIdeal.nD Cert.RwprepRefIdeal.τ).loc Cert.RwprepRefIdeal.main_arg7)
      ∧ r.2.mem ((c.tc : Thread Cert.RwprepRefIdeal.nD Cert.RwprepRefIdeal.τ).loc Cert.RwprepRefIdeal.main_arg8) = m ((c.tc : Thread Cert.RwprepRefIdeal.nD Cert.RwprepRefIdeal.τ).loc Cert.RwprepRefIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v13)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v13) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v26) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_Merge_MergeIdeal : Prop :=
  True

def algebraic_MergeIdeal_MergeRefIdeal_pre_scans_finite [hMergeIdeal : Cert.MergeIdeal.Facts] [hMergeRefIdeal : Cert.MergeRefIdeal.Facts] [hPre_scans_finite : Cert.Pre_scans_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_scans_finite m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v13)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v13) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v66) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def preserves_Router_RouterIdeal : Prop :=
  True

def algebraic_RouterIdeal_RouterRefIdeal_pre_router_finite [hRouterIdeal : Cert.RouterIdeal.Facts] [hRouterRefIdeal : Cert.RouterRefIdeal.Facts] [hPre_router_finite : Cert.Pre_router_finite.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal_router_finite m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)) →
    ∃ (v0 : (c : Dev Cert.RouterIdeal.nD) → Buf (Elt Ideal) ((c.tc : Thread Cert.RouterIdeal.nD Cert.RouterIdeal.τ).loc Cert.RouterIdeal.main_v2_0)) (v1 : (c : Dev Cert.RouterIdeal.nD) → Buf (Elt Ideal) ((c.tc : Thread Cert.RouterIdeal.nD Cert.RouterIdeal.τ).loc Cert.RouterIdeal.main_v2_1)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v2_0) = v0 c
          ∧ r.2.mem ((c.tc : Thread Cert.RouterIdeal.nD Cert.RouterIdeal.τ).loc Cert.RouterIdeal.main_v2_1) = v1 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v13) = v0 c
          ∧ r.2.mem ((c.tc : Thread Cert.RouterRefIdeal.nD Cert.RouterRefIdeal.τ).loc Cert.RouterRefIdeal.main_v27) = v1 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2))

def preserves_Rwprep_RwprepIdeal : Prop :=
  True

def algebraic_RwprepIdeal_RwprepRefIdeal_pre_keys_finite [hRwprepIdeal : Cert.RwprepIdeal.Facts] [hRwprepRefIdeal : Cert.RwprepRefIdeal.Facts] [hPre_keys_finite : Cert.Pre_keys_finite.Facts] : Prop :=
  ∀ (m : (ℓ : Loc Cert.RwprepIdeal.nD Cert.RwprepIdeal.τ Cert.RwprepIdeal.sig) → Buf (Elt Ideal) ℓ) (g : Dev Cert.RwprepIdeal.nD → PrngReg)
    (m' : (ℓ : Loc Cert.RwprepRefIdeal.nD Cert.RwprepRefIdeal.τ Cert.RwprepRefIdeal.sig) → Buf (Elt Ideal) ℓ) (g' : Dev Cert.RwprepRefIdeal.nD → PrngReg), Pre_RwprepIdeal_keys_finite m →
    (∀ c : Dev Cert.RwprepIdeal.nD,
      m' ((c.tc : Thread Cert.RwprepRefIdeal.nD Cert.RwprepRefIdeal.τ).loc Cert.RwprepRefIdeal.main_arg0) = m ((c.tc : Thread Cert.RwprepIdeal.nD Cert.RwprepIdeal.τ).loc Cert.RwprepIdeal.main_arg0)
      ∧ m' ((c.tc : Thread Cert.RwprepRefIdeal.nD Cert.RwprepRefIdeal.τ).loc Cert.RwprepRefIdeal.main_arg1) = m ((c.tc : Thread Cert.RwprepIdeal.nD Cert.RwprepIdeal.τ).loc Cert.RwprepIdeal.main_arg1)
      ∧ m' ((c.tc : Thread Cert.RwprepRefIdeal.nD Cert.RwprepRefIdeal.τ).loc Cert.RwprepRefIdeal.main_arg2) = m ((c.tc : Thread Cert.RwprepIdeal.nD Cert.RwprepIdeal.τ).loc Cert.RwprepIdeal.main_arg2)
      ∧ m' ((c.tc : Thread Cert.RwprepRefIdeal.nD Cert.RwprepRefIdeal.τ).loc Cert.RwprepRefIdeal.main_arg3) = m ((c.tc : Thread Cert.RwprepIdeal.nD Cert.RwprepIdeal.τ).loc Cert.RwprepIdeal.main_arg3)
      ∧ m' ((c.tc : Thread Cert.RwprepRefIdeal.nD Cert.RwprepRefIdeal.τ).loc Cert.RwprepRefIdeal.main_arg4) = m ((c.tc : Thread Cert.RwprepIdeal.nD Cert.RwprepIdeal.τ).loc Cert.RwprepIdeal.main_arg4)
      ∧ m' ((c.tc : Thread Cert.RwprepRefIdeal.nD Cert.RwprepRefIdeal.τ).loc Cert.RwprepRefIdeal.main_arg5) = m ((c.tc : Thread Cert.RwprepIdeal.nD Cert.RwprepIdeal.τ).loc Cert.RwprepIdeal.main_arg5)
      ∧ m' ((c.tc : Thread Cert.RwprepRefIdeal.nD Cert.RwprepRefIdeal.τ).loc Cert.RwprepRefIdeal.main_arg6) = m ((c.tc : Thread Cert.RwprepIdeal.nD Cert.RwprepIdeal.τ).loc Cert.RwprepIdeal.main_arg6)
      ∧ m' ((c.tc : Thread Cert.RwprepRefIdeal.nD Cert.RwprepRefIdeal.τ).loc Cert.RwprepRefIdeal.main_arg7) = m ((c.tc : Thread Cert.RwprepIdeal.nD Cert.RwprepIdeal.τ).loc Cert.RwprepIdeal.main_arg7)
      ∧ m' ((c.tc : Thread Cert.RwprepRefIdeal.nD Cert.RwprepRefIdeal.τ).loc Cert.RwprepRefIdeal.main_arg8) = m ((c.tc : Thread Cert.RwprepIdeal.nD Cert.RwprepIdeal.τ).loc Cert.RwprepIdeal.main_arg8)) →
    ∃ (v0 : (c : Dev Cert.RwprepIdeal.nD) → Buf (Elt Ideal) ((c.tc : Thread Cert.RwprepIdeal.nD Cert.RwprepIdeal.τ).loc Cert.RwprepIdeal.main_v30_0)) (v1 : (c : Dev Cert.RwprepIdeal.nD) → Buf (Elt Ideal) ((c.tc : Thread Cert.RwprepIdeal.nD Cert.RwprepIdeal.τ).loc Cert.RwprepIdeal.main_v30_1)) (v2 : (c : Dev Cert.RwprepIdeal.nD) → Buf (Elt Ideal) ((c.tc : Thread Cert.RwprepIdeal.nD Cert.RwprepIdeal.τ).loc Cert.RwprepIdeal.main_v30_2)),
      θ_run (Cert.RwprepIdeal.defs (F := Ideal)) (onTc (τ := Cert.RwprepIdeal.τ) (Cert.RwprepIdeal.main (F := Ideal))) ⟨m, fun _ => 0, g⟩ (fun r => ∀ c : Dev Cert.RwprepIdeal.nD,
          r.2.mem ((c.tc : Thread Cert.RwprepIdeal.nD Cert.RwprepIdeal.τ).loc Cert.RwprepIdeal.main_v30_0) = v0 c
          ∧ r.2.mem ((c.tc : Thread Cert.RwprepIdeal.nD Cert.RwprepIdeal.τ).loc Cert.RwprepIdeal.main_v30_1) = v1 c
          ∧ r.2.mem ((c.tc : Thread Cert.RwprepIdeal.nD Cert.RwprepIdeal.τ).loc Cert.RwprepIdeal.main_v30_2) = v2 c
          ∧ r.2.mem ((c.tc : Thread Cert.RwprepIdeal.nD Cert.RwprepIdeal.τ).loc Cert.RwprepIdeal.main_arg0) = m ((c.tc : Thread Cert.RwprepIdeal.nD Cert.RwprepIdeal.τ).loc Cert.RwprepIdeal.main_arg0)
          ∧ r.2.mem ((c.tc : Thread Cert.RwprepIdeal.nD Cert.RwprepIdeal.τ).loc Cert.RwprepIdeal.main_arg1) = m ((c.tc : Thread Cert.RwprepIdeal.nD Cert.RwprepIdeal.τ).loc Cert.RwprepIdeal.main_arg1)
          ∧ r.2.mem ((c.tc : Thread Cert.RwprepIdeal.nD Cert.RwprepIdeal.τ).loc Cert.RwprepIdeal.main_arg2) = m ((c.tc : Thread Cert.RwprepIdeal.nD Cert.RwprepIdeal.τ).loc Cert.RwprepIdeal.main_arg2)
          ∧ r.2.mem ((c.tc : Thread Cert.RwprepIdeal.nD Cert.RwprepIdeal.τ).loc Cert.RwprepIdeal.main_arg3) = m ((c.tc : Thread Cert.RwprepIdeal.nD Cert.RwprepIdeal.τ).loc Cert.RwprepIdeal.main_arg3)
          ∧ r.2.mem ((c.tc : Thread Cert.RwprepIdeal.nD Cert.RwprepIdeal.τ).loc Cert.RwprepIdeal.main_arg4) = m ((c.tc : Thread Cert.RwprepIdeal.nD Cert.RwprepIdeal.τ).loc Cert.RwprepIdeal.main_arg4)
          ∧ r.2.mem ((c.tc : Thread Cert.RwprepIdeal.nD Cert.RwprepIdeal.τ).loc Cert.RwprepIdeal.main_arg5) = m ((c.tc : Thread Cert.RwprepIdeal.nD Cert.RwprepIdeal.τ).loc Cert.RwprepIdeal.main_arg5)
          ∧ r.2.mem ((c.tc : Thread Cert.RwprepIdeal.nD Cert.RwprepIdeal.τ).loc Cert.RwprepIdeal.main_arg6) = m ((c.tc : Thread Cert.RwprepIdeal.nD Cert.RwprepIdeal.τ).loc Cert.RwprepIdeal.main_arg6)
          ∧ r.2.mem ((c.tc : Thread Cert.RwprepIdeal.nD Cert.RwprepIdeal.τ).loc Cert.RwprepIdeal.main_arg7) = m ((c.tc : Thread Cert.RwprepIdeal.nD Cert.RwprepIdeal.τ).loc Cert.RwprepIdeal.main_arg7)
          ∧ r.2.mem ((c.tc : Thread Cert.RwprepIdeal.nD Cert.RwprepIdeal.τ).loc Cert.RwprepIdeal.main_arg8) = m ((c.tc : Thread Cert.RwprepIdeal.nD Cert.RwprepIdeal.τ).loc Cert.RwprepIdeal.main_arg8))
      ∧ θ_run (Cert.RwprepRefIdeal.defs (F := Ideal)) (onTc (τ := Cert.RwprepRefIdeal.τ) (Cert.RwprepRefIdeal.main (F := Ideal))) ⟨m', fun _ => 0, g'⟩ (fun r => ∀ c : Dev Cert.RwprepRefIdeal.nD,
          r.2.mem ((c.tc : Thread Cert.RwprepRefIdeal.nD Cert.RwprepRefIdeal.τ).loc Cert.RwprepRefIdeal.main_v164) = v0 c
          ∧ r.2.mem ((c.tc : Thread Cert.RwprepRefIdeal.nD Cert.RwprepRefIdeal.τ).loc Cert.RwprepRefIdeal.main_v166) = v1 c
          ∧ r.2.mem ((c.tc : Thread Cert.RwprepRefIdeal.nD Cert.RwprepRefIdeal.τ).loc Cert.RwprepRefIdeal.main_v169) = v2 c
          ∧ r.2.mem ((c.tc : Thread Cert.RwprepRefIdeal.nD Cert.RwprepRefIdeal.τ).loc Cert.RwprepRefIdeal.main_arg0) = m' ((c.tc : Thread Cert.RwprepRefIdeal.nD Cert.RwprepRefIdeal.τ).loc Cert.RwprepRefIdeal.main_arg0)
          ∧ r.2.mem ((c.tc : Thread Cert.RwprepRefIdeal.nD Cert.RwprepRefIdeal.τ).loc Cert.RwprepRefIdeal.main_arg1) = m' ((c.tc : Thread Cert.RwprepRefIdeal.nD Cert.RwprepRefIdeal.τ).loc Cert.RwprepRefIdeal.main_arg1)
          ∧ r.2.mem ((c.tc : Thread Cert.RwprepRefIdeal.nD Cert.RwprepRefIdeal.τ).loc Cert.RwprepRefIdeal.main_arg2) = m' ((c.tc : Thread Cert.RwprepRefIdeal.nD Cert.RwprepRefIdeal.τ).loc Cert.RwprepRefIdeal.main_arg2)
          ∧ r.2.mem ((c.tc : Thread Cert.RwprepRefIdeal.nD Cert.RwprepRefIdeal.τ).loc Cert.RwprepRefIdeal.main_arg3) = m' ((c.tc : Thread Cert.RwprepRefIdeal.nD Cert.RwprepRefIdeal.τ).loc Cert.RwprepRefIdeal.main_arg3)
          ∧ r.2.mem ((c.tc : Thread Cert.RwprepRefIdeal.nD Cert.RwprepRefIdeal.τ).loc Cert.RwprepRefIdeal.main_arg4) = m' ((c.tc : Thread Cert.RwprepRefIdeal.nD Cert.RwprepRefIdeal.τ).loc Cert.RwprepRefIdeal.main_arg4)
          ∧ r.2.mem ((c.tc : Thread Cert.RwprepRefIdeal.nD Cert.RwprepRefIdeal.τ).loc Cert.RwprepRefIdeal.main_arg5) = m' ((c.tc : Thread Cert.RwprepRefIdeal.nD Cert.RwprepRefIdeal.τ).loc Cert.RwprepRefIdeal.main_arg5)
          ∧ r.2.mem ((c.tc : Thread Cert.RwprepRefIdeal.nD Cert.RwprepRefIdeal.τ).loc Cert.RwprepRefIdeal.main_arg6) = m' ((c.tc : Thread Cert.RwprepRefIdeal.nD Cert.RwprepRefIdeal.τ).loc Cert.RwprepRefIdeal.main_arg6)
          ∧ r.2.mem ((c.tc : Thread Cert.RwprepRefIdeal.nD Cert.RwprepRefIdeal.τ).loc Cert.RwprepRefIdeal.main_arg7) = m' ((c.tc : Thread Cert.RwprepRefIdeal.nD Cert.RwprepRefIdeal.τ).loc Cert.RwprepRefIdeal.main_arg7)
          ∧ r.2.mem ((c.tc : Thread Cert.RwprepRefIdeal.nD Cert.RwprepRefIdeal.τ).loc Cert.RwprepRefIdeal.main_arg8) = m' ((c.tc : Thread Cert.RwprepRefIdeal.nD Cert.RwprepRefIdeal.τ).loc Cert.RwprepRefIdeal.main_arg8))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojRefIdeal : Cert.InprojRefIdeal.Facts) (hMerge : Cert.Merge.Facts) (hMergeIdeal : Cert.MergeIdeal.Facts) (hMergeRefIdeal : Cert.MergeRefIdeal.Facts) (hRouter : Cert.Router.Facts) (hRouterIdeal : Cert.RouterIdeal.Facts) (hRouterRefIdeal : Cert.RouterRefIdeal.Facts) (hRwprep : Cert.Rwprep.Facts) (hRwprepIdeal : Cert.RwprepIdeal.Facts) (hRwprepRefIdeal : Cert.RwprepRefIdeal.Facts) (hPre_finite : Cert.Pre_finite.Facts) (hPre_scans_finite : Cert.Pre_scans_finite.Facts) (hPre_router_finite : Cert.Pre_router_finite.Facts) (hPre_keys_finite : Cert.Pre_keys_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Inproj (hInproj := hInproj)
    ∧ quiescent_InprojIdeal (hInprojIdeal := hInprojIdeal)
    ∧ quiescent_InprojRefIdeal (hInprojRefIdeal := hInprojRefIdeal)
    ∧ quiescent_Merge (hMerge := hMerge)
    ∧ quiescent_MergeIdeal (hMergeIdeal := hMergeIdeal)
    ∧ quiescent_MergeIdeal_pre_scans_finite (hMergeIdeal := hMergeIdeal) (hPre_scans_finite := hPre_scans_finite)
    ∧ quiescent_MergeRefIdeal (hMergeRefIdeal := hMergeRefIdeal)
    ∧ quiescent_MergeRefIdeal_pre_scans_finite (hMergeRefIdeal := hMergeRefIdeal) (hPre_scans_finite := hPre_scans_finite)
    ∧ quiescent_Router (hRouter := hRouter)
    ∧ quiescent_RouterIdeal (hRouterIdeal := hRouterIdeal)
    ∧ quiescent_RouterIdeal_pre_router_finite (hRouterIdeal := hRouterIdeal) (hPre_router_finite := hPre_router_finite)
    ∧ quiescent_RouterRefIdeal (hRouterRefIdeal := hRouterRefIdeal)
    ∧ quiescent_RouterRefIdeal_pre_router_finite (hRouterRefIdeal := hRouterRefIdeal) (hPre_router_finite := hPre_router_finite)
    ∧ quiescent_Rwprep (hRwprep := hRwprep)
    ∧ quiescent_RwprepIdeal (hRwprepIdeal := hRwprepIdeal)
    ∧ quiescent_RwprepIdeal_pre_keys_finite (hRwprepIdeal := hRwprepIdeal) (hPre_keys_finite := hPre_keys_finite)
    ∧ quiescent_RwprepRefIdeal (hRwprepRefIdeal := hRwprepRefIdeal)
    ∧ quiescent_RwprepRefIdeal_pre_keys_finite (hRwprepRefIdeal := hRwprepRefIdeal) (hPre_keys_finite := hPre_keys_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_Inproj_InprojIdeal
    ∧ algebraic_InprojIdeal_InprojRefIdeal (hInprojIdeal := hInprojIdeal) (hInprojRefIdeal := hInprojRefIdeal)
    ∧ preserves_Merge_MergeIdeal
    ∧ algebraic_MergeIdeal_MergeRefIdeal_pre_scans_finite (hMergeIdeal := hMergeIdeal) (hMergeRefIdeal := hMergeRefIdeal) (hPre_scans_finite := hPre_scans_finite)
    ∧ preserves_Router_RouterIdeal
    ∧ algebraic_RouterIdeal_RouterRefIdeal_pre_router_finite (hRouterIdeal := hRouterIdeal) (hRouterRefIdeal := hRouterRefIdeal) (hPre_router_finite := hPre_router_finite)
    ∧ preserves_Rwprep_RwprepIdeal
    ∧ algebraic_RwprepIdeal_RwprepRefIdeal_pre_keys_finite (hRwprepIdeal := hRwprepIdeal) (hRwprepRefIdeal := hRwprepRefIdeal) (hPre_keys_finite := hPre_keys_finite)
-- ==== Pre_finite.lean ====
abbrev S84x32768x128 : Shape := ⟨3, ![84, 32768, 128]⟩
abbrev S1x64 : Shape := ⟨2, ![1, 64]⟩
abbrev S1x128 : Shape := ⟨2, ![1, 128]⟩
abbrev S24x32768x128 : Shape := ⟨3, ![24, 32768, 128]⟩
abbrev S_ : Shape := ⟨0, ![]⟩

class Facts : Prop where
  slices_S84x32768x128_S24x32768x128_32_0_0 : S84x32768x128.Slices ![32, 0, 0] S24x32768x128
  bitsLt_bf16_f32 : FTy.bits .bf16 < FTy.bits .f32
  bcast_S_S24x32768x128 : S_.BroadcastsInDim S24x32768x128 (![] : Fin 0 → Fin S24x32768x128.rank)
  reducesTo_S24x32768x128_S_d0_1_2 : S24x32768x128.ReducesTo [0, 1, 2] S_
  h_S_ : 0 < S_.numel
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S1x64 .f32) (main_v15 : IVec S_ 1) (main_v16 : FVec F S1x64 .f32) (main_cst_4 : FVec F S_ .f32) : IVec S_ 1 :=
  let main_v17 : FVec F S1x64 .f32 := broadcastInDim S1x64 ![] bcast_S_S1x64 main_cst_4
  let main_v18 : IVec S1x64 1 := cmpf .olt main_v16 main_v17
  let main_c_5 : IVec S_ 1 := constantI S_ 1 1#1
  let main_v19 : IVec S_ 1 := (fun x v => Host.reduce IntOp.andi x v reducesTo_S1x64_S_d0_1 h_S_) main_v18 main_c_5
  let main_v20 : IVec S_ 1 := andi main_v15 main_v19
  let main_v21 : FVec F S1x64 .f32 := Host.absf main_arg4
  let main_cst_6 : FVec F S_ .f32 := constant S_ .f32 0x7F800000#32
  let main_v22 : FVec F S1x64 .f32 := broadcastInDim S1x64 ![] bcast_S_S1x64 main_cst_6
  let main_v23 : IVec S1x64 1 := cmpf .olt main_v21 main_v22
  let main_c_7 : IVec S_ 1 := constantI S_ 1 1#1
  let main_v24 : IVec S_ 1 := (fun x v => Host.reduce IntOp.andi x v reducesTo_S1x64_S_d0_1 h_S_) main_v23 main_c_7
  let main_v25 : IVec S_ 1 := andi main_v20 main_v24
  main_v25

def fn {F : FTy → Type} [FloatOps F] (main_arg0 : FVec F S84x32768x128 .bf16) (main_arg1 : FVec F S1x64 .f32) (main_arg2 : FVec F S1x64 .f32) (main_arg3 : FVec F S1x64 .f32) (main_arg4 : FVec F S1x64 .f32) (main_arg5 : FVec F S1x128 .f32) : IVec S_ 1 :=
  let main_v0 : FVec F S24x32768x128 .bf16 := (extractStridedSlice S24x32768x128 ![32, 0, 0] · slices_S84x32768x128_S24x32768x128_32_0_0) main_arg0
  let main_v1 : FVec F S24x32768x128 .f32 := (extf .f32 · bitsLt_bf16_f32) main_v0
  let main_v2 : FVec F S24x32768x128 .f32 := Host.absf main_v1
  let main_cst : FVec F S_ .f32 := constant S_ .f32 0x7F800000#32
  let main_v3 : FVec F S24x32768x128 .f32 := broadcastInDim S24x32768x128 ![] bcast_S_S24x32768x128 main_cst
  let main_v4 : IVec S24x32768x128 1 := cmpf .olt main_v2 main_v3
  let main_c : IVec S_ 1 := constantI S_ 1 1#1
  let main_v5 : IVec S_ 1 := (fun x v => Host.reduce IntOp.andi x v reducesTo_S24x32768x128_S_d0_1_2 h_S_) main_v4 main_c
  let main_v6 : FVec F S1x64 .f32 := Host.absf main_arg1
  let main_cst_0 : FVec F S_ .f32 := constant S_ .f32 0x7F800000#32
  let main_v7 : FVec F S1x64 .f32 := broadcastInDim S1x64 ![] bcast_S_S1x64 main_cst_0
  let main_v8 : IVec S1x64 1 := cmpf .olt main_v6 main_v7
  let main_c_1 : IVec S_ 1 := constantI S_ 1 1#1
  let main_v9 : IVec S_ 1 := (fun x v => Host.reduce IntOp.andi x v reducesTo_S1x64_S_d0_1 h_S_) main_v8 main_c_1
  let main_v10 : IVec S_ 1 := andi main_v5 main_v9
  let main_v11 : FVec F S1x64 .f32 := Host.absf main_arg2
  let main_cst_2 : FVec F S_ .f32 := constant S_ .f32 0x7F800000#32
  let main_v12 : FVec F S1x64 .f32 := broadcastInDim S1x64 ![] bcast_S_S1x64 main_cst_2
  let main_v13 : IVec S1x64 1 := cmpf .olt main_v11 main_v12
  let main_c_3 : IVec S_ 1 := constantI S_ 1 1#1
  let main_v14 : IVec S_ 1 := (fun x v => Host.reduce IntOp.andi x v reducesTo_S1x64_S_d0_1 h_S_) main_v13 main_c_3
  let main_v15 : IVec S_ 1 := andi main_v10 main_v14
  let main_v16 : FVec F S1x64 .f32 := Host.absf main_arg3
  let main_cst_4 : FVec F S_ .f32 := constant S_ .f32 0x7F800000#32
  fn_part1 (F := F) main_arg4 main_v15 main_v16 main_cst_4
-- ==== Pre_keys_finite.lean ====
abbrev S84x32768x128 : Shape := ⟨3, ![84, 32768, 128]⟩
abbrev S1x2x3520 : Shape := ⟨3, ![1, 2, 3520]⟩
abbrev S1x2x1024 : Shape := ⟨3, ![1, 2, 1024]⟩
abbrev S1x1024 : Shape := ⟨2, ![1, 1024]⟩
abbrev S1x2x96x1024 : Shape := ⟨4, ![1, 2, 96, 1024]⟩
abbrev S1x256x1024 : Shape := ⟨3, ![1, 256, 1024]⟩
abbrev S8x32768x128 : Shape := ⟨3, ![8, 32768, 128]⟩
abbrev S_ : Shape := ⟨0, ![]⟩

class Facts : Prop where
  slices_S84x32768x128_S8x32768x128_64_0_0 : S84x32768x128.Slices ![64, 0, 0] S8x32768x128
  bitsLt_bf16_f32 : FTy.bits .bf16 < FTy.bits .f32
  slices_S1x2x3520_S1x2x1024_0_0_1024 : S1x2x3520.Slices ![0, 0, 1024] S1x2x1024
  bcast_S_S8x32768x128 : S_.BroadcastsInDim S8x32768x128 (![] : Fin 0 → Fin S8x32768x128.rank)
  reducesTo_S8x32768x128_S_d0_1_2 : S8x32768x128.ReducesTo [0, 1, 2] S_
  h_S_ : 0 < S_.numel
  bcast_S_S1x2x1024 : S_.BroadcastsInDim S1x2x1024 (![] : Fin 0 → Fin S1x2x1024.rank)
  reducesTo_S1x2x1024_S_d0_1_2 : S1x2x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S84x32768x128 .bf16) (main_arg1 : FVec F S1x2x3520 .f32) (main_arg2 : FVec F S1x2x1024 .f32) (main_arg3 : FVec F S1x2x1024 .f32) (main_arg4 : FVec F S1x1024 .f32) (main_arg5 : FVec F S1x1024 .f32) (main_arg6 : FVec F S1x2x96x1024 .f32) (main_arg7 : FVec F S1x2x96x1024 .f32) (main_arg8 : FVec F S1x256x1024 .f32) : IVec S_ 1 :=
  let main_v0 : FVec F S8x32768x128 .bf16 := (extractStridedSlice S8x32768x128 ![64, 0, 0] · slices_S84x32768x128_S8x32768x128_64_0_0) main_arg0
  let main_v1 : FVec F S8x32768x128 .f32 := (extf .f32 · bitsLt_bf16_f32) main_v0
  let main_v2 : FVec F S1x2x1024 .f32 := (extractStridedSlice S1x2x1024 ![0, 0, 1024] · slices_S1x2x3520_S1x2x1024_0_0_1024) main_arg1
  let main_v3 : FVec F S8x32768x128 .f32 := Host.absf main_v1
  let main_cst : FVec F S_ .f32 := constant S_ .f32 0x7F800000#32
  let main_v4 : FVec F S8x32768x128 .f32 := broadcastInDim S8x32768x128 ![] bcast_S_S8x32768x128 main_cst
  let main_v5 : IVec S8x32768x128 1 := cmpf .olt main_v3 main_v4
  let main_c : IVec S_ 1 := constantI S_ 1 1#1
  let main_v6 : IVec S_ 1 := (fun x v => Host.reduce IntOp.andi x v reducesTo_S8x32768x128_S_d0_1_2 h_S_) main_v5 main_c
  let main_v7 : FVec F S1x2x1024 .f32 := Host.absf main_v2
  let main_cst_0 : FVec F S_ .f32 := constant S_ .f32 0x7F800000#32
  let main_v8 : FVec F S1x2x1024 .f32 := broadcastInDim S1x2x1024 ![] bcast_S_S1x2x1024 main_cst_0
  let main_v9 : IVec S1x2x1024 1 := cmpf .olt main_v7 main_v8
  let main_c_1 : IVec S_ 1 := constantI S_ 1 1#1
  let main_v10 : IVec S_ 1 := (fun x v => Host.reduce IntOp.andi x v reducesTo_S1x2x1024_S_d0_1_2 h_S_) main_v9 main_c_1
  let main_v11 : IVec S_ 1 := andi main_v6 main_v10
  let main_v12 : FVec F S1x1024 .f32 := Host.absf main_arg4
  let main_cst_2 : FVec F S_ .f32 := constant S_ .f32 0x7F800000#32
  let main_v13 : FVec F S1x1024 .f32 := broadcastInDim S1x1024 ![] bcast_S_S1x1024 main_cst_2
  let main_v14 : IVec S1x1024 1 := cmpf .olt main_v12 main_v13
  let main_c_3 : IVec S_ 1 := constantI S_ 1 1#1
  let main_v15 : IVec S_ 1 := (fun x v => Host.reduce IntOp.andi x v reducesTo_S1x1024_S_d0_1 h_S_) main_v14 main_c_3
  let main_v16 : IVec S_ 1 := andi main_v11 main_v15
  main_v16
-- ==== Pre_router_finite.lean ====
abbrev S32768x2048 : Shape := ⟨2, ![32768, 2048]⟩
abbrev S1x2048 : Shape := ⟨2, ![1, 2048]⟩
abbrev S1x2048x16 : Shape := ⟨3, ![1, 2048, 16]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  bcast_S_S1x2048x16 : S_.BroadcastsInDim S1x2048x16 (![] : Fin 0 → Fin S1x2048x16.rank)
  reducesTo_S1x2048x16_S_d0_1_2 : S1x2048x16.ReducesTo [0, 1, 2] S_

variable [Facts]

def fn {F : FTy → Type} [FloatOps F] (main_arg0 : FVec F S32768x2048 .f32) (main_arg1 : FVec F S1x2048 .f32) (main_arg2 : FVec F S1x2048x16 .f32) : IVec S_ 1 :=
  let main_v0 : FVec F S1x2048 .f32 := Host.absf main_arg1
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_c : IVec S_ 1 := constantI S_ 1 1#1
  let main_v3 : IVec S_ 1 := (fun x v => Host.reduce IntOp.andi x v reducesTo_S1x2048_S_d0_1 h_S_) main_v2 main_c
  let main_v4 : FVec F S1x2048x16 .f32 := Host.absf main_arg2
  let main_cst_0 : FVec F S_ .f32 := constant S_ .f32 0x7F800000#32
  let main_v5 : FVec F S1x2048x16 .f32 := broadcastInDim S1x2048x16 ![] bcast_S_S1x2048x16 main_cst_0
  let main_v6 : IVec S1x2048x16 1 := cmpf .olt main_v4 main_v5
  let main_c_1 : IVec S_ 1 := constantI S_ 1 1#1
  let main_v7 : IVec S_ 1 := (fun x v => Host.reduce IntOp.andi x v reducesTo_S1x2048x16_S_d0_1_2 h_S_) main_v6 main_c_1
  let main_v8 : IVec S_ 1 := andi main_v3 main_v7
  main_v8
-- ==== Pre_scans_finite.lean ====
abbrev S8x4096x2048 : Shape := ⟨3, ![8, 4096, 2048]⟩
abbrev S8x32768x128 : Shape := ⟨3, ![8, 32768, 128]⟩
abbrev S84x32768x128 : Shape := ⟨3, ![84, 32768, 128]⟩
abbrev S1x2x2048 : Shape := ⟨3, ![1, 2, 2048]⟩
abbrev S1x1024 : Shape := ⟨2, ![1, 1024]⟩
abbrev S1x1024x2048 : Shape := ⟨3, ![1, 1024, 2048]⟩
abbrev S1x2048x2048 : Shape := ⟨3, ![1, 2048, 2048]⟩
abbrev S_ : Shape := ⟨0, ![]⟩

class Facts : Prop where
  bcast_S_S8x32768x128 : S_.BroadcastsInDim S8x32768x128 (![] : Fin 0 → Fin S8x32768x128.rank)
  reducesTo_S8x32768x128_S_d0_1_2 : S8x32768x128.ReducesTo [0, 1, 2] S_
  h_S_ : 0 < S_.numel

variable [Facts]

def fn {F : FTy → Type} [FloatOps F] (main_arg0 : FVec F S8x4096x2048 .f32) (main_arg1 : FVec F S8x32768x128 .bf16) (main_arg2 : FVec F S8x32768x128 .f32) (main_arg3 : FVec F S8x32768x128 .f32) (main_arg4 : FVec F S8x32768x128 .f32) (main_arg5 : FVec F S84x32768x128 .bf16) (main_arg6 : FVec F S1x2x2048 .f32) (main_arg7 : FVec F S1x1024 .f32) (main_arg8 : FVec F S1x1024 .f32) (main_arg9 : FVec F S1x1024x2048 .f32) (main_arg10 : FVec F S1x1024x2048 .f32) (main_arg11 : FVec F S1x2048x2048 .f32) : IVec S_ 1 :=
  let main_v0 : FVec F S8x32768x128 .f32 := Host.absf main_arg2
  let main_cst : FVec F S_ .f32 := constant S_ .f32 0x7F800000#32
  let main_v1 : FVec F S8x32768x128 .f32 := broadcastInDim S8x32768x128 ![] bcast_S_S8x32768x128 main_cst
  let main_v2 : IVec S8x32768x128 1 := cmpf .olt main_v0 main_v1
  let main_c : IVec S_ 1 := constantI S_ 1 1#1
  let main_v3 : IVec S_ 1 := (fun x v => Host.reduce IntOp.andi x v reducesTo_S8x32768x128_S_d0_1_2 h_S_) main_v2 main_c
  let main_v4 : FVec F S8x32768x128 .f32 := Host.absf main_arg3
  let main_cst_0 : FVec F S_ .f32 := constant S_ .f32 0x7F800000#32
  let main_v5 : FVec F S8x32768x128 .f32 := broadcastInDim S8x32768x128 ![] bcast_S_S8x32768x128 main_cst_0
  let main_v6 : IVec S8x32768x128 1 := cmpf .olt main_v4 main_v5
  let main_c_1 : IVec S_ 1 := constantI S_ 1 1#1
  let main_v7 : IVec S_ 1 := (fun x v => Host.reduce IntOp.andi x v reducesTo_S8x32768x128_S_d0_1_2 h_S_) main_v6 main_c_1
  let main_v8 : IVec S_ 1 := andi main_v3 main_v7
  main_v8
-- ==== Kernel.lean ====
abbrev S84x32768x128 : Shape := ⟨3, ![84, 32768, 128]⟩
abbrev S1x64 : Shape := ⟨2, ![1, 64]⟩
abbrev S1x128 : Shape := ⟨2, ![1, 128]⟩
abbrev S8 : Shape := ⟨1, ![8]⟩
abbrev S8x32768x128 : Shape := ⟨3, ![8, 32768, 128]⟩
abbrev S1x512x128 : Shape := ⟨3, ![1, 512, 128]⟩
abbrev S1x4096x128 : Shape := ⟨3, ![1, 4096, 128]⟩
abbrev S128x8192 : Shape := ⟨2, ![128, 8192]⟩
abbrev S8192x256 : Shape := ⟨2, ![8192, 256]⟩
abbrev S1 : Shape := ⟨1, ![1]⟩
abbrev S4096x128 : Shape := ⟨2, ![4096, 128]⟩
abbrev S128x4096 : Shape := ⟨2, ![128, 4096]⟩
abbrev S4096x256 : Shape := ⟨2, ![4096, 256]⟩
abbrev S16x4096 : Shape := ⟨2, ![16, 4096]⟩
abbrev S512x128 : Shape := ⟨2, ![512, 128]⟩
abbrev S512x512 : Shape := ⟨2, ![512, 512]⟩
abbrev S512x4096 : Shape := ⟨2, ![512, 4096]⟩
abbrev S512x3584 : Shape := ⟨2, ![512, 3584]⟩
abbrev S512 : Shape := ⟨1, ![512]⟩
abbrev S512x1 : Shape := ⟨2, ![512, 1]⟩
abbrev S1024x4096 : Shape := ⟨2, ![1024, 4096]⟩
abbrev S1024x256 : Shape := ⟨2, ![1024, 256]⟩
abbrev S1x1x64 : Shape := ⟨3, ![1, 1, 64]⟩
abbrev S1x1x1 : Shape := ⟨3, ![1, 1, 1]⟩
abbrev S1x1 : Shape := ⟨2, ![1, 1]⟩

abbrev nBuf : Space → Nat
  | .hbm => 8
  | .vmem => 16
  | .smem => 1
  | _ => 0

abbrev bufTy : (tb : Table) → Fin (tcTables nBuf tb) → BufTy
  | .hbm, ⟨0, _⟩ => ⟨S84x32768x128, .bf16⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S8, .f32⟩
  | .hbm, ⟨7, _⟩ => ⟨S8x32768x128, .bf16⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x128, .f32⟩
  | .local _ .vmem, ⟨5, _⟩ => ⟨S1x512x128, .bf16⟩
  | .local _ .vmem, ⟨6, _⟩ => ⟨S1x512x128, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x4096x128, .bf16⟩
  | .local _ .vmem, ⟨11, _⟩ => ⟨S1x512x128, .bf16⟩
  | .local _ .vmem, ⟨12, _⟩ => ⟨S1x512x128, .bf16⟩
  | .local _ .vmem, ⟨13, _⟩ => ⟨S128x8192, .bf16⟩
  | .local _ .vmem, ⟨14, _⟩ => ⟨S128x8192, .bf16⟩
  | .local _ .vmem, ⟨15, _⟩ => ⟨S8192x256, .bf16⟩
  | .local _ .smem, ⟨0, _⟩ => ⟨S8, .f32⟩
  | _, _ => ⟨S84x32768x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨3, ![8, 8, 8], ![false, false, false]⟩

def k0_off1 (i : grid0.Coords) : Fin 1 → Nat :=
  let arg1 : BitVec 32 := BitVec.ofNat 32 (i 1).val
  let v0 : Index := Scalar.indexCast arg1
  ![v0.toNat]
def k0_mult1 (i : grid0.Coords) : BitVec 32 :=
  let arg2 : BitVec 32 := BitVec.ofNat 32 (i 2).val
  let c512_i32 : BitVec 32 := 512#32
  let v2 : BitVec 32 := Scalar.muli arg2 c512_i32
  v2
def k0_off2 (i : grid0.Coords) : Fin 2 → Nat :=
  let c0_15 : Index := 0#32
  let arg2 : BitVec 32 := BitVec.ofNat 32 (i 2).val
  let c512_i32 : BitVec 32 := 512#32
  let v2 : BitVec 32 := Scalar.muli arg2 c512_i32
  let v3 : BitVec 32 := v2
  let v68 : Index := Scalar.indexCast v3
  ![0, v68.toNat]
def k0_off3 (i : grid0.Coords) : Fin 2 → Nat :=
  let arg2 : BitVec 32 := BitVec.ofNat 32 (i 2).val
  let c512_i32 : BitVec 32 := 512#32
  let v2 : BitVec 32 := Scalar.muli arg2 c512_i32
  let v3 : BitVec 32 := v2
  let v95 : Index := Scalar.indexCast v3
  let c0_21 : Index := 0#32
  ![v95.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c8_i32 : BitVec 32 := 8#32
  let v1 : BitVec 32 := Scalar.muli arg0 c8_i32
  let v2 : BitVec 32 := Scalar.addi v1 arg2
  let c0_i32 : BitVec 32 := 0#32
  let c0_i32_0 : BitVec 32 := 0#32
  ![v0.toNat, v2.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg1
  let c0_i32 : BitVec 32 := 0#32
  let c0_i32_0 : BitVec 32 := 0#32
  ![v0.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c48_i32 : BitVec 32 := 48#32
  let v0 : BitVec 32 := Scalar.addi c48_i32 arg1
  let c0_i32 : BitVec 32 := 0#32
  let c0_i32_0 : BitVec 32 := 0#32
  ![v0.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![arg1.toNat, v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== ReferenceIdeal.lean ====
abbrev S84x32768x128 : Shape := ⟨3, ![84, 32768, 128]⟩
abbrev S1x64 : Shape := ⟨2, ![1, 64]⟩
abbrev S1x128 : Shape := ⟨2, ![1, 128]⟩
abbrev S8 : Shape := ⟨1, ![8]⟩
abbrev S8x32768x128 : Shape := ⟨3, ![8, 32768, 128]⟩
abbrev S8x8x4096x2x64 : Shape := ⟨5, ![8, 8, 4096, 2, 64]⟩
abbrev S8x8x4096x128 : Shape := ⟨4, ![8, 8, 4096, 128]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x1x1 : Shape := ⟨3, ![8, 1, 1]⟩
abbrev S1x4096x4096 : Shape := ⟨3, ![1, 4096, 4096]⟩
abbrev S8x4096x4096 : Shape := ⟨3, ![8, 4096, 4096]⟩
abbrev S8x8x2x4096x4096 : Shape := ⟨5, ![8, 8, 2, 4096, 4096]⟩
abbrev S8x1x1x4096x4096 : Shape := ⟨5, ![8, 1, 1, 4096, 4096]⟩
abbrev S8x8x2x4096 : Shape := ⟨4, ![8, 8, 2, 4096]⟩
abbrev S8x8x2x4096x1 : Shape := ⟨5, ![8, 8, 2, 4096, 1]⟩
abbrev S8x8x1x4096x4096 : Shape := ⟨5, ![8, 8, 1, 4096, 4096]⟩
abbrev S8x8x4096x4096 : Shape := ⟨4, ![8, 8, 4096, 4096]⟩
abbrev S8x8x4096 : Shape := ⟨3, ![8, 8, 4096]⟩
abbrev S8x8x4096x1 : Shape := ⟨4, ![8, 8, 4096, 1]⟩
abbrev S128 : Shape := ⟨1, ![128]⟩
abbrev S1x1x1x128 : Shape := ⟨4, ![1, 1, 1, 128]⟩

abbrev nBuf : Space → Nat
  | .hbm => 90
  | .vmem => 0
  | .smem => 0
  | _ => 0

abbrev bufTy : (tb : Table) → Fin (tcTables nBuf tb) → BufTy
  | .hbm, ⟨0, _⟩ => ⟨S84x32768x128, .bf16⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S8, .f32⟩
  | .hbm, ⟨7, _⟩ => ⟨S84x32768x128, .f32⟩
  | .hbm, ⟨8, _⟩ => ⟨S8x32768x128, .f32⟩
  | .hbm, ⟨9, _⟩ => ⟨S8x8x4096x2x64, .f32⟩
  | .hbm, ⟨10, _⟩ => ⟨S8x32768x128, .f32⟩
  | .hbm, ⟨11, _⟩ => ⟨S8x8x4096x2x64, .f32⟩
  | .hbm, ⟨12, _⟩ => ⟨S8x32768x128, .f32⟩
  | .hbm, ⟨13, _⟩ => ⟨S8x8x4096x128, .f32⟩
  | .hbm, ⟨14, _⟩ => ⟨S1x64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096, .i32⟩
  | .hbm, ⟨26, _⟩ => ⟨S4096x1, .i32⟩
  | .hbm, ⟨27, _⟩ => ⟨S1x4096, .i32⟩
  | .hbm, ⟨28, _⟩ => ⟨S4096x4096, .i32⟩
  | .hbm, ⟨29, _⟩ => ⟨S4096x4096, .i32⟩
  | .hbm, ⟨30, _⟩ => ⟨S4096x4096, .i32⟩
  | .hbm, ⟨31, _⟩ => ⟨S4096x4096, .i32⟩
  | .hbm, ⟨32, _⟩ => ⟨S4096x4096, .f32⟩
  | .hbm, ⟨33, _⟩ => ⟨S8x1x1, .f32⟩
  | .hbm, ⟨34, _⟩ => ⟨S8x1x1, .f32⟩
  | .hbm, ⟨35, _⟩ => ⟨S1x4096x4096, .f32⟩
  | .hbm, ⟨36, _⟩ => ⟨S8x4096x4096, .f32⟩
  | .hbm, ⟨37, _⟩ => ⟨S8x4096x4096, .f32⟩
  | .hbm, ⟨38, _⟩ => ⟨S8x4096x4096, .f32⟩
  | .hbm, ⟨39, _⟩ => ⟨S8x8x2x4096x4096, .f32⟩
  | .hbm, ⟨40, _⟩ => ⟨S_, .f32⟩
  | .hbm, ⟨41, _⟩ => ⟨S8x8x2x4096x4096, .f32⟩
  | .hbm, ⟨42, _⟩ => ⟨S8x8x2x4096x4096, .f32⟩
  | .hbm, ⟨43, _⟩ => ⟨S8x1x1x4096x4096, .f32⟩
  | .hbm, ⟨44, _⟩ => ⟨S8x8x2x4096x4096, .f32⟩
  | .hbm, ⟨45, _⟩ => ⟨S8x8x2x4096x4096, .f32⟩
  | .hbm, ⟨46, _⟩ => ⟨S_, .f32⟩
  | .hbm, ⟨47, _⟩ => ⟨S8x8x2x4096, .f32⟩
  | .hbm, ⟨48, _⟩ => ⟨S_, .f32⟩
  | .hbm, ⟨49, _⟩ => ⟨S8x8x2x4096, .f32⟩
  | .hbm, ⟨50, _⟩ => ⟨S8x8x2x4096, .f32⟩
  | .hbm, ⟨51, _⟩ => ⟨S8x8x2x4096x1, .f32⟩
  | .hbm, ⟨52, _⟩ => ⟨S8x8x2x4096x4096, .f32⟩
  | .hbm, ⟨53, _⟩ => ⟨S8x8x2x4096x4096, .f32⟩
  | .hbm, ⟨54, _⟩ => ⟨S8x8x2x4096x4096, .f32⟩
  | .hbm, ⟨55, _⟩ => ⟨S_, .f32⟩
  | .hbm, ⟨56, _⟩ => ⟨S8x8x2x4096, .f32⟩
  | .hbm, ⟨57, _⟩ => ⟨S8x8x2x4096x1, .f32⟩
  | .hbm, ⟨58, _⟩ => ⟨S8x8x2x4096x4096, .f32⟩
  | .hbm, ⟨59, _⟩ => ⟨S8x8x2x4096x4096, .f32⟩
  | .hbm, ⟨60, _⟩ => ⟨S8x8x1x4096x4096, .f32⟩
  | .hbm, ⟨61, _⟩ => ⟨S8x8x4096x4096, .f32⟩
  | .hbm, ⟨62, _⟩ => ⟨S8x8x1x4096x4096, .f32⟩
  | .hbm, ⟨63, _⟩ => ⟨S8x8x4096x4096, .f32⟩
  | .hbm, ⟨64, _⟩ => ⟨S8x8x4096x4096, .f32⟩
  | .hbm, ⟨65, _⟩ => ⟨S8x8x4096x4096, .f32⟩
  | .hbm, ⟨66, _⟩ => ⟨S8x8x4096x4096, .f32⟩
  | .hbm, ⟨67, _⟩ => ⟨S8x8x4096x128, .f32⟩
  | .hbm, ⟨68, _⟩ => ⟨S8x8x4096x128, .f32⟩
  | .hbm, ⟨69, _⟩ => ⟨S_, .f32⟩
  | .hbm, ⟨70, _⟩ => ⟨S8x8x4096, .f32⟩
  | .hbm, ⟨71, _⟩ => ⟨S8x8x4096x1, .f32⟩
  | .hbm, ⟨72, _⟩ => ⟨S_, .f32⟩
  | .hbm, ⟨73, _⟩ => ⟨S8x8x4096x1, .f32⟩
  | .hbm, ⟨74, _⟩ => ⟨S8x8x4096x1, .f32⟩
  | .hbm, ⟨75, _⟩ => ⟨S_, .f32⟩
  | .hbm, ⟨76, _⟩ => ⟨S8x8x4096x1, .f32⟩
  | .hbm, ⟨77, _⟩ => ⟨S8x8x4096x1, .f32⟩
  | .hbm, ⟨78, _⟩ => ⟨S8x8x4096x1, .f32⟩
  | .hbm, ⟨79, _⟩ => ⟨S8x8x4096x128, .f32⟩
  | .hbm, ⟨80, _⟩ => ⟨S8x8x4096x128, .f32⟩
  | .hbm, ⟨81, _⟩ => ⟨S128, .f32⟩
  | .hbm, ⟨82, _⟩ => ⟨S1x1x1x128, .f32⟩
  | .hbm, ⟨83, _⟩ => ⟨S8x8x4096x128, .f32⟩
  | .hbm, ⟨84, _⟩ => ⟨S8x8x4096x128, .f32⟩
  | .hbm, ⟨85, _⟩ => ⟨S_, .f32⟩
  | .hbm, ⟨86, _⟩ => ⟨S8x8x4096x128, .f32⟩
  | .hbm, ⟨87, _⟩ => ⟨S8x8x4096x128, .f32⟩
  | .hbm, ⟨88, _⟩ => ⟨S8x32768x128, .f32⟩
  | .hbm, ⟨89, _⟩ => ⟨S8x32768x128, .bf16⟩
  | _, _ => ⟨S84x32768x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_7 : Ref sig .tc := ⟨.hbm, 69, rfl⟩
abbrev main_v55 : Ref sig .tc := ⟨.hbm, 70, rfl⟩
abbrev main_v56 : Ref sig .tc := ⟨.hbm, 71, rfl⟩
abbrev main_cst_8 : Ref sig .tc := ⟨.hbm, 72, rfl⟩
abbrev main_v57 : Ref sig .tc := ⟨.hbm, 73, rfl⟩
abbrev main_v58 : Ref sig .tc := ⟨.hbm, 74, rfl⟩
abbrev main_cst_9 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_10 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Inproj.lean ====
abbrev S8x4096x2048 : Shape := ⟨3, ![8, 4096, 2048]⟩
abbrev S1x2048 : Shape := ⟨2, ![1, 2048]⟩
abbrev S1x2048x10688 : Shape := ⟨3, ![1, 2048, 10688]⟩
abbrev S2048x10688 : Shape := ⟨2, ![2048, 10688]⟩
abbrev S2048x3072 : Shape := ⟨2, ![2048, 3072]⟩
abbrev S2048x3520 : Shape := ⟨2, ![2048, 3520]⟩
abbrev S2048x4096 : Shape := ⟨2, ![2048, 4096]⟩
abbrev S2048x96 : Shape := ⟨2, ![2048, 96]⟩
abbrev S_ : Shape := ⟨0, ![]⟩
abbrev S2048x128 : Shape := ⟨2, ![2048, 128]⟩
abbrev S2048x256 : Shape := ⟨2, ![2048, 256]⟩
abbrev S2048x10752 : Shape := ⟨2, ![2048, 10752]⟩
abbrev S32768x2048 : Shape := ⟨2, ![32768, 2048]⟩
abbrev S84x32768x128 : Shape := ⟨3, ![84, 32768, 128]⟩
abbrev S1024x2048 : Shape := ⟨2, ![1024, 2048]⟩
abbrev S2048x1536 : Shape := ⟨2, ![2048, 1536]⟩
abbrev S12x1024x128 : Shape := ⟨3, ![12, 1024, 128]⟩
abbrev S1024 : Shape := ⟨1, ![1024]⟩
abbrev S1024x1 : Shape := ⟨2, ![1024, 1]⟩
abbrev S1024x1536 : Shape := ⟨2, ![1024, 1536]⟩
abbrev S1024x128 : Shape := ⟨2, ![1024, 128]⟩
abbrev S1x1024x128 : Shape := ⟨3, ![1, 1024, 128]⟩

abbrev nBuf : Space → Nat
  | .hbm => 21
  | .vmem => 8
  | .smem => 0
  | _ => 0

abbrev bufTy : (tb : Table) → Fin (tcTables nBuf tb) → BufTy
  | .hbm, ⟨0, _⟩ => ⟨S8x4096x2048, .f32⟩
  | .hbm, ⟨1, _⟩ => ⟨S1x2048, .f32⟩
  | .hbm, ⟨2, _⟩ => ⟨S1x2048x10688, .f32⟩
  | .hbm, ⟨3, _⟩ => ⟨S2048x10688, .f32⟩
  | .hbm, ⟨4, _⟩ => ⟨S2048x3072, .f32⟩
  | .hbm, ⟨5, _⟩ => ⟨S2048x3520, .f32⟩
  | .hbm, ⟨6, _⟩ => ⟨S2048x4096, .f32⟩
  | .hbm, ⟨7, _⟩ => ⟨S2048x96, .f32⟩
  | .hbm, ⟨8, _⟩ => ⟨S_, .i32⟩
  | .hbm, ⟨9, _⟩ => ⟨S_, .f32⟩
  | .hbm, ⟨10, _⟩ => ⟨S2048x128, .f32⟩
  | .hbm, ⟨11, _⟩ => ⟨S2048x96, .f32⟩
  | .hbm, ⟨12, _⟩ => ⟨S_, .i32⟩
  | .hbm, ⟨13, _⟩ => ⟨S_, .f32⟩
  | .hbm, ⟨14, _⟩ => ⟨S2048x128, .f32⟩
  | .hbm, ⟨15, _⟩ => ⟨S2048x3072, .f32⟩
  | .hbm, ⟨16, _⟩ => ⟨S2048x256, .f32⟩
  | .hbm, ⟨17, _⟩ => ⟨S2048x10752, .f32⟩
  | .hbm, ⟨18, _⟩ => ⟨S2048x10752, .bf16⟩
  | .hbm, ⟨19, _⟩ => ⟨S32768x2048, .f32⟩
  | .hbm, ⟨20, _⟩ => ⟨S84x32768x128, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1536, .bf16⟩
  | .local _ .vmem, ⟨4, _⟩ => ⟨S2048x1536, .bf16⟩
  | .local _ .vmem, ⟨5, _⟩ => ⟨S12x1024x128, .bf16⟩
  | .local _ .vmem, ⟨6, _⟩ => ⟨S12x1024x128, .bf16⟩
  | .local _ .vmem, ⟨7, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S12x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InprojRefIdeal.lean ====
abbrev S8x4096x2048 : Shape := ⟨3, ![8, 4096, 2048]⟩
abbrev S1x2048 : Shape := ⟨2, ![1, 2048]⟩
abbrev S1x2048x10688 : Shape := ⟨3, ![1, 2048, 10688]⟩
abbrev S_ : Shape := ⟨0, ![]⟩
abbrev S8x4096 : Shape := ⟨2, ![8, 4096]⟩
abbrev S8x4096x1 : Shape := ⟨3, ![8, 4096, 1]⟩
abbrev S2048 : Shape := ⟨1, ![2048]⟩
abbrev S1x1x2048 : Shape := ⟨3, ![1, 1, 2048]⟩
abbrev S2048x10688 : Shape := ⟨2, ![2048, 10688]⟩
abbrev S8x4096x10688 : Shape := ⟨3, ![8, 4096, 10688]⟩
abbrev S8x4096x3072 : Shape := ⟨3, ![8, 4096, 3072]⟩
abbrev S8x4096x96 : Shape := ⟨3, ![8, 4096, 96]⟩
abbrev S8x4096x256 : Shape := ⟨3, ![8, 4096, 256]⟩
abbrev S8x4096x4096 : Shape := ⟨3, ![8, 4096, 4096]⟩
abbrev S8x4096x32 : Shape := ⟨3, ![8, 4096, 32]⟩
abbrev S8x4096x10752 : Shape := ⟨3, ![8, 4096, 10752]⟩
abbrev S32768x84x128 : Shape := ⟨3, ![32768, 84, 128]⟩
abbrev S84x32768x128 : Shape := ⟨3, ![84, 32768, 128]⟩

abbrev nBuf : Space → Nat
  | .hbm => 34
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S1x2048, .f32⟩
  | .hbm, ⟨2, _⟩ => ⟨S1x2048x10688, .f32⟩
  | .hbm, ⟨3, _⟩ => ⟨S8x4096x2048, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x2048, .f32⟩
  | .hbm, ⟨15, _⟩ => ⟨S8x4096x2048, .f32⟩
  | .hbm, ⟨16, _⟩ => ⟨S2048, .f32⟩
  | .hbm, ⟨17, _⟩ => ⟨S1x1x2048, .f32⟩
  | .hbm, ⟨18, _⟩ => ⟨S8x4096x2048, .f32⟩
  | .hbm, ⟨19, _⟩ => ⟨S8x4096x2048, .f32⟩
  | .hbm, ⟨20, _⟩ => ⟨S2048x10688, .f32⟩
  | .hbm, ⟨21, _⟩ => ⟨S8x4096x10688, .f32⟩
  | .hbm, ⟨22, _⟩ => ⟨S8x4096x3072, .f32⟩
  | .hbm, ⟨23, _⟩ => ⟨S8x4096x3072, .f32⟩
  | .hbm, ⟨24, _⟩ => ⟨S8x4096x96, .f32⟩
  | .hbm, ⟨25, _⟩ => ⟨S8x4096x96, .f32⟩
  | .hbm, ⟨26, _⟩ => ⟨S8x4096x256, .f32⟩
  | .hbm, ⟨27, _⟩ => ⟨S8x4096x4096, .f32⟩
  | .hbm, ⟨28, _⟩ => ⟨S_, .f32⟩
  | .hbm, ⟨29, _⟩ => ⟨S8x4096x32, .f32⟩
  | .hbm, ⟨30, _⟩ => ⟨S8x4096x10752, .f32⟩
  | .hbm, ⟨31, _⟩ => ⟨S32768x84x128, .f32⟩
  | .hbm, ⟨32, _⟩ => ⟨S84x32768x128, .f32⟩
  | .hbm, ⟨33, _⟩ => ⟨S84x32768x128, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Merge.lean ====
abbrev S8x4096x2048 : Shape := ⟨3, ![8, 4096, 2048]⟩
abbrev S8x32768x128 : Shape := ⟨3, ![8, 32768, 128]⟩
abbrev S84x32768x128 : Shape := ⟨3, ![84, 32768, 128]⟩
abbrev S1x2x2048 : Shape := ⟨3, ![1, 2, 2048]⟩
abbrev S1x1024 : Shape := ⟨2, ![1, 1024]⟩
abbrev S1x1024x2048 : Shape := ⟨3, ![1, 1024, 2048]⟩
abbrev S1x2048x2048 : Shape := ⟨3, ![1, 2048, 2048]⟩
abbrev S32768x2048 : Shape := ⟨2, ![32768, 2048]⟩
abbrev S2x2048 : Shape := ⟨2, ![2, 2048]⟩
abbrev S2x1x2048 : Shape := ⟨3, ![2, 1, 2048]⟩
abbrev S1024 : Shape := ⟨1, ![1024]⟩
abbrev S8x1x128 : Shape := ⟨3, ![8, 1, 128]⟩
abbrev S1024x2048 : Shape := ⟨2, ![1024, 2048]⟩
abbrev S2048x2048 : Shape := ⟨2, ![2048, 2048]⟩
abbrev S256x2048 : Shape := ⟨2, ![256, 2048]⟩
abbrev S8x256x128 : Shape := ⟨3, ![8, 256, 128]⟩
abbrev S32x256x128 : Shape := ⟨3, ![32, 256, 128]⟩
abbrev S128x128 : Shape := ⟨2, ![128, 128]⟩
abbrev S1x256x128 : Shape := ⟨3, ![1, 256, 128]⟩
abbrev S256x128 : Shape := ⟨2, ![256, 128]⟩
abbrev S1x1x128 : Shape := ⟨3, ![1, 1, 128]⟩
abbrev S1x128 : Shape := ⟨2, ![1, 128]⟩
abbrev S256x1024 : Shape := ⟨2, ![256, 1024]⟩
abbrev S1x1x2048 : Shape := ⟨3, ![1, 1, 2048]⟩
abbrev S1x2048 : Shape := ⟨2, ![1, 2048]⟩

abbrev nBuf : Space → Nat
  | .hbm => 26
  | .vmem => 20
  | .smem => 0
  | _ => 0

abbrev bufTy : (tb : Table) → Fin (tcTables nBuf tb) → BufTy
  | .hbm, ⟨0, _⟩ => ⟨S8x4096x2048, .f32⟩
  | .hbm, ⟨1, _⟩ => ⟨S8x32768x128, .bf16⟩
  | .hbm, ⟨2, _⟩ => ⟨S8x32768x128, .f32⟩
  | .hbm, ⟨3, _⟩ => ⟨S8x32768x128, .f32⟩
  | .hbm, ⟨4, _⟩ => ⟨S8x32768x128, .f32⟩
  | .hbm, ⟨5, _⟩ => ⟨S84x32768x128, .bf16⟩
  | .hbm, ⟨6, _⟩ => ⟨S1x2x2048, .f32⟩
  | .hbm, ⟨7, _⟩ => ⟨S1x1024, .f32⟩
  | .hbm, ⟨8, _⟩ => ⟨S1x1024, .f32⟩
  | .hbm, ⟨9, _⟩ => ⟨S1x1024x2048, .f32⟩
  | .hbm, ⟨10, _⟩ => ⟨S1x1024x2048, .f32⟩
  | .hbm, ⟨11, _⟩ => ⟨S1x2048x2048, .f32⟩
  | .hbm, ⟨12, _⟩ => ⟨S32768x2048, .f32⟩
  | .hbm, ⟨13, _⟩ => ⟨S2x2048, .f32⟩
  | .hbm, ⟨14, _⟩ => ⟨S2x1x2048, .f32⟩
  | .hbm, ⟨15, _⟩ => ⟨S1024, .f32⟩
  | .hbm, ⟨16, _⟩ => ⟨S8x1x128, .f32⟩
  | .hbm, ⟨17, _⟩ => ⟨S1024, .f32⟩
  | .hbm, ⟨18, _⟩ => ⟨S8x1x128, .f32⟩
  | .hbm, ⟨19, _⟩ => ⟨S1024x2048, .f32⟩
  | .hbm, ⟨20, _⟩ => ⟨S1024x2048, .bf16⟩
  | .hbm, ⟨21, _⟩ => ⟨S1024x2048, .f32⟩
  | .hbm, ⟨22, _⟩ => ⟨S1024x2048, .bf16⟩
  | .hbm, ⟨23, _⟩ => ⟨S2048x2048, .f32⟩
  | .hbm, ⟨24, _⟩ => ⟨S2048x2048, .bf16⟩
  | .hbm, ⟨25, _⟩ => ⟨S32768x2048, .f32⟩
  | .local _ .vmem, ⟨0, _⟩ => ⟨S256x2048, .f32⟩
  | .local _ .vmem, ⟨1, _⟩ => ⟨S256x2048, .f32⟩
  | .local _ .vmem, ⟨2, _⟩ => ⟨S8x256x128, .bf16⟩
  | .local _ .vmem, ⟨3, _⟩ => ⟨S8x256x128, .bf16⟩
  | .local _ .vmem, ⟨4, _⟩ => ⟨S8x256x128, .f32⟩
  | .local _ .vmem, ⟨5, _⟩ => ⟨S8x256x128, .f32⟩
  | .local _ .vmem, ⟨6, _⟩ => ⟨S8x256x128, .f32⟩
  | .local _ .vmem, ⟨7, _⟩ => ⟨S8x256x128, .f32⟩
  | .local _ .vmem, ⟨8, _⟩ => ⟨S8x256x128, .f32⟩
  | .local _ .vmem, ⟨9, _⟩ => ⟨S8x256x128, .f32⟩
  | .local _ .vmem, ⟨10, _⟩ => ⟨S32x256x128, .bf16⟩
  | .local _ .vmem, ⟨11, _⟩ => ⟨S32x256x128, .bf16⟩
  | .local _ .vmem, ⟨12, _⟩ => ⟨S2x1x2048, .f32⟩
  | .local _ .vmem, ⟨13, _⟩ => ⟨S8x1x128, .f32⟩
  | .local _ .vmem, ⟨14, _⟩ => ⟨S8x1x128, .f32⟩
  | .local _ .vmem, ⟨15, _⟩ => ⟨S1024x2048, .bf16⟩
  | .local _ .vmem, ⟨16, _⟩ => ⟨S1024x2048, .bf16⟩
  | .local _ .vmem, ⟨17, _⟩ => ⟨S2048x2048, .bf16⟩
  | .local _ .vmem, ⟨18, _⟩ => ⟨S256x2048, .f32⟩
  | .local _ .vmem, ⟨19, _⟩ => ⟨S256x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeRefIdeal.lean ====
abbrev S8x4096x2048 : Shape := ⟨3, ![8, 4096, 2048]⟩
abbrev S8x32768x128 : Shape := ⟨3, ![8, 32768, 128]⟩
abbrev S84x32768x128 : Shape := ⟨3, ![84, 32768, 128]⟩
abbrev S1x2x2048 : Shape := ⟨3, ![1, 2, 2048]⟩
abbrev S1x1024 : Shape := ⟨2, ![1, 1024]⟩
abbrev S1x1024x2048 : Shape := ⟨3, ![1, 1024, 2048]⟩
abbrev S1x2048x2048 : Shape := ⟨3, ![1, 2048, 2048]⟩
abbrev S32768x8x128 : Shape := ⟨3, ![32768, 8, 128]⟩
abbrev S32768x1024 : Shape := ⟨2, ![32768, 1024]⟩
abbrev S32768x16x64 : Shape := ⟨3, ![32768, 16, 64]⟩
abbrev S_ : Shape := ⟨0, ![]⟩
abbrev S32768x16 : Shape := ⟨2, ![32768, 16]⟩
abbrev S32768x16x1 : Shape := ⟨3, ![32768, 16, 1]⟩
abbrev S1024 : Shape := ⟨1, ![1024]⟩
abbrev S32x32768x128 : Shape := ⟨3, ![32, 32768, 128]⟩
abbrev S32768x32x128 : Shape := ⟨3, ![32768, 32, 128]⟩
abbrev S32768x4096 : Shape := ⟨2, ![32768, 4096]⟩
abbrev S2x2048 : Shape := ⟨2, ![2, 2048]⟩
abbrev S4096 : Shape := ⟨1, ![4096]⟩
abbrev S1x4096 : Shape := ⟨2, ![1, 4096]⟩
abbrev S32768x2048 : Shape := ⟨2, ![32768, 2048]⟩
abbrev S1024x2048 : Shape := ⟨2, ![1024, 2048]⟩
abbrev S2048x2048 : Shape := ⟨2, ![2048, 2048]⟩

abbrev nBuf : Space → Nat
  | .hbm => 86
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x32768x128, .bf16⟩
  | .hbm, ⟨2, _⟩ => ⟨S8x32768x128, .f32⟩
  | .hbm, ⟨3, _⟩ => ⟨S8x32768x128, .f32⟩
  | .hbm, ⟨4, _⟩ => ⟨S8x32768x128, .f32⟩
  | .hbm, ⟨5, _⟩ => ⟨S84x32768x128, .bf16⟩
  | .hbm, ⟨6, _⟩ => ⟨S1x2x2048, .f32⟩
  | .hbm, ⟨7, _⟩ => ⟨S1x1024, .f32⟩
  | .hbm, ⟨8, _⟩ => ⟨S1x1024, .f32⟩
  | .hbm, ⟨9, _⟩ => ⟨S1x1024x2048, .f32⟩
  | .hbm, ⟨10, _⟩ => ⟨S1x1024x2048, .f32⟩
  | .hbm, ⟨11, _⟩ => ⟨S1x2048x2048, .f32⟩
  | .hbm, ⟨12, _⟩ => ⟨S32768x8x128, .f32⟩
  | .hbm, ⟨13, _⟩ => ⟨S32768x1024, .f32⟩
  | .hbm, ⟨14, _⟩ => ⟨S32768x8x128, .f32⟩
  | .hbm, ⟨15, _⟩ => ⟨S32768x1024, .f32⟩
  | .hbm, ⟨16, _⟩ => ⟨S32768x1024, .f32⟩
  | .hbm, ⟨17, _⟩ => ⟨S32768x16x64, .f32⟩
  | .hbm, ⟨18, _⟩ => ⟨S_, .f32⟩
  | .hbm, ⟨19, _⟩ => ⟨S32768x16, .f32⟩
  | .hbm, ⟨20, _⟩ => ⟨S32768x16x1, .f32⟩
  | .hbm, ⟨21, _⟩ => ⟨S_, .f32⟩
  | .hbm, ⟨22, _⟩ => ⟨S32768x16x1, .f32⟩
  | .hbm, ⟨23, _⟩ => ⟨S32768x16x1, .f32⟩
  | .hbm, ⟨24, _⟩ => ⟨S32768x16x64, .f32⟩
  | .hbm, ⟨25, _⟩ => ⟨S32768x16x64, .f32⟩
  | .hbm, ⟨26, _⟩ => ⟨S32768x16x64, .f32⟩
  | .hbm, ⟨27, _⟩ => ⟨S_, .f32⟩
  | .hbm, ⟨28, _⟩ => ⟨S32768x16, .f32⟩
  | .hbm, ⟨29, _⟩ => ⟨S32768x16x1, .f32⟩
  | .hbm, ⟨30, _⟩ => ⟨S_, .f32⟩
  | .hbm, ⟨31, _⟩ => ⟨S32768x16x1, .f32⟩
  | .hbm, ⟨32, _⟩ => ⟨S32768x16x1, .f32⟩
  | .hbm, ⟨33, _⟩ => ⟨S32768x16x64, .f32⟩
  | .hbm, ⟨34, _⟩ => ⟨S32768x16x64, .f32⟩
  | .hbm, ⟨35, _⟩ => ⟨S_, .f32⟩
  | .hbm, ⟨36, _⟩ => ⟨S32768x16x1, .f32⟩
  | .hbm, ⟨37, _⟩ => ⟨S32768x16x1, .f32⟩
  | .hbm, ⟨38, _⟩ => ⟨S32768x16x1, .f32⟩
  | .hbm, ⟨39, _⟩ => ⟨S32768x16x64, .f32⟩
  | .hbm, ⟨40, _⟩ => ⟨S32768x16x64, .f32⟩
  | .hbm, ⟨41, _⟩ => ⟨S32768x1024, .f32⟩
  | .hbm, ⟨42, _⟩ => ⟨S1024, .f32⟩
  | .hbm, ⟨43, _⟩ => ⟨S1x1024, .f32⟩
  | .hbm, ⟨44, _⟩ => ⟨S32768x1024, .f32⟩
  | .hbm, ⟨45, _⟩ => ⟨S32768x1024, .f32⟩
  | .hbm, ⟨46, _⟩ => ⟨S1024, .f32⟩
  | .hbm, ⟨47, _⟩ => ⟨S1x1024, .f32⟩
  | .hbm, ⟨48, _⟩ => ⟨S32768x1024, .f32⟩
  | .hbm, ⟨49, _⟩ => ⟨S32768x1024, .f32⟩
  | .hbm, ⟨50, _⟩ => ⟨S32768x8x128, .f32⟩
  | .hbm, ⟨51, _⟩ => ⟨S32768x1024, .f32⟩
  | .hbm, ⟨52, _⟩ => ⟨S32768x1024, .f32⟩
  | .hbm, ⟨53, _⟩ => ⟨S32x32768x128, .bf16⟩
  | .hbm, ⟨54, _⟩ => ⟨S32768x32x128, .bf16⟩
  | .hbm, ⟨55, _⟩ => ⟨S32768x4096, .bf16⟩
  | .hbm, ⟨56, _⟩ => ⟨S32768x4096, .f32⟩
  | .hbm, ⟨57, _⟩ => ⟨S2x2048, .f32⟩
  | .hbm, ⟨58, _⟩ => ⟨S4096, .f32⟩
  | .hbm, ⟨59, _⟩ => ⟨S1x4096, .f32⟩
  | .hbm, ⟨60, _⟩ => ⟨S32768x4096, .f32⟩
  | .hbm, ⟨61, _⟩ => ⟨S32768x4096, .f32⟩
  | .hbm, ⟨62, _⟩ => ⟨S32768x4096, .f32⟩
  | .hbm, ⟨63, _⟩ => ⟨S32768x4096, .f32⟩
  | .hbm, ⟨64, _⟩ => ⟨S_, .f32⟩
  | .hbm, ⟨65, _⟩ => ⟨S32768x4096, .f32⟩
  | .hbm, ⟨66, _⟩ => ⟨S32768x4096, .f32⟩
  | .hbm, ⟨67, _⟩ => ⟨S_, .f32⟩
  | .hbm, ⟨68, _⟩ => ⟨S32768x4096, .f32⟩
  | .hbm, ⟨69, _⟩ => ⟨S32768x4096, .f32⟩
  | .hbm, ⟨70, _⟩ => ⟨S32768x2048, .f32⟩
  | .hbm, ⟨71, _⟩ => ⟨S32768x8x128, .bf16⟩
  | .hbm, ⟨72, _⟩ => ⟨S32768x1024, .bf16⟩
  | .hbm, ⟨73, _⟩ => ⟨S32768x1024, .f32⟩
  | .hbm, ⟨74, _⟩ => ⟨S1024x2048, .f32⟩
  | .hbm, ⟨75, _⟩ => ⟨S32768x2048, .f32⟩
  | .hbm, ⟨76, _⟩ => ⟨S32768x2048, .f32⟩
  | .hbm, ⟨77, _⟩ => ⟨S32768x2048, .f32⟩
  | .hbm, ⟨78, _⟩ => ⟨S1024x2048, .f32⟩
  | .hbm, ⟨79, _⟩ => ⟨S32768x2048, .f32⟩
  | .hbm, ⟨80, _⟩ => ⟨S32768x2048, .f32⟩
  | .hbm, ⟨81, _⟩ => ⟨S32768x2048, .f32⟩
  | .hbm, ⟨82, _⟩ => ⟨S32768x2048, .f32⟩
  | .hbm, ⟨83, _⟩ => ⟨S2048x2048, .f32⟩
  | .hbm, ⟨84, _⟩ => ⟨S32768x2048, .f32⟩
  | .hbm, ⟨85, _⟩ => ⟨S32768x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_4 : Ref sig .tc := ⟨.hbm, 64, rfl⟩
abbrev main_v47 : Ref sig .tc := ⟨.hbm, 65, rfl⟩
abbrev main_v48 : Ref sig .tc := ⟨.hbm, 66, rfl⟩
abbrev main_cst_5 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩

abbrev nD : Nat := 1
abbrev τ : Topo := Topo.v7x

variable {F : FTy → Type} [FloatOps F]
-- ==== Router.lean ====
abbrev S32768x2048 : Shape := ⟨2, ![32768, 2048]⟩
abbrev S1x2048 : Shape := ⟨2, ![1, 2048]⟩
abbrev S1x2048x16 : Shape := ⟨3, ![1, 2048, 16]⟩
abbrev S2048x16 : Shape := ⟨2, ![2048, 16]⟩
abbrev S_ : Shape := ⟨0, ![]⟩
abbrev S2048x128 : Shape := ⟨2, ![2048, 128]⟩
abbrev S16x32768 : Shape := ⟨2, ![16, 32768]⟩
abbrev S256x2048 : Shape := ⟨2, ![256, 2048]⟩
abbrev S16x256 : Shape := ⟨2, ![16, 256]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S1x256 : Shape := ⟨2, ![1, 256]⟩

abbrev nBuf : Space → Nat
  | .hbm => 9
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048x16, .f32⟩
  | .hbm, ⟨3, _⟩ => ⟨S2048x16, .f32⟩
  | .hbm, ⟨4, _⟩ => ⟨S_, .i32⟩
  | .hbm, ⟨5, _⟩ => ⟨S_, .f32⟩
  | .hbm, ⟨6, _⟩ => ⟨S2048x128, .f32⟩
  | .hbm, ⟨7, _⟩ => ⟨S32768x2048, .f32⟩
  | .hbm, ⟨8, _⟩ => ⟨S16x32768, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x128, .f32⟩
  | .local _ .vmem, ⟨4, _⟩ => ⟨S256x2048, .f32⟩
  | .local _ .vmem, ⟨5, _⟩ => ⟨S256x2048, .f32⟩
  | .local _ .vmem, ⟨6, _⟩ => ⟨S16x256, .f32⟩
  | .local _ .vmem, ⟨7, _⟩ => ⟨S16x256, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RouterRefIdeal.lean ====
abbrev S32768x2048 : Shape := ⟨2, ![32768, 2048]⟩
abbrev S1x2048 : Shape := ⟨2, ![1, 2048]⟩
abbrev S1x2048x16 : Shape := ⟨3, ![1, 2048, 16]⟩
abbrev S_ : Shape := ⟨0, ![]⟩
abbrev S32768 : Shape := ⟨1, ![32768]⟩
abbrev S32768x1 : Shape := ⟨2, ![32768, 1]⟩
abbrev S2048 : Shape := ⟨1, ![2048]⟩
abbrev S2048x16 : Shape := ⟨2, ![2048, 16]⟩
abbrev S32768x16 : Shape := ⟨2, ![32768, 16]⟩
abbrev S16x32768 : Shape := ⟨2, ![16, 32768]⟩

abbrev nBuf : Space → Nat
  | .hbm => 37
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048x16, .f32⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S2048, .f32⟩
  | .hbm, ⟨17, _⟩ => ⟨S1x2048, .f32⟩
  | .hbm, ⟨18, _⟩ => ⟨S32768x2048, .f32⟩
  | .hbm, ⟨19, _⟩ => ⟨S32768x2048, .f32⟩
  | .hbm, ⟨20, _⟩ => ⟨S2048x16, .f32⟩
  | .hbm, ⟨21, _⟩ => ⟨S32768x16, .f32⟩
  | .hbm, ⟨22, _⟩ => ⟨S_, .f32⟩
  | .hbm, ⟨23, _⟩ => ⟨S32768, .f32⟩
  | .hbm, ⟨24, _⟩ => ⟨S_, .f32⟩
  | .hbm, ⟨25, _⟩ => ⟨S32768, .f32⟩
  | .hbm, ⟨26, _⟩ => ⟨S32768, .f32⟩
  | .hbm, ⟨27, _⟩ => ⟨S32768x1, .f32⟩
  | .hbm, ⟨28, _⟩ => ⟨S32768x16, .f32⟩
  | .hbm, ⟨29, _⟩ => ⟨S32768x16, .f32⟩
  | .hbm, ⟨30, _⟩ => ⟨S32768x16, .f32⟩
  | .hbm, ⟨31, _⟩ => ⟨S_, .f32⟩
  | .hbm, ⟨32, _⟩ => ⟨S32768, .f32⟩
  | .hbm, ⟨33, _⟩ => ⟨S32768x1, .f32⟩
  | .hbm, ⟨34, _⟩ => ⟨S32768x16, .f32⟩
  | .hbm, ⟨35, _⟩ => ⟨S32768x16, .f32⟩
  | .hbm, ⟨36, _⟩ => ⟨S16x32768, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Rwprep.lean ====
abbrev S84x32768x128 : Shape := ⟨3, ![84, 32768, 128]⟩
abbrev S1x2x3520 : Shape := ⟨3, ![1, 2, 3520]⟩
abbrev S1x2x1024 : Shape := ⟨3, ![1, 2, 1024]⟩
abbrev S1x1024 : Shape := ⟨2, ![1, 1024]⟩
abbrev S1x2x96x1024 : Shape := ⟨4, ![1, 2, 96, 1024]⟩
abbrev S1x256x1024 : Shape := ⟨3, ![1, 256, 1024]⟩
abbrev S2x3520 : Shape := ⟨2, ![2, 3520]⟩
abbrev S_ : Shape := ⟨0, ![]⟩
abbrev S2x10688 : Shape := ⟨2, ![2, 10688]⟩
abbrev S2x3072 : Shape := ⟨2, ![2, 3072]⟩
abbrev S2x4096 : Shape := ⟨2, ![2, 4096]⟩
abbrev S2x96 : Shape := ⟨2, ![2, 96]⟩
abbrev S2x128 : Shape := ⟨2, ![2, 128]⟩
abbrev S2x256 : Shape := ⟨2, ![2, 256]⟩
abbrev S2x10752 : Shape := ⟨2, ![2, 10752]⟩
abbrev S2x3584 : Shape := ⟨2, ![2, 3584]⟩
abbrev S2x1x3584 : Shape := ⟨3, ![2, 1, 3584]⟩
abbrev S2x1024 : Shape := ⟨2, ![2, 1024]⟩
abbrev S2x8x1x128 : Shape := ⟨4, ![2, 8, 1, 128]⟩
abbrev S1024 : Shape := ⟨1, ![1024]⟩
abbrev S8x1x128 : Shape := ⟨3, ![8, 1, 128]⟩
abbrev S2x96x1024 : Shape := ⟨3, ![2, 96, 1024]⟩
abbrev S2x128x1024 : Shape := ⟨3, ![2, 128, 1024]⟩
abbrev S256x1024 : Shape := ⟨2, ![256, 1024]⟩
abbrev S3x8x32768x128 : Shape := ⟨4, ![3, 8, 32768, 128]⟩
abbrev S8x32768x128 : Shape := ⟨3, ![8, 32768, 128]⟩
abbrev S2x3x8x32768x128 : Shape := ⟨5, ![2, 3, 8, 32768, 128]⟩
abbrev S28x256x128 : Shape := ⟨3, ![28, 256, 128]⟩
abbrev S28x16x128 : Shape := ⟨3, ![28, 16, 128]⟩
abbrev S3x8x256x128 : Shape := ⟨4, ![3, 8, 256, 128]⟩
abbrev S8x256x128 : Shape := ⟨3, ![8, 256, 128]⟩
abbrev S2x3x8x256x128 : Shape := ⟨5, ![2, 3, 8, 256, 128]⟩
abbrev S1x256x128 : Shape := ⟨3, ![1, 256, 128]⟩
abbrev S256x128 : Shape := ⟨2, ![256, 128]⟩
abbrev S256x3584 : Shape := ⟨2, ![256, 3584]⟩
abbrev S1x16x128 : Shape := ⟨3, ![1, 16, 128]⟩
abbrev S16x128 : Shape := ⟨2, ![16, 128]⟩
abbrev S16x3584 : Shape := ⟨2, ![16, 3584]⟩
abbrev S288x3584 : Shape := ⟨2, ![288, 3584]⟩
abbrev S256x288 : Shape := ⟨2, ![256, 288]⟩
abbrev S1x1x3584 : Shape := ⟨3, ![1, 1, 3584]⟩
abbrev S1x3584 : Shape := ⟨2, ![1, 3584]⟩
abbrev S256x256 : Shape := ⟨2, ![256, 256]⟩
abbrev S1x128x1024 : Shape := ⟨3, ![1, 128, 1024]⟩
abbrev S128x1024 : Shape := ⟨2, ![128, 1024]⟩
abbrev S128x128 : Shape := ⟨2, ![128, 128]⟩
abbrev S1x1x128 : Shape := ⟨3, ![1, 1, 128]⟩
abbrev S1x128 : Shape := ⟨2, ![1, 128]⟩
abbrev S1x1x256x128 : Shape := ⟨4, ![1, 1, 256, 128]⟩
abbrev S1x1x1x128 : Shape := ⟨4, ![1, 1, 1, 128]⟩
abbrev S1x1x1x256x128 : Shape := ⟨5, ![1, 1, 1, 256, 128]⟩

abbrev nBuf : Space → Nat
  | .hbm => 52
  | .vmem => 20
  | .smem => 0
  | _ => 0

abbrev bufTy : (tb : Table) → Fin (tcTables nBuf tb) → BufTy
  | .hbm, ⟨0, _⟩ => ⟨S84x32768x128, .bf16⟩
  | .hbm, ⟨1, _⟩ => ⟨S1x2x3520, .f32⟩
  | .hbm, ⟨2, _⟩ => ⟨S1x2x1024, .f32⟩
  | .hbm, ⟨3, _⟩ => ⟨S1x2x1024, .f32⟩
  | .hbm, ⟨4, _⟩ => ⟨S1x1024, .f32⟩
  | .hbm, ⟨5, _⟩ => ⟨S1x1024, .f32⟩
  | .hbm, ⟨6, _⟩ => ⟨S1x2x96x1024, .f32⟩
  | .hbm, ⟨7, _⟩ => ⟨S1x2x96x1024, .f32⟩
  | .hbm, ⟨8, _⟩ => ⟨S1x256x1024, .f32⟩
  | .hbm, ⟨9, _⟩ => ⟨S2x3520, .f32⟩
  | .hbm, ⟨10, _⟩ => ⟨S_, .i32⟩
  | .hbm, ⟨11, _⟩ => ⟨S_, .f32⟩
  | .hbm, ⟨12, _⟩ => ⟨S2x10688, .f32⟩
  | .hbm, ⟨13, _⟩ => ⟨S2x3072, .f32⟩
  | .hbm, ⟨14, _⟩ => ⟨S2x3520, .f32⟩
  | .hbm, ⟨15, _⟩ => ⟨S2x4096, .f32⟩
  | .hbm, ⟨16, _⟩ => ⟨S2x96, .f32⟩
  | .hbm, ⟨17, _⟩ => ⟨S_, .i32⟩
  | .hbm, ⟨18, _⟩ => ⟨S_, .f32⟩
  | .hbm, ⟨19, _⟩ => ⟨S2x128, .f32⟩
  | .hbm, ⟨20, _⟩ => ⟨S2x96, .f32⟩
  | .hbm, ⟨21, _⟩ => ⟨S_, .i32⟩
  | .hbm, ⟨22, _⟩ => ⟨S_, .f32⟩
  | .hbm, ⟨23, _⟩ => ⟨S2x128, .f32⟩
  | .hbm, ⟨24, _⟩ => ⟨S2x3072, .f32⟩
  | .hbm, ⟨25, _⟩ => ⟨S2x256, .f32⟩
  | .hbm, ⟨26, _⟩ => ⟨S2x10752, .f32⟩
  | .hbm, ⟨27, _⟩ => ⟨S2x3584, .f32⟩
  | .hbm, ⟨28, _⟩ => ⟨S2x1x3584, .f32⟩
  | .hbm, ⟨29, _⟩ => ⟨S2x1024, .f32⟩
  | .hbm, ⟨30, _⟩ => ⟨S2x8x1x128, .f32⟩
  | .hbm, ⟨31, _⟩ => ⟨S2x1024, .f32⟩
  | .hbm, ⟨32, _⟩ => ⟨S2x8x1x128, .f32⟩
  | .hbm, ⟨33, _⟩ => ⟨S1024, .f32⟩
  | .hbm, ⟨34, _⟩ => ⟨S8x1x128, .f32⟩
  | .hbm, ⟨35, _⟩ => ⟨S1024, .f32⟩
  | .hbm, ⟨36, _⟩ => ⟨S8x1x128, .f32⟩
  | .hbm, ⟨37, _⟩ => ⟨S2x96x1024, .f32⟩
  | .hbm, ⟨38, _⟩ => ⟨S_, .i32⟩
  | .hbm, ⟨39, _⟩ => ⟨S_, .f32⟩
  | .hbm, ⟨40, _⟩ => ⟨S2x128x1024, .f32⟩
  | .hbm, ⟨41, _⟩ => ⟨S2x128x1024, .bf16⟩
  | .hbm, ⟨42, _⟩ => ⟨S2x96x1024, .f32⟩
  | .hbm, ⟨43, _⟩ => ⟨S_, .i32⟩
  | .hbm, ⟨44, _⟩ => ⟨S_, .f32⟩
  | .hbm, ⟨45, _⟩ => ⟨S2x128x1024, .f32⟩
  | .hbm, ⟨46, _⟩ => ⟨S2x128x1024, .bf16⟩
  | .hbm, ⟨47, _⟩ => ⟨S256x1024, .f32⟩
  | .hbm, ⟨48, _⟩ => ⟨S256x1024, .bf16⟩
  | .hbm, ⟨49, _⟩ => ⟨S3x8x32768x128, .f32⟩
  | .hbm, ⟨50, _⟩ => ⟨S8x32768x128, .f32⟩
  | .hbm, ⟨51, _⟩ => ⟨S2x3x8x32768x128, .f32⟩
  | .local _ .vmem, ⟨0, _⟩ => ⟨S28x256x128, .bf16⟩
  | .local _ .vmem, ⟨1, _⟩ => ⟨S28x256x128, .bf16⟩
  | .local _ .vmem, ⟨2, _⟩ => ⟨S28x16x128, .bf16⟩
  | .local _ .vmem, ⟨3, _⟩ => ⟨S28x16x128, .bf16⟩
  | .local _ .vmem, ⟨4, _⟩ => ⟨S28x16x128, .bf16⟩
  | .local _ .vmem, ⟨5, _⟩ => ⟨S28x16x128, .bf16⟩
  | .local _ .vmem, ⟨6, _⟩ => ⟨S2x1x3584, .f32⟩
  | .local _ .vmem, ⟨7, _⟩ => ⟨S2x8x1x128, .f32⟩
  | .local _ .vmem, ⟨8, _⟩ => ⟨S2x8x1x128, .f32⟩
  | .local _ .vmem, ⟨9, _⟩ => ⟨S8x1x128, .f32⟩
  | .local _ .vmem, ⟨10, _⟩ => ⟨S8x1x128, .f32⟩
  | .local _ .vmem, ⟨11, _⟩ => ⟨S2x128x1024, .bf16⟩
  | .local _ .vmem, ⟨12, _⟩ => ⟨S2x128x1024, .bf16⟩
  | .local _ .vmem, ⟨13, _⟩ => ⟨S256x1024, .bf16⟩
  | .local _ .vmem, ⟨14, _⟩ => ⟨S3x8x256x128, .f32⟩
  | .local _ .vmem, ⟨15, _⟩ => ⟨S3x8x256x128, .f32⟩
  | .local _ .vmem, ⟨16, _⟩ => ⟨S8x256x128, .f32⟩
  | .local _ .vmem, ⟨17, _⟩ => ⟨S8x256x128, .f32⟩
  | .local _ .vmem, ⟨18, _⟩ => ⟨S2x3x8x256x128, .f32⟩
  | .local _ .vmem, ⟨19, _⟩ => ⟨S2x3x8x256x128, .f32⟩
  | _, _ => ⟨S84x32768x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_call1_v0 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_call2_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_2 : Ref sig .tc := ⟨.hbm, 38, rfl⟩
abbrev main_call3_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_3 : Ref sig .tc := ⟨.hbm, 43, rfl⟩
abbrev main_call4_v0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30_0 : Ref sig .tc := ⟨.hbm, 49, rfl⟩
abbrev main_v30_1 : Ref sig .tc := ⟨.hbm, 50, rfl⟩
abbrev main_v30_2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  let c0_i32_0 : BitVec 32 := 0#32
  ![c2_i32.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let c4096_i32 : BitVec 32 := 4096#32
  let v0 : BitVec 32 := Scalar.muli arg0 c4096_i32
  let c256_i32 : BitVec 32 := 256#32
  let v1 : BitVec 32 := Scalar.muli arg1 c256_i32
  let v2 : BitVec 32 := Scalar.addi v0 v1
  let c16_i32 : BitVec 32 := 16#32
  let v3 : BitVec 32 := Scalar.divsi v2 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.subi v19 c1_i32_4
  let c0_i32_5 : BitVec 32 := 0#32
  let v21 : BitVec 32 := Scalar.maxsi v20 c0_i32_5
  let c2_i32 : BitVec 32 := 2#32
  let c0_i32_6 : BitVec 32 := 0#32
  let c0_i32_7 : BitVec 32 := 0#32
  ![c2_i32.toNat, v21.toNat, c0_i32_6.toNat]

def cc0_transform_2 (i : grid0.Coords) : Fin 3 → Nat :=
  let arg0 : BitVec 32 := BitVec.ofNat 32 (i 0).val
  let arg1 : BitVec 32 := BitVec.ofNat 32 (i 1).val
  let c4096_i32 : BitVec 32 := 4096#32
  let v0 : BitVec 32 := Scalar.muli arg0 c4096_i32
  let c1_i32 : BitVec 32 := 1#32
  let v1 : BitVec 32 := Scalar.addi arg1 c1_i32
  let c256_i32 : BitVec 32 := 256#32
  let v2 : BitVec 32 := Scalar.muli v1 c256_i32
  let v3 : BitVec 32 := Scalar.addi v0 v2
  let c16_i32 : BitVec 32 := 16#32
  let v4 : BitVec 32 := Scalar.divsi v3 c16_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c16_i32 c0_i32_1
  let v11 : BitVec 32 := Scalar.extui v10
  let c0_i32_2 : BitVec 32 := 0#32
  let v12 : BitVec 1 := Scalar.cmpi .slt c16_i32 c0_i32_2
  let v13 : BitVec 32 := Scalar.extui v12
  let v14 : BitVec 32 := Scalar.subi v11 v13
  let v15 : BitVec 1 := Scalar.cmpi .ne v9 v14
  let v16 : BitVec 32 := Scalar.remsi v3 c16_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c2047_i32 : BitVec 32 := 2047#32
  let v21 : BitVec 32 := Scalar.minsi v20 c2047_i32
  let c2_i32 : BitVec 32 := 2#32
  let c0_i32_5 : BitVec 32 := 0#32
  let c0_i32_6 : BitVec 32 := 0#32
  ![c2_i32.toNat, v21.toNat, c0_i32_5.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, c0_i32_0.toNat, v1.toNat, c0_i32_1.toNat]

def cc0_transform_12 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_13 (i : grid0.Coords) : Fin 5 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, v1.toNat, c0_i32_2.toNat]

abbrev stage0_0 : Fin 2 → Memref sig .tc .vmem S28x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S28x16x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S28x16x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2x1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x8x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x8x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S3x8x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S2x3x8x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== RwprepRefIdeal.lean ====
abbrev S84x32768x128 : Shape := ⟨3, ![84, 32768, 128]⟩
abbrev S1x2x3520 : Shape := ⟨3, ![1, 2, 3520]⟩
abbrev S1x2x1024 : Shape := ⟨3, ![1, 2, 1024]⟩
abbrev S1x1024 : Shape := ⟨2, ![1, 1024]⟩
abbrev S1x2x96x1024 : Shape := ⟨4, ![1, 2, 96, 1024]⟩
abbrev S1x256x1024 : Shape := ⟨3, ![1, 256, 1024]⟩
abbrev S28x32768x128 : Shape := ⟨3, ![28, 32768, 128]⟩
abbrev S32768x28x128 : Shape := ⟨3, ![32768, 28, 128]⟩
abbrev S8x4096x3584 : Shape := ⟨3, ![8, 4096, 3584]⟩
abbrev S8x4096x3168 : Shape := ⟨3, ![8, 4096, 3168]⟩
abbrev S8x4096x96 : Shape := ⟨3, ![8, 4096, 96]⟩
abbrev S8x4096x256 : Shape := ⟨3, ![8, 4096, 256]⟩
abbrev S8x4096x3520 : Shape := ⟨3, ![8, 4096, 3520]⟩
abbrev S8x4095x3520 : Shape := ⟨3, ![8, 4095, 3520]⟩
abbrev S_ : Shape := ⟨0, ![]⟩
abbrev S1x1x3520 : Shape := ⟨3, ![1, 1, 3520]⟩
abbrev S3520 : Shape := ⟨1, ![3520]⟩
abbrev S8x4096x1024 : Shape := ⟨3, ![8, 4096, 1024]⟩
abbrev S8x4096x16x64 : Shape := ⟨4, ![8, 4096, 16, 64]⟩
abbrev S256x1024 : Shape := ⟨2, ![256, 1024]⟩
abbrev S1024 : Shape := ⟨1, ![1024]⟩
abbrev S16x64 : Shape := ⟨2, ![16, 64]⟩
abbrev S1x1x16x64 : Shape := ⟨4, ![1, 1, 16, 64]⟩
abbrev S8x4096x16 : Shape := ⟨3, ![8, 4096, 16]⟩
abbrev S8x4096x16x1 : Shape := ⟨4, ![8, 4096, 16, 1]⟩
abbrev S1x1x1024 : Shape := ⟨3, ![1, 1, 1024]⟩
abbrev S1x1x96x1024 : Shape := ⟨4, ![1, 1, 96, 1024]⟩
abbrev S96x1024 : Shape := ⟨2, ![96, 1024]⟩
abbrev S32768x8x128 : Shape := ⟨3, ![32768, 8, 128]⟩
abbrev S8x32768x128 : Shape := ⟨3, ![8, 32768, 128]⟩
abbrev S1x8x32768x128 : Shape := ⟨4, ![1, 8, 32768, 128]⟩
abbrev S3x8x32768x128 : Shape := ⟨4, ![3, 8, 32768, 128]⟩
abbrev S1x3x8x32768x128 : Shape := ⟨5, ![1, 3, 8, 32768, 128]⟩
abbrev S2x3x8x32768x128 : Shape := ⟨5, ![2, 3, 8, 32768, 128]⟩

abbrev nBuf : Space → Nat
  | .hbm => 226
  | .vmem => 0
  | .smem => 0
  | _ => 0

abbrev hbmTy0_0 (i : Nat) : BufTy := match i % 128 with
  | 0 => ⟨S84x32768x128, .bf16⟩
  | 1 => ⟨S1x2x3520, .f32⟩
  | 2 => ⟨S1x2x1024, .f32⟩
  | 3 => ⟨S1x2x1024, .f32⟩
  | 4 => ⟨S1x1024, .f32⟩
  | 5 => ⟨S1x1024, .f32⟩
  | 6 => ⟨S1x2x96x1024, .f32⟩
  | 7 => ⟨S1x2x96x1024, .f32⟩
  | 8 => ⟨S1x256x1024, .f32⟩
  | 9 => ⟨S28x32768x128, .bf16⟩
  | 10 => ⟨S28x32768x128, .f32⟩
  | 11 => ⟨S32768x28x128, .f32⟩
  | 12 => ⟨S8x4096x3584, .f32⟩
  | 13 => ⟨S8x4096x3168, .f32⟩
  | 14 => ⟨S8x4096x96, .f32⟩
  | 15 => ⟨S8x4096x256, .f32⟩
  | 16 => ⟨S8x4096x3520, .f32⟩
  | 17 => ⟨S8x4095x3520, .f32⟩
  | 18 => ⟨S_, .i32⟩
  | 19 => ⟨S_, .f32⟩
  | 20 => ⟨S8x4096x3520, .f32⟩
  | 21 => ⟨S8x4095x3520, .f32⟩
  | 22 => ⟨S_, .i32⟩
  | 23 => ⟨S_, .f32⟩
  | 24 => ⟨S8x4096x3520, .f32⟩
  | 25 => ⟨S1x1x3520, .f32⟩
  | 26 => ⟨S3520, .f32⟩
  | 27 => ⟨S8x4096x3520, .f32⟩
  | 28 => ⟨S1x1x3520, .f32⟩
  | 29 => ⟨S8x4096x3520, .f32⟩
  | 30 => ⟨S8x4096x3520, .f32⟩
  | 31 => ⟨S8x4096x3520, .f32⟩
  | 32 => ⟨S1x1x3520, .f32⟩
  | 33 => ⟨S3520, .f32⟩
  | 34 => ⟨S8x4096x3520, .f32⟩
  | 35 => ⟨S1x1x3520, .f32⟩
  | 36 => ⟨S8x4096x3520, .f32⟩
  | 37 => ⟨S8x4096x3520, .f32⟩
  | 38 => ⟨S8x4096x3520, .f32⟩
  | 39 => ⟨S8x4096x1024, .f32⟩
  | 40 => ⟨S8x4096x1024, .f32⟩
  | 41 => ⟨S8x4096x16x64, .f32⟩
  | 42 => ⟨S8x4096x1024, .f32⟩
  | 43 => ⟨S8x4096x96, .f32⟩
  | 44 => ⟨S8x4096x96, .f32⟩
  | 45 => ⟨S8x4096x96, .f32⟩
  | 46 => ⟨S8x4096x256, .f32⟩
  | 47 => ⟨S8x4096x256, .f32⟩
  | 48 => ⟨S8x4096x256, .f32⟩
  | 49 => ⟨S_, .f32⟩
  | 50 => ⟨S8x4096x256, .f32⟩
  | 51 => ⟨S8x4096x256, .f32⟩
  | 52 => ⟨S_, .f32⟩
  | 53 => ⟨S8x4096x256, .f32⟩
  | 54 => ⟨S8x4096x256, .f32⟩
  | 55 => ⟨S256x1024, .f32⟩
  | 56 => ⟨S8x4096x1024, .f32⟩
  | 57 => ⟨S1024, .f32⟩
  | 58 => ⟨S16x64, .f32⟩
  | 59 => ⟨S1x1x16x64, .f32⟩
  | 60 => ⟨S8x4096x16x64, .f32⟩
  | 61 => ⟨S8x4096x16x64, .f32⟩
  | 62 => ⟨S8x4096x16x64, .f32⟩
  | 63 => ⟨S_, .f32⟩
  | 64 => ⟨S8x4096x16, .f32⟩
  | 65 => ⟨S8x4096x16x1, .f32⟩
  | 66 => ⟨S8x4096x16x1, .f32⟩
  | 67 => ⟨S_, .f32⟩
  | 68 => ⟨S8x4096x16x1, .f32⟩
  | 69 => ⟨S8x4096x16x1, .f32⟩
  | 70 => ⟨S8x4096x16x64, .f32⟩
  | 71 => ⟨S8x4096x16x64, .f32⟩
  | 72 => ⟨S1x1x1024, .f32⟩
  | 73 => ⟨S1024, .f32⟩
  | 74 => ⟨S1x1x96x1024, .f32⟩
  | 75 => ⟨S96x1024, .f32⟩
  | 76 => ⟨S8x4096x1024, .f32⟩
  | 77 => ⟨S1x1x1024, .f32⟩
  | 78 => ⟨S8x4096x1024, .f32⟩
  | 79 => ⟨S8x4096x1024, .f32⟩
  | 80 => ⟨S8x4096x1024, .f32⟩
  | 81 => ⟨S_, .f32⟩
  | 82 => ⟨S8x4096x1024, .f32⟩
  | 83 => ⟨S8x4096x1024, .f32⟩
  | 84 => ⟨S8x4096x1024, .f32⟩
  | 85 => ⟨S8x4096x1024, .f32⟩
  | 86 => ⟨S8x4096x1024, .i1⟩
  | 87 => ⟨S8x4096x1024, .f32⟩
  | 88 => ⟨S8x4096x1024, .f32⟩
  | 89 => ⟨S8x4096x1024, .f32⟩
  | 90 => ⟨S8x4096x1024, .f32⟩
  | 91 => ⟨S8x4096x1024, .f32⟩
  | 92 => ⟨S8x4096x1024, .f32⟩
  | 93 => ⟨S8x4096x1024, .f32⟩
  | 94 => ⟨S8x4096x1024, .f32⟩
  | 95 => ⟨S8x4096x1024, .f32⟩
  | 96 => ⟨S8x4096x1024, .f32⟩
  | 97 => ⟨S_, .f32⟩
  | 98 => ⟨S8x4096x1024, .f32⟩
  | 99 => ⟨S8x4096x1024, .f32⟩
  | 100 => ⟨S1x1x1024, .f32⟩
  | 101 => ⟨S1024, .f32⟩
  | 102 => ⟨S1x1x96x1024, .f32⟩
  | 103 => ⟨S96x1024, .f32⟩
  | 104 => ⟨S8x4096x1024, .f32⟩
  | 105 => ⟨S1x1x1024, .f32⟩
  | 106 => ⟨S8x4096x1024, .f32⟩
  | 107 => ⟨S8x4096x1024, .f32⟩
  | 108 => ⟨S8x4096x1024, .f32⟩
  | 109 => ⟨S8x4096x1024, .f32⟩
  | 110 => ⟨S_, .f32⟩
  | 111 => ⟨S8x4096x1024, .f32⟩
  | 112 => ⟨S8x4096x1024, .f32⟩
  | 113 => ⟨S_, .f32⟩
  | 114 => ⟨S8x4096x1024, .f32⟩
  | 115 => ⟨S8x4096x1024, .f32⟩
  | 116 => ⟨S8x4096x16x64, .f32⟩
  | 117 => ⟨S_, .f32⟩
  | 118 => ⟨S8x4096x16x64, .f32⟩
  | 119 => ⟨S8x4096x16x64, .f32⟩
  | 120 => ⟨S1024, .f32⟩
  | 121 => ⟨S16x64, .f32⟩
  | 122 => ⟨S1x1x16x64, .f32⟩
  | 123 => ⟨S8x4096x16x64, .f32⟩
  | 124 => ⟨S8x4096x16x64, .f32⟩
  | 125 => ⟨S_, .f32⟩
  | 126 => ⟨S8x4096x16x64, .f32⟩
  | 127 => ⟨S8x4096x16x64, .f32⟩
  | _ => ⟨S84x32768x128, .bf16⟩

abbrev hbmTy0_1 (i : Nat) : BufTy := match i % 128 with
  | 0 => ⟨S8x4096x16x64, .f32⟩
  | 1 => ⟨S32768x8x128, .f32⟩
  | 2 => ⟨S8x32768x128, .f32⟩
  | 3 => ⟨S8x4096x16x64, .f32⟩
  | 4 => ⟨S32768x8x128, .f32⟩
  | 5 => ⟨S8x32768x128, .f32⟩
  | 6 => ⟨S8x4096x1024, .f32⟩
  | 7 => ⟨S32768x8x128, .f32⟩
  | 8 => ⟨S8x32768x128, .f32⟩
  | 9 => ⟨S1x8x32768x128, .f32⟩
  | 10 => ⟨S1x8x32768x128, .f32⟩
  | 11 => ⟨S1x8x32768x128, .f32⟩
  | 12 => ⟨S3x8x32768x128, .f32⟩
  | 13 => ⟨S1x1x1024, .f32⟩
  | 14 => ⟨S1024, .f32⟩
  | 15 => ⟨S1x1x96x1024, .f32⟩
  | 16 => ⟨S96x1024, .f32⟩
  | 17 => ⟨S8x4096x1024, .f32⟩
  | 18 => ⟨S1x1x1024, .f32⟩
  | 19 => ⟨S8x4096x1024, .f32⟩
  | 20 => ⟨S8x4096x1024, .f32⟩
  | 21 => ⟨S8x4096x1024, .f32⟩
  | 22 => ⟨S_, .f32⟩
  | 23 => ⟨S8x4096x1024, .f32⟩
  | 24 => ⟨S8x4096x1024, .f32⟩
  | 25 => ⟨S8x4096x1024, .f32⟩
  | 26 => ⟨S8x4096x1024, .f32⟩
  | 27 => ⟨S8x4096x1024, .i1⟩
  | 28 => ⟨S8x4096x1024, .f32⟩
  | 29 => ⟨S8x4096x1024, .f32⟩
  | 30 => ⟨S8x4096x1024, .f32⟩
  | 31 => ⟨S8x4096x1024, .f32⟩
  | 32 => ⟨S8x4096x1024, .f32⟩
  | 33 => ⟨S8x4096x1024, .f32⟩
  | 34 => ⟨S8x4096x1024, .f32⟩
  | 35 => ⟨S8x4096x1024, .f32⟩
  | 36 => ⟨S8x4096x1024, .f32⟩
  | 37 => ⟨S8x4096x1024, .f32⟩
  | 38 => ⟨S_, .f32⟩
  | 39 => ⟨S8x4096x1024, .f32⟩
  | 40 => ⟨S8x4096x1024, .f32⟩
  | 41 => ⟨S1x1x1024, .f32⟩
  | 42 => ⟨S1024, .f32⟩
  | 43 => ⟨S1x1x96x1024, .f32⟩
  | 44 => ⟨S96x1024, .f32⟩
  | 45 => ⟨S8x4096x1024, .f32⟩
  | 46 => ⟨S1x1x1024, .f32⟩
  | 47 => ⟨S8x4096x1024, .f32⟩
  | 48 => ⟨S8x4096x1024, .f32⟩
  | 49 => ⟨S8x4096x1024, .f32⟩
  | 50 => ⟨S8x4096x1024, .f32⟩
  | 51 => ⟨S_, .f32⟩
  | 52 => ⟨S8x4096x1024, .f32⟩
  | 53 => ⟨S8x4096x1024, .f32⟩
  | 54 => ⟨S_, .f32⟩
  | 55 => ⟨S8x4096x1024, .f32⟩
  | 56 => ⟨S8x4096x1024, .f32⟩
  | 57 => ⟨S8x4096x16x64, .f32⟩
  | 58 => ⟨S_, .f32⟩
  | 59 => ⟨S8x4096x16x64, .f32⟩
  | 60 => ⟨S8x4096x16x64, .f32⟩
  | 61 => ⟨S1024, .f32⟩
  | 62 => ⟨S16x64, .f32⟩
  | 63 => ⟨S1x1x16x64, .f32⟩
  | 64 => ⟨S8x4096x16x64, .f32⟩
  | 65 => ⟨S8x4096x16x64, .f32⟩
  | 66 => ⟨S_, .f32⟩
  | 67 => ⟨S8x4096x16x64, .f32⟩
  | 68 => ⟨S8x4096x16x64, .f32⟩
  | 69 => ⟨S8x4096x16x64, .f32⟩
  | 70 => ⟨S32768x8x128, .f32⟩
  | 71 => ⟨S8x32768x128, .f32⟩
  | 72 => ⟨S8x4096x16x64, .f32⟩
  | 73 => ⟨S32768x8x128, .f32⟩
  | 74 => ⟨S8x32768x128, .f32⟩
  | 75 => ⟨S8x4096x1024, .f32⟩
  | 76 => ⟨S32768x8x128, .f32⟩
  | 77 => ⟨S8x32768x128, .f32⟩
  | 78 => ⟨S1x8x32768x128, .f32⟩
  | 79 => ⟨S1x8x32768x128, .f32⟩
  | 80 => ⟨S1x8x32768x128, .f32⟩
  | 81 => ⟨S3x8x32768x128, .f32⟩
  | 82 => ⟨S32768x8x128, .f32⟩
  | 83 => ⟨S8x32768x128, .f32⟩
  | 84 => ⟨S32768x8x128, .f32⟩
  | 85 => ⟨S8x32768x128, .f32⟩
  | 86 => ⟨S8x4096x16x64, .f32⟩
  | 87 => ⟨S32768x8x128, .f32⟩
  | 88 => ⟨S8x32768x128, .f32⟩
  | 89 => ⟨S1x8x32768x128, .f32⟩
  | 90 => ⟨S1x8x32768x128, .f32⟩
  | 91 => ⟨S1x8x32768x128, .f32⟩
  | 92 => ⟨S3x8x32768x128, .f32⟩
  | 93 => ⟨S32768x8x128, .f32⟩
  | 94 => ⟨S8x32768x128, .f32⟩
  | 95 => ⟨S1x3x8x32768x128, .f32⟩
  | 96 => ⟨S1x3x8x32768x128, .f32⟩
  | 97 => ⟨S2x3x8x32768x128, .f32⟩
  | _ => ⟨S84x32768x128, .bf16⟩

abbrev hbmTy (i : Nat) : BufTy := match i / 128 with
  | 0 => hbmTy0_0 i
  | 1 => hbmTy0_1 i
  | _ => ⟨S84x32768x128, .bf16⟩

abbrev bufTy : (tb : Table) → Fin (tcTables nBuf tb) → BufTy
  | .hbm, ⟨i, _⟩ => hbmTy i
  | _, _ => ⟨S84x32768x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst : Ref sig .tc := ⟨.hbm, 49, rfl⟩
abbrev main_v36 : Ref sig .tc := ⟨.hbm, 50, rfl⟩
abbrev main_v37 : Ref sig .tc := ⟨.hbm, 51, rfl⟩
abbrev main_cst_1 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_call2_v0 : Ref sig .tc := ⟨.hbm, 62, rfl⟩
abbrev main_call2_cst : Ref sig .tc := ⟨.hbm, 63, rfl⟩
abbrev main_call2_v1 : Ref sig .tc := ⟨.hbm, 64, rfl⟩
abbrev main_call2_v2 : Ref sig .tc := ⟨.hbm, 65, rfl⟩
abbrev main_v47 : Ref sig .tc := ⟨.hbm, 66, rfl⟩
abbrev main_cst_2 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_call3_cst : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_v5 : Ref sig .tc := ⟨.hbm, 87, rfl⟩
abbrev main_call3_v6 : Ref sig .tc := ⟨.hbm, 88, rfl⟩
abbrev main_call3_v7 : Ref sig .tc := ⟨.hbm, 89, rfl⟩
abbrev main_call3_v8 : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_3 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_4 : Ref sig .tc := ⟨.hbm, 110, rfl⟩
abbrev main_v76 : Ref sig .tc := ⟨.hbm, 111, rfl⟩
abbrev main_v77 : Ref sig .tc := ⟨.hbm, 112, rfl⟩
abbrev main_cst_5 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_6 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_7 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_call4_cst : Ref sig .tc := ⟨.hbm, 150, rfl⟩
abbrev main_call4_v0 : Ref sig .tc := ⟨.hbm, 151, rfl⟩
abbrev main_call4_v1 : Ref sig .tc := ⟨.hbm, 152, rfl⟩
abbrev main_call4_v2 : Ref sig .tc := ⟨.hbm, 153, rfl⟩
abbrev main_call4_v3 : Ref sig .tc := ⟨.hbm, 154, rfl⟩
abbrev main_call4_v4 : Ref sig .tc := ⟨.hbm, 155, rfl⟩
abbrev main_call4_v5 : Ref sig .tc := ⟨.hbm, 156, rfl⟩
abbrev main_call4_v6 : Ref sig .tc := ⟨.hbm, 157, rfl⟩
abbrev main_call4_v7 : Ref sig .tc := ⟨.hbm, 158, rfl⟩
abbrev main_call4_v8 : Ref sig .tc := ⟨.hbm, 159, rfl⟩
abbrev main_call4_v9 : Ref sig .tc := ⟨.hbm, 160, rfl⟩
abbrev main_call4_v10 : Ref sig .tc := ⟨.hbm, 161, rfl⟩
abbrev main_call4_v11 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_cst_8 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_cst_9 : Ref sig .tc := ⟨.hbm, 179, rfl⟩
abbrev main_v127 : Ref sig .tc := ⟨.hbm, 180, rfl⟩
abbrev main_v128 : Ref sig .tc := ⟨.hbm, 181, rfl⟩
abbrev main_cst_10 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_cst_11 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_cst_12 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩

abbrev nD : Nat := 1
abbrev τ : Topo := Topo.v7x

variable {F : FTy → Type} [FloatOps F]
-- ==== Proof.Att.Math.lean ====
module
public import Idealize.ShloMosaic.Lib.Pointwise
public import Idealize.ShloMosaic.Lib.IdealHost
@[expose] public section
set_option maxRecDepth 16384
noncomputable section
open Idealize.ShloMosaic
namespace Cert.Att

theorem ofBits_negInf : Ideal.ofBits .f32 0xFF800000#32 = (⊥ : EReal) := by
  simp [Ideal.ofBits, Ideal.ieee]
theorem ofBits_eighth : Ideal.ofBits .f32 0x3E000000#32 = (((1 : ℝ) / 8 : ℝ) : EReal) := by
  simp [Ideal.ofBits, Ideal.ieee, -EReal.coe_mul]; norm_num
theorem ofBits_neg_two : Ideal.ofBits .f32 0xC0000000#32 = ((-2 : ℝ) : EReal) := by
  simp [Ideal.ofBits, Ideal.ieee, -EReal.coe_mul]; norm_num
theorem ofBits_neg_one : Ideal.ofBits .f32 0xBF800000#32 = ((-1 : ℝ) : EReal) := by
  simp [Ideal.ofBits, Ideal.ieee, -EReal.coe_mul]; norm_num
theorem ofBits_256 : Ideal.ofBits .f32 0x43800000#32 = ((256 : ℝ) : EReal) := by
  simp [Ideal.ofBits, Ideal.ieee, -EReal.coe_mul]; norm_num

/-- A pattern whose exponent is not all ones denotes a real. -/
theorem ofBits_real (b : BitVec 32) (h : (b.extractLsb' 23 8).toNat ≠ 255) : ∃ r : ℝ, Ideal.ofBits .f32 b = (r : EReal) := by
  simp only [Ideal.ofBits, Ideal.ieee]
  rw [if_neg (by simpa using h)]
  split
  · exact ⟨_, rfl⟩
  · exact ⟨_, rfl⟩

theorem exp_coe (x : ℝ) : Ideal.exp (x : EReal) = ((Real.exp x : ℝ) : EReal) := rfl

theorem coe_sum {n : Nat} (f : Fin n → ℝ) : ∑ k, ((f k : ℝ) : EReal) = ((∑ k, f k : ℝ) : EReal) := by
  induction n with
  | zero => simp
  | succ n ih => rw [Fin.sum_univ_succ, Fin.sum_univ_succ, ih, EReal.coe_add]

theorem div_coe_coe (a b : ℝ) (hb : b ≠ 0) : Ideal.div (a : EReal) (b : EReal) = ((a / b : ℝ) : EReal) := by
  rw [Ideal.div_coe hb, ← EReal.coe_mul, mul_one_div]

/-- The fold of the maximum from the bottom element is the supremum. -/
theorem fold_max_eq {n : Nat} (f : Fin n → EReal) : Finset.fold max ⊥ f Finset.univ = ⨆ k, f k := by
  rw [← Finset.sup_univ_eq_iSup]; rfl

/-- The supremum of finitely many reals is one of them. -/
theorem iSup_coe {n : Nat} (f : Fin (n + 1) → ℝ) : ∃ r : ℝ, (⨆ k, (f k : EReal)) = (r : EReal) := by
  obtain ⟨k, hk⟩ := Finite.exists_max f
  refine ⟨f k, le_antisymm (iSup_le fun j => EReal.coe_le_coe_iff.2 (hk j)) (le_iSup (fun j => (f j : EReal)) k)⟩

/-- One row of the attention: the kernel's quotients of rotated sums are the reference's sum of weighted values. -/
theorem attn_row (n : Nat) (t1 t2 v : Fin (n + 1) → ℝ) (L : ℝ) (e : Fin (n + 1) ≃ Fin (n + 1)) (T1 T2 V O : Fin (n + 1) → EReal)
    (h1 : ∀ c, T1 c = (t1 (e c) : EReal)) (h2 : ∀ c, T2 c = (t2 (e c) : EReal)) (hV : ∀ c, V c = (v (e c) : EReal)) (hO : ∀ c, O c = 1) :
    Ideal.div (∑ c, Ideal.exp (T1 c - Finset.fold max ⊥ T1 Finset.univ) * V c) (∑ c, Ideal.exp (T1 c - Finset.fold max ⊥ T1 Finset.univ) * O c)
      - (L : EReal) * Ideal.div (∑ c, Ideal.exp (T2 c - Finset.fold max ⊥ T2 Finset.univ) * V c) (∑ c, Ideal.exp (T2 c - Finset.fold max ⊥ T2 Finset.univ) * O c)
    = ∑ k, (Ideal.div (Ideal.exp ((t1 k : EReal) - max ⊥ (Finset.fold max ⊥ (fun k => (t1 k : EReal)) Finset.univ)))
              (∑ k, Ideal.exp ((t1 k : EReal) - max ⊥ (Finset.fold max ⊥ (fun k => (t1 k : EReal)) Finset.univ)))
          - (L : EReal) * Ideal.div (Ideal.exp ((t2 k : EReal) - max ⊥ (Finset.fold max ⊥ (fun k => (t2 k : EReal)) Finset.univ)))
              (∑ k, Ideal.exp ((t2 k : EReal) - max ⊥ (Finset.fold max ⊥ (fun k => (t2 k : EReal)) Finset.univ)))) * (v k : EReal) := by
  obtain ⟨m1, hm1⟩ := iSup_coe t1
  obtain ⟨m2, hm2⟩ := iSup_coe t2
  have s1 : Finset.fold max ⊥ T1 Finset.univ = (m1 : EReal) := by
    rw [fold_max_eq, ← hm1, ← Equiv.iSup_comp (g := fun k => (t1 k : EReal)) e]; exact iSup_congr h1
  have s2 : Finset.fold max ⊥ T2 Finset.univ = (m2 : EReal) := by
    rw [fold_max_eq, ← hm2, ← Equiv.iSup_comp (g := fun k => (t2 k : EReal)) e]; exact iSup_congr h2
  have r1 : max ⊥ (Finset.fold max ⊥ (fun k => (t1 k : EReal)) Finset.univ) = (m1 : EReal) := by
    rw [fold_max_eq, hm1]; exact max_eq_right bot_le
  have r2 : max ⊥ (Finset.fold max ⊥ (fun k => (t2 k : EReal)) Finset.univ) = (m2 : EReal) := by
    rw [fold_max_eq, hm2]; exact max_eq_right bot_le
  rw [s1, s2, r1, r2]
  have key : ∀ (t : Fin (n + 1) → ℝ) (m : ℝ) (T : Fin (n + 1) → EReal) (h : ∀ c, T c = (t (e c) : EReal)),
      (∑ c, Ideal.exp (T c - (m : EReal)) * V c) = ((∑ k, Real.exp (t k - m) * v k : ℝ) : EReal)
      ∧ (∑ c, Ideal.exp (T c - (m : EReal)) * O c) = ((∑ k, Real.exp (t k - m) : ℝ) : EReal) := by
    intro t m T h
    constructor
    · rw [← coe_sum]
      refine Eq.trans (Finset.sum_congr rfl fun c _ => ?_) (Equiv.sum_comp e fun k => ((Real.exp (t k - m) * v k : ℝ) : EReal))
      rw [h, hV, ← EReal.coe_sub, exp_coe, ← EReal.coe_mul]
    · rw [← coe_sum]
      refine Eq.trans (Finset.sum_congr rfl fun c _ => ?_) (Equiv.sum_comp e fun k => ((Real.exp (t k - m) : ℝ) : EReal))
      rw [h, hO, ← EReal.coe_sub, exp_coe, mul_one]
  have pos : ∀ (t : Fin (n + 1) → ℝ) (m : ℝ), (∑ k, Real.exp (t k - m)) ≠ 0 := fun t m =>
    ne_of_gt (Finset.sum_pos (fun k _ => Real.exp_pos _) Finset.univ_nonempty)
  have sr : ∀ (t : Fin (n + 1) → ℝ) (m : ℝ), (∑ k, Ideal.exp ((t k : EReal) - (m : EReal))) = ((∑ k, Real.exp (t k - m) : ℝ) : EReal) := by
    intro t m
    rw [← coe_sum]
    refine Finset.sum_congr rfl fun c _ => ?_
    rw [← EReal.coe_sub, exp_coe]
  rw [(key t1 m1 T1 h1).1, (key t1 m1 T1 h1).2, (key t2 m2 T2 h2).1, (key t2 m2 T2 h2).2, sr, sr,
    div_coe_coe _ _ (pos _ _), div_coe_coe _ _ (pos _ _), ← EReal.coe_mul, ← EReal.coe_sub]
  have rhs : ∀ k, (Ideal.div (Ideal.exp ((t1 k : EReal) - (m1 : EReal))) ((∑ k, Real.exp (t1 k - m1) : ℝ) : EReal)
      - (L : EReal) * Ideal.div (Ideal.exp ((t2 k : EReal) - (m2 : EReal))) ((∑ k, Real.exp (t2 k - m2) : ℝ) : EReal)) * (v k : EReal)
      = ((((Real.exp (t1 k - m1) / ∑ k, Real.exp (t1 k - m1)) - L * (Real.exp (t2 k - m2) / ∑ k, Real.exp (t2 k - m2))) * v k : ℝ) : EReal) := by
    intro k
    rw [← EReal.coe_sub, ← EReal.coe_sub, exp_coe, exp_coe, div_coe_coe _ _ (pos _ _), div_coe_coe _ _ (pos _ _), ← EReal.coe_mul, ← EReal.coe_sub,
      ← EReal.coe_mul]
  rw [Finset.sum_congr rfl fun k _ => rhs k, coe_sum]
  congr 1
  rw [Finset.sum_div, Finset.sum_div, Finset.mul_sum, ← Finset.sum_sub_distrib]
  refine Finset.sum_congr rfl fun k _ => ?_
  ring

/-- A contraction over 128 lanes of which 64 carry the data, four the bias, the left operand of the rest zero. -/
theorem lanes_low (q k : Fin 64 → ℝ) (a0 a1 c0 c1 c2 c3 : ℝ) (A C : Fin 128 → EReal)
    (hq : ∀ d : Fin 64, A ⟨d, by omega⟩ = (q d : EReal)) (hk : ∀ d : Fin 64, C ⟨d, by omega⟩ = (k d : EReal))
    (h0 : A 64 = (a0 : EReal)) (h1 : A 65 = (a1 : EReal)) (h2 : A 66 = 1) (h3 : A 67 = 1) (hr : ∀ x : Fin 128, 68 ≤ x.val → A x = 0)
    (k0 : C 64 = (c0 : EReal)) (k1 : C 65 = (c1 : EReal)) (k2 : C 66 = (c2 : EReal)) (k3 : C 67 = (c3 : EReal)) :
    ∑ x, A x * C x = ((∑ d, q d * k d + (a0 * c0 + a1 * c1 + c2 + c3) : ℝ) : EReal) := by
  rw [Fin.sum_univ_two_halves 64 64 rfl, EReal.coe_add, ← coe_sum]
  refine congrArg₂ (· + ·) (Finset.sum_congr rfl fun d _ => ?_) ?_
  · rw [EReal.coe_mul, ← hq, ← hk]
  · rw [Fin.sum_univ_two_halves 4 60 rfl, Fin.sum_univ_four]
    have e0 : (⟨64 + (0 : Fin 4).val, by decide⟩ : Fin 128) = 64 := rfl
    have z : ∑ x : Fin 60, A ⟨64 + (⟨4 + x.val, by omega⟩ : Fin 64).val, by simp; omega⟩ * C ⟨64 + (⟨4 + x.val, by omega⟩ : Fin 64).val, by simp; omega⟩ = 0 :=
      Finset.sum_eq_zero fun x _ => by rw [hr _ (by simp; omega), zero_mul]
    refine (congrArg₂ (· + ·) ?_ z).trans (add_zero _)
    simp only [EReal.coe_add, EReal.coe_mul]
    refine congrArg₂ (· + ·) (congrArg₂ (· + ·) (congrArg₂ (· + ·) ?_ ?_) ?_) ?_
    · exact congrArg₂ (· * ·) h0 k0
    · exact congrArg₂ (· * ·) h1 k1
    · exact (congrArg₂ (· * ·) h2 k2).trans (one_mul _)
    · exact (congrArg₂ (· * ·) h3 k3).trans (one_mul _)

/-- The same with the data in the upper lanes and the bias in the lowest four. -/
theorem lanes_high (q k : Fin 64 → ℝ) (a0 a1 c0 c1 c2 c3 : ℝ) (A C : Fin 128 → EReal)
    (hq : ∀ d : Fin 64, A ⟨64 + d, by omega⟩ = (q d : EReal)) (hk : ∀ d : Fin 64, C ⟨64 + d, by omega⟩ = (k d : EReal))
    (h0 : A 0 = (a0 : EReal)) (h1 : A 1 = (a1 : EReal)) (h2 : A 2 = 1) (h3 : A 3 = 1) (hr : ∀ x : Fin 128, 4 ≤ x.val → x.val < 64 → A x = 0)
    (k0 : C 0 = (c0 : EReal)) (k1 : C 1 = (c1 : EReal)) (k2 : C 2 = (c2 : EReal)) (k3 : C 3 = (c3 : EReal)) :
    ∑ x, A x * C x = ((∑ d, q d * k d + (a0 * c0 + a1 * c1 + c2 + c3) : ℝ) : EReal) := by
  rw [Fin.sum_univ_two_halves 64 64 rfl, EReal.coe_add, ← coe_sum, add_comm]
  refine congrArg₂ (· + ·) (Finset.sum_congr rfl fun d _ => ?_) ?_
  · rw [EReal.coe_mul, ← hq, ← hk]
  · rw [Fin.sum_univ_two_halves 4 60 rfl, Fin.sum_univ_four]
    have z : ∑ x : Fin 60, A ⟨(⟨4 + x.val, by omega⟩ : Fin 64).val, by simp; omega⟩ * C ⟨(⟨4 + x.val, by omega⟩ : Fin 64).val, by simp; omega⟩ = 0 :=
      Finset.sum_eq_zero fun x _ => by rw [hr _ (by simp) (by simp; omega), zero_mul]
    refine (congrArg₂ (· + ·) ?_ z).trans (add_zero _)
    simp only [EReal.coe_add, EReal.coe_mul]
    refine congrArg₂ (· + ·) (congrArg₂ (· + ·) (congrArg₂ (· + ·) ?_ ?_) ?_) ?_
    · exact congrArg₂ (· * ·) h0 k0
    · exact congrArg₂ (· * ·) h1 k1
    · exact (congrArg₂ (· * ·) h2 k2).trans (one_mul _)
    · exact (congrArg₂ (· * ·) h3 k3).trans (one_mul _)

/-! ### The words of the positions -/

theorem word_row : ∀ n : Fin 4096, (IntOp.andi (BitVec.ofNat 32 n.val) 4294967040#32).toInt + (IntOp.andi (BitVec.ofNat 32 n.val) 255#32).toInt = (n.val : ℤ) := by
  decide +kernel
theorem word_col : ∀ n : Fin 4096, 256 * (IntOp.shrsi ArithUnit.vector (BitVec.ofNat 32 n.val) 8#32).toInt + (IntOp.andi (BitVec.ofNat 32 n.val) 255#32).toInt = (n.val : ℤ) := by
  decide +kernel
theorem toInt_small (a : Nat) (ha : a < 4096) : (BitVec.ofNat 32 a).toInt = a := by
  rw [BitVec.toInt_eq_toNat_cond, BitVec.toNat_ofNat, Nat.mod_eq_of_lt (by omega : a < 2 ^ 32), if_pos (by omega)]
theorem bmod_small (x : ℤ) (h1 : -4096 < x) (h2 : x < 4096) : x.bmod (2 ^ 32) = x :=
  Int.bmod_eq_of_le (by norm_num; omega) (by norm_num; omega)
theorem word_sub (a b : Nat) (ha : a < 4096) (hb : b < 4096) : (IntOp.subi (BitVec.ofNat 32 a) (BitVec.ofNat 32 b)).toInt = (a : ℤ) - b := by
  have ha' := toInt_small a ha
  have hb' := toInt_small b hb
  show (BitVec.ofNat 32 a - BitVec.ofNat 32 b).toInt = _
  rw [BitVec.toInt_sub, ha', hb', bmod_small _ (by omega) (by omega)]
theorem word_abs (a b : Nat) (ha : a < 4096) (hb : b < 4096) : (IntOp.absi (IntOp.subi (BitVec.ofNat 32 a) (BitVec.ofNat 32 b))).toInt = |(a : ℤ) - b| := by
  have e := word_sub a b ha hb
  generalize IntOp.subi (BitVec.ofNat 32 a) (BitVec.ofNat 32 b) = x at e
  unfold IntOp.absi
  by_cases hm : x.msb
  · have hx : x.toInt < 0 := by rw [BitVec.msb_eq_toInt] at hm; exact of_decide_eq_true hm
    rw [if_pos hm, BitVec.toInt_neg, e, abs_of_neg (by omega), bmod_small _ (by omega) (by omega)]
  · have hx : ¬ x.toInt < 0 := by rw [BitVec.msb_eq_toInt] at hm; exact fun h => hm (decide_eq_true h)
    rw [if_neg hm, e, abs_of_nonneg (by omega)]

theorem select_lt (a b : Nat) (ha : a < 4096) (hb : b < 4096) {α : Type} (x y : α) :
    Scalar.select (IntOp.cmpi .slt (BitVec.ofNat 32 a) (BitVec.ofNat 32 b)) x y = if a < b then x else y := by
  have ha' := toInt_small a ha
  have hb' := toInt_small b hb
  have e : IntOp.cmpi .slt (BitVec.ofNat 32 a) (BitVec.ofNat 32 b) = BitVec.ofBool (decide (a < b)) := by
    show BitVec.ofBool ((BitVec.ofNat 32 a).slt (BitVec.ofNat 32 b)) = _
    rw [BitVec.slt, ha', hb']
    congr 1
    exact decide_eq_decide.2 (by omega)
  rw [e]
  by_cases h : a < b
  · rw [decide_eq_true h, if_pos h]; rfl
  · rw [decide_eq_false h, if_neg h]; rfl
end Cert.Att
-- ==== Proof.Att.Pay.lean ====
module
public import proofs.«01_k».proof.Proof.Gen.KernelIdeal.Skeleton
public import Idealize.ShloMosaic.Lib.Pointwise
public import proofs.«01_k».proof.Proof.Att.Math
@[expose] public section
set_option maxRecDepth 16384
noncomputable section
open Idealize.ShloMosaic Idealize.ShloMosaic.TcCoe Idealize.SL.Sem
namespace Cert.KernelIdeal.Att
open Cert.KernelIdeal Cert.KernelIdeal.Gen Facts

theorem pay1_at (o : FVec Ideal S512x128 .f32) (ss : FVec Ideal S512 .f32) (g : Vec Ideal S1x128 .f32) (r : Fin 512) (d : Fin 128) : k0_pay1 (F := Ideal) o ss g (ix3 0 r d)
    = o (ix2 r d) * Ideal.rsqrt (Ideal.div (ss (ix1 r)) (Ideal.ofBits .f32 0x43000000#32) + Ideal.ofBits .f32 0x3727C5AC#32) * g (ix2 0 d) * Ideal.ofBits .f32 0x3F4CCCCD#32 := by
  pointwise [k0_pay1]
theorem pay3_at (K : Vec Ideal S1x4096x128 .bf16) (l : Fin 128) (k : Fin 4096) : k0_pay3 (F := Ideal) K (ix2 l k)
    = if l.val < 64 then K (ix3 0 k l) else 0 := by
  pointwise [k0_pay3, k0_pay2]
  exact (Cert.Att.select_lt l.val 64 (by omega) (by omega) _ _)
theorem pay4_at (K : Vec Ideal S1x4096x128 .bf16) (l : Fin 128) (hl : 64 ≤ l.val) (k : Fin 4096) : k0_pay4 (F := Ideal) K (ix2 l k) = K (ix3 0 k l) := by
  pointwise [k0_pay4, k0_pay2]
  have h : IntOp.cmpi .sge (BitVec.ofNat 32 l.val) 64#32 = 1#1 := (by decide +kernel : ∀ l : Fin 128, 64 ≤ l.val → IntOp.cmpi .sge (BitVec.ofNat 32 l.val) 64#32 = 1#1) l hl
  rw [h]; rfl
theorem pay5_low (V : Vec Ideal S1x4096x128 .bf16) (k : Fin 4096) (d : Fin 128) : k0_pay5 (F := Ideal) V (ix2 k ⟨d.val, by omega⟩) = V (ix3 0 k d) := by
  pointwise [k0_pay5]
theorem pay5_one (V : Vec Ideal S1x4096x128 .bf16) (k : Fin 4096) : k0_pay5 (F := Ideal) V (ix2 k 128) = (1 : EReal) := by
  pointwise [k0_pay5]
theorem pay11_at (jh jl : FVec Ideal S16x4096 .f32) (k : Fin 4096) :
    k0_pay11 (F := Ideal) (iota Kind.tc S16x4096 32 [0] iota_S16x4096_d0_w32) jh jl (ix2 0 k) = (1 : EReal)
    ∧ k0_pay11 (F := Ideal) (iota Kind.tc S16x4096 32 [0] iota_S16x4096_d0_w32) jh jl (ix2 1 k) = (1 : EReal)
    ∧ k0_pay11 (F := Ideal) (iota Kind.tc S16x4096 32 [0] iota_S16x4096_d0_w32) jh jl (ix2 2 k) = Ideal.ofBits .f32 0xBF800000#32 * jh (ix2 2 k)
    ∧ k0_pay11 (F := Ideal) (iota Kind.tc S16x4096 32 [0] iota_S16x4096_d0_w32) jh jl (ix2 3 k) = Ideal.ofBits .f32 0xBF800000#32 * jl (ix2 3 k) := by
  refine ⟨?_, ?_, ?_, ?_⟩ <;> pointwise [k0_pay11] <;> rfl
theorem pay17_at (jh jl : FVec Ideal S16x4096 .f32) (k : Fin 4096) :
    k0_pay17 (F := Ideal) (iota Kind.tc S16x4096 32 [0] iota_S16x4096_d0_w32) jh jl (ix2 0 k) = Ideal.ofBits .f32 0xBF800000#32
    ∧ k0_pay17 (F := Ideal) (iota Kind.tc S16x4096 32 [0] iota_S16x4096_d0_w32) jh jl (ix2 1 k) = Ideal.ofBits .f32 0xBF800000#32
    ∧ k0_pay17 (F := Ideal) (iota Kind.tc S16x4096 32 [0] iota_S16x4096_d0_w32) jh jl (ix2 2 k) = (1 : EReal) * jh (ix2 2 k)
    ∧ k0_pay17 (F := Ideal) (iota Kind.tc S16x4096 32 [0] iota_S16x4096_d0_w32) jh jl (ix2 3 k) = (1 : EReal) * jl (ix2 3 k) := by
  refine ⟨?_, ?_, ?_, ?_⟩ <;> pointwise [k0_pay17] <;> rfl

theorem sitofp_coe {w : Nat} (b : BitVec w) : FloatOps.sitofp (F := Ideal) .f32 b = (((b.toInt : ℝ)) : EReal) := rfl

/-- The two parts of a key's position, scaled. -/
def jh (s : ℝ) (k : Fin 4096) : ℝ := s * 256 * ((IntOp.shrsi ArithUnit.vector (BitVec.ofNat 32 k.val) 8#32).toInt : ℝ)
def jl (s : ℝ) (k : Fin 4096) : ℝ := s * ((IntOp.andi (BitVec.ofNat 32 k.val) 255#32).toInt : ℝ)
theorem jh_add_jl (s : ℝ) (k : Fin 4096) : jh s k + jl s k = s * (k.val : ℝ) := by
  have e : (256 : ℝ) * ((IntOp.shrsi ArithUnit.vector (BitVec.ofNat 32 k.val) 8#32).toInt : ℝ) + ((IntOp.andi (BitVec.ofNat 32 k.val) 255#32).toInt : ℝ) = (k.val : ℝ) := by
    exact_mod_cast Cert.Att.word_col k
  rw [jh, jl, ← e]; ring
theorem pay6_at (s : ℝ) (r : Fin 16) (k : Fin 4096) : k0_pay6 (F := Ideal) (s : EReal) (ix2 r k) = ((jh s k : ℝ) : EReal) := by
  pointwise [k0_pay6]
  rw [sitofp_coe, Cert.Att.ofBits_256, ← EReal.coe_mul, ← EReal.coe_mul]; rfl
theorem pay7_at (s : ℝ) (r : Fin 16) (k : Fin 4096) : k0_pay7 (F := Ideal) (s : EReal) (ix2 r k) = ((jl s k : ℝ) : EReal) := by
  pointwise [k0_pay7]
  rw [sitofp_coe, ← EReal.coe_mul]; rfl

/-- The two parts of a query's position, scaled. -/
def ih (s : ℝ) (n : Fin 4096) : ℝ := s * ((IntOp.andi (BitVec.ofNat 32 n.val) 4294967040#32).toInt : ℝ)
def il (s : ℝ) (n : Fin 4096) : ℝ := s * ((IntOp.andi (BitVec.ofNat 32 n.val) 255#32).toInt : ℝ)
theorem ih_add_il (s : ℝ) (n : Fin 4096) : ih s n + il s n = s * (n.val : ℝ) := by
  have e : ((IntOp.andi (BitVec.ofNat 32 n.val) 4294967040#32).toInt : ℝ) + ((IntOp.andi (BitVec.ofNat 32 n.val) 255#32).toInt : ℝ) = (n.val : ℝ) := by
    exact_mod_cast Cert.Att.word_row n
  rw [ih, il, ← e]; ring
theorem word_pos (a b : Nat) : IntOp.addi (BitVec.ofNat 32 a) (Scalar.muli (BitVec.ofNat 32 b) 512#32) = BitVec.ofNat 32 (b * 512 + a) := by
  show BitVec.ofNat 32 a + BitVec.ofNat 32 b * 512#32 = _
  rw [show (512#32 : BitVec 32) = BitVec.ofNat 32 512 from rfl, ← BitVec.ofNat_mul, ← BitVec.ofNat_add, add_comm]
theorem pay22_at (i : grid0.Coords) (s : ℝ) (n : Fin 4096) (r : Fin 512) (hn : n.val = (i 2).val * 512 + r.val) (k : Fin 128) :
    k0_pay22 (F := Ideal) i (s : EReal) (ix2 r k) = ((ih s n : ℝ) : EReal) := by
  pointwise [k0_pay22, k0_pay21]
  rw [sitofp_coe, word_pos, ← hn, ← EReal.coe_mul]; rfl
theorem pay23_at (i : grid0.Coords) (s : ℝ) (n : Fin 4096) (r : Fin 512) (hn : n.val = (i 2).val * 512 + r.val) (k : Fin 128) :
    k0_pay23 (F := Ideal) i (s : EReal) (ix2 r k) = ((il s n : ℝ) : EReal) := by
  pointwise [k0_pay23, k0_pay21]
  rw [sitofp_coe, word_pos, ← hn, ← EReal.coe_mul]; rfl
theorem pay20_at (Q : Vec Ideal S1x512x128 .bf16) (r : Fin 512) (k : Fin 128) : k0_pay20 (F := Ideal) Q (ix2 r k) = Q (ix3 0 r k) * Ideal.ofBits .f32 0x3E000000#32 := by
  pointwise [k0_pay20]
theorem pay28_at (s : ℝ) (r k : Fin 512) : k0_pay28 (F := Ideal) (s : EReal) (ix2 r k) = ((if k.val < r.val then -2 * s * ((r.val : ℝ) - k.val) else 0 : ℝ) : EReal) := by
  pointwise [k0_pay28]
  rw [Cert.Att.select_lt _ _ (by omega) (by omega), sitofp_coe, Cert.Att.word_sub _ _ (by omega) (by omega), Cert.Att.ofBits_neg_two, ← EReal.coe_mul, ← EReal.coe_mul]
  by_cases h : k.val < r.val
  · rw [if_pos h, if_pos h]; push_cast; rfl
  · rw [if_neg h, if_neg h]; rfl

/-- The extended query rows: the queries and the four lanes of the bias. -/
def L1 (q ihv ilv : FVec Ideal S512x128 .f32) (r : Fin 512) (x : Fin 128) : EReal :=
  Scalar.select (IntOp.cmpi .slt (BitVec.ofNat 32 x.val) 64#32) (q (ix2 r x))
    (Scalar.select (IntOp.cmpi .eq (IntOp.subi (BitVec.ofNat 32 x.val) 64#32) 0#32) (ihv (ix2 r x))
      (Scalar.select (IntOp.cmpi .eq (IntOp.subi (BitVec.ofNat 32 x.val) 64#32) 1#32) (ilv (ix2 r x))
        (Scalar.select (IntOp.cmpi .sle (IntOp.subi (BitVec.ofNat 32 x.val) 64#32) 3#32) 1 0)))
def L2 (q ihv ilv : FVec Ideal S512x128 .f32) (r : Fin 512) (x : Fin 128) : EReal :=
  Scalar.select (IntOp.cmpi .sge (BitVec.ofNat 32 x.val) 64#32) (q (ix2 r x))
    (Scalar.select (IntOp.cmpi .eq (BitVec.ofNat 32 x.val) 0#32) (ihv (ix2 r x))
      (Scalar.select (IntOp.cmpi .eq (BitVec.ofNat 32 x.val) 1#32) (ilv (ix2 r x))
        (Scalar.select (IntOp.cmpi .sle (BitVec.ofNat 32 x.val) 3#32) 1 0)))

/-- A row of scores against the view of the keys, with the correction of the diagonal block. -/
def T1 (q ihv ilv : FVec Ideal S512x128 .f32) (s : Elt Ideal .f32) (W : Vec Ideal S128x4096 .bf16) (r : Fin 512) (c : Fin 4096) : EReal :=
  if h : c.val < 512 then (∑ x, L1 q ihv ilv r x * W (ix2 x c)) + k0_pay28 (F := Ideal) s (ix2 r ⟨c.val, h⟩) else ∑ x, L1 q ihv ilv r x * W (ix2 x c)
def T2 (q ihv ilv : FVec Ideal S512x128 .f32) (s : Elt Ideal .f32) (W : Vec Ideal S128x4096 .bf16) (r : Fin 512) (c : Fin 4096) : EReal :=
  if h : c.val < 512 then (∑ x, L2 q ihv ilv r x * W (ix2 x c)) + k0_pay28 (F := Ideal) s (ix2 r ⟨c.val, h⟩) else ∑ x, L2 q ihv ilv r x * W (ix2 x c)

theorem pay29_at (s : Elt Ideal .f32) (i : grid0.Coords) (q ihv : FVec Ideal S512x128 .f32) (W : Vec Ideal S128x4096 .bf16) (r : Fin 512) (c : Fin 4096) :
    k0_pay29 (F := Ideal) s q ihv k0_pay24 k0_pay26 (k0_pay27 i s) W (ix2 r c)
      = Ideal.exp (T1 q ihv (k0_pay23 i s) s W r c - Finset.fold max (Ideal.ofBits .f32 0xFF800000#32) (T1 q ihv (k0_pay23 i s) s W r) Finset.univ) := by
  have e : ∀ c : Fin 4096, (if h : c.val < 512 then (∑ x, L1 q ihv (k0_pay23 i s) r x * W (ix2 x c)) + k0_pay28 (F := Ideal) s (ix2 r ⟨c.val, h⟩)
      else ∑ x, L1 q ihv (k0_pay23 i s) r x * W (ix2 x ⟨512 + (c.val - 512), by omega⟩)) = T1 q ihv (k0_pay23 i s) s W r c := by
    intro c
    by_cases h : c.val < 512
    · rw [dif_pos h, T1, dif_pos h]
    · have hc : (⟨512 + (c.val - 512), by omega⟩ : Fin 4096) = c := Fin.ext (by simp; omega)
      rw [dif_neg h, T1, dif_neg h, hc]
  rw [← e c, ← funext e]
  pointwise [k0_pay29, k0_pay24, k0_pay25, k0_pay26, k0_pay27, L1]

theorem pay31_at (i : grid0.Coords) (s : Elt Ideal .f32) (q ihv ilv : FVec Ideal S512x128 .f32) (W : Vec Ideal S128x4096 .bf16) (r : Fin 512) (c : Fin 512) :
    k0_pay31 (F := Ideal) s q (iota Kind.tc S512x128 32 [1] iota_S512x128_d1_w32) ihv ilv W (ix2 r c) = T2 q ihv ilv s W r ⟨c.val, by omega⟩ := by
  rw [T2, dif_pos c.isLt]
  pointwise [k0_pay31, k0_pay30, L2]
theorem pay32_at (s : Elt Ideal .f32) (q ihv ilv : FVec Ideal S512x128 .f32) (W : Vec Ideal S128x4096 .bf16) (r : Fin 512) (c : Fin 3584) :
    k0_pay32 (F := Ideal) q (iota Kind.tc S512x128 32 [1] iota_S512x128_d1_w32) ihv ilv W (ix2 r c) = T2 q ihv ilv s W r ⟨512 + c.val, by omega⟩ := by
  rw [T2, dif_neg (by simp)]
  pointwise [k0_pay32, k0_pay30, L2]
theorem pay33_at (e : FVec Ideal S512x4096 .bf16) (s0 : FVec Ideal S512x512 .f32) (s1 : FVec Ideal S512x3584 .f32) (V : Vec Ideal S4096x256 .bf16) (a1 a2 a3 a4 : Vec Ideal S1x64 .f32) (r : Fin 512) (d : Fin 128)
    (R1 R2 : Fin 4096 → EReal) (he : ∀ c, e (ix2 r c) = Ideal.exp (R1 c - Finset.fold max ⊥ R1 Finset.univ))
    (h0 : ∀ c : Fin 512, s0 (ix2 r c) = R2 ⟨c.val, by omega⟩) (h1 : ∀ c : Fin 3584, s1 (ix2 r c) = R2 ⟨512 + c.val, by omega⟩) :
    k0_pay33 (F := Ideal) e s0 s1 V a1 a2 a3 a4 (ix2 r d)
      = Ideal.div (∑ c, Ideal.exp (R1 c - Finset.fold max ⊥ R1 Finset.univ) * V (ix2 c ⟨d.val, by omega⟩)) (∑ c, Ideal.exp (R1 c - Finset.fold max ⊥ R1 Finset.univ) * V (ix2 c 128))
        - (Ideal.exp (∑ x : Fin 1, ∑ y : Fin 64, a1 (ix2 x y) * a2 (ix2 x y)) - Ideal.exp (∑ x : Fin 1, ∑ y : Fin 64, a3 (ix2 x y) * a4 (ix2 x y)) + Ideal.ofBits .f32 0x3E4CCCCD#32)
          * Ideal.div (∑ c, Ideal.exp (R2 c - Finset.fold max ⊥ R2 Finset.univ) * V (ix2 c ⟨d.val, by omega⟩)) (∑ c, Ideal.exp (R2 c - Finset.fold max ⊥ R2 Finset.univ) * V (ix2 c 128)) := by
  have ef : (fun x : Fin 4096 => if h : x.val < 512 then s0 (ix2 r ⟨x.val, h⟩) else s1 (ix2 r ⟨x.val - 512, by omega⟩)) = R2 := by
    funext x
    by_cases h : x.val < 512
    · rw [dif_pos h, h0]
    · rw [dif_neg h, h1]
      exact congrArg R2 (Fin.ext (by simp; omega))
  have sp : ∀ f : Fin 4096 → EReal, (∑ x : Fin 512, f ⟨x.val, by omega⟩) + ∑ x : Fin 3584, f ⟨512 + x.val, by omega⟩ = ∑ x, f x := fun f => (Fin.sum_univ_two_halves 512 3584 rfl f).symm
  rw [← sp (fun c => Ideal.exp (R2 c - Finset.fold max ⊥ R2 Finset.univ) * V (ix2 c ⟨d.val, by omega⟩)), ← sp (fun c => Ideal.exp (R2 c - Finset.fold max ⊥ R2 Finset.univ) * V (ix2 c 128))]
  simp only [← he, ← h0, ← h1]
  rw [← ef, ← Cert.Att.ofBits_negInf]
  pointwise [k0_pay33]
  simp only [Fin.sum_univ_one]
theorem pay34_at (e : FVec Ideal S512x4096 .bf16) (s0 : FVec Ideal S512x512 .f32) (s1 : FVec Ideal S512x3584 .f32) (V : Vec Ideal S4096x256 .bf16) (a1 a2 a3 a4 : Vec Ideal S1x64 .f32) (r : Fin 512) : k0_pay34 (F := Ideal) e s0 s1 V a1 a2 a3 a4 (ix1 r) = ∑ d : Fin 128, k0_pay33 (F := Ideal) e s0 s1 V a1 a2 a3 a4 (ix2 r d) * k0_pay33 (F := Ideal) e s0 s1 V a1 a2 a3 a4 (ix2 r d) := by
  pointwise [k0_pay34]
end Cert.KernelIdeal.Att
-- ==== Proof.Att.Score.lean ====
module
public import proofs.«01_k».proof.Proof.Att.Pay
@[expose] public section
set_option maxRecDepth 16384
noncomputable section
open Idealize.ShloMosaic Idealize.ShloMosaic.TcCoe Idealize.SL.Sem
namespace Cert.KernelIdeal.Att
open Cert.KernelIdeal Cert.KernelIdeal.Gen Facts

/-- The key that stands at column `c` of the view that starts at `b`, and the sign its bias carries there. -/
def rot (b : Nat) (c : Fin 4096) : Fin 4096 := ⟨(b + c.val) % 4096, Nat.mod_lt _ (by decide)⟩
def sgn (n : Nat) : ℝ := if n < 4096 then 1 else -1

/-- The bias of the features and of the diagonal block together: minus the slope times the distance. -/
theorem bias_eq (s : ℝ) (b r c : Nat) (hb : b ≤ 3584) (hr : r < 512) (hc : c < 4096) :
    s * ((b + r : Nat) : ℝ) * sgn (b + c) + -(sgn (b + c)) * (s * (((b + c) % 4096 : Nat) : ℝ)) + (if c < 512 ∧ c < r then -2 * s * ((r : ℝ) - c) else 0)
      = -s * |((b + r : Nat) : ℝ) - (((b + c) % 4096 : Nat) : ℝ)| := by
  by_cases h : b + c < 4096
  · rw [sgn, if_pos h, Nat.mod_eq_of_lt h]
    push_cast
    by_cases hd : c < r
    · rw [if_pos ⟨by omega, hd⟩, abs_of_pos (by have : (c : ℝ) < r := by exact_mod_cast hd
                                                linarith)]
      ring
    · rw [if_neg (fun h => hd h.2), abs_of_nonpos (by have : (r : ℝ) ≤ c := by exact_mod_cast not_lt.1 hd
                                                      linarith)]
      ring
  · have e : (b + c) % 4096 = b + c - 4096 := by omega
    have le : b + c - 4096 ≤ b + r := by omega
    rw [sgn, if_neg h, e, if_neg (by omega), abs_of_nonneg (by have : ((b + c - 4096 : Nat) : ℝ) ≤ ((b + r : Nat) : ℝ) := by exact_mod_cast le
                                                               linarith)]
    ring

/-- What the first view holds: the first map's keys over their position features. -/
structure View1 (s : ℝ) (k : Fin 4096 → Fin 64 → ℝ) (b : Nat) (W : Fin 128 → Fin 4096 → EReal) : Prop where
  data : ∀ (d : Fin 64) c, W ⟨d.val, by omega⟩ c = ((k (rot b c) d : ℝ) : EReal)
  f0 : ∀ c, W 64 c = ((sgn (b + c.val) : ℝ) : EReal)
  f1 : ∀ c, W 65 c = ((sgn (b + c.val) : ℝ) : EReal)
  f2 : ∀ c, W 66 c = ((-(sgn (b + c.val)) * jh s (rot b c) : ℝ) : EReal)
  f3 : ∀ c, W 67 c = ((-(sgn (b + c.val)) * jl s (rot b c) : ℝ) : EReal)
/-- What the second view holds: the second map's keys under their position features. -/
structure View2 (s : ℝ) (k : Fin 4096 → Fin 64 → ℝ) (b : Nat) (W : Fin 128 → Fin 4096 → EReal) : Prop where
  data : ∀ (d : Fin 64) c, W ⟨64 + d.val, by omega⟩ c = ((k (rot b c) d : ℝ) : EReal)
  f0 : ∀ c, W 0 c = ((sgn (b + c.val) : ℝ) : EReal)
  f1 : ∀ c, W 1 c = ((sgn (b + c.val) : ℝ) : EReal)
  f2 : ∀ c, W 2 c = ((-(sgn (b + c.val)) * jh s (rot b c) : ℝ) : EReal)
  f3 : ∀ c, W 3 c = ((-(sgn (b + c.val)) * jl s (rot b c) : ℝ) : EReal)

theorem lane1 : ∀ x : Fin 128, x.val < 64 → IntOp.cmpi .slt (BitVec.ofNat 32 x.val) 64#32 = 1#1 := by decide +kernel
theorem lane1' : ∀ x : Fin 128, 68 ≤ x.val → IntOp.cmpi .slt (BitVec.ofNat 32 x.val) 64#32 = 0#1 ∧ IntOp.cmpi .eq (IntOp.subi (BitVec.ofNat 32 x.val) 64#32) 0#32 = 0#1
    ∧ IntOp.cmpi .eq (IntOp.subi (BitVec.ofNat 32 x.val) 64#32) 1#32 = 0#1 ∧ IntOp.cmpi .sle (IntOp.subi (BitVec.ofNat 32 x.val) 64#32) 3#32 = 0#1 := by decide +kernel
theorem lane2 : ∀ x : Fin 128, 64 ≤ x.val → IntOp.cmpi .sge (BitVec.ofNat 32 x.val) 64#32 = 1#1 := by decide +kernel
theorem lane2' : ∀ x : Fin 128, 4 ≤ x.val → x.val < 64 → IntOp.cmpi .sge (BitVec.ofNat 32 x.val) 64#32 = 0#1 ∧ IntOp.cmpi .eq (BitVec.ofNat 32 x.val) 0#32 = 0#1
    ∧ IntOp.cmpi .eq (BitVec.ofNat 32 x.val) 1#32 = 0#1 ∧ IntOp.cmpi .sle (BitVec.ofNat 32 x.val) 3#32 = 0#1 := by decide +kernel

/-- The score of a query and a key: the scaled product and the distance bias. -/
def score (s : ℝ) (q : Fin 64 → ℝ) (k : Fin 4096 → Fin 64 → ℝ) (n j : Fin 4096) : ℝ :=
  (∑ d, q d * k j d) * (1 / 8) + -s * |(n.val : ℝ) - (j.val : ℝ)|

theorem T_real (s : ℝ) (b : Nat) (hb : b ≤ 3584) (r : Fin 512) (n : Fin 4096) (hn : n.val = b + r.val) (c : Fin 4096) (q : Fin 64 → ℝ) (k : Fin 4096 → Fin 64 → ℝ) (D : EReal)
    (hD : D = ((∑ d, q d * (1 / 8) * k (rot b c) d + (ih s n * sgn (b + c.val) + il s n * sgn (b + c.val) + -(sgn (b + c.val)) * jh s (rot b c) + -(sgn (b + c.val)) * jl s (rot b c)) : ℝ) : EReal)) :
    (if h : c.val < 512 then D + k0_pay28 (F := Ideal) (s : EReal) (ix2 r ⟨c.val, h⟩) else D) = ((score s q k n (rot b c) : ℝ) : EReal) := by
  have e := bias_eq s b r.val c.val hb r.isLt c.isLt
  have e1 : (∑ d, q d * (1 / 8) * k (rot b c) d) = (∑ d, q d * k (rot b c) d) * (1 / 8) := by
    rw [Finset.sum_mul]; exact Finset.sum_congr rfl fun d _ => by ring
  have e2 := ih_add_il s n
  have e3 := jh_add_jl s (rot b c)
  have e4 : ih s n * sgn (b + c.val) + il s n * sgn (b + c.val) + -(sgn (b + c.val)) * jh s (rot b c) + -(sgn (b + c.val)) * jl s (rot b c)
      = s * ((b + r.val : Nat) : ℝ) * sgn (b + c.val) + -(sgn (b + c.val)) * (s * (((b + c.val) % 4096 : Nat) : ℝ)) := by
    rw [← hn, ← e2, show (((b + c.val) % 4096 : Nat) : ℝ) = ((rot b c).val : ℝ) from rfl, ← e3]; ring
  rw [hD, e4, e1, score, show (n.val : ℝ) = ((b + r.val : Nat) : ℝ) by rw [hn], show ((rot b c).val : ℝ) = (((b + c.val) % 4096 : Nat) : ℝ) from rfl, ← e]
  by_cases h : c.val < 512
  · rw [dif_pos h, pay28_at, ← EReal.coe_add]
    refine congrArg _ ?_
    by_cases h2 : c.val < r.val
    · rw [if_pos h2, if_pos ⟨h, h2⟩]; ring
    · rw [if_neg h2, if_neg (fun h => h2 h.2)]; ring
  · rw [dif_neg h, if_neg (fun h' => h h'.1), add_zero]

theorem T1_at (i : grid0.Coords) (s : ℝ) (b : Nat) (hi : (i 2).val * 512 = b) (hb : b ≤ 3584) (r : Fin 512) (n : Fin 4096) (hn : n.val = b + r.val) (q : Fin 64 → ℝ) (k : Fin 4096 → Fin 64 → ℝ)
    (Q : Vec Ideal S1x512x128 .bf16) (hq : ∀ d : Fin 64, Q (ix3 0 r ⟨d.val, by omega⟩) = ((q d : ℝ) : EReal)) (W : Vec Ideal S128x4096 .bf16) (hW : View1 s k b fun l c => W (ix2 l c)) (c : Fin 4096) :
    T1 (k0_pay20 Q) (k0_pay22 i (s : EReal)) (k0_pay23 i (s : EReal)) (s : EReal) W r c = ((score s q k n (rot b c) : ℝ) : EReal) := by
  refine T_real s b hb r n hn c q k _ ?_
  refine Cert.Att.lanes_low (fun d => q d * (1 / 8)) (fun d => k (rot b c) d) (ih s n) (il s n) (sgn (b + c.val)) (sgn (b + c.val)) _ _ (L1 _ _ _ r) (fun x => W (ix2 x c)) ?_ ?_ ?_ ?_ ?_ ?_ ?_ ?_ ?_ ?_ ?_
  · intro d
    show Scalar.select _ _ _ = _
    rw [lane1 _ d.isLt]
    show k0_pay20 (F := Ideal) Q (ix2 r ⟨d.val, _⟩) = _
    rw [pay20_at, hq, Cert.Att.ofBits_eighth, ← EReal.coe_mul]
  · exact fun d => hW.data d c
  · exact pay22_at i s n r (by omega) 64
  · exact pay23_at i s n r (by omega) 65
  · rfl
  · rfl
  · intro x hx
    obtain ⟨h1, h2, h3, h4⟩ := lane1' x hx
    rw [L1, h1, h2, h3, h4]; rfl
  · exact hW.f0 c
  · exact hW.f1 c
  · exact hW.f2 c
  · exact hW.f3 c

theorem T2_at (i : grid0.Coords) (s : ℝ) (b : Nat) (hi : (i 2).val * 512 = b) (hb : b ≤ 3584) (r : Fin 512) (n : Fin 4096) (hn : n.val = b + r.val) (q : Fin 64 → ℝ) (k : Fin 4096 → Fin 64 → ℝ)
    (Q : Vec Ideal S1x512x128 .bf16) (hq : ∀ d : Fin 64, Q (ix3 0 r ⟨64 + d.val, by omega⟩) = ((q d : ℝ) : EReal)) (W : Vec Ideal S128x4096 .bf16) (hW : View2 s k b fun l c => W (ix2 l c)) (c : Fin 4096) :
    T2 (k0_pay20 Q) (k0_pay22 i (s : EReal)) (k0_pay23 i (s : EReal)) (s : EReal) W r c = ((score s q k n (rot b c) : ℝ) : EReal) := by
  refine T_real s b hb r n hn c q k _ ?_
  refine Cert.Att.lanes_high (fun d => q d * (1 / 8)) (fun d => k (rot b c) d) (ih s n) (il s n) (sgn (b + c.val)) (sgn (b + c.val)) _ _ (L2 _ _ _ r) (fun x => W (ix2 x c)) ?_ ?_ ?_ ?_ ?_ ?_ ?_ ?_ ?_ ?_ ?_
  · intro d
    show Scalar.select _ _ _ = _
    rw [lane2 _ (by simp)]
    show k0_pay20 (F := Ideal) Q (ix2 r ⟨64 + d.val, _⟩) = _
    rw [pay20_at, hq, Cert.Att.ofBits_eighth, ← EReal.coe_mul]
  · exact fun d => hW.data d c
  · exact pay22_at i s n r (by omega) 0
  · exact pay23_at i s n r (by omega) 1
  · rfl
  · rfl
  · intro x hx hx'
    obtain ⟨h1, h2, h3, h4⟩ := lane2' x hx hx'
    rw [L2, h1, h2, h3, h4]; rfl
  · exact hW.f0 c
  · exact hW.f1 c
  · exact hW.f2 c
  · exact hW.f3 c

/-- The view's rotation of the keys, as a bijection. -/
def rotE (b : Nat) : Fin 4096 ≃ Fin 4096 :=
  Equiv.ofBijective (rot b) (Finite.injective_iff_bijective.1 fun x y h => by
    have h' : (b + x.val) % 4096 = (b + y.val) % 4096 := congrArg Fin.val h
    exact Fin.ext (by omega))
end Cert.KernelIdeal.Att
-- ==== Proof.Att.Out.lean ====
module
public import proofs.«01_k».proof.Proof.Att.Score
public import Idealize.ShloMosaic.Lib.Pipeline.ValueKit
@[expose] public section
set_option maxRecDepth 16384
noncomputable section
open Idealize.ShloMosaic Idealize.ShloMosaic.TcCoe Idealize.SL.Sem
namespace Cert.KernelIdeal.Att
open Cert.KernelIdeal Cert.KernelIdeal.Gen Facts

/-- One output entry before the normalisation: the weighted values under the difference of two softmaxes. -/
def attO (t1 t2 v : Fin 4096 → ℝ) (L : ℝ) : EReal :=
  ∑ k, (Ideal.div (Ideal.exp ((t1 k : EReal) - max ⊥ (Finset.fold max ⊥ (fun k => (t1 k : EReal)) Finset.univ)))
              (∑ k, Ideal.exp ((t1 k : EReal) - max ⊥ (Finset.fold max ⊥ (fun k => (t1 k : EReal)) Finset.univ)))
          - (L : EReal) * Ideal.div (Ideal.exp ((t2 k : EReal) - max ⊥ (Finset.fold max ⊥ (fun k => (t2 k : EReal)) Finset.univ)))
              (∑ k, Ideal.exp ((t2 k : EReal) - max ⊥ (Finset.fold max ⊥ (fun k => (t2 k : EReal)) Finset.univ)))) * (v k : EReal)

theorem out_point (i : grid0.Coords) (s : ℝ) (b : Nat) (hi : (i 2).val * 512 = b) (hb : b ≤ 3584) (r : Fin 512) (n : Fin 4096) (hn : n.val = b + r.val)
    (q1 q2 : Fin 64 → ℝ) (k1 k2 : Fin 4096 → Fin 64 → ℝ) (v : Fin 4096 → Fin 128 → ℝ) (L : ℝ)
    (Q : Vec Ideal S1x512x128 .bf16) (hq1 : ∀ d : Fin 64, Q (ix3 0 r ⟨d.val, by omega⟩) = ((q1 d : ℝ) : EReal)) (hq2 : ∀ d : Fin 64, Q (ix3 0 r ⟨64 + d.val, by omega⟩) = ((q2 d : ℝ) : EReal))
    (W1 W2 : Vec Ideal S128x4096 .bf16) (h1 : View1 s k1 b fun l c => W1 (ix2 l c)) (h2 : View2 s k2 b fun l c => W2 (ix2 l c))
    (VA : Vec Ideal S4096x256 .bf16) (hV : ∀ (c : Fin 4096) (d : Fin 128), VA (ix2 c ⟨d.val, by omega⟩) = ((v (rot b c) d : ℝ) : EReal)) (hO : ∀ c : Fin 4096, VA (ix2 c 128) = (1 : EReal))
    (a1 a2 a3 a4 : Vec Ideal S1x64 .f32)
    (hL : Ideal.exp (∑ x : Fin 1, ∑ y : Fin 64, a1 (ix2 x y) * a2 (ix2 x y)) - Ideal.exp (∑ x : Fin 1, ∑ y : Fin 64, a3 (ix2 x y) * a4 (ix2 x y)) + Ideal.ofBits .f32 0x3E4CCCCD#32 = (L : EReal)) (d : Fin 128) :
    k0_pay33 (F := Ideal) (k0_pay29 (s : EReal) (k0_pay20 Q) (k0_pay22 i (s : EReal)) k0_pay24 k0_pay26 (k0_pay27 i (s : EReal)) W1)
      (k0_pay31 (s : EReal) (k0_pay20 Q) (iota Kind.tc S512x128 32 [1] iota_S512x128_d1_w32) (k0_pay22 i (s : EReal)) (k0_pay23 i (s : EReal)) W2)
      (k0_pay32 (k0_pay20 Q) (iota Kind.tc S512x128 32 [1] iota_S512x128_d1_w32) (k0_pay22 i (s : EReal)) (k0_pay23 i (s : EReal)) W2) VA a1 a2 a3 a4 (ix2 r d)
      = attO (score s q1 k1 n) (score s q2 k2 n) (fun k => v k d) L := by
  rw [pay33_at _ _ _ VA a1 a2 a3 a4 r d (T1 (k0_pay20 Q) (k0_pay22 i (s : EReal)) (k0_pay23 i (s : EReal)) (s : EReal) W1 r)
    (T2 (k0_pay20 Q) (k0_pay22 i (s : EReal)) (k0_pay23 i (s : EReal)) (s : EReal) W2 r)
    (fun c => by rw [pay29_at, Cert.Att.ofBits_negInf]) (fun c => pay31_at i _ _ _ _ W2 r c) (fun c => pay32_at _ _ _ _ W2 r c), hL]
  exact Cert.Att.attn_row 4095 (score s q1 k1 n) (score s q2 k2 n) (fun k => v k d) L (rotE b) _ _ _ _
    (fun c => T1_at i s b hi hb r n hn q1 k1 Q hq1 W1 h1 c) (fun c => T2_at i s b hi hb r n hn q2 k2 Q hq2 W2 h2 c) (fun c => hV c d) hO

/-- A written piece read at an index inside it. -/
theorem canon_hit {s : Shape} {off size : Fin s.rank → Nat} (inb : ∀ a, off a + size a ≤ s.size a) (w : (Rect.unit off size inb).shape.Idx → Elt Ideal .bf16)
    (L : List (View.Piece (Elt Ideal) s .bf16)) (y : s.Idx) (x : (Rect.unit off size inb).shape.Idx) (hx : ∀ a, (y a).val = off a + (x a).val) :
    View.canon (Val := Elt Ideal) (s := s) (e := .bf16) (⟨Rect.unit off size inb, w⟩ :: L) y = w x := by
  have e : y = (Rect.unit off size inb).emb x := funext fun a => Fin.ext ((hx a).trans (Rect.idx_unit_val off size inb x a).symm)
  rw [e, View.canon_cons_emb]
/-- A written piece read at an index outside it. -/
theorem canon_miss {s : Shape} {off size : Fin s.rank → Nat} (inb : ∀ a, off a + size a ≤ s.size a) (w : (Rect.unit off size inb).shape.Idx → Elt Ideal .bf16)
    (L : List (View.Piece (Elt Ideal) s .bf16)) (y : s.Idx) (a : Fin s.rank) (o z p : Nat) (ho : off a = o) (hz : size a = z) (hp : (y a).val = p) (h : p < o ∨ o + z ≤ p) :
    View.canon (Val := Elt Ideal) (s := s) (e := .bf16) (⟨Rect.unit off size inb, w⟩ :: L) y = View.canon L y :=
  View.canon_cons_of_not_mem _ _ fun hm => by
    have := (Rect.mem_set_unit (inb := inb)).1 hm a
    omega
/-- The index inside a rectangle of two axes. -/
theorem at_two {d0 d1 : Nat} {off : Fin 2 → Nat} (y : (⟨2, ![d0, d1]⟩ : Shape).Idx) {z0 z1 : Nat} (x : (⟨2, ![z0, z1]⟩ : Shape).Idx) (o0 o1 p0 p1 q0 q1 : Nat)
    (ho0 : off 0 = o0) (ho1 : off 1 = o1) (hy0 : (y 0).val = p0) (hy1 : (y 1).val = p1) (hx0 : (x 0).val = q0) (hx1 : (x 1).val = q1)
    (h0 : p0 = o0 + q0) (h1 : p1 = o1 + q1) : ∀ a : Fin 2, (y a).val = off a + (x a).val := by
  intro a
  fin_cases a
  · show (y 0).val = off 0 + (x 0).val; omega
  · show (y 1).val = off 1 + (x 1).val; omega

/-- Two pairs of pieces, each a whole half of the columns under sixteen rows of it. -/
theorem canon_rows (o : Nat) (f1 f0 : Vec Ideal S16x4096 .bf16) (w1 w0 : Vec Ideal S128x4096 .bf16) (ho : o + 16 ≤ 128)
    (i1 : ∀ a, (![o, 4096] : Fin 2 → Nat) a + S16x4096.size a ≤ S128x8192.size a) (i2 : ∀ a, (![0, 4096] : Fin 2 → Nat) a + S128x4096.size a ≤ S128x8192.size a)
    (i3 : ∀ a, (![o, 0] : Fin 2 → Nat) a + S16x4096.size a ≤ S128x8192.size a) (i4 : ∀ a, (![0, 0] : Fin 2 → Nat) a + S128x4096.size a ≤ S128x8192.size a) (l : Fin 128) (k : Fin 4096) :
    View.canon (Val := Elt Ideal) (s := S128x8192) (e := .bf16) [⟨Rect.unit (s := S128x8192) ![o, 4096] S16x4096.size i1, f1⟩, ⟨Rect.unit (s := S128x8192) ![0, 4096] S128x4096.size i2, w1⟩, ⟨Rect.unit (s := S128x8192) ![o, 0] S16x4096.size i3, f0⟩, ⟨Rect.unit (s := S128x8192) ![0, 0] S128x4096.size i4, w0⟩] (ix2 l ⟨k.val, by omega⟩)
      = (if h : o ≤ l.val ∧ l.val < o + 16 then f0 (ix2 ⟨l.val - o, by omega⟩ k) else w0 (ix2 l k))
    ∧ View.canon (Val := Elt Ideal) (s := S128x8192) (e := .bf16) [⟨Rect.unit (s := S128x8192) ![o, 4096] S16x4096.size i1, f1⟩, ⟨Rect.unit (s := S128x8192) ![0, 4096] S128x4096.size i2, w1⟩, ⟨Rect.unit (s := S128x8192) ![o, 0] S16x4096.size i3, f0⟩, ⟨Rect.unit (s := S128x8192) ![0, 0] S128x4096.size i4, w0⟩] (ix2 l ⟨4096 + k.val, by omega⟩)
      = (if h : o ≤ l.val ∧ l.val < o + 16 then f1 (ix2 ⟨l.val - o, by omega⟩ k) else w1 (ix2 l k)) := by
  constructor
  · refine (canon_miss (s := S128x8192) (off := ![o, 4096]) (size := S16x4096.size) i1 f1 _ (ix2 l ⟨k.val, by omega⟩) 1 4096 4096 k.val rfl rfl rfl (Or.inl k.isLt)).trans
      ((canon_miss (s := S128x8192) (off := ![0, 4096]) (size := S128x4096.size) i2 w1 _ (ix2 l ⟨k.val, by omega⟩) 1 4096 4096 k.val rfl rfl rfl (Or.inl k.isLt)).trans ?_)
    by_cases h : o ≤ l.val ∧ l.val < o + 16
    · rw [dif_pos h]
      exact canon_hit (s := S128x8192) (off := ![o, 0]) (size := S16x4096.size) i3 f0 _ (ix2 l ⟨k.val, by omega⟩) (ix2 ⟨l.val - o, by omega⟩ k) (at_two _ _ o 0 (l.val) (k.val) ((l.val - o)) (k.val) rfl rfl rfl rfl rfl rfl (by omega) (by omega))
    · rw [dif_neg h]
      refine (canon_miss (s := S128x8192) (off := ![o, 0]) (size := S16x4096.size) i3 f0 _ (ix2 l ⟨k.val, by omega⟩) 0 o 16 l.val rfl rfl rfl (by omega)).trans ?_
      exact canon_hit (s := S128x8192) (off := ![0, 0]) (size := S128x4096.size) i4 w0 _ (ix2 l ⟨k.val, by omega⟩) (ix2 l k) (at_two _ _ 0 0 (l.val) (k.val) (l.val) (k.val) rfl rfl rfl rfl rfl rfl (by omega) (by omega))
  · by_cases h : o ≤ l.val ∧ l.val < o + 16
    · rw [dif_pos h]
      exact canon_hit (s := S128x8192) (off := ![o, 4096]) (size := S16x4096.size) i1 f1 _ (ix2 l ⟨4096 + k.val, by omega⟩) (ix2 ⟨l.val - o, by omega⟩ k) (at_two _ _ o 4096 (l.val) (4096 + k.val) ((l.val - o)) (k.val) rfl rfl rfl rfl rfl rfl (by omega) (by omega))
    · rw [dif_neg h]
      refine (canon_miss (s := S128x8192) (off := ![o, 4096]) (size := S16x4096.size) i1 f1 _ (ix2 l ⟨4096 + k.val, by omega⟩) 0 o 16 l.val rfl rfl rfl (by omega)).trans ?_
      exact canon_hit (s := S128x8192) (off := ![0, 4096]) (size := S128x4096.size) i2 w1 _ (ix2 l ⟨4096 + k.val, by omega⟩) (ix2 l k) (at_two _ _ 0 4096 (l.val) (4096 + k.val) (l.val) (k.val) rfl rfl rfl rfl rfl rfl (by omega) (by omega))

theorem canon_halves (w1 w0 : Vec Ideal S4096x256 .bf16)
    (i1 : ∀ a, (![4096, 0] : Fin 2 → Nat) a + S4096x256.size a ≤ S8192x256.size a) (i2 : ∀ a, (![0, 0] : Fin 2 → Nat) a + S4096x256.size a ≤ S8192x256.size a) (k : Fin 4096) (l : Fin 256) :
    View.canon (Val := Elt Ideal) (s := S8192x256) (e := .bf16) [⟨Rect.unit (s := S8192x256) ![4096, 0] S4096x256.size i1, w1⟩, ⟨Rect.unit (s := S8192x256) ![0, 0] S4096x256.size i2, w0⟩] (ix2 ⟨k.val, by omega⟩ l) = w0 (ix2 k l)
    ∧ View.canon (Val := Elt Ideal) (s := S8192x256) (e := .bf16) [⟨Rect.unit (s := S8192x256) ![4096, 0] S4096x256.size i1, w1⟩, ⟨Rect.unit (s := S8192x256) ![0, 0] S4096x256.size i2, w0⟩] (ix2 ⟨4096 + k.val, by omega⟩ l) = w1 (ix2 k l) := by
  constructor
  · refine (canon_miss (s := S8192x256) (off := ![4096, 0]) (size := S4096x256.size) i1 w1 _ (ix2 ⟨k.val, by omega⟩ l) 0 4096 4096 k.val rfl rfl rfl (Or.inl k.isLt)).trans ?_
    exact canon_hit (s := S8192x256) (off := ![0, 0]) (size := S4096x256.size) i2 w0 _ (ix2 ⟨k.val, by omega⟩ l) (ix2 k l) (at_two _ _ 0 0 (k.val) (l.val) (k.val) (l.val) rfl rfl rfl rfl rfl rfl (by omega) (by omega))
  · exact canon_hit (s := S8192x256) (off := ![4096, 0]) (size := S4096x256.size) i1 w1 _ (ix2 ⟨4096 + k.val, by omega⟩ l) (ix2 k l) (at_two _ _ 4096 0 (4096 + k.val) (l.val) (k.val) (l.val) rfl rfl rfl rfl rfl rfl (by omega) (by omega))

theorem off1_val (i : grid0.Coords) : k0_off1 i 0 = (i 1).val :=
  (by decide +kernel : ∀ q : Fin 8, (Scalar.indexCast (BitVec.ofNat 32 q.val) : Index).toNat = q.val) (i 1)
theorem off2_val (i : grid0.Coords) : k0_off2 i 1 = (i 2).val * 512 :=
  (by decide +kernel : ∀ q : Fin 8, (Scalar.indexCast (Scalar.muli (BitVec.ofNat 32 q.val) 512#32) : Index).toNat = q.val * 512) (i 2)
theorem ld1 (X : Vec Ideal S8 .f32) (i : grid0.Coords) (inb : ∀ a, k0_off1 i a + (![1] : Fin 1 → Nat) a ≤ S8.size a) (x : (Rect.unit (s := S8) (k0_off1 i) ![1] inb).shape.Idx) :
    View.ld (Val := Elt Ideal) (S := S8) (e' := .f32) X (Rect.unit (k0_off1 i) ![1] inb) x = X (ix1 (i 1)) :=
  View.ld_unit_apply_of X (k0_off1 i) ![1] inb x (ix1 (i 1)) (fun a => by
    have h : (x 0).val < 1 := (x 0).isLt
    have := off1_val i
    fin_cases a
    show (i 1).val = k0_off1 i 0 + (x 0).val
    omega)
theorem ld2 (X : Vec Ideal S128x8192 .bf16) (i : grid0.Coords) (b : Nat) (hi : (i 2).val * 512 = b) (hb : b ≤ 3584) (inb : ∀ a, k0_off2 i a + (![128, 4096] : Fin 2 → Nat) a ≤ S128x8192.size a) (l : Fin 128) (c : Fin 4096) :
    View.ld (Val := Elt Ideal) (S := S128x8192) (e' := .bf16) X (Rect.unit (k0_off2 i) ![128, 4096] inb) (ix2 l c) = X (ix2 l ⟨b + c.val, by omega⟩) :=
  View.ld_unit_apply_of X (k0_off2 i) ![128, 4096] inb (ix2 l c) (ix2 l ⟨b + c.val, by omega⟩) (fun a => by
    have := off2_val i
    fin_cases a
    · show l.val = 0 + l.val; omega
    · show b + c.val = k0_off2 i 1 + c.val; omega)
theorem ld3 (X : Vec Ideal S8192x256 .bf16) (i : grid0.Coords) (b : Nat) (hi : (i 2).val * 512 = b) (hb : b ≤ 3584) (inb : ∀ a, k0_off3 i a + (![4096, 256] : Fin 2 → Nat) a ≤ S8192x256.size a) (c : Fin 4096) (l : Fin 256) :
    View.ld (Val := Elt Ideal) (S := S8192x256) (e' := .bf16) X (Rect.unit (k0_off3 i) ![4096, 256] inb) (ix2 c l) = X (ix2 ⟨b + c.val, by omega⟩ l) :=
  View.ld_unit_apply_of X (k0_off3 i) ![4096, 256] inb (ix2 c l) (ix2 ⟨b + c.val, by omega⟩ l) (fun a => by
    have : k0_off3 i 0 = (i 2).val * 512 := off2_val i
    fin_cases a
    · show b + c.val = k0_off3 i 0 + c.val; omega
    · show l.val = 0 + l.val; omega)
end Cert.KernelIdeal.Att
-- ==== Proof.Att.Scr.lean ====
module
public import proofs.«01_k».proof.Proof.Gen.KernelIdeal.Value
public import proofs.«01_k».proof.Proof.Att.Out
public import Idealize.ShloMosaic.Lib.Pipeline.ValueKit
@[expose] public section
set_option maxRecDepth 16384
noncomputable section
open Idealize.ShloMosaic Idealize.ShloMosaic.TcCoe Idealize.SL.Sem
namespace Cert.KernelIdeal.Att
open Cert.KernelIdeal Cert.KernelIdeal.Gen Facts
variable (m : (ℓ : Loc nD τ sig) → Buf (Elt Ideal) ℓ)

def low (c : Fin 8192) : Fin 4096 := ⟨c.val % 4096, Nat.mod_lt _ (by decide)⟩

/-- The first scratch: the first map's keys twice over, with their position features in rows 64 to 67. -/
structure Key1 (s : ℝ) (k : Fin 4096 → Fin 64 → ℝ) (X : Vec Ideal S128x8192 .bf16) : Prop where
  data : ∀ (d : Fin 64) c, X (ix2 ⟨d.val, by omega⟩ c) = ((k (low c) d : ℝ) : EReal)
  f0 : ∀ c, X (ix2 64 c) = ((sgn c.val : ℝ) : EReal)
  f1 : ∀ c, X (ix2 65 c) = ((sgn c.val : ℝ) : EReal)
  f2 : ∀ c, X (ix2 66 c) = ((-(sgn c.val) * jh s (low c) : ℝ) : EReal)
  f3 : ∀ c, X (ix2 67 c) = ((-(sgn c.val) * jl s (low c) : ℝ) : EReal)
/-- The second scratch: the second map's keys twice over, with their position features in rows 0 to 3. -/
structure Key2 (s : ℝ) (k : Fin 4096 → Fin 64 → ℝ) (X : Vec Ideal S128x8192 .bf16) : Prop where
  data : ∀ (d : Fin 64) c, X (ix2 ⟨64 + d.val, by omega⟩ c) = ((k (low c) d : ℝ) : EReal)
  f0 : ∀ c, X (ix2 0 c) = ((sgn c.val : ℝ) : EReal)
  f1 : ∀ c, X (ix2 1 c) = ((sgn c.val : ℝ) : EReal)
  f2 : ∀ c, X (ix2 2 c) = ((-(sgn c.val) * jh s (low c) : ℝ) : EReal)
  f3 : ∀ c, X (ix2 3 c) = ((-(sgn c.val) * jl s (low c) : ℝ) : EReal)
/-- The third scratch: the values twice over and a column of ones. -/
structure Val (v : Fin 4096 → Fin 128 → ℝ) (X : Vec Ideal S8192x256 .bf16) : Prop where
  data : ∀ c (d : Fin 128), X (ix2 c ⟨d.val, by omega⟩) = ((v (low c) d : ℝ) : EReal)
  one : ∀ c, X (ix2 c 128) = (1 : EReal)

theorem cols {P : Fin 8192 → Prop} (h0 : ∀ k : Fin 4096, P ⟨k.val, by omega⟩) (h1 : ∀ k : Fin 4096, P ⟨4096 + k.val, by omega⟩) (c : Fin 8192) : P c := by
  by_cases h : c.val < 4096
  · exact h0 ⟨c.val, h⟩
  · have e : c = ⟨4096 + (⟨c.val - 4096, by omega⟩ : Fin 4096).val, by omega⟩ := Fin.ext (by simp; omega)
    rw [e]; exact h1 _

theorem low0 (k : Fin 4096) : low ⟨k.val, by omega⟩ = k := Fin.ext (Nat.mod_eq_of_lt k.isLt)
theorem low1 (k : Fin 4096) : low ⟨4096 + k.val, by omega⟩ = k := Fin.ext (by show (4096 + k.val) % 4096 = k.val; omega)
theorem sgn0 (k : Fin 4096) : sgn k.val = 1 := if_pos k.isLt
theorem sgn1 (k : Fin 4096) : sgn (4096 + k.val) = -1 := if_neg (by omega)
theorem pay8_eq (K : Vec Ideal S1x4096x128 .bf16) (l : Fin 128) (k : Fin 4096) : k0_pay8 (F := Ideal) K (ix2 l k) = k0_pay3 K (ix2 l k) := by pointwise [k0_pay8]
theorem pay14_eq (K : FVec Ideal S128x4096 .bf16) (l : Fin 128) (k : Fin 4096) : k0_pay14 (F := Ideal) K (ix2 l k) = K (ix2 l k) := by pointwise [k0_pay14]
theorem pay15_eq (K : FVec Ideal S128x4096 .bf16) (l : Fin 128) (k : Fin 4096) : k0_pay15 (F := Ideal) K (ix2 l k) = K (ix2 l k) := by pointwise [k0_pay15]
theorem pay9_eq (K : FVec Ideal S128x4096 .bf16) (l : Fin 128) (k : Fin 4096) : k0_pay9 (F := Ideal) K (ix2 l k) = K (ix2 l k) := by pointwise [k0_pay9]
theorem pay10_eq (K : FVec Ideal S4096x256 .bf16) (k : Fin 4096) (l : Fin 256) : k0_pay10 (F := Ideal) K (ix2 k l) = K (ix2 k l) := by pointwise [k0_pay10]
theorem pay16_eq (K : FVec Ideal S4096x256 .bf16) (k : Fin 4096) (l : Fin 256) : k0_pay16 (F := Ideal) K (ix2 k l) = K (ix2 k l) := by pointwise [k0_pay16]
theorem pay12_eq (a : IVec S16x4096 32) (b c : FVec Ideal S16x4096 .f32) (l : Fin 16) (k : Fin 4096) : k0_pay12 (F := Ideal) a b c (ix2 l k) = k0_pay11 a b c (ix2 l k) := by pointwise [k0_pay12]
theorem pay13_eq (a : IVec S16x4096 32) (b c : FVec Ideal S16x4096 .f32) (l : Fin 16) (k : Fin 4096) : k0_pay13 (F := Ideal) a b c (ix2 l k) = k0_pay11 a b c (ix2 l k) := by pointwise [k0_pay13]
theorem pay18_eq (a : IVec S16x4096 32) (b c : FVec Ideal S16x4096 .f32) (l : Fin 16) (k : Fin 4096) : k0_pay18 (F := Ideal) a b c (ix2 l k) = k0_pay17 a b c (ix2 l k) := by pointwise [k0_pay18]
theorem pay19_eq (a : IVec S16x4096 32) (b c : FVec Ideal S16x4096 .f32) (l : Fin 16) (k : Fin 4096) : k0_pay19 (F := Ideal) a b c (ix2 l k) = k0_pay17 a b c (ix2 l k) := by pointwise [k0_pay19]

/-- The feature rows over the first half of the columns. -/
theorem feat0 (s : ℝ) (k : Fin 4096) :
    k0_pay11 (F := Ideal) (iota Kind.tc S16x4096 32 [0] iota_S16x4096_d0_w32) (k0_pay6 (s : EReal)) (k0_pay7 (s : EReal)) (ix2 0 k) = ((1 : ℝ) : EReal)
    ∧ k0_pay11 (F := Ideal) (iota Kind.tc S16x4096 32 [0] iota_S16x4096_d0_w32) (k0_pay6 (s : EReal)) (k0_pay7 (s : EReal)) (ix2 1 k) = ((1 : ℝ) : EReal)
    ∧ k0_pay11 (F := Ideal) (iota Kind.tc S16x4096 32 [0] iota_S16x4096_d0_w32) (k0_pay6 (s : EReal)) (k0_pay7 (s : EReal)) (ix2 2 k) = ((-1 * jh s k : ℝ) : EReal)
    ∧ k0_pay11 (F := Ideal) (iota Kind.tc S16x4096 32 [0] iota_S16x4096_d0_w32) (k0_pay6 (s : EReal)) (k0_pay7 (s : EReal)) (ix2 3 k) = ((-1 * jl s k : ℝ) : EReal) := by
  obtain ⟨e0, e1, e2, e3⟩ := pay11_at (k0_pay6 (F := Ideal) (s : EReal)) (k0_pay7 (F := Ideal) (s : EReal)) k
  refine ⟨e0, e1, e2.trans ?_, e3.trans ?_⟩
  · rw [pay6_at, Cert.Att.ofBits_neg_one, ← EReal.coe_mul]
  · rw [pay7_at, Cert.Att.ofBits_neg_one, ← EReal.coe_mul]
/-- The feature rows over the second half of the columns. -/
theorem feat1 (s : ℝ) (k : Fin 4096) :
    k0_pay17 (F := Ideal) (iota Kind.tc S16x4096 32 [0] iota_S16x4096_d0_w32) (k0_pay6 (s : EReal)) (k0_pay7 (s : EReal)) (ix2 0 k) = ((-1 : ℝ) : EReal)
    ∧ k0_pay17 (F := Ideal) (iota Kind.tc S16x4096 32 [0] iota_S16x4096_d0_w32) (k0_pay6 (s : EReal)) (k0_pay7 (s : EReal)) (ix2 1 k) = ((-1 : ℝ) : EReal)
    ∧ k0_pay17 (F := Ideal) (iota Kind.tc S16x4096 32 [0] iota_S16x4096_d0_w32) (k0_pay6 (s : EReal)) (k0_pay7 (s : EReal)) (ix2 2 k) = ((- -1 * jh s k : ℝ) : EReal)
    ∧ k0_pay17 (F := Ideal) (iota Kind.tc S16x4096 32 [0] iota_S16x4096_d0_w32) (k0_pay6 (s : EReal)) (k0_pay7 (s : EReal)) (ix2 3 k) = ((- -1 * jl s k : ℝ) : EReal) := by
  obtain ⟨e0, e1, e2, e3⟩ := pay17_at (k0_pay6 (F := Ideal) (s : EReal)) (k0_pay7 (F := Ideal) (s : EReal)) k
  refine ⟨e0.trans Cert.Att.ofBits_neg_one, e1.trans Cert.Att.ofBits_neg_one, e2.trans ?_, e3.trans ?_⟩
  · rw [pay6_at, one_mul, neg_neg, one_mul]
  · rw [pay7_at, one_mul, neg_neg, one_mul]

theorem idx : ∀ t : Fin cfg0.N, win0_6.index t = ![32 + t.val / 8 % 8, t.val / 64 * 8 + t.val % 8, 0] ∧ win0_7.index t = ![40 + t.val / 8 % 8, t.val / 64, 0]
    ∧ win0_8.index t = ![48 + t.val / 8 % 8, t.val / 64, 0] ∧ win0_9.index t = ![t.val / 8 % 8, t.val / 64 * 8 + t.val % 8, 0]
    ∧ win0_0.index t = ![0] ∧ win0_1.index t = ![0, 0] ∧ win0_2.index t = ![0, 0] ∧ win0_3.index t = ![0, 0] ∧ win0_4.index t = ![0, 0] ∧ win0_5.index t = ![0, 0] :=
  (by decide +kernel : ∀ t : Fin grid0.N, _)
theorem coords1 : ∀ t : Fin cfg0.N, (grid0.coords t 1).val = t.val / 8 % 8 ∧ (grid0.coords t 2).val = t.val % 8 :=
  (by decide +kernel : ∀ t : Fin grid0.N, _)
theorem lt512 (t : Fin cfg0.N) : t.val < 512 := lt_of_lt_of_eq t.isLt N_0

/-- The head and the request of a point. -/
def hd (t : Fin cfg0.N) : Fin 8 := ⟨t.val / 8 % 8, Nat.mod_lt _ (by decide)⟩
def rq (t : Fin cfg0.N) : Fin 8 := ⟨t.val / 64, by have := lt512 t; omega⟩

/-- The real entries of the operand. -/
def kR (X : Vec Ideal S84x32768x128 .bf16) (h b : Fin 8) (w : Fin 2) (j : Fin 4096) (d : Fin 64) : ℝ :=
  EReal.toReal (X (ix3 ⟨40 + h.val, by omega⟩ ⟨b.val * 4096 + j.val, by omega⟩ ⟨w.val * 64 + d.val, by omega⟩))
def qR (X : Vec Ideal S84x32768x128 .bf16) (h b : Fin 8) (w : Fin 2) (j : Fin 4096) (d : Fin 64) : ℝ :=
  EReal.toReal (X (ix3 ⟨32 + h.val, by omega⟩ ⟨b.val * 4096 + j.val, by omega⟩ ⟨w.val * 64 + d.val, by omega⟩))
def vR (X : Vec Ideal S84x32768x128 .bf16) (h b : Fin 8) (j : Fin 4096) (d : Fin 128) : ℝ :=
  EReal.toReal (X (ix3 ⟨48 + h.val, by omega⟩ ⟨b.val * 4096 + j.val, by omega⟩ d))
/-- The queries, keys and values are real. -/
def IsReal (X : Vec Ideal S84x32768x128 .bf16) : Prop := ∀ (a : Fin 84) r l, 32 ≤ a.val → a.val < 56 → X (ix3 a r l) = ((EReal.toReal (X (ix3 a r l)) : ℝ) : EReal)

theorem blk7 (c : Dev nD) (t : Fin cfg0.N) (hX : IsReal (m ((c : Thread nD τ).loc main_arg0))) (w : Fin 2) (k : Fin 4096) (d : Fin 64) (l : Fin 128) (hl : l.val = w.val * 64 + d.val) :
    iblk m c 7 t (ix3 0 k l) = ((kR (m ((c : Thread nD τ).loc main_arg0)) (hd t) (rq t) w k d : ℝ) : EReal) := by
  refine Eq.trans (b := m ((c : Thread nD τ).loc main_arg0) (ix3 ⟨40 + (hd t).val, by omega⟩ ⟨(rq t).val * 4096 + k.val, by omega⟩ ⟨w.val * 64 + d.val, by omega⟩)) ?_ (hX _ _ _ (by simp; try omega) (by simp; omega))
  have := lt512 t
  have e1 : (hd t).val = t.val / 8 % 8 := rfl
  have e2 : (rq t).val = t.val / 64 := rfl
  blk_ext [iblk, V, idx t]
theorem blk6 (c : Dev nD) (t : Fin cfg0.N) (hX : IsReal (m ((c : Thread nD τ).loc main_arg0))) (w : Fin 2) (r : Fin 512) (d : Fin 64) (l : Fin 128) (hl : l.val = w.val * 64 + d.val)
    (n : Fin 4096) (hn : n.val = t.val % 8 * 512 + r.val) :
    iblk m c 6 t (ix3 0 r l) = ((qR (m ((c : Thread nD τ).loc main_arg0)) (hd t) (rq t) w n d : ℝ) : EReal) := by
  refine Eq.trans (b := m ((c : Thread nD τ).loc main_arg0) (ix3 ⟨32 + (hd t).val, by omega⟩ ⟨(rq t).val * 4096 + n.val, by omega⟩ ⟨w.val * 64 + d.val, by omega⟩)) ?_ (hX _ _ _ (by simp; try omega) (by simp; omega))
  have := lt512 t
  have e1 : (hd t).val = t.val / 8 % 8 := rfl
  have e2 : (rq t).val = t.val / 64 := rfl
  blk_ext [iblk, V, idx t]
theorem blk8 (c : Dev nD) (t : Fin cfg0.N) (hX : IsReal (m ((c : Thread nD τ).loc main_arg0))) (k : Fin 4096) (d : Fin 128) :
    iblk m c 8 t (ix3 0 k d) = ((vR (m ((c : Thread nD τ).loc main_arg0)) (hd t) (rq t) k d : ℝ) : EReal) := by
  refine Eq.trans (b := m ((c : Thread nD τ).loc main_arg0) (ix3 ⟨48 + (hd t).val, by omega⟩ ⟨(rq t).val * 4096 + k.val, by omega⟩ d)) ?_ (hX _ _ _ (by simp; try omega) (by simp; omega))
  have := lt512 t
  have e1 : (hd t).val = t.val / 8 % 8 := rfl
  have e2 : (rq t).val = t.val / 64 := rfl
  blk_ext [iblk, V, idx t]
theorem blk0 (c : Dev nD) (t : Fin cfg0.N) (k : Fin 8) : iblk m c 0 t (ix1 k) = Ideal.ofBits .f32 (lit0 (S8.rowMajor (ix1 k))) := by
  refine Eq.trans (b := (fun i : S8.Idx => Ideal.ofBits .f32 (lit0 (S8.rowMajor i))) (ix1 k)) ?_ rfl
  blk_ext [iblk, V, idx t]
end Cert.KernelIdeal.Att
-- ==== Proof.Att.Point.lean ====
module
public import proofs.«01_k».proof.Proof.Att.Scr
@[expose] public section
set_option maxRecDepth 16384
noncomputable section
open Idealize.ShloMosaic Idealize.ShloMosaic.TcCoe Idealize.SL.Sem
namespace Cert.KernelIdeal.Att
open Cert.KernelIdeal Cert.KernelIdeal.Gen Facts
variable (m : (ℓ : Loc nD τ sig) → Buf (Elt Ideal) ℓ)

/-- The slope of a head, a real. -/
def slope (h : Fin 8) : ℝ := EReal.toReal (Ideal.ofBits .f32 (lit0 (S8.rowMajor (ix1 h))))
theorem slope_eq (h : Fin 8) : Ideal.ofBits .f32 (lit0 (S8.rowMajor (ix1 h))) = ((slope h : ℝ) : EReal) := by
  obtain ⟨r, hr⟩ := Cert.Att.ofBits_real (lit0 (S8.rowMajor (ix1 h))) ((by decide +kernel : ∀ h : Fin 8, ((lit0 (S8.rowMajor (ix1 h))).extractLsb' 23 8).toNat ≠ 255) h)
  rw [slope, hr, EReal.toReal_coe]

theorem slope_at (c : Dev nD) (t : Fin cfg0.N) (inb) (x) :
    View.ld (Val := Elt Ideal) (S := S8) (e' := .f32) (iblk m c 0 t) (Rect.unit (k0_off1 (grid0.coords t)) ![1] inb) x = ((slope (hd t) : ℝ) : EReal) := by
  refine (ld1 (iblk m c 0 t) (grid0.coords t) inb x).trans ?_
  refine (blk0 m c t (grid0.coords t 1)).trans ?_
  rw [← slope_eq]
  have e : (grid0.coords t 1 : Fin 8) = hd t := Fin.ext (coords1 t).1
  exact congrArg (fun h : Fin 8 => Ideal.ofBits .f32 (lit0 (S8.rowMajor (ix1 h)))) e

theorem keyA0 (c : Dev nD) (t : Fin cfg0.N) (h0 : t.val % 8 = 0) (hX : IsReal (m ((c : Thread nD τ).loc main_arg0))) :
    Key1 (slope (hd t)) (kR (m ((c : Thread nD τ).loc main_arg0)) (hd t) (rq t) 0) (outsAt0 m c t.val t.isLt).2.1 := by
  rw [outsAt0_A m c t h0]
  frame_out
  rw [slope_at m c t]
  have low (l : Fin 128) (k : Fin 4096) := (canon_rows 64 (k0_pay18 (F := Ideal) (iota Kind.tc S16x4096 32 [0] iota_S16x4096_d0_w32) (k0_pay6 ((slope (hd t) : ℝ) : EReal)) (k0_pay7 ((slope (hd t) : ℝ) : EReal)))
    (k0_pay12 (F := Ideal) (iota Kind.tc S16x4096 32 [0] iota_S16x4096_d0_w32) (k0_pay6 ((slope (hd t) : ℝ) : EReal)) (k0_pay7 ((slope (hd t) : ℝ) : EReal)))
    (k0_pay14 (k0_pay3 (iblk m c 7 t))) (k0_pay8 (iblk m c 7 t)) (by omega) inb_S128x8192_S16x4096_64_4096 inb_S128x8192_S128x4096_0_4096 inb_S128x8192_S16x4096_64_0 inb_S128x8192_S128x4096_0_0 l k)
  have dat : ∀ (d : Fin 64) (k : Fin 4096), k0_pay3 (F := Ideal) (iblk m c 7 t) (ix2 ⟨d.val, by omega⟩ k) = ((kR (m ((c : Thread nD τ).loc main_arg0)) (hd t) (rq t) 0 k d : ℝ) : EReal) := fun d k => by
    rw [pay3_at, if_pos d.isLt]
    exact blk7 m c t hX 0 k d _ (by simp)
  refine ⟨fun d => cols (fun k => ?_) (fun k => ?_), cols (fun k => ?_) (fun k => ?_), cols (fun k => ?_) (fun k => ?_), cols (fun k => ?_) (fun k => ?_), cols (fun k => ?_) (fun k => ?_)⟩
  · rw [low0]
    refine (low ⟨d.val, by omega⟩ k).1.trans ?_
    rw [dif_neg (by simp), pay8_eq, dat]
  · rw [low1]
    refine (low ⟨d.val, by omega⟩ k).2.trans ?_
    rw [dif_neg (by simp), pay14_eq, dat]
  · rw [sgn0]
    refine (low 64 k).1.trans ?_
    rw [dif_pos (by decide), pay12_eq]; exact (feat0 _ k).1
  · rw [sgn1]
    refine (low 64 k).2.trans ?_
    rw [dif_pos (by decide), pay18_eq]; exact (feat1 _ k).1
  · rw [sgn0]
    refine (low 65 k).1.trans ?_
    rw [dif_pos (by decide), pay12_eq]; exact (feat0 _ k).2.1
  · rw [sgn1]
    refine (low 65 k).2.trans ?_
    rw [dif_pos (by decide), pay18_eq]; exact (feat1 _ k).2.1
  · rw [sgn0, low0]
    refine (low 66 k).1.trans ?_
    rw [dif_pos (by decide), pay12_eq]; exact (feat0 _ k).2.2.1
  · rw [sgn1, low1]
    refine (low 66 k).2.trans ?_
    rw [dif_pos (by decide), pay18_eq]; exact (feat1 _ k).2.2.1
  · rw [sgn0, low0]
    refine (low 67 k).1.trans ?_
    rw [dif_pos (by decide), pay12_eq]; exact (feat0 _ k).2.2.2
  · rw [sgn1, low1]
    refine (low 67 k).2.trans ?_
    rw [dif_pos (by decide), pay18_eq]; exact (feat1 _ k).2.2.2

theorem keyA1 (c : Dev nD) (t : Fin cfg0.N) (h0 : t.val % 8 = 0) (hX : IsReal (m ((c : Thread nD τ).loc main_arg0))) :
    Key2 (slope (hd t)) (kR (m ((c : Thread nD τ).loc main_arg0)) (hd t) (rq t) 1) (outsAt0 m c t.val t.isLt).2.2.1 := by
  rw [outsAt0_A m c t h0]
  frame_out
  rw [slope_at m c t]
  have low (l : Fin 128) (k : Fin 4096) := (canon_rows 0 (k0_pay19 (F := Ideal) (iota Kind.tc S16x4096 32 [0] iota_S16x4096_d0_w32) (k0_pay6 ((slope (hd t) : ℝ) : EReal)) (k0_pay7 ((slope (hd t) : ℝ) : EReal)))
    (k0_pay13 (F := Ideal) (iota Kind.tc S16x4096 32 [0] iota_S16x4096_d0_w32) (k0_pay6 ((slope (hd t) : ℝ) : EReal)) (k0_pay7 ((slope (hd t) : ℝ) : EReal)))
    (k0_pay15 (k0_pay4 (iblk m c 7 t))) (k0_pay9 (k0_pay4 (iblk m c 7 t))) (by omega) inb_S128x8192_S16x4096_0_4096 inb_S128x8192_S128x4096_0_4096 inb_S128x8192_S16x4096_0_0 inb_S128x8192_S128x4096_0_0 l k)
  have dat : ∀ (d : Fin 64) (k : Fin 4096), k0_pay4 (F := Ideal) (iblk m c 7 t) (ix2 ⟨64 + d.val, by omega⟩ k) = ((kR (m ((c : Thread nD τ).loc main_arg0)) (hd t) (rq t) 1 k d : ℝ) : EReal) := fun d k => by
    rw [pay4_at _ _ (by simp)]
    exact blk7 m c t hX 1 k d _ (by simp)
  refine ⟨fun d => cols (fun k => ?_) (fun k => ?_), cols (fun k => ?_) (fun k => ?_), cols (fun k => ?_) (fun k => ?_), cols (fun k => ?_) (fun k => ?_), cols (fun k => ?_) (fun k => ?_)⟩
  · rw [low0]
    refine (low ⟨64 + d.val, by omega⟩ k).1.trans ?_
    rw [dif_neg (by simp; omega), pay9_eq, dat]
  · rw [low1]
    refine (low ⟨64 + d.val, by omega⟩ k).2.trans ?_
    rw [dif_neg (by simp; omega), pay15_eq, dat]
  · rw [sgn0]
    refine (low 0 k).1.trans ?_
    rw [dif_pos (by decide), pay13_eq]; exact (feat0 _ k).1
  · rw [sgn1]
    refine (low 0 k).2.trans ?_
    rw [dif_pos (by decide), pay19_eq]; exact (feat1 _ k).1
  · rw [sgn0]
    refine (low 1 k).1.trans ?_
    rw [dif_pos (by decide), pay13_eq]; exact (feat0 _ k).2.1
  · rw [sgn1]
    refine (low 1 k).2.trans ?_
    rw [dif_pos (by decide), pay19_eq]; exact (feat1 _ k).2.1
  · rw [sgn0, low0]
    refine (low 2 k).1.trans ?_
    rw [dif_pos (by decide), pay13_eq]; exact (feat0 _ k).2.2.1
  · rw [sgn1, low1]
    refine (low 2 k).2.trans ?_
    rw [dif_pos (by decide), pay19_eq]; exact (feat1 _ k).2.2.1
  · rw [sgn0, low0]
    refine (low 3 k).1.trans ?_
    rw [dif_pos (by decide), pay13_eq]; exact (feat0 _ k).2.2.2
  · rw [sgn1, low1]
    refine (low 3 k).2.trans ?_
    rw [dif_pos (by decide), pay19_eq]; exact (feat1 _ k).2.2.2

theorem valA (c : Dev nD) (t : Fin cfg0.N) (h0 : t.val % 8 = 0) (hX : IsReal (m ((c : Thread nD τ).loc main_arg0))) :
    Val (vR (m ((c : Thread nD τ).loc main_arg0)) (hd t) (rq t)) (outsAt0 m c t.val t.isLt).2.2.2 := by
  rw [outsAt0_A m c t h0]
  frame_out
  have low (k : Fin 4096) (l : Fin 256) := canon_halves (k0_pay16 (k0_pay5 (iblk m c 8 t))) (k0_pay10 (k0_pay5 (iblk m c 8 t))) inb_S8192x256_S4096x256_4096_0 inb_S8192x256_S4096x256_0_0 k l
  refine ⟨fun c' d => cols (P := fun c' => View.canon (Val := Elt Ideal) (s := S8192x256) (e := .bf16) _ (ix2 c' _) = ((vR _ _ _ (Att.low c') d : ℝ) : EReal)) (fun k => ?_) (fun k => ?_) c', cols (fun k => ?_) (fun k => ?_)⟩
  · rw [low0]
    refine (low k ⟨d.val, by omega⟩).1.trans ?_
    rw [pay10_eq, pay5_low]; exact blk8 m c t hX k d
  · rw [low1]
    refine (low k ⟨d.val, by omega⟩).2.trans ?_
    rw [pay16_eq, pay5_low]; exact blk8 m c t hX k d
  · refine (low k 128).1.trans ?_
    rw [pay10_eq, pay5_one]
  · refine (low k 128).2.trans ?_
    rw [pay16_eq, pay5_one]

/-- What the three scratch buffers hold after any point. -/
def Good (c : Dev nD) (X : Vec Ideal S84x32768x128 .bf16) (n : Nat) (h : n < cfg0.N) : Prop :=
  Key1 (slope (hd ⟨n, h⟩)) (kR X (hd ⟨n, h⟩) (rq ⟨n, h⟩) 0) (outsAt0 m c n h).2.1
  ∧ Key2 (slope (hd ⟨n, h⟩)) (kR X (hd ⟨n, h⟩) (rq ⟨n, h⟩) 1) (outsAt0 m c n h).2.2.1
  ∧ Val (vR X (hd ⟨n, h⟩) (rq ⟨n, h⟩)) (outsAt0 m c n h).2.2.2

theorem good (c : Dev nD) (hX : IsReal (m ((c : Thread nD τ).loc main_arg0))) : ∀ (n : Nat) (h : n < cfg0.N), Good m c (m ((c : Thread nD τ).loc main_arg0)) n h := by
  intro n
  induction n with
  | zero => exact fun h => ⟨keyA0 m c ⟨0, h⟩ rfl hX, keyA1 m c ⟨0, h⟩ rfl hX, valA m c ⟨0, h⟩ rfl hX⟩
  | succ n ih =>
    intro h
    by_cases h0 : (n + 1) % 8 = 0
    · exact ⟨keyA0 m c ⟨n + 1, h⟩ h0 hX, keyA1 m c ⟨n + 1, h⟩ h0 hX, valA m c ⟨n + 1, h⟩ h0 hX⟩
    · have g := ih (Nat.lt_of_succ_lt h)
      have e1 : hd ⟨n + 1, h⟩ = hd ⟨n, Nat.lt_of_succ_lt h⟩ := Fin.ext (by show (n + 1) / 8 % 8 = n / 8 % 8; omega)
      have e2 : rq ⟨n + 1, h⟩ = rq ⟨n, Nat.lt_of_succ_lt h⟩ := Fin.ext (by show (n + 1) / 64 = n / 64; omega)
      unfold Good
      rw [e1, e2, outsAt0_B m c ⟨n + 1, h⟩ h0]
      exact g
end Cert.KernelIdeal.Att
-- ==== Proof.Att.RefMax.lean ====
module
public import Idealize.ShloMosaic.Lib.StableHlo
public import Idealize.ShloMosaic.Lib.Pointwise
@[expose] public section
noncomputable section
open Idealize.ShloMosaic
namespace Cert.Att

/-- The host's maximum over the last of five axes, from the initial value, is a fold over that axis. -/
theorem hostMax_last {n0 n1 n2 n3 n4 : Nat} {t u : Shape} (x : (⟨5, ![n0, n1, n2, n3, n4]⟩ : Shape).Idx → EReal) (init : u.Idx → EReal)
    (h : (⟨5, ![n0, n1, n2, n3, n4]⟩ : Shape).ReducesTo [4] t) (hu : 0 < u.numel) (j : t.Idx) :
    Host.reduce (FloatOps.maximumf (F := Ideal) (φ := .f32)) x init h hu j
      = Finset.fold max (init (Shape.Idx.first hu)) (fun k : Fin n4 => x (ix5 ⟨(j ⟨0, h.lt_r5_a4_0⟩).val, Shape.coordLt (j ⟨0, h.lt_r5_a4_0⟩) h.size_r5_a4_0⟩ ⟨(j ⟨1, h.lt_r5_a4_1⟩).val, Shape.coordLt (j ⟨1, h.lt_r5_a4_1⟩) h.size_r5_a4_1⟩ ⟨(j ⟨2, h.lt_r5_a4_2⟩).val, Shape.coordLt (j ⟨2, h.lt_r5_a4_2⟩) h.size_r5_a4_2⟩ ⟨(j ⟨3, h.lt_r5_a4_3⟩).val, Shape.coordLt (j ⟨3, h.lt_r5_a4_3⟩) h.size_r5_a4_3⟩ k)) Finset.univ := by
  rw [Host.reduce_eq_fold, Shape.ReducesTo.fold_fiber_r5_a4]; rfl

theorem hostMax_row {n0 n1 n2 n3 n4 : Nat} {u : Shape} (x : (⟨5, ![n0, n1, n2, n3, n4]⟩ : Shape).Idx → EReal) (init : u.Idx → EReal)
    (h : (⟨5, ![n0, n1, n2, n3, n4]⟩ : Shape).ReducesTo [4] ⟨4, ![n0, n1, n2, n3]⟩) (hu : 0 < u.numel) (a : Fin n0) (b : Fin n1) (c : Fin n2) (d : Fin n3) :
    Host.reduce (FloatOps.maximumf (F := Ideal) (φ := .f32)) x init h hu (ix4 a b c d)
      = Finset.fold max (init (Shape.Idx.first hu)) (fun k : Fin n4 => x (ix5 a b c d k)) Finset.univ := by
  rw [hostMax_last]; rfl

/-- The same under the maximum with the initial value. -/
theorem mx_gen {n0 n1 n2 n3 n4 : Nat} (w : BitVec 32) (hb : (⟨0, ![]⟩ : Shape).BroadcastsInDim ⟨4, ![n0, n1, n2, n3]⟩ (![] : Fin 0 → Fin 4)) (x : FVec Ideal (⟨5, ![n0, n1, n2, n3, n4]⟩ : Shape) .f32)
    (h : (⟨5, ![n0, n1, n2, n3, n4]⟩ : Shape).ReducesTo [4] ⟨4, ![n0, n1, n2, n3]⟩) (hu : 0 < (⟨0, ![]⟩ : Shape).numel) (a : Fin n0) (b : Fin n1) (c : Fin n2) (d : Fin n3) :
    maximumf (broadcastInDim ⟨4, ![n0, n1, n2, n3]⟩ (![] : Fin 0 → Fin 4) hb (constant (F := Ideal) ⟨0, ![]⟩ .f32 w))
        (Host.reduce FloatOps.maximumf x (constant (F := Ideal) ⟨0, ![]⟩ .f32 w) h hu) (ix4 a b c d)
      = max (Ideal.ofBits .f32 w) (Finset.fold max (Ideal.ofBits .f32 w) (fun k : Fin n4 => x (ix5 a b c d k)) Finset.univ) := by
  have e := hostMax_row x (constant (F := Ideal) ⟨0, ![]⟩ .f32 w) h hu a b c d
  exact congrArg (max (Ideal.ofBits .f32 w)) e
end Cert.Att
-- ==== Proof.Att.Ref.lean ====
module
public import proofs.«01_k».proof.Proof.Gen.ReferenceIdeal.Run
public import Idealize.ShloMosaic.Lib.Pointwise
public import proofs.«01_k».proof.Proof.Att.RefMax
@[expose] public section
set_option maxRecDepth 16384
noncomputable section
open Idealize.ShloMosaic Idealize.ShloMosaic.TcCoe Idealize.SL.Sem
namespace Cert.ReferenceIdeal.Att
open Cert.ReferenceIdeal Cert.ReferenceIdeal.Gen Cert.ReferenceIdeal.Value Facts

/-- The scores with their distance bias, all heads, requests and maps. -/
def sc (X : FVec Ideal S84x32768x128 .bf16) : FVec Ideal S8x8x2x4096x4096 .f32 :=
  addf (mulf (Host.dotGeneral dot_S8x8x4096x2x64_S8x8x4096x2x64_S8x8x2x4096x4096_4_4_2_2_013_013 none
      (shapeCast _ (extractStridedSlice S8x32768x128 ![32, 0, 0] (extf .f32 X bitsLt_bf16_f32) slices_S84x32768x128_S8x32768x128_32_0_0) shapeCasts_S8x32768x128_S8x8x4096x2x64)
      (shapeCast _ (extractStridedSlice S8x32768x128 ![40, 0, 0] (extf .f32 X bitsLt_bf16_f32) slices_S84x32768x128_S8x32768x128_40_0_0) shapeCasts_S8x32768x128_S8x8x4096x2x64))
      (broadcastInDim S8x8x2x4096x4096 ![] bcast_S_S8x8x2x4096x4096 (constant S_ .f32 0x3E000000#32)))
    (broadcastInDim S8x8x2x4096x4096 ![0, 1, 2, 3, 4] bcast_S8x1x1x4096x4096_S8x8x2x4096x4096_0_1_2_3_4
      (broadcastInDim S8x1x1x4096x4096 ![0, 3, 4] bcast_S8x4096x4096_S8x1x1x4096x4096_0_3_4
        (mulf (broadcastInDim S8x4096x4096 ![0, 1, 2] bcast_S8x1x1_S8x4096x4096_0_1_2
            (Host.negf (broadcastInDim S8x1x1 ![0] bcast_S8_S8x1x1_0 (fun i => FloatOps.ofBits .f32 (lit0 (S8.rowMajor i))))))
          (broadcastInDim S8x4096x4096 ![0, 1, 2] bcast_S1x4096x4096_S8x4096x4096_0_1_2
            (broadcastInDim S1x4096x4096 ![1, 2] bcast_S4096x4096_S1x4096x4096_1_2
              (sitofp .f32 (absi (subi
                (broadcastInDim S4096x4096 ![0, 1] bcast_S4096x1_S4096x4096_0_1 (broadcastInDim S4096x1 ![0] bcast_S4096_S4096x1_0 (iotaInDim S4096 32 0)))
                (broadcastInDim S4096x4096 ![0, 1] bcast_S1x4096_S4096x4096_0_1 (broadcastInDim S1x4096 ![1] bcast_S4096_S1x4096_1 (iotaInDim S4096 32 0)))))))))))

/-- The largest score of a row. -/
def mx (s : FVec Ideal S8x8x2x4096x4096 .f32) : FVec Ideal S8x8x2x4096 .f32 :=
  maximumf (broadcastInDim S8x8x2x4096 ![] bcast_S_S8x8x2x4096 (constant S_ .f32 0xFF800000#32))
    (Host.reduce FloatOps.maximumf s (constant S_ .f32 0xFF800000#32) reducesTo_S8x8x2x4096x4096_S8x8x2x4096_d4 h_S_)

/-- The exponentials of the scores less the row's largest. -/
def ex (s : FVec Ideal S8x8x2x4096x4096 .f32) : FVec Ideal S8x8x2x4096x4096 .f32 :=
  Host.exp (subf s (broadcastInDim S8x8x2x4096x4096 ![0, 1, 2, 3, 4] bcast_S8x8x2x4096x1_S8x8x2x4096x4096_0_1_2_3_4
    (broadcastInDim S8x8x2x4096x1 ![0, 1, 2, 3] bcast_S8x8x2x4096_S8x8x2x4096x1_0_1_2_3 (mx s))))

/-- The softmax of the scores. -/
def pr (e : FVec Ideal S8x8x2x4096x4096 .f32) : FVec Ideal S8x8x2x4096x4096 .f32 :=
  Host.divf e (broadcastInDim S8x8x2x4096x4096 ![0, 1, 2, 3, 4] bcast_S8x8x2x4096x1_S8x8x2x4096x4096_0_1_2_3_4
    (broadcastInDim S8x8x2x4096x1 ![0, 1, 2, 3] bcast_S8x8x2x4096_S8x8x2x4096x1_0_1_2_3
      (Host.reduceAdd e (constant S_ .f32 0x00000000#32) reducesTo_S8x8x2x4096x4096_S8x8x2x4096_d4 h_S_)))

/-- The weight of the second map. -/
def lam (a1 a2 a3 a4 : FVec Ideal S1x64 .f32) : FVec Ideal S_ .f32 :=
  addf (subf (Host.exp (Host.reduceAdd (mulf a1 a2) (constant S_ .f32 0x00000000#32) reducesTo_S1x64_S_d0_1 h_S_))
    (Host.exp (Host.reduceAdd (mulf a3 a4) (constant S_ .f32 0x00000000#32) reducesTo_S1x64_S_d0_1 h_S_))) (constant S_ .f32 0x3E4CCCCD#32)

/-- The difference of the two maps applied to the values. -/
def oo (p : FVec Ideal S8x8x2x4096x4096 .f32) (l : FVec Ideal S_ .f32) (X : FVec Ideal S84x32768x128 .bf16) : FVec Ideal S8x8x4096x128 .f32 :=
  Host.dotGeneral dot_S8x8x4096x4096_S8x8x4096x128_S8x8x4096x128_3_2_2_3_01_01 none
    (subf (shapeCast _ (extractStridedSlice S8x8x1x4096x4096 ![0, 0, 0, 0, 0] p slices_S8x8x2x4096x4096_S8x8x1x4096x4096_0_0_0_0_0) shapeCasts_S8x8x1x4096x4096_S8x8x4096x4096)
      (mulf (broadcastInDim S8x8x4096x4096 ![] bcast_S_S8x8x4096x4096 l)
        (shapeCast _ (extractStridedSlice S8x8x1x4096x4096 ![0, 0, 1, 0, 0] p slices_S8x8x2x4096x4096_S8x8x1x4096x4096_0_0_1_0_0) shapeCasts_S8x8x1x4096x4096_S8x8x4096x4096)))
    (shapeCast _ (extractStridedSlice S8x32768x128 ![48, 0, 0] (extf .f32 X bitsLt_bf16_f32) slices_S84x32768x128_S8x32768x128_48_0_0) shapeCasts_S8x32768x128_S8x8x4096x128)

/-- The normalised rows, as one array of rows for each head. -/
def yy (o : FVec Ideal S8x8x4096x128 .f32) (g : FVec Ideal S1x128 .f32) : FVec Ideal S8x32768x128 .bf16 :=
  truncf .bf16 (shapeCast _ (mulf (mulf (mulf o (broadcastInDim S8x8x4096x128 ![0, 1, 2, 3] bcast_S8x8x4096x1_S8x8x4096x128_0_1_2_3
      (Host.rsqrt (addf (Host.divf (broadcastInDim S8x8x4096x1 ![0, 1, 2] bcast_S8x8x4096_S8x8x4096x1_0_1_2
          (Host.reduceAdd (mulf o o) (constant S_ .f32 0x00000000#32) reducesTo_S8x8x4096x128_S8x8x4096_d3 h_S_))
        (broadcastInDim S8x8x4096x1 ![] bcast_S_S8x8x4096x1 (constant S_ .f32 0x43000000#32)))
        (broadcastInDim S8x8x4096x1 ![] bcast_S_S8x8x4096x1 (constant S_ .f32 0x3727C5AC#32))))))
      (broadcastInDim S8x8x4096x128 ![0, 1, 2, 3] bcast_S1x1x1x128_S8x8x4096x128_0_1_2_3 (broadcastInDim S1x1x1x128 ![3] bcast_S128_S1x1x1x128_3 (shapeCast _ g shapeCasts_S1x128_S128))))
    (broadcastInDim S8x8x4096x128 ![] bcast_S_S8x8x4096x128 (constant S_ .f32 0x3F4CCCCD#32))) shapeCasts_S8x8x4096x128_S8x32768x128) bitsLt_bf16_f32

theorem res_eq (m : (ℓ : Loc nD τ sig) → Buf (Elt Ideal) ℓ) (c : Dev nD) :
    res_out0 m c = yy (oo (pr (ex (sc (m ((c.tc : Thread nD τ).loc main_arg0)))))
      (lam (m ((c.tc : Thread nD τ).loc main_arg1)) (m ((c.tc : Thread nD τ).loc main_arg2)) (m ((c.tc : Thread nD τ).loc main_arg3)) (m ((c.tc : Thread nD τ).loc main_arg4)))
      (m ((c.tc : Thread nD τ).loc main_arg0))) (m ((c.tc : Thread nD τ).loc main_arg5)) := rfl

theorem sc_at (X : FVec Ideal S84x32768x128 .bf16) (h b : Fin 8) (w : Fin 2) (q k : Fin 4096) : sc X (ix5 h b w q k)
    = (∑ x : Fin 64, X (ix3 ⟨32 + h.val, by omega⟩ ⟨b.val * 4096 + q.val, by omega⟩ ⟨w.val * 64 + x.val, by omega⟩)
        * X (ix3 ⟨40 + h.val, by omega⟩ ⟨b.val * 4096 + k.val, by omega⟩ ⟨w.val * 64 + x.val, by omega⟩)) * Ideal.ofBits .f32 0x3E000000#32
      + -Ideal.ofBits .f32 (lit0 (S8.rowMajor (ix1 h))) * FloatOps.sitofp (F := Ideal) .f32 (IntOp.absi (IntOp.subi (BitVec.ofNat 32 q.val) (BitVec.ofNat 32 k.val))) := by
  pointwise [sc]
theorem ex_at (s : FVec Ideal S8x8x2x4096x4096 .f32) (h b : Fin 8) (w : Fin 2) (q k : Fin 4096) : ex s (ix5 h b w q k)
    = Ideal.exp (s (ix5 h b w q k) - mx s (ix4 h b w q)) := by
  pointwise [ex]
theorem pr_at (e : FVec Ideal S8x8x2x4096x4096 .f32) (h b : Fin 8) (w : Fin 2) (q k : Fin 4096) : pr e (ix5 h b w q k)
    = Ideal.div (e (ix5 h b w q k)) (∑ x : Fin 4096, e (ix5 h b w q x)) := by
  pointwise [pr]
theorem lam_at (a1 a2 a3 a4 : FVec Ideal S1x64 .f32) (i : S_.Idx) : lam a1 a2 a3 a4 i
    = Ideal.exp (∑ x : Fin 1, ∑ y : Fin 64, a1 (ix2 x y) * a2 (ix2 x y)) - Ideal.exp (∑ x : Fin 1, ∑ y : Fin 64, a3 (ix2 x y) * a4 (ix2 x y))
      + Ideal.ofBits .f32 0x3E4CCCCD#32 := by
  pointwise [lam]
theorem oo_at (p : FVec Ideal S8x8x2x4096x4096 .f32) (l : FVec Ideal S_ .f32) (X : FVec Ideal S84x32768x128 .bf16) (h b : Fin 8) (q : Fin 4096) (d : Fin 128) :
    oo p l X (ix4 h b q d) = ∑ x : Fin 4096, (p (ix5 h b 0 q x) - l ix0 * p (ix5 h b 1 q x)) * X (ix3 ⟨48 + h.val, by omega⟩ ⟨b.val * 4096 + x.val, by omega⟩ d) := by
  pointwise [oo]
theorem yy_at (o : FVec Ideal S8x8x4096x128 .f32) (g : FVec Ideal S1x128 .f32) (h : Fin 8) (r : Fin 32768) (d : Fin 128) :
    yy o g (ix3 h r d) = o (ix4 h ⟨r.val / 4096, by omega⟩ ⟨r.val % 4096, by omega⟩ d)
      * Ideal.rsqrt (Ideal.div (∑ x : Fin 128, o (ix4 h ⟨r.val / 4096, by omega⟩ ⟨r.val % 4096, by omega⟩ x) * o (ix4 h ⟨r.val / 4096, by omega⟩ ⟨r.val % 4096, by omega⟩ x)) (Ideal.ofBits .f32 0x43000000#32) + Ideal.ofBits .f32 0x3727C5AC#32)
      * g (ix2 0 d) * Ideal.ofBits .f32 0x3F4CCCCD#32 := by
  pointwise [yy]
end Cert.ReferenceIdeal.Att
-- ==== Proof.Att.RefMx.lean ====
module
public import proofs.«01_k».proof.Proof.Gen.ReferenceIdeal.Run
public import Idealize.ShloMosaic.Lib.Pointwise
public import proofs.«01_k».proof.Proof.Att.RefMax
public import proofs.«01_k».proof.Proof.Att.Ref
@[expose] public section
set_option maxRecDepth 16384
noncomputable section
open Idealize.ShloMosaic Idealize.ShloMosaic.TcCoe Idealize.SL.Sem
namespace Cert.ReferenceIdeal.Att
open Cert.ReferenceIdeal Cert.ReferenceIdeal.Gen Cert.ReferenceIdeal.Value Facts

theorem mx_at (s : FVec Ideal S8x8x2x4096x4096 .f32) (h b : Fin 8) (w : Fin 2) (q : Fin 4096) : mx s (ix4 h b w q)
    = max (Ideal.ofBits .f32 0xFF800000#32) (Finset.fold max (Ideal.ofBits .f32 0xFF800000#32) (fun k : Fin 4096 => s (ix5 h b w q k)) Finset.univ) :=
  Cert.Att.mx_gen _ _ s _ _ h b w q
end Cert.ReferenceIdeal.Att
-- ==== Proof.Att.RefReal.lean ====
module
public import proofs.«01_k».proof.Proof.Att.Point
public import proofs.«01_k».proof.Proof.Att.RefMx
@[expose] public section
set_option maxRecDepth 16384
noncomputable section
open Idealize.ShloMosaic Idealize.ShloMosaic.TcCoe Idealize.SL.Sem
namespace Cert.ReferenceIdeal.Att
open Cert.ReferenceIdeal Cert.ReferenceIdeal.Gen Cert.ReferenceIdeal.Value Facts
open Cert.KernelIdeal.Att (score slope kR qR vR attO IsReal)

theorem slope_ref (h : Fin 8) : Ideal.ofBits .f32 (lit0 (S8.rowMajor (ix1 h))) = ((slope h : ℝ) : EReal) :=
  (congrArg (Ideal.ofBits .f32) ((by decide +kernel : ∀ h : Fin 8, lit0 (S8.rowMajor (ix1 h)) = Cert.KernelIdeal.lit0 (Cert.KernelIdeal.S8.rowMajor (ix1 h))) h)).trans (Cert.KernelIdeal.Att.slope_eq h)

theorem sc_real (X : FVec Ideal S84x32768x128 .bf16) (hX : IsReal X) (h b : Fin 8) (w : Fin 2) (q k : Fin 4096) :
    sc X (ix5 h b w q k) = ((score (slope h) (qR X h b w q) (kR X h b w) q k : ℝ) : EReal) := by
  rw [sc_at, slope_ref, Cert.Att.ofBits_eighth, score, EReal.coe_add, EReal.coe_mul, ← Cert.Att.coe_sum]
  refine congrArg₂ (· + ·) (congrArg₂ (· * ·) (Finset.sum_congr rfl fun x _ => ?_) rfl) ?_
  · rw [hX ⟨32 + h.val, _⟩ _ _ (by simp) (by simp; omega), hX ⟨40 + h.val, _⟩ _ _ (by simp; omega) (by simp; omega), EReal.coe_mul]
    rfl
  · rw [EReal.coe_mul, EReal.coe_neg]
    refine congrArg₂ (· * ·) rfl ?_
    show (((IntOp.absi _).toInt : ℝ) : EReal) = _
    rw [Cert.Att.word_abs _ _ q.isLt k.isLt]
    push_cast
    rfl

theorem oo_real (X : FVec Ideal S84x32768x128 .bf16) (hX : IsReal X) (l : FVec Ideal S_ .f32) (L : ℝ) (hL : l ix0 = (L : EReal)) (h b : Fin 8) (q : Fin 4096) (d : Fin 128) :
    oo (pr (ex (sc X))) l X (ix4 h b q d)
      = attO (score (slope h) (qR X h b 0 q) (kR X h b 0) q) (score (slope h) (qR X h b 1 q) (kR X h b 1) q) (fun k => vR X h b k d) L := by
  have hex : ∀ (w : Fin 2) (k : Fin 4096), ex (sc X) (ix5 h b w q k)
      = Ideal.exp (((score (slope h) (qR X h b w q) (kR X h b w) q k : ℝ) : EReal) - max ⊥ (Finset.fold max ⊥ (fun k => ((score (slope h) (qR X h b w q) (kR X h b w) q k : ℝ) : EReal)) Finset.univ)) := by
    intro w k
    rw [ex_at, mx_at, Cert.Att.ofBits_negInf]
    simp only [sc_real X hX]
  rw [oo_at, attO]
  refine Finset.sum_congr rfl fun x _ => ?_
  rw [pr_at, pr_at, hL, hX ⟨48 + h.val, _⟩ _ _ (by simp; omega) (by simp; omega)]
  simp only [hex]
  rfl
end Cert.ReferenceIdeal.Att
-- ==== Proof.Att.Final.lean ====
module
public import proofs.«01_k».proof.Proof.Att.RefReal
@[expose] public section
set_option maxRecDepth 16384
noncomputable section
open Idealize.ShloMosaic Idealize.ShloMosaic.TcCoe Idealize.SL.Sem
open Idealize.ShloMosaic.Pipeline (Dat)
namespace Cert.KernelIdeal.Att
open Cert.KernelIdeal Cert.KernelIdeal.Gen Facts
variable (m : (ℓ : Loc nD τ sig) → Buf (Elt Ideal) ℓ)

/-- A row of the output before the normalisation. -/
def row (X : Vec Ideal S84x32768x128 .bf16) (L : ℝ) (h b : Fin 8) (n : Fin 4096) (d : Fin 128) : EReal :=
  attO (score (slope h) (qR X h b 0 n) (kR X h b 0) n) (score (slope h) (qR X h b 1 n) (kR X h b 1) n) (fun k => vR X h b k d) L
/-- The normalised row. -/
def nrow (X : Vec Ideal S84x32768x128 .bf16) (L : ℝ) (g : Vec Ideal S1x128 .f32) (h b : Fin 8) (n : Fin 4096) (d : Fin 128) : EReal :=
  row X L h b n d * Ideal.rsqrt (Ideal.div (∑ x : Fin 128, row X L h b n x * row X L h b n x) (Ideal.ofBits .f32 0x43000000#32) + Ideal.ofBits .f32 0x3727C5AC#32)
    * g (ix2 0 d) * Ideal.ofBits .f32 0x3F4CCCCD#32

/-- The weight of the second map is the real `L`. -/
def IsLam (a1 a2 a3 a4 : Vec Ideal S1x64 .f32) (L : ℝ) : Prop :=
  Ideal.exp (∑ x : Fin 1, ∑ y : Fin 64, a1 (ix2 x y) * a2 (ix2 x y)) - Ideal.exp (∑ x : Fin 1, ∑ y : Fin 64, a3 (ix2 x y) * a4 (ix2 x y)) + Ideal.ofBits .f32 0x3E4CCCCD#32 = (L : EReal)

theorem low_rot (b : Nat) (hb : b ≤ 3584) (c : Fin 4096) : low ⟨b + c.val, by omega⟩ = rot b c := rfl

/-- What a point stores, whatever its scratch buffers are, when they hold the keys and values. -/
theorem out_core (c : Dev nD) (t : Fin cfg0.N) (hX : IsReal (m ((c : Thread nD τ).loc main_arg0))) (L : ℝ)
    (a1 a2 a3 a4 : Vec Ideal S1x64 .f32) (hL : IsLam a1 a2 a3 a4 L) (g : Vec Ideal S1x128 .f32) (X0 X1 : Vec Ideal S128x8192 .bf16) (X2 : Vec Ideal S8192x256 .bf16)
    (k0 : Key1 (slope (hd t)) (kR (m ((c : Thread nD τ).loc main_arg0)) (hd t) (rq t) 0) X0) (k1 : Key2 (slope (hd t)) (kR (m ((c : Thread nD τ).loc main_arg0)) (hd t) (rq t) 1) X1)
    (k2 : Val (vR (m ((c : Thread nD τ).loc main_arg0)) (hd t) (rq t)) X2) (i1 i2 i3) (r : Fin 512) (n : Fin 4096) (hn : n.val = t.val % 8 * 512 + r.val) (d : Fin 128) :
    k0_pay1 (F := Ideal)
      (k0_pay33 (k0_pay29 ((slope (hd t) : ℝ) : EReal) (k0_pay20 (iblk m c 6 t)) (k0_pay22 (grid0.coords t) ((slope (hd t) : ℝ) : EReal)) k0_pay24 k0_pay26 (k0_pay27 (grid0.coords t) ((slope (hd t) : ℝ) : EReal))
          (View.ld (Val := Elt Ideal) (S := S128x8192) (e' := .bf16) X0 (Rect.unit (k0_off2 (grid0.coords t)) ![128, 4096] i1)))
        (k0_pay31 ((slope (hd t) : ℝ) : EReal) (k0_pay20 (iblk m c 6 t)) (iota Kind.tc S512x128 32 [1] iota_S512x128_d1_w32) (k0_pay22 (grid0.coords t) ((slope (hd t) : ℝ) : EReal)) (k0_pay23 (grid0.coords t) ((slope (hd t) : ℝ) : EReal))
          (View.ld (Val := Elt Ideal) (S := S128x8192) (e' := .bf16) X1 (Rect.unit (k0_off2 (grid0.coords t)) ![128, 4096] i2)))
        (k0_pay32 (k0_pay20 (iblk m c 6 t)) (iota Kind.tc S512x128 32 [1] iota_S512x128_d1_w32) (k0_pay22 (grid0.coords t) ((slope (hd t) : ℝ) : EReal)) (k0_pay23 (grid0.coords t) ((slope (hd t) : ℝ) : EReal))
          (View.ld (Val := Elt Ideal) (S := S128x8192) (e' := .bf16) X1 (Rect.unit (k0_off2 (grid0.coords t)) ![128, 4096] i2)))
        (View.ld (Val := Elt Ideal) (S := S8192x256) (e' := .bf16) X2 (Rect.unit (k0_off3 (grid0.coords t)) ![4096, 256] i3)) a1 a2 a3 a4)
      (k0_pay34 (k0_pay29 ((slope (hd t) : ℝ) : EReal) (k0_pay20 (iblk m c 6 t)) (k0_pay22 (grid0.coords t) ((slope (hd t) : ℝ) : EReal)) k0_pay24 k0_pay26 (k0_pay27 (grid0.coords t) ((slope (hd t) : ℝ) : EReal))
          (View.ld (Val := Elt Ideal) (S := S128x8192) (e' := .bf16) X0 (Rect.unit (k0_off2 (grid0.coords t)) ![128, 4096] i1)))
        (k0_pay31 ((slope (hd t) : ℝ) : EReal) (k0_pay20 (iblk m c 6 t)) (iota Kind.tc S512x128 32 [1] iota_S512x128_d1_w32) (k0_pay22 (grid0.coords t) ((slope (hd t) : ℝ) : EReal)) (k0_pay23 (grid0.coords t) ((slope (hd t) : ℝ) : EReal))
          (View.ld (Val := Elt Ideal) (S := S128x8192) (e' := .bf16) X1 (Rect.unit (k0_off2 (grid0.coords t)) ![128, 4096] i2)))
        (k0_pay32 (k0_pay20 (iblk m c 6 t)) (iota Kind.tc S512x128 32 [1] iota_S512x128_d1_w32) (k0_pay22 (grid0.coords t) ((slope (hd t) : ℝ) : EReal)) (k0_pay23 (grid0.coords t) ((slope (hd t) : ℝ) : EReal))
          (View.ld (Val := Elt Ideal) (S := S128x8192) (e' := .bf16) X1 (Rect.unit (k0_off2 (grid0.coords t)) ![128, 4096] i2)))
        (View.ld (Val := Elt Ideal) (S := S8192x256) (e' := .bf16) X2 (Rect.unit (k0_off3 (grid0.coords t)) ![4096, 256] i3)) a1 a2 a3 a4)
      g (ix3 0 r d) = nrow (m ((c : Thread nD τ).loc main_arg0)) L g (hd t) (rq t) n d := by
  have hc := (coords1 t).2
  have hb : t.val % 8 * 512 ≤ 3584 := by omega
  have hi : (grid0.coords t 2).val * 512 = t.val % 8 * 512 := by rw [hc]
  have o : ∀ d : Fin 128, _ = row (m ((c : Thread nD τ).loc main_arg0)) L (hd t) (rq t) n d := fun d =>
    out_point (grid0.coords t) (slope (hd t)) (t.val % 8 * 512) hi hb r n hn
      (qR (m ((c : Thread nD τ).loc main_arg0)) (hd t) (rq t) 0 n) (qR (m ((c : Thread nD τ).loc main_arg0)) (hd t) (rq t) 1 n)
      (kR (m ((c : Thread nD τ).loc main_arg0)) (hd t) (rq t) 0) (kR (m ((c : Thread nD τ).loc main_arg0)) (hd t) (rq t) 1)
      (vR (m ((c : Thread nD τ).loc main_arg0)) (hd t) (rq t)) L (iblk m c 6 t)
      (fun d => blk6 m c t hX 0 r d _ (by simp) n hn) (fun d => blk6 m c t hX 1 r d _ (by simp) n hn)
      (View.ld (Val := Elt Ideal) (S := S128x8192) (e' := .bf16) X0 (Rect.unit (k0_off2 (grid0.coords t)) ![128, 4096] i1))
      (View.ld (Val := Elt Ideal) (S := S128x8192) (e' := .bf16) X1 (Rect.unit (k0_off2 (grid0.coords t)) ![128, 4096] i2))
      ⟨fun d c' => (ld2 X0 _ _ hi hb i1 _ c').trans (k0.data d _), fun c' => (ld2 X0 _ _ hi hb i1 _ c').trans (k0.f0 _), fun c' => (ld2 X0 _ _ hi hb i1 _ c').trans (k0.f1 _),
        fun c' => (ld2 X0 _ _ hi hb i1 _ c').trans (k0.f2 _), fun c' => (ld2 X0 _ _ hi hb i1 _ c').trans (k0.f3 _)⟩
      ⟨fun d c' => (ld2 X1 _ _ hi hb i2 _ c').trans (k1.data d _), fun c' => (ld2 X1 _ _ hi hb i2 _ c').trans (k1.f0 _), fun c' => (ld2 X1 _ _ hi hb i2 _ c').trans (k1.f1 _),
        fun c' => (ld2 X1 _ _ hi hb i2 _ c').trans (k1.f2 _), fun c' => (ld2 X1 _ _ hi hb i2 _ c').trans (k1.f3 _)⟩
      (View.ld (Val := Elt Ideal) (S := S8192x256) (e' := .bf16) X2 (Rect.unit (k0_off3 (grid0.coords t)) ![4096, 256] i3))
      (fun c' d => (ld3 X2 _ _ hi hb i3 c' _).trans (k2.data _ d)) (fun c' => (ld3 X2 _ _ hi hb i3 c' _).trans (k2.one _)) a1 a2 a3 a4 hL d
  rw [pay1_at, pay34_at]
  simp only [o]
  rfl

theorem outA (c : Dev nD) (t : Fin cfg0.N) (h0 : t.val % 8 = 0) (hX : IsReal (m ((c : Thread nD τ).loc main_arg0))) (L : ℝ) (hL : IsLam (iblk m c 1 t) (iblk m c 2 t) (iblk m c 3 t) (iblk m c 4 t) L)
    (r : Fin 512) (n : Fin 4096) (hn : n.val = t.val % 8 * 512 + r.val) (d : Fin 128) :
    Good m c (m ((c : Thread nD τ).loc main_arg0)) t.val t.isLt → (outsAt0 m c t.val t.isLt).1 (ix3 0 r d) = nrow (m ((c : Thread nD τ).loc main_arg0)) L (iblk m c 5 t) (hd t) (rq t) n d := by
  unfold Good
  rw [outsAt0_A m c t h0]
  frame_out
  simp only [slope_at m c t]
  intro g
  exact out_core m c t hX L _ _ _ _ hL _ _ _ _ g.1 g.2.1 g.2.2 _ _ _ r n hn d
theorem outB (c : Dev nD) (t : Fin cfg0.N) (h0 : ¬ t.val % 8 = 0) (hX : IsReal (m ((c : Thread nD τ).loc main_arg0))) (L : ℝ) (hL : IsLam (iblk m c 1 t) (iblk m c 2 t) (iblk m c 3 t) (iblk m c 4 t) L)
    (r : Fin 512) (n : Fin 4096) (hn : n.val = t.val % 8 * 512 + r.val) (d : Fin 128) :
    Good m c (m ((c : Thread nD τ).loc main_arg0)) t.val t.isLt → (outsAt0 m c t.val t.isLt).1 (ix3 0 r d) = nrow (m ((c : Thread nD τ).loc main_arg0)) L (iblk m c 5 t) (hd t) (rq t) n d := by
  unfold Good
  rw [outsAt0_B m c t h0]
  frame_out
  simp only [slope_at m c t]
  intro g
  refine out_core m c t hX L _ _ _ _ hL _ _ _ _ ?_ ?_ ?_ _ _ _ r n hn d
  · exact (congrArg (Key1 _ _) (Memref.IsWhole.read_unread (m := Memref.whole cc0_scratch0) (Memref.isWhole_whole _) _)).mpr g.1
  · exact (congrArg (Key2 _ _) (Memref.IsWhole.read_unread (m := Memref.whole cc0_scratch1) (Memref.isWhole_whole _) _)).mpr g.2.1
  · exact (congrArg (Val _) (Memref.IsWhole.read_unread (m := Memref.whole cc0_scratch2) (Memref.isWhole_whole _) _)).mpr g.2.2

theorem out_t (c : Dev nD) (t : Fin cfg0.N) (hX : IsReal (m ((c : Thread nD τ).loc main_arg0))) (L : ℝ)
    (hL : IsLam (m ((c : Thread nD τ).loc main_arg1)) (m ((c : Thread nD τ).loc main_arg2)) (m ((c : Thread nD τ).loc main_arg3)) (m ((c : Thread nD τ).loc main_arg4)) L)
    (r : Fin 512) (n : Fin 4096) (hn : n.val = t.val % 8 * 512 + r.val) (d : Fin 128) :
    (outsAt0 m c t.val t.isLt).1 (ix3 0 r d) = nrow (m ((c : Thread nD τ).loc main_arg0)) L (m ((c : Thread nD τ).loc main_arg5)) (hd t) (rq t) n d := by
  have b1 : iblk m c 1 t = m ((c : Thread nD τ).loc main_arg1) := by blk_ext! [iblk, V, idx t]
  have b2 : iblk m c 2 t = m ((c : Thread nD τ).loc main_arg2) := by blk_ext! [iblk, V, idx t]
  have b3 : iblk m c 3 t = m ((c : Thread nD τ).loc main_arg3) := by blk_ext! [iblk, V, idx t]
  have b4 : iblk m c 4 t = m ((c : Thread nD τ).loc main_arg4) := by blk_ext! [iblk, V, idx t]
  have b5 : iblk m c 5 t = m ((c : Thread nD τ).loc main_arg5) := by blk_ext! [iblk, V, idx t]
  have hL' : IsLam (iblk m c 1 t) (iblk m c 2 t) (iblk m c 3 t) (iblk m c 4 t) L := by
    rw [b1, b2, b3, b4]; exact hL
  rw [← b5]
  by_cases h0 : t.val % 8 = 0
  · exact outA m c t h0 hX L hL' r n hn d (good m c hX _ _)
  · exact outB m c t h0 hX L hL' r n hn d (good m c hX _ _)

/-- The reference's array at an index. -/
theorem ref_at (X : Vec Ideal S84x32768x128 .bf16) (hX : IsReal X) (a1 a2 a3 a4 : Vec Ideal S1x64 .f32) (L : ℝ) (hL : IsLam a1 a2 a3 a4 L) (g : Vec Ideal S1x128 .f32) (h : Fin 8) (w : Fin 32768) (d : Fin 128) :
    Cert.ReferenceIdeal.Att.yy (Cert.ReferenceIdeal.Att.oo (Cert.ReferenceIdeal.Att.pr (Cert.ReferenceIdeal.Att.ex (Cert.ReferenceIdeal.Att.sc X))) (Cert.ReferenceIdeal.Att.lam a1 a2 a3 a4) X) g (ix3 h w d)
      = nrow X L g h ⟨w.val / 4096, by omega⟩ ⟨w.val % 4096, by omega⟩ d := by
  rw [Cert.ReferenceIdeal.Att.yy_at]
  simp only [Cert.ReferenceIdeal.Att.oo_real X hX _ L ((Cert.ReferenceIdeal.Att.lam_at a1 a2 a3 a4 ix0).trans hL)]
  rfl

/-- The result array is the reference's. -/
theorem final (c : Dev nD) (hX : IsReal (m ((c : Thread nD τ).loc main_arg0))) (L : ℝ)
    (hL : IsLam (m ((c : Thread nD τ).loc main_arg1)) (m ((c : Thread nD τ).loc main_arg2)) (m ((c : Thread nD τ).loc main_arg3)) (m ((c : Thread nD τ).loc main_arg4)) L) :
    (dats m 0 c).arrAt 9 cfg0.N
      = Cert.ReferenceIdeal.Att.yy (Cert.ReferenceIdeal.Att.oo (Cert.ReferenceIdeal.Att.pr (Cert.ReferenceIdeal.Att.ex (Cert.ReferenceIdeal.Att.sc (m ((c : Thread nD τ).loc main_arg0)))))
          (Cert.ReferenceIdeal.Att.lam (m ((c : Thread nD τ).loc main_arg1)) (m ((c : Thread nD τ).loc main_arg2)) (m ((c : Thread nD τ).loc main_arg3)) (m ((c : Thread nD τ).loc main_arg4)))
          (m ((c : Thread nD τ).loc main_arg0))) (m ((c : Thread nD τ).loc main_arg5)) := by
  refine Dat.arrAt_eq_of_covers (dats m 0 c) 9 _ (by decide +kernel) fun t _ y => ?_
  blk_simp
  rw [after0_9]
  have h512 := lt512 t
  idx_vars y
  have e0 : y0 = 0 := Subsingleton.elim _ _
  subst e0
  refine (out_t m c t hX L hL y1 ⟨t.val % 8 * 512 + y1.val, by omega⟩ rfl y2).trans ?_
  refine Eq.trans ?_ ((ref_at _ hX _ _ _ _ L hL (m ((c : Thread nD τ).loc main_arg5)) (hd t) ⟨(rq t).val * 4096 + (t.val % 8 * 512 + y1.val), by have := (rq t).isLt; omega⟩ y2).symm.trans ?_)
  · have e1 : (⟨((rq t).val * 4096 + (t.val % 8 * 512 + y1.val)) / 4096, by have := (rq t).isLt; omega⟩ : Fin 8) = rq t := Fin.ext (by show ((rq t).val * 4096 + (t.val % 8 * 512 + y1.val)) / 4096 = (rq t).val; omega)
    have e2 : (⟨((rq t).val * 4096 + (t.val % 8 * 512 + y1.val)) % 4096, by omega⟩ : Fin 4096) = ⟨t.val % 8 * 512 + y1.val, by omega⟩ := Fin.ext (by show ((rq t).val * 4096 + (t.val % 8 * 512 + y1.val)) % 4096 = t.val % 8 * 512 + y1.val; omega)
    exact (congrArg₂ (fun b n => nrow _ L _ (hd t) b n y2) e1 e2).symm
  · have e1 : (hd t).val = t.val / 8 % 8 := rfl
    have e2 : (rq t).val = t.val / 64 := rfl
    blk_ext [idx t]
end Cert.KernelIdeal.Att
-- ==== Proof.Att.Finite.lean ====
module
public import proofs.«01_k».proof.Pre_finite
public import proofs.«01_k».proof.Proof.Att.Final
public import Idealize.ShloMosaic.Lib.ReduceAll
@[expose] public section
noncomputable section
open Idealize.ShloMosaic
/-! What the precondition says: the queries, keys and values and the four lambda vectors are real numbers. -/
namespace Cert.Finite

open Cert.Pre_finite in
theorem facts : Cert.Pre_finite.Facts where
  slices_S84x32768x128_S24x32768x128_32_0_0 := by decide
  bitsLt_bf16_f32 := by decide
  bcast_S_S24x32768x128 := by decide
  reducesTo_S24x32768x128_S_d0_1_2 := by decide
  h_S_ := by decide
  bcast_S_S1x64 := by decide
  reducesTo_S1x64_S_d0_1 := by decide

/-- An absolute value below plus infinity is that of a real. -/
theorem real_of_lt (x : EReal) (h : Ideal.cmp .olt (max x (-x)) (Ideal.ofBits .f32 0x7F800000#32) = 1#1) : x = ((x.toReal : ℝ) : EReal) := by
  have ht : Ideal.ofBits .f32 0x7F800000#32 = (⊤ : EReal) := by simp [Ideal.ofBits, Ideal.ieee]
  rw [ht] at h
  have hl : max x (-x) < (⊤ : EReal) := by
    by_contra hn
    simp [Ideal.cmp, hn] at h
  have h1 := (max_lt_iff.1 hl).1
  have h2 := (max_lt_iff.1 hl).2
  refine (EReal.coe_toReal h1.ne ?_).symm
  rintro rfl
  simp at h2

/-- One "every entry is finite", read back. -/
theorem real_of_all {s t u : Shape} {axes : List (Fin s.rank)} [Subsingleton t.Idx] (x : FVec Ideal s .f32) (y : FVec Ideal s .f32) (hy : ∀ i, y i = Ideal.ofBits .f32 0x7F800000#32)
    (init : u.Idx → BitVec 1) (h : s.ReducesTo axes t) (hu : 0 < u.numel) (j : t.Idx)
    (e : Host.reduce IntOp.andi (cmpf .olt (Host.absf x) y) init h hu j = 1#1) (i : s.Idx) : x i = ((EReal.toReal (x i) : ℝ) : EReal) := by
  have := Host.reduce_andi_all _ init h hu j e i
  refine real_of_lt _ ?_
  rw [← hy i]
  exact this

instance : Subsingleton Cert.Pre_finite.S_.Idx := ⟨fun a b => funext fun k => k.elim0⟩

variable [Cert.Pre_finite.Facts]
open Cert.Pre_finite in
theorem split (X : FVec Ideal S84x32768x128 .bf16) (a1 a2 a3 a4 : FVec Ideal S1x64 .f32) (g : FVec Ideal S1x128 .f32) (h : fn (F := Ideal) X a1 a2 a3 a4 g = fun _ => 1#1) :
    Cert.KernelIdeal.Att.IsReal X ∧ (∀ i, a1 i = ((EReal.toReal (a1 i) : ℝ) : EReal)) ∧ (∀ i, a2 i = ((EReal.toReal (a2 i) : ℝ) : EReal)) ∧ (∀ i, a3 i = ((EReal.toReal (a3 i) : ℝ) : EReal))
      ∧ ∀ i, a4 i = ((EReal.toReal (a4 i) : ℝ) : EReal) := by
  have h0 := congrFun h ix0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  have q0 := real_of_all _ _ (fun _ => rfl) _ _ _ _ e0
  refine ⟨fun a r l h1 h2 => ?_, real_of_all _ _ (fun _ => rfl) _ _ _ _ e1, real_of_all _ _ (fun _ => rfl) _ _ _ _ e2, real_of_all _ _ (fun _ => rfl) _ _ _ _ e3, real_of_all _ _ (fun _ => rfl) _ _ _ _ e4⟩
  have := q0 (ix3 ⟨a.val - 32, by omega⟩ r l)
  have e : extractStridedSlice S24x32768x128 ![32, 0, 0] X Facts.slices_S84x32768x128_S24x32768x128_32_0_0 (ix3 ⟨a.val - 32, by omega⟩ r l) = X (ix3 a r l) := by
    refine congrArg X (funext fun k => ?_)
    refine Fin.ext ?_
    fin_cases k
    · show 32 + (a.val - 32) = a.val
      omega
    · show 0 + r.val = r.val
      omega
    · show 0 + l.val = l.val
      omega
  have e' : (extf (F := Ideal) .f32 (extractStridedSlice S24x32768x128 ![32, 0, 0] X Facts.slices_S84x32768x128_S24x32768x128_32_0_0) Facts.bitsLt_bf16_f32) (ix3 ⟨a.val - 32, by omega⟩ r l) = X (ix3 a r l) := e
  exact e'.symm.trans (this.trans (congrArg (fun z : EReal => ((EReal.toReal z : ℝ) : EReal)) e'))

open Cert.Att in
theorem lam_real (a1 a2 a3 a4 : FVec Ideal Cert.Pre_finite.S1x64 .f32) (h1 : ∀ i, a1 i = ((EReal.toReal (a1 i) : ℝ) : EReal)) (h2 : ∀ i, a2 i = ((EReal.toReal (a2 i) : ℝ) : EReal))
    (h3 : ∀ i, a3 i = ((EReal.toReal (a3 i) : ℝ) : EReal)) (h4 : ∀ i, a4 i = ((EReal.toReal (a4 i) : ℝ) : EReal)) : ∃ L : ℝ, Cert.KernelIdeal.Att.IsLam a1 a2 a3 a4 L := by
  obtain ⟨k, hk⟩ := ofBits_real 0x3E4CCCCD#32 (by decide)
  refine ⟨Real.exp (∑ x : Fin 1, ∑ y : Fin 64, (a1 (ix2 x y)).toReal * (a2 (ix2 x y)).toReal) - Real.exp (∑ x : Fin 1, ∑ y : Fin 64, (a3 (ix2 x y)).toReal * (a4 (ix2 x y)).toReal) + k, ?_⟩
  unfold Cert.KernelIdeal.Att.IsLam
  have s1 : (∑ x : Fin 1, ∑ y : Fin 64, a1 (ix2 x y) * a2 (ix2 x y)) = ((∑ x : Fin 1, ∑ y : Fin 64, (a1 (ix2 x y)).toReal * (a2 (ix2 x y)).toReal : ℝ) : EReal) := by
    rw [← coe_sum]
    refine Finset.sum_congr rfl fun x _ => ?_
    rw [← coe_sum]
    refine Finset.sum_congr rfl fun y _ => ?_
    rw [EReal.coe_mul, ← h1, ← h2]
  have s2 : (∑ x : Fin 1, ∑ y : Fin 64, a3 (ix2 x y) * a4 (ix2 x y)) = ((∑ x : Fin 1, ∑ y : Fin 64, (a3 (ix2 x y)).toReal * (a4 (ix2 x y)).toReal : ℝ) : EReal) := by
    rw [← coe_sum]
    refine Finset.sum_congr rfl fun x _ => ?_
    rw [← coe_sum]
    refine Finset.sum_congr rfl fun y _ => ?_
    rw [EReal.coe_mul, ← h3, ← h4]
  rw [s1, s2, hk, exp_coe, exp_coe, ← EReal.coe_sub, ← EReal.coe_add]
end Cert.Finite
-- ==== Proof.Inp.Math.lean ====
module
public import Idealize.ShloMosaic.Lib.Pointwise
@[expose] public section
set_option maxRecDepth 16384
noncomputable section
open Idealize.ShloMosaic Idealize.ShloMosaic.TcCoe Idealize.SL.Sem
namespace Cert.Inp

/-- A row of the input, normalised by its root mean square and scaled by the gains. -/
def nrm (X : Fin 2048 → EReal) (G : Fin 2048 → EReal) (k : Fin 2048) : EReal :=
  X k * Ideal.rsqrt (Ideal.div (∑ x : Fin 2048, X x * X x) (Ideal.ofBits .f32 0x45000000#32) + Ideal.ofBits .f32 0x358637BD#32) * G k

/-- Column `j` of the weights in the order of the slabs: the gates first, then the heads, then the three low-rank
    inputs, the first two of them padded by 32 zero columns. -/
def slab (W : Fin 10688 → EReal) (j : Nat) : EReal :=
  if h : j < 4096 then W ⟨6592 + j, by omega⟩
  else if h : j < 10336 then W ⟨j - 4096, by omega⟩
  else if j < 10368 then 0
  else if h : j < 10464 then W ⟨j - 4128, by omega⟩
  else if j < 10496 then 0
  else if h : j < 10752 then W ⟨j - 4160, by omega⟩
  else 0

theorem slab_mem (W : Fin 10688 → EReal) (j : Nat) (n : Fin 10688)
    (h : (j < 4096 ∧ n.val = 6592 + j) ∨ (4096 ≤ j ∧ j < 10336 ∧ n.val + 4096 = j) ∨ (10368 ≤ j ∧ j < 10464 ∧ n.val + 4128 = j) ∨ (10496 ≤ j ∧ j < 10752 ∧ n.val + 4160 = j)) :
    W n = slab W j := by
  unfold slab
  split_ifs <;> first | (exfalso; omega) | exact congrArg W (Fin.ext (by dsimp only; omega))
theorem slab_zero (W : Fin 10688 → EReal) (j : Nat) (h : (10336 ≤ j ∧ j < 10368) ∨ (10464 ≤ j ∧ j < 10496)) : 0 = slab W j := by
  unfold slab
  split_ifs <;> first | (exfalso; omega) | rfl
theorem slab_sum (f : Fin 2048 → EReal) (W : Fin 2048 → Fin 10688 → EReal) (j : Nat) : slab (fun n => ∑ k, f k * W k n) j = ∑ k, f k * slab (W k) j := by
  unfold slab
  split_ifs <;> first | rfl | (simp only [mul_zero, Finset.sum_const_zero])

/-- The column of a slab, found through the pieces of the reference's concatenation. -/
theorem pieces8 (W : Fin 10688 → EReal) (j : Nat) (hj : j < 10752) :
    (if h : j < 4096 then W ⟨6592 + j, by omega⟩ else
      if h : j - 4096 < 3072 then W ⟨j - 4096, by omega⟩ else
        if h : j - 4096 - 3072 < 3072 then W ⟨3072 + (j - 4096 - 3072), by omega⟩ else
          if h : j - 4096 - 3072 - 3072 < 96 then W ⟨6144 + (j - 4096 - 3072 - 3072), by omega⟩ else
            if h : j - 4096 - 3072 - 3072 - 96 < 32 then 0 else
              if h : j - 4096 - 3072 - 3072 - 96 - 32 < 96 then W ⟨6240 + (j - 4096 - 3072 - 3072 - 96 - 32), by omega⟩ else
                if h : j - 4096 - 3072 - 3072 - 96 - 32 - 96 < 32 then 0 else
                  W ⟨6336 + (j - 4096 - 3072 - 3072 - 96 - 32 - 96 - 32), by omega⟩) = slab W j := by
  by_cases h1 : j < 4096
  · rw [dif_pos h1]; exact slab_mem W j _ (by dsimp only; omega)
  rw [dif_neg h1]
  by_cases h2 : j - 4096 < 3072
  · rw [dif_pos h2]; exact slab_mem W j _ (by dsimp only; omega)
  rw [dif_neg h2]
  by_cases h3 : j - 4096 - 3072 < 3072
  · rw [dif_pos h3]; exact slab_mem W j _ (by dsimp only; omega)
  rw [dif_neg h3]
  by_cases h4 : j - 4096 - 3072 - 3072 < 96
  · rw [dif_pos h4]; exact slab_mem W j _ (by dsimp only; omega)
  rw [dif_neg h4]
  by_cases h5 : j - 4096 - 3072 - 3072 - 96 < 32
  · rw [dif_pos h5]; exact slab_zero _ _ (by omega)
  rw [dif_neg h5]
  by_cases h6 : j - 4096 - 3072 - 3072 - 96 - 32 < 96
  · rw [dif_pos h6]; exact slab_mem W j _ (by dsimp only; omega)
  rw [dif_neg h6]
  by_cases h7 : j - 4096 - 3072 - 3072 - 96 - 32 - 96 < 32
  · rw [dif_pos h7]; exact slab_zero _ _ (by omega)
  rw [dif_neg h7]
  exact slab_mem W j _ (by dsimp only; omega)
/-- The same column, found through the padded pieces the host lays out. -/
theorem pieces6 (W : Fin 10688 → EReal) (z : EReal) (hz : z = 0) (j : Nat) (hj : j < 10752) :
    (if h : j < 4096 then W ⟨6592 + j, by omega⟩ else
      if h : j - 4096 < 3072 then W ⟨j - 4096, by omega⟩ else
        if h : j - 4096 - 3072 < 3072 then W ⟨3072 + (j - 4096 - 3072), by omega⟩ else
          if h : j - 4096 - 3072 - 3072 < 128 then
            if h_1 : j - 4096 - 3072 - 3072 < 96 then W ⟨3072 + (3072 + (j - 4096 - 3072 - 3072)), by omega⟩ else z else
            if h : j - 4096 - 3072 - 3072 - 128 < 128 then
              if h_1 : j - 4096 - 3072 - 3072 - 128 < 96 then W ⟨3072 + (3168 + (j - 4096 - 3072 - 3072 - 128)), by omega⟩ else z else
                  W ⟨3072 + (3264 + (j - 4096 - 3072 - 3072 - 128 - 128)), by omega⟩) = slab W j := by
  subst hz
  by_cases h1 : j < 4096
  · rw [dif_pos h1]; exact slab_mem W j _ (by dsimp only; omega)
  rw [dif_neg h1]
  by_cases h2 : j - 4096 < 3072
  · rw [dif_pos h2]; exact slab_mem W j _ (by dsimp only; omega)
  rw [dif_neg h2]
  by_cases h3 : j - 4096 - 3072 < 3072
  · rw [dif_pos h3]; exact slab_mem W j _ (by dsimp only; omega)
  rw [dif_neg h3]
  by_cases h4 : j - 4096 - 3072 - 3072 < 128
  · rw [dif_pos h4]
    by_cases h : j - 4096 - 3072 - 3072 < 96
    · rw [dif_pos h]; exact slab_mem W j _ (by dsimp only; omega)
    · rw [dif_neg h]; exact slab_zero _ _ (by omega)
  rw [dif_neg h4]
  by_cases h5 : j - 4096 - 3072 - 3072 - 128 < 128
  · rw [dif_pos h5]
    by_cases h : j - 4096 - 3072 - 3072 - 128 < 96
    · rw [dif_pos h]; exact slab_mem W j _ (by dsimp only; omega)
    · rw [dif_neg h]; exact slab_zero _ _ (by omega)
  rw [dif_neg h5]
  exact slab_mem W j _ (by dsimp only; omega)

/-- One entry of the projection. -/
def entry (X G : Fin 2048 → EReal) (W : Fin 2048 → Fin 10688 → EReal) (j : Nat) : EReal :=
  ∑ k : Fin 2048, nrm X G k * slab (W k) j

end Cert.Inp
-- ==== Proof.Inp.Pay.lean ====
module
public import proofs.«01_k».proof.Proof.Gen.InprojIdeal.Skeleton
public import Idealize.ShloMosaic.Lib.Pointwise
public import proofs.«01_k».proof.Proof.Inp.Math
@[expose] public section
set_option maxRecDepth 16384
noncomputable section
open Idealize.ShloMosaic Idealize.ShloMosaic.TcCoe Idealize.SL.Sem
namespace Cert.InprojIdeal.Inp
open Cert.InprojIdeal Cert.InprojIdeal.Gen Facts Cert.Inp

theorem pay2_at (X : Vec Ideal S1024x2048 .f32) (G : Vec Ideal S1x2048 .f32) (r : Fin 1024) (k : Fin 2048) :
    k0_pay2 (F := Ideal) X G (ix2 r k) = nrm (fun k => X (ix2 r k)) (fun k => G (ix2 0 k)) k := by
  pointwise [k0_pay2]
  rfl
/-- One entry of the product of a block of rows and a block of columns. -/
def mm (X : Vec Ideal S1024x2048 .bf16) (W : Vec Ideal S2048x1536 .bf16) (r : Fin 1024) (j : Fin 1536) : EReal := ∑ k : Fin 2048, X (ix2 r k) * W (ix2 k j)
theorem pay3_at (X : Vec Ideal S1024x2048 .bf16) (W : Vec Ideal S2048x1536 .bf16) (r : Fin 1024) (j : Fin 1536) :
    k0_pay3 (F := Ideal) X W (ix2 r j) = mm X W r j := by
  pointwise [k0_pay3]
  rfl
theorem pay4_at (X : Vec Ideal S1024x2048 .bf16) (W : Vec Ideal S2048x1536 .bf16) (r : Fin 1024) (l : Fin 128) :
    k0_pay4 (F := Ideal) X W (ix3 0 r l) = mm X W r ⟨l.val, by omega⟩ := by
  pointwise [k0_pay4]
  exact pay3_at _ _ _ _
theorem pay5_at (X : Vec Ideal S1024x2048 .bf16) (W : Vec Ideal S2048x1536 .bf16) (r : Fin 1024) (l : Fin 128) :
    k0_pay5 (F := Ideal) X W (ix3 0 r l) = mm X W r ⟨128 + l.val, by omega⟩ := by
  pointwise [k0_pay5]
  exact pay3_at _ _ _ _
theorem pay6_at (X : Vec Ideal S1024x2048 .bf16) (W : Vec Ideal S2048x1536 .bf16) (r : Fin 1024) (l : Fin 128) :
    k0_pay6 (F := Ideal) X W (ix3 0 r l) = mm X W r ⟨256 + l.val, by omega⟩ := by
  pointwise [k0_pay6]
  exact pay3_at _ _ _ _
theorem pay7_at (X : Vec Ideal S1024x2048 .bf16) (W : Vec Ideal S2048x1536 .bf16) (r : Fin 1024) (l : Fin 128) :
    k0_pay7 (F := Ideal) X W (ix3 0 r l) = mm X W r ⟨384 + l.val, by omega⟩ := by
  pointwise [k0_pay7]
  exact pay3_at _ _ _ _
theorem pay9_at (X : Vec Ideal S1024x2048 .bf16) (W : Vec Ideal S2048x1536 .bf16) (r : Fin 1024) (l : Fin 128) :
    k0_pay9 (F := Ideal) (k0_pay8 X W) (ix3 0 r l) = mm X W r ⟨512 + l.val, by omega⟩ := by
  pointwise [k0_pay9, k0_pay8]
  exact pay3_at _ _ _ _
theorem pay10_at (X : Vec Ideal S1024x2048 .bf16) (W : Vec Ideal S2048x1536 .bf16) (r : Fin 1024) (l : Fin 128) :
    k0_pay10 (F := Ideal) (k0_pay3 X W) (ix3 0 r l) = mm X W r ⟨640 + l.val, by omega⟩ := by
  pointwise [k0_pay10]
  exact pay3_at _ _ _ _
theorem pay11_at (X : Vec Ideal S1024x2048 .bf16) (W : Vec Ideal S2048x1536 .bf16) (r : Fin 1024) (l : Fin 128) :
    k0_pay11 (F := Ideal) (k0_pay3 X W) (ix3 0 r l) = mm X W r ⟨768 + l.val, by omega⟩ := by
  pointwise [k0_pay11]
  exact pay3_at _ _ _ _
theorem pay12_at (X : Vec Ideal S1024x2048 .bf16) (W : Vec Ideal S2048x1536 .bf16) (r : Fin 1024) (l : Fin 128) :
    k0_pay12 (F := Ideal) (k0_pay3 X W) (ix3 0 r l) = mm X W r ⟨896 + l.val, by omega⟩ := by
  pointwise [k0_pay12]
  exact pay3_at _ _ _ _
theorem pay13_at (X : Vec Ideal S1024x2048 .bf16) (W : Vec Ideal S2048x1536 .bf16) (r : Fin 1024) (l : Fin 128) :
    k0_pay13 (F := Ideal) (k0_pay3 X W) (ix3 0 r l) = mm X W r ⟨1024 + l.val, by omega⟩ := by
  pointwise [k0_pay13]
  exact pay3_at _ _ _ _
theorem pay14_at (X : Vec Ideal S1024x2048 .bf16) (W : Vec Ideal S2048x1536 .bf16) (r : Fin 1024) (l : Fin 128) :
    k0_pay14 (F := Ideal) (k0_pay3 X W) (ix3 0 r l) = mm X W r ⟨1152 + l.val, by omega⟩ := by
  pointwise [k0_pay14]
  exact pay3_at _ _ _ _
theorem pay15_at (X : Vec Ideal S1024x2048 .bf16) (W : Vec Ideal S2048x1536 .bf16) (r : Fin 1024) (l : Fin 128) :
    k0_pay15 (F := Ideal) (k0_pay3 X W) (ix3 0 r l) = mm X W r ⟨1280 + l.val, by omega⟩ := by
  pointwise [k0_pay15]
  exact pay3_at _ _ _ _
theorem pay16_at (X : Vec Ideal S1024x2048 .bf16) (W : Vec Ideal S2048x1536 .bf16) (r : Fin 1024) (l : Fin 128) :
    k0_pay1 (F := Ideal) (k0_pay16 (k0_pay3 X W)) (ix3 0 r l) = mm X W r ⟨1408 + l.val, by omega⟩ := by
  pointwise [k0_pay1, k0_pay16]
  exact pay3_at _ _ _ _
end Cert.InprojIdeal.Inp
-- ==== Proof.Inp.Host.lean ====
module
public import proofs.«01_k».proof.Proof.Gen.InprojIdeal.Value
public import proofs.«01_k».proof.Proof.Inp.Pay
public import Idealize.ShloMosaic.Lib.Pipeline.ValueKit
@[expose] public section
set_option maxRecDepth 16384
noncomputable section
open Idealize.ShloMosaic Idealize.ShloMosaic.TcCoe Idealize.SL.Sem
namespace Cert.InprojIdeal.Inp
open Cert.InprojIdeal Cert.InprojIdeal.Gen Facts Cert.Inp
variable (m : (ℓ : Loc nD τ sig) → Buf (Elt Ideal) ℓ)

/-- The weights as the host lays them out. -/
def hostW (W : Vec Ideal S1x2048x10688 .f32) : FVec Ideal S2048x10752 .bf16 :=
  let W0 : FVec Ideal S2048x10688 .f32 := shapeCast _ W shapeCasts_S1x2048x10688_S2048x10688
  let W2 : FVec Ideal S2048x3520 .f32 := extractStridedSlice S2048x3520 ![0, 3072] W0 slices_S2048x10688_S2048x3520_0_3072
  let z : FVec Ideal S_ .f32 := sitofp .f32 (constantI S_ 32 0#32)
  truncf .bf16 (concatenate S2048x10752 1
    [⟨S2048x4096, (extractStridedSlice S2048x4096 ![0, 6592] W0 slices_S2048x10688_S2048x4096_0_6592 : FVec Ideal S2048x4096 .f32)⟩,
     ⟨S2048x3072, (extractStridedSlice S2048x3072 ![0, 0] W0 slices_S2048x10688_S2048x3072_0_0 : FVec Ideal S2048x3072 .f32)⟩,
     ⟨S2048x3072, (extractStridedSlice S2048x3072 ![0, 0] W2 slices_S2048x3520_S2048x3072_0_0 : FVec Ideal S2048x3072 .f32)⟩,
     ⟨S2048x128, (pad S2048x128 ![0, 0] ![0, 32] ![0, 0] (extractStridedSlice S2048x96 ![0, 3072] W2 slices_S2048x3520_S2048x96_0_3072 : FVec Ideal S2048x96 .f32) z pads_S2048x96_S2048x128_000_0320 h_S_ : FVec Ideal S2048x128 .f32)⟩,
     ⟨S2048x128, (pad S2048x128 ![0, 0] ![0, 32] ![0, 0] (extractStridedSlice S2048x96 ![0, 3168] W2 slices_S2048x3520_S2048x96_0_3168 : FVec Ideal S2048x96 .f32) z pads_S2048x96_S2048x128_000_0320 h_S_ : FVec Ideal S2048x128 .f32)⟩,
     ⟨S2048x256, (extractStridedSlice S2048x256 ![0, 3264] W2 slices_S2048x3520_S2048x256_0_3264 : FVec Ideal S2048x256 .f32)⟩]
    concatenates_S2048x4096_S2048x3072_S2048x3072_S2048x128_S2048x128_S2048x256_S2048x10752_d1) bitsLt_bf16_f32
theorem host_weq (c : Dev nD) : V m c main_v11 = hostW (m ((c : Thread nD τ).loc main_arg2)) := by
  simp only [V, hostOps0, hostOps0_1, hostOps0_2, hostOps0_3, hostOps0_4, List.flatten_cons, List.flatten_nil, List.cons_append, List.nil_append, List.append_nil]
  after_results_simp <;> (try dsimp only [Matrix.cons_val]) <;> (try after_results_simp) <;> rfl
theorem hostW_at (W : Vec Ideal S1x2048x10688 .f32) (k : Fin 2048) (j : Fin 10752) :
    hostW W (ix2 k j) = slab (fun n => W (ix3 0 k n)) j.val := by
  pointwise [hostW]
  exact pieces6 (fun n => W (ix3 0 k n)) _ (by simp [FloatOps.sitofp]) j.val j.isLt
theorem host_x (c : Dev nD) (w : Fin 32768) (k : Fin 2048) :
    V m c main_v12 (ix2 w k) = m ((c : Thread nD τ).loc main_arg0) (ix3 ⟨w.val / 4096, by omega⟩ ⟨w.val % 4096, by omega⟩ k) := by
  simp only [V, hostOps0, hostOps0_1, hostOps0_2, hostOps0_3, hostOps0_4, List.flatten_cons, List.flatten_nil, List.cons_append, List.nil_append, List.append_nil]
  after_results_simp
  pointwise
end Cert.InprojIdeal.Inp
-- ==== Proof.Inp.Ref.lean ====
module
public import proofs.«01_k».proof.Proof.Gen.InprojRefIdeal.Run
public import proofs.«01_k».proof.Proof.Inp.Math
public import Idealize.ShloMosaic.Lib.Pointwise
@[expose] public section
set_option maxRecDepth 16384
noncomputable section
open Idealize.ShloMosaic Idealize.ShloMosaic.TcCoe Idealize.SL.Sem
namespace Cert.InprojRefIdeal.Inp
open Cert.InprojRefIdeal Cert.InprojRefIdeal.Gen Cert.InprojRefIdeal.Value Facts Cert.Inp
variable (m : (ℓ : Loc nD τ sig) → Buf (Elt Ideal) ℓ)

/-- The normalised rows. -/
def xn (X : FVec Ideal S8x4096x2048 .f32) (G : FVec Ideal S1x2048 .f32) : FVec Ideal S8x4096x2048 .f32 :=
  mulf (mulf X (broadcastInDim S8x4096x2048 ![0, 1, 2] bcast_S8x4096x1_S8x4096x2048_0_1_2 (Host.rsqrt (addf (Host.divf (broadcastInDim S8x4096x1 ![0, 1] bcast_S8x4096_S8x4096x1_0_1 (Host.reduceAdd (mulf X X) (constant S_ .f32 0x00000000#32) reducesTo_S8x4096x2048_S8x4096_d2 h_S_)) (broadcastInDim S8x4096x1 ![] bcast_S_S8x4096x1 (constant S_ .f32 0x45000000#32))) (broadcastInDim S8x4096x1 ![] bcast_S_S8x4096x1 (constant S_ .f32 0x358637BD#32)))))) (broadcastInDim S8x4096x2048 ![0, 1, 2] bcast_S1x1x2048_S8x4096x2048_0_1_2 (broadcastInDim S1x1x2048 ![2] bcast_S2048_S1x1x2048_2 (shapeCast _ G shapeCasts_S1x2048_S2048)))
/-- The projection. -/
def pj (X : FVec Ideal S8x4096x2048 .f32) (G : FVec Ideal S1x2048 .f32) (W : FVec Ideal S1x2048x10688 .f32) : FVec Ideal S8x4096x10688 .f32 :=
  Host.dotGeneral dot_S8x4096x2048_S2048x10688_S8x4096x10688_2_0_01_1_n_n none (xn X G) (shapeCast _ W shapeCasts_S1x2048x10688_S2048x10688)
/-- Its columns, laid out as slabs. -/
def out (P : FVec Ideal S8x4096x10688 .f32) : FVec Ideal S84x32768x128 .bf16 :=
  truncf .bf16 (transpose S84x32768x128 [1, 0, 2] (shapeCast _ ((concatenate S8x4096x10752 2 [⟨S8x4096x4096, ((extractStridedSlice S8x4096x4096 ![0, 0, 6592] P slices_S8x4096x10688_S8x4096x4096_0_0_6592) : (⟨S8x4096x4096, .f32⟩ : BufTy).Contents (Elt Ideal))⟩, ⟨S8x4096x3072, ((extractStridedSlice S8x4096x3072 ![0, 0, 0] P slices_S8x4096x10688_S8x4096x3072_0_0_0) : (⟨S8x4096x3072, .f32⟩ : BufTy).Contents (Elt Ideal))⟩, ⟨S8x4096x3072, ((extractStridedSlice S8x4096x3072 ![0, 0, 3072] P slices_S8x4096x10688_S8x4096x3072_0_0_3072) : (⟨S8x4096x3072, .f32⟩ : BufTy).Contents (Elt Ideal))⟩, ⟨S8x4096x96, ((extractStridedSlice S8x4096x96 ![0, 0, 6144] P slices_S8x4096x10688_S8x4096x96_0_0_6144) : (⟨S8x4096x96, .f32⟩ : BufTy).Contents (Elt Ideal))⟩, ⟨S8x4096x32, ((broadcastInDim S8x4096x32 ![] bcast_S_S8x4096x32 (constant (F := Ideal) S_ .f32 0x00000000#32)) : (⟨S8x4096x32, .f32⟩ : BufTy).Contents (Elt Ideal))⟩, ⟨S8x4096x96, ((extractStridedSlice S8x4096x96 ![0, 0, 6240] P slices_S8x4096x10688_S8x4096x96_0_0_6240) : (⟨S8x4096x96, .f32⟩ : BufTy).Contents (Elt Ideal))⟩, ⟨S8x4096x32, ((broadcastInDim S8x4096x32 ![] bcast_S_S8x4096x32 (constant (F := Ideal) S_ .f32 0x00000000#32)) : (⟨S8x4096x32, .f32⟩ : BufTy).Contents (Elt Ideal))⟩, ⟨S8x4096x256, ((extractStridedSlice S8x4096x256 ![0, 0, 6336] P slices_S8x4096x10688_S8x4096x256_0_0_6336) : (⟨S8x4096x256, .f32⟩ : BufTy).Contents (Elt Ideal))⟩] concatenates_S8x4096x4096_S8x4096x3072_S8x4096x3072_S8x4096x96_S8x4096x32_S8x4096x96_S8x4096x32_S8x4096x256_S8x4096x10752_d2 : (⟨S8x4096x10752, .f32⟩ : BufTy).Contents (Elt Ideal))) shapeCasts_S8x4096x10752_S32768x84x128) transposes_S32768x84x128_S84x32768x128_1_0_2) bitsLt_bf16_f32
theorem res_eq (c : Dev nD) : res_main_v26 m c = out (pj (m ((c.tc : Thread nD τ).loc main_arg0)) (m ((c.tc : Thread nD τ).loc main_arg1)) (m ((c.tc : Thread nD τ).loc main_arg2))) := rfl

theorem xn_at (X : FVec Ideal S8x4096x2048 .f32) (G : FVec Ideal S1x2048 .f32) (b : Fin 8) (n : Fin 4096) (k : Fin 2048) :
    xn X G (ix3 b n k) = nrm (fun k => X (ix3 b n k)) (fun k => G (ix2 0 k)) k := by
  pointwise [xn]
  rfl
theorem pj_at (X : FVec Ideal S8x4096x2048 .f32) (G : FVec Ideal S1x2048 .f32) (W : FVec Ideal S1x2048x10688 .f32) (b : Fin 8) (n : Fin 4096) (j : Fin 10688) :
    pj X G W (ix3 b n j) = ∑ k : Fin 2048, nrm (fun k => X (ix3 b n k)) (fun k => G (ix2 0 k)) k * W (ix3 0 k j) := by
  pointwise [pj]
  simp only [xn_at]
theorem out_at (P : FVec Ideal S8x4096x10688 .f32) (s : Fin 84) (w : Fin 32768) (l : Fin 128) :
    out P (ix3 s w l) = slab (fun j => P (ix3 ⟨w.val / 4096, by omega⟩ ⟨w.val % 4096, by omega⟩ j)) (s.val * 128 + l.val) := by
  pointwise [out]
  exact pieces8 (fun j => P (ix3 ⟨w.val / 4096, by omega⟩ ⟨w.val % 4096, by omega⟩ j)) (s.val * 128 + l.val) (by omega)
/-- The reference's array at an index. -/
theorem ref_at (X : FVec Ideal S8x4096x2048 .f32) (G : FVec Ideal S1x2048 .f32) (W : FVec Ideal S1x2048x10688 .f32) (s : Fin 84) (w : Fin 32768) (l : Fin 128) :
    out (pj X G W) (ix3 s w l) = entry (fun k => X (ix3 ⟨w.val / 4096, by omega⟩ ⟨w.val % 4096, by omega⟩ k)) (fun k => G (ix2 0 k)) (fun k j => W (ix3 0 k j)) (s.val * 128 + l.val) := by
  rw [out_at]
  simp only [pj_at]
  exact slab_sum _ _ _
end Cert.InprojRefIdeal.Inp
-- ==== Proof.Inp.Final.lean ====
module
public import proofs.«01_k».proof.Proof.Inp.Host
public import proofs.«01_k».proof.Proof.Inp.Ref
@[expose] public section
set_option maxRecDepth 16384
noncomputable section
open Idealize.ShloMosaic Idealize.ShloMosaic.TcCoe Idealize.SL.Sem
open Idealize.ShloMosaic.Pipeline (Dat)
namespace Cert.InprojIdeal.Inp
open Cert.InprojIdeal Cert.InprojIdeal.Gen Facts Cert.Inp
variable (m : (ℓ : Loc nD τ sig) → Buf (Elt Ideal) ℓ)

theorem N224 (t : Fin cfg0.N) : t.val < 224 := lt_of_lt_of_eq t.isLt N_0
theorem idx : ∀ t : Fin grid0.N,
    win0_0.index t = ![t.val / 7, 0] ∧ win0_1.index t = ![0, 0] ∧ win0_2.index t = ![0, t.val % 7] ∧ win0_3.index t = ![t.val % 7, t.val / 7, 0] := by decide +kernel

/-- The row of the input a point's block holds at `r`. -/
def xrow (c : Dev nD) (w : Fin 32768) (k : Fin 2048) : EReal := m ((c : Thread nD τ).loc main_arg0) (ix3 ⟨w.val / 4096, by omega⟩ ⟨w.val % 4096, by omega⟩ k)
def gain (c : Dev nD) (k : Fin 2048) : EReal := m ((c : Thread nD τ).loc main_arg1) (ix2 0 k)
def wcol (c : Dev nD) (k : Fin 2048) (j : Fin 10688) : EReal := m ((c : Thread nD τ).loc main_arg2) (ix3 0 k j)

theorem blk0 (c : Dev nD) (t : Fin cfg0.N) (r : Fin 1024) (k : Fin 2048) (w : Fin 32768) (hw : w.val = t.val / 7 * 1024 + r.val) :
    iblk m c 0 t (ix2 r k) = xrow m c w k := by
  have h := N224 t
  refine Eq.trans ?_ (host_x m c w k)
  blk_ext [iblk, idx t]
theorem blk1 (c : Dev nD) (t : Fin cfg0.N) (k : Fin 2048) : iblk m c 1 t (ix2 0 k) = gain m c k := by
  blk_ext [iblk, V, idx t]
theorem blk2 (c : Dev nD) (t : Fin cfg0.N) (k : Fin 2048) (j : Fin 1536) : iblk m c 2 t (ix2 k j) = slab (wcol m c k) (t.val % 7 * 1536 + j.val) := by
  have h := N224 t
  refine Eq.trans ?_ ((congrFun (host_weq m c) (ix2 k ⟨t.val % 7 * 1536 + j.val, by omega⟩)).trans (hostW_at _ k _))
  blk_ext [iblk, idx t]

/-- What the scratch holds after any point: the normalised rows of the block. -/
def Good (c : Dev nD) (n : Nat) (h : n < cfg0.N) : Prop :=
  ∀ (r : Fin 1024) (k : Fin 2048) (w : Fin 32768), w.val = n / 7 * 1024 + r.val → (outsAt0 m c n h).2 (ix2 r k) = nrm (xrow m c w) (gain m c) k

theorem goodA (c : Dev nD) (t : Fin cfg0.N) (h0 : t.val % 7 = 0) : Good m c t.val t.isLt := by
  intro r k w hw
  rw [outsAt0_A m c t h0]
  frame_out
  rw [pay2_at]
  exact congrArg₂ (fun a b => nrm a b k) (funext fun k => blk0 m c t r k w hw) (funext fun k => blk1 m c t k)

theorem good (c : Dev nD) : ∀ (n : Nat) (h : n < cfg0.N), Good m c n h := by
  intro n
  induction n with
  | zero => exact fun h => goodA m c ⟨0, h⟩ rfl
  | succ n ih =>
    intro h
    by_cases h0 : (n + 1) % 7 = 0
    · exact goodA m c ⟨n + 1, h⟩ h0
    · have g := ih (Nat.lt_of_succ_lt h)
      have e1 : (n + 1) / 7 = n / 7 := by omega
      unfold Good
      rw [e1, outsAt0_B m c ⟨n + 1, h⟩ h0]
      exact g

/-- A written slab read at an index. -/
theorem canon_slab (i : Nat) (inb : ∀ a, (![i, 0, 0] : Fin 3 → Nat) a + (![1, 1024, 128] : Fin 3 → Nat) a ≤ S12x1024x128.size a)
    (w : Vec Ideal S1x1024x128 .bf16) (L : List (View.Piece (Elt Ideal) S12x1024x128 .bf16)) (s : Fin 12) (r : Fin 1024) (l : Fin 128) :
    View.canon (Val := Elt Ideal) (s := S12x1024x128) (e := .bf16) (⟨Rect.unit (s := S12x1024x128) ![i, 0, 0] ![1, 1024, 128] inb, w⟩ :: L) (ix3 s r l)
      = if s.val = i then w (ix3 0 r l) else View.canon (Val := Elt Ideal) (s := S12x1024x128) (e := .bf16) L (ix3 s r l) := by
  by_cases h : s.val = i
  · rw [if_pos h]
    have e : (ix3 s r l : S12x1024x128.Idx) = (Rect.unit (s := S12x1024x128) ![i, 0, 0] ![1, 1024, 128] inb).emb (ix3 0 r l) := funext fun a => Fin.ext (by
      refine Eq.trans ?_ (Rect.idx_unit_val ![i, 0, 0] ![1, 1024, 128] inb (ix3 0 r l) a).symm
      fin_cases a
      · show s.val = i + 0; omega
      · show r.val = 0 + r.val; omega
      · show l.val = 0 + l.val; omega)
    rw [e, View.canon_cons_emb]
  · rw [if_neg h]
    exact View.canon_cons_of_not_mem _ _ fun hm => by
      have h2 := (Rect.mem_set_unit (inb := inb)).1 hm 0
      have h3 : i ≤ s.val ∧ s.val < i + 1 := h2
      omega

/-- A point's twelve slabs. -/
theorem out12 (X : Vec Ideal S1024x2048 .bf16) (W : Vec Ideal S2048x1536 .bf16) (s : Fin 12) (r : Fin 1024) (l : Fin 128) :
    View.canon (Val := Elt Ideal) (s := S12x1024x128) (e := .bf16) [⟨Rect.unit (s := S12x1024x128) ![11, 0, 0] ![1, 1024, 128] inb_S12x1024x128_S1x1024x128_11_0_0, k0_pay1 (k0_pay16 (k0_pay3 X W))⟩,
      ⟨Rect.unit (s := S12x1024x128) ![10, 0, 0] ![1, 1024, 128] inb_S12x1024x128_S1x1024x128_10_0_0, k0_pay15 (k0_pay3 X W)⟩,
      ⟨Rect.unit (s := S12x1024x128) ![9, 0, 0] ![1, 1024, 128] inb_S12x1024x128_S1x1024x128_9_0_0, k0_pay14 (k0_pay3 X W)⟩,
      ⟨Rect.unit (s := S12x1024x128) ![8, 0, 0] ![1, 1024, 128] inb_S12x1024x128_S1x1024x128_8_0_0, k0_pay13 (k0_pay3 X W)⟩,
      ⟨Rect.unit (s := S12x1024x128) ![7, 0, 0] ![1, 1024, 128] inb_S12x1024x128_S1x1024x128_7_0_0, k0_pay12 (k0_pay3 X W)⟩,
      ⟨Rect.unit (s := S12x1024x128) ![6, 0, 0] ![1, 1024, 128] inb_S12x1024x128_S1x1024x128_6_0_0, k0_pay11 (k0_pay3 X W)⟩,
      ⟨Rect.unit (s := S12x1024x128) ![5, 0, 0] ![1, 1024, 128] inb_S12x1024x128_S1x1024x128_5_0_0, k0_pay10 (k0_pay3 X W)⟩,
      ⟨Rect.unit (s := S12x1024x128) ![4, 0, 0] ![1, 1024, 128] inb_S12x1024x128_S1x1024x128_4_0_0, k0_pay9 (k0_pay8 X W)⟩,
      ⟨Rect.unit (s := S12x1024x128) ![3, 0, 0] ![1, 1024, 128] inb_S12x1024x128_S1x1024x128_3_0_0, k0_pay7 X W⟩,
      ⟨Rect.unit (s := S12x1024x128) ![2, 0, 0] ![1, 1024, 128] inb_S12x1024x128_S1x1024x128_2_0_0, k0_pay6 X W⟩,
      ⟨Rect.unit (s := S12x1024x128) ![1, 0, 0] ![1, 1024, 128] inb_S12x1024x128_S1x1024x128_1_0_0, k0_pay5 X W⟩,
      ⟨Rect.unit (s := S12x1024x128) ![0, 0, 0] ![1, 1024, 128] inb_S12x1024x128_S1x1024x128_0_0_0, k0_pay4 X W⟩] (ix3 s r l)
      = mm X W r ⟨s.val * 128 + l.val, by omega⟩ := by
  have hs := s.isLt
  simp only [canon_slab, pay4_at, pay5_at, pay6_at, pay7_at, pay9_at, pay10_at, pay11_at, pay12_at, pay13_at, pay14_at, pay15_at, pay16_at]
  by_cases h11 : s.val = 11
  · rw [if_pos h11]; exact congrArg (mm X W r) (Fin.ext (by dsimp only; omega))
  rw [if_neg h11]
  by_cases h10 : s.val = 10
  · rw [if_pos h10]; exact congrArg (mm X W r) (Fin.ext (by dsimp only; omega))
  rw [if_neg h10]
  by_cases h9 : s.val = 9
  · rw [if_pos h9]; exact congrArg (mm X W r) (Fin.ext (by dsimp only; omega))
  rw [if_neg h9]
  by_cases h8 : s.val = 8
  · rw [if_pos h8]; exact congrArg (mm X W r) (Fin.ext (by dsimp only; omega))
  rw [if_neg h8]
  by_cases h7 : s.val = 7
  · rw [if_pos h7]; exact congrArg (mm X W r) (Fin.ext (by dsimp only; omega))
  rw [if_neg h7]
  by_cases h6 : s.val = 6
  · rw [if_pos h6]; exact congrArg (mm X W r) (Fin.ext (by dsimp only; omega))
  rw [if_neg h6]
  by_cases h5 : s.val = 5
  · rw [if_pos h5]; exact congrArg (mm X W r) (Fin.ext (by dsimp only; omega))
  rw [if_neg h5]
  by_cases h4 : s.val = 4
  · rw [if_pos h4]; exact congrArg (mm X W r) (Fin.ext (by dsimp only; omega))
  rw [if_neg h4]
  by_cases h3 : s.val = 3
  · rw [if_pos h3]; exact congrArg (mm X W r) (Fin.ext (by dsimp only; omega))
  rw [if_neg h3]
  by_cases h2 : s.val = 2
  · rw [if_pos h2]; exact congrArg (mm X W r) (Fin.ext (by dsimp only; omega))
  rw [if_neg h2]
  by_cases h1 : s.val = 1
  · rw [if_pos h1]; exact congrArg (mm X W r) (Fin.ext (by dsimp only; omega))
  rw [if_neg h1]
  by_cases h0 : s.val = 0
  · rw [if_pos h0]; exact congrArg (mm X W r) (Fin.ext (by dsimp only; omega))
  rw [if_neg h0]
  exfalso; omega
theorem outA (c : Dev nD) (t : Fin cfg0.N) (h0 : t.val % 7 = 0) (s : Fin 12) (r : Fin 1024) (l : Fin 128) :
    (outsAt0 m c t.val t.isLt).1 (ix3 s r l) = mm (outsAt0 m c t.val t.isLt).2 (iblk m c 2 t) r ⟨s.val * 128 + l.val, by omega⟩ := by
  rw [outsAt0_A m c t h0]
  frame_out
  exact out12 _ _ s r l
theorem outB (c : Dev nD) (t : Fin cfg0.N) (h0 : ¬ t.val % 7 = 0) (s : Fin 12) (r : Fin 1024) (l : Fin 128) :
    (outsAt0 m c t.val t.isLt).1 (ix3 s r l) = mm (outsAt0 m c t.val t.isLt).2 (iblk m c 2 t) r ⟨s.val * 128 + l.val, by omega⟩ := by
  rw [outsAt0_B m c t h0]
  frame_out
  refine (out12 _ _ s r l).trans ?_
  exact congrArg (fun X => mm X (iblk m c 2 t) r ⟨s.val * 128 + l.val, by omega⟩) (Memref.IsWhole.read_unread (m := Memref.whole cc0_scratch0) (Memref.isWhole_whole _) _)

theorem out_t (c : Dev nD) (t : Fin cfg0.N) (s : Fin 12) (r : Fin 1024) (l : Fin 128) (w : Fin 32768) (hw : w.val = t.val / 7 * 1024 + r.val) :
    (outsAt0 m c t.val t.isLt).1 (ix3 s r l) = entry (xrow m c w) (gain m c) (wcol m c) ((t.val % 7 * 12 + s.val) * 128 + l.val) := by
  have e : (outsAt0 m c t.val t.isLt).1 (ix3 s r l) = mm (outsAt0 m c t.val t.isLt).2 (iblk m c 2 t) r ⟨s.val * 128 + l.val, by omega⟩ := by
    by_cases h0 : t.val % 7 = 0
    · exact outA m c t h0 s r l
    · exact outB m c t h0 s r l
  rw [e]
  unfold mm entry
  refine Finset.sum_congr rfl fun k _ => ?_
  rw [good m c t.val t.isLt r k w hw, blk2]
  exact congrArg (fun j => nrm (xrow m c w) (gain m c) k * slab (wcol m c k) j) (by dsimp only; omega)

/-- The result array is the reference's. -/
theorem final (c : Dev nD) :
    (dats m 0 c).arrAt 3 cfg0.N
      = Cert.InprojRefIdeal.Inp.out (Cert.InprojRefIdeal.Inp.pj (m ((c : Thread nD τ).loc main_arg0)) (m ((c : Thread nD τ).loc main_arg1)) (m ((c : Thread nD τ).loc main_arg2))) := by
  refine Dat.arrAt_eq_of_covers (dats m 0 c) 3 _ (by decide +kernel) fun t _ y => ?_
  blk_simp
  rw [after0_3]
  have hN := N224 t
  idx_vars y
  refine (out_t m c t y0 y1 y2 ⟨t.val / 7 * 1024 + y1.val, by omega⟩ rfl).trans ?_
  refine (Cert.InprojRefIdeal.Inp.ref_at (m ((c : Thread nD τ).loc main_arg0)) (m ((c : Thread nD τ).loc main_arg1)) (m ((c : Thread nD τ).loc main_arg2)) ⟨t.val % 7 * 12 + y0.val, by omega⟩ ⟨t.val / 7 * 1024 + y1.val, by omega⟩ y2).symm.trans ?_
  blk_ext [idx t]
end Cert.InprojIdeal.Inp
-- ==== Proof.Rtr.Math.lean ====
module
public import Idealize.ShloMosaic.Lib.Pointwise
public import proofs.«01_k».proof.Proof.Att.Math
public import proofs.«01_k».proof.Proof.Inp.Math
@[expose] public section
set_option maxRecDepth 16384
noncomputable section
open Idealize.ShloMosaic Idealize.ShloMosaic.TcCoe Idealize.SL.Sem
namespace Cert.Rtr
open Cert.Inp (nrm)

/-- A token's score for an expert. -/
def logit (X G : Fin 2048 → EReal) (W : Fin 2048 → Fin 16 → EReal) (e : Fin 16) : EReal := ∑ k, nrm X G k * W k e
/-- The softmax of a row of scores. -/
def soft (L : Fin 16 → EReal) (e : Fin 16) : EReal :=
  Ideal.div (Ideal.exp (L e - Finset.fold max ⊥ L Finset.univ)) (∑ j, Ideal.exp (L j - Finset.fold max ⊥ L Finset.univ))
/-- The maximum with the bottom element first changes nothing. -/
theorem soft_of (L : Fin 16 → EReal) (e : Fin 16) :
    Ideal.div (Ideal.exp (L e - max ⊥ (Finset.fold max ⊥ L Finset.univ))) (∑ j, Ideal.exp (L j - max ⊥ (Finset.fold max ⊥ L Finset.univ))) = soft L e := by
  rw [max_eq_right bot_le]
  rfl

/-- A square is not negative. -/
theorem sq_nonneg' (x : EReal) : 0 ≤ x * x := by
  rcases le_total 0 x with h | h
  · exact mul_nonneg h h
  · have h2 : 0 ≤ -x := by simpa using EReal.neg_le_neg_iff.2 h
    have := mul_nonneg h2 h2
    rwa [neg_mul_neg] at this
/-- The normalised row is real for real gains: a row with an infinite entry is normalised to zeros. -/
theorem nrm_real (X G : Fin 2048 → EReal) (hG : ∀ k, ∃ v : ℝ, G k = (v : EReal)) (k : Fin 2048) : ∃ v : ℝ, nrm X G k = (v : EReal) := by
  obtain ⟨g, hg⟩ := hG k
  have eps : ∃ e : ℝ, 0 < e ∧ Ideal.ofBits .f32 0x358637BD#32 = (e : EReal) := by
    refine ⟨_, ?_, by simp [Ideal.ofBits, Ideal.ieee, -EReal.coe_mul]; rfl⟩
    norm_num
  have two : Ideal.ofBits .f32 0x45000000#32 = ((2048 : ℝ) : EReal) := by
    simp [Ideal.ofBits, Ideal.ieee, -EReal.coe_mul]; norm_num
  obtain ⟨e, he, hE⟩ := eps
  unfold nrm
  rw [hE, two, hg]
  by_cases h : ∀ x, ∃ v : ℝ, X x = (v : EReal)
  · choose v hv using h
    have s : (∑ x, X x * X x) = ((∑ x, v x * v x : ℝ) : EReal) := by
      rw [← Cert.Att.coe_sum]
      exact Finset.sum_congr rfl fun x _ => by rw [hv, EReal.coe_mul]
    have p : 0 < (∑ x, v x * v x) / 2048 + e := by
      have : 0 ≤ ∑ x, v x * v x := Finset.sum_nonneg fun x _ => mul_self_nonneg _
      positivity
    rw [s, Cert.Att.div_coe_coe _ _ (by norm_num), ← EReal.coe_add, hv]
    refine ⟨v k * (Real.sqrt ((∑ x, v x * v x) / 2048 + e))⁻¹ * g, ?_⟩
    have r : Ideal.rsqrt ((((∑ x, v x * v x) / 2048 + e : ℝ)) : EReal) = (((Real.sqrt ((∑ x, v x * v x) / 2048 + e))⁻¹ : ℝ) : EReal) := by
      show (if (∑ x, v x * v x) / 2048 + e < 0 then (⊥ : EReal) else if (∑ x, v x * v x) / 2048 + e = 0 then ⊤ else _) = _
      rw [if_neg (not_lt.2 p.le), if_neg p.ne']
    rw [r, EReal.coe_mul, EReal.coe_mul]
  · push Not at h
    obtain ⟨x, hx⟩ := h
    have t : X x * X x = ⊤ := by
      generalize X x = y at hx
      induction y using EReal.rec with
      | bot => rfl
      | coe v => exact absurd rfl (hx v)
      | top => rfl
    have s : (∑ x, X x * X x) = ⊤ := by
      refine top_le_iff.1 (t.symm.le.trans ?_)
      exact Finset.single_le_sum (f := fun x => X x * X x) (fun i _ => sq_nonneg' _) (Finset.mem_univ x)
    have d : Ideal.div (⊤ : EReal) ((2048 : ℝ) : EReal) = ⊤ := by
      rw [Ideal.div_coe (by norm_num)]
      exact EReal.top_mul_coe_of_pos (by norm_num)
    rw [s, d]
    have r : Ideal.rsqrt ((⊤ : EReal) + (e : EReal)) = 0 := by
      rw [EReal.top_add_coe]; rfl
    rw [r, mul_zero, zero_mul]
    exact ⟨0, rfl⟩
/-- The score from the product of the parts: what is left of a real number after itself is zero. -/
theorem split_logit (n w : Fin 2048 → EReal) (hn : ∀ k, ∃ v : ℝ, n k = (v : EReal)) (hw : ∀ k, ∃ v : ℝ, w k = (v : EReal)) :
    (∑ k, n k * w k) + (∑ k, n k * (w k - w k)) + (∑ k, (n k - n k) * w k) = ∑ k, n k * w k := by
  have z : ∀ x : EReal, (∃ v : ℝ, x = (v : EReal)) → x - x = 0 := fun x ⟨v, hv⟩ => by rw [hv, ← EReal.coe_sub, sub_self, EReal.coe_zero]
  simp only [z _ (hn _), z _ (hw _), mul_zero, zero_mul, Finset.sum_const_zero, add_zero]
end Cert.Rtr
-- ==== Proof.Rtr.Pay.lean ====
module
public import proofs.«01_k».proof.Proof.Gen.RouterIdeal.Skeleton
public import Idealize.ShloMosaic.Lib.Pointwise
public import proofs.«01_k».proof.Proof.Rtr.Math
@[expose] public section
set_option maxRecDepth 16384
noncomputable section
open Idealize.ShloMosaic Idealize.ShloMosaic.TcCoe Idealize.SL.Sem
namespace Cert.RouterIdeal.Rtr
open Cert.RouterIdeal Cert.RouterIdeal.Gen Facts Cert.Rtr
open Cert.Inp (nrm)

theorem pay1_at (X : Vec Ideal S256x2048 .f32) (G : Vec Ideal S1x2048 .f32) (r : Fin 256) (k : Fin 2048) :
    k0_pay1 (F := Ideal) X G (ix2 r k) = nrm (fun k => X (ix2 r k)) (fun k => G (ix2 0 k)) k := by
  pointwise [k0_pay1]
  rfl
theorem pay2_at (X : Vec Ideal S256x2048 .f32) (G : Vec Ideal S1x2048 .f32) (W : Vec Ideal S2048x128 .f32) (w : Fin 2048 → Fin 16 → EReal)
    (hW : ∀ k e, W (ix2 k ⟨e.val, by omega⟩) = w k e)
    (hn : ∀ r k, ∃ v : ℝ, nrm (fun k => X (ix2 r k)) (fun k => G (ix2 0 k)) k = (v : EReal)) (hw : ∀ k e, ∃ v : ℝ, w k e = (v : EReal)) (e : Fin 16) (r : Fin 256) :
    k0_pay2 (F := Ideal) X G W (ix2 e r) = soft (logit (fun k => X (ix2 r k)) (fun k => G (ix2 0 k)) w) e := by
  pointwise [k0_pay2]
  simp only [pay1_at, hW]
  simp only [fun x => split_logit _ _ (hn r) fun k => hw k x, Cert.Att.ofBits_negInf]
  rfl
end Cert.RouterIdeal.Rtr
-- ==== Proof.Rtr.Ref.lean ====
module
public import proofs.«01_k».proof.Proof.Gen.RouterRefIdeal.Run
public import proofs.«01_k».proof.Proof.Rtr.Math
public import Idealize.ShloMosaic.Lib.Pointwise
@[expose] public section
set_option maxRecDepth 16384
noncomputable section
open Idealize.ShloMosaic Idealize.ShloMosaic.TcCoe Idealize.SL.Sem
namespace Cert.RouterRefIdeal.Rtr
open Cert.RouterRefIdeal Cert.RouterRefIdeal.Gen Cert.RouterRefIdeal.Value Facts Cert.Rtr
open Cert.Inp (nrm)
variable (m : (ℓ : Loc nD τ sig) → Buf (Elt Ideal) ℓ)

/-- The normalised rows. -/
def hn (X : FVec Ideal S32768x2048 .f32) (G : FVec Ideal S1x2048 .f32) : FVec Ideal S32768x2048 .f32 :=
  mulf (mulf X (broadcastInDim S32768x2048 ![0, 1] bcast_S32768x1_S32768x2048_0_1 (Host.rsqrt (addf (Host.divf (broadcastInDim S32768x1 ![0] bcast_S32768_S32768x1_0 (Host.reduceAdd (mulf X X) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 (shapeCast _ G shapeCasts_S1x2048_S2048)))
/-- The scores. -/
def lg (X : FVec Ideal S32768x2048 .f32) (G : FVec Ideal S1x2048 .f32) (W : FVec Ideal S1x2048x16 .f32) : FVec Ideal S32768x16 .f32 :=
  Host.dotGeneral dot_S32768x2048_S2048x16_S32768x16_1_0_0_1_n_n none (hn X G) (shapeCast _ W shapeCasts_S1x2048x16_S2048x16)
/-- The largest score of each row. -/
def mx (X : FVec Ideal S32768x2048 .f32) (G : FVec Ideal S1x2048 .f32) (W : FVec Ideal S1x2048x16 .f32) : FVec Ideal S32768 .f32 :=
  maximumf (broadcastInDim S32768 ![] bcast_S_S32768 (constant S_ .f32 0xFF800000#32)) (Host.reduce FloatOps.maximumf (lg X G W) (constant S_ .f32 0xFF800000#32) reducesTo_S32768x16_S32768_d1 h_S_)
/-- The exponentials. -/
def ex (X : FVec Ideal S32768x2048 .f32) (G : FVec Ideal S1x2048 .f32) (W : FVec Ideal S1x2048x16 .f32) : FVec Ideal S32768x16 .f32 :=
  Host.exp (subf (lg X G W) (broadcastInDim S32768x16 ![0, 1] bcast_S32768x1_S32768x16_0_1 (broadcastInDim S32768x1 ![0] bcast_S32768_S32768x1_0 (mx X G W))))
/-- The affinities. -/
def out (X : FVec Ideal S32768x2048 .f32) (G : FVec Ideal S1x2048 .f32) (W : FVec Ideal S1x2048x16 .f32) : FVec Ideal S16x32768 .f32 :=
  transpose S16x32768 [1, 0] (Host.divf (ex X G W) (broadcastInDim S32768x16 ![0, 1] bcast_S32768x1_S32768x16_0_1 (broadcastInDim S32768x1 ![0] bcast_S32768_S32768x1_0 (Host.reduceAdd (ex X G W) (constant S_ .f32 0x00000000#32) reducesTo_S32768x16_S32768_d1 h_S_)))) transposes_S32768x16_S16x32768_1_0
theorem res_eq (c : Dev nD) : res_main_v27 m c = out (m ((c.tc : Thread nD τ).loc main_arg0)) (m ((c.tc : Thread nD τ).loc main_arg1)) (m ((c.tc : Thread nD τ).loc main_arg2)) := rfl

/-- The reference's run, its results by their names here. -/
theorem run (g : Dev nD → PrngReg) :
    θ_run defs (onTc (τ := τ) (main (F := Ideal))) ⟨m, fun _ => 0, g⟩ fun r => ∀ c : Dev nD,
      r.2.mem ((c.tc : Thread nD τ).loc main_v13) = hn (m ((c.tc : Thread nD τ).loc main_arg0)) (m ((c.tc : Thread nD τ).loc main_arg1))
      ∧ r.2.mem ((c.tc : Thread nD τ).loc main_v27) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) :=
  (θ_run defs _ _).mono (fun r h c => ⟨(h c).1, (h c).2.1.trans (res_eq m c), (h c).2.2⟩) (Value.run m g)

variable (X : FVec Ideal S32768x2048 .f32) (G : FVec Ideal S1x2048 .f32) (W : FVec Ideal S1x2048x16 .f32)
theorem hn_at (w : Fin 32768) (k : Fin 2048) : hn X G (ix2 w k) = nrm (fun k => X (ix2 w k)) (fun k => G (ix2 0 k)) k := by
  pointwise [hn]
  rfl
theorem lg_at (w : Fin 32768) (e : Fin 16) : lg X G W (ix2 w e) = logit (fun k => X (ix2 w k)) (fun k => G (ix2 0 k)) (fun k e => W (ix3 0 k e)) e := by
  pointwise [lg]
  simp only [hn_at]
  rfl
theorem mx_at (w : Fin 32768) : mx X G W (ix1 w) = max ⊥ (Finset.fold max ⊥ (logit (fun k => X (ix2 w k)) (fun k => G (ix2 0 k)) (fun k e => W (ix3 0 k e))) Finset.univ) := by
  pointwise [mx]
  simp only [lg_at, Cert.Att.ofBits_negInf]
theorem ex_at (w : Fin 32768) (e : Fin 16) : ex X G W (ix2 w e)
    = Ideal.exp (logit (fun k => X (ix2 w k)) (fun k => G (ix2 0 k)) (fun k e => W (ix3 0 k e)) e
        - max ⊥ (Finset.fold max ⊥ (logit (fun k => X (ix2 w k)) (fun k => G (ix2 0 k)) (fun k e => W (ix3 0 k e))) Finset.univ)) := by
  pointwise [ex]
  simp only [lg_at, mx_at]
/-- The reference's affinities at an index. -/
theorem out_at (e : Fin 16) (w : Fin 32768) : out X G W (ix2 e w) = soft (logit (fun k => X (ix2 w k)) (fun k => G (ix2 0 k)) (fun k e => W (ix3 0 k e))) e := by
  pointwise [out]
  simp only [ex_at]
  exact soft_of _ _
end Cert.RouterRefIdeal.Rtr
-- ==== Proof.Rtr.Final.lean ====
module
public import proofs.«01_k».proof.Proof.Gen.RouterIdeal.Value
public import proofs.«01_k».proof.Proof.Rtr.Pay
public import proofs.«01_k».proof.Proof.Rtr.Ref
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.RouterIdeal.Rtr
open Cert.RouterIdeal Cert.RouterIdeal.Gen Facts Cert.Rtr
open Cert.Inp (nrm)
variable (m : (ℓ : Loc nD τ sig) → Buf (Elt Ideal) ℓ)

theorem N128 (t : Fin cfg0.N) : t.val < 128 := lt_of_lt_of_eq t.isLt N_0
theorem idx : ∀ t : Fin grid0.N,
    win0_0.index t = ![t.val, 0] ∧ win0_1.index t = ![0, 0] ∧ win0_2.index t = ![0, 0] ∧ win0_3.index t = ![t.val, 0] ∧ win0_4.index t = ![0, t.val] := by decide +kernel

/-- The rows the argument arrays hold. -/
def xrow (c : Dev nD) (w : Fin 32768) (k : Fin 2048) : EReal := m ((c : Thread nD τ).loc main_arg0) (ix2 w k)
def gain (c : Dev nD) (k : Fin 2048) : EReal := m ((c : Thread nD τ).loc main_arg1) (ix2 0 k)
def wts (c : Dev nD) (k : Fin 2048) (e : Fin 16) : EReal := m ((c : Thread nD τ).loc main_arg2) (ix3 0 k e)

/-- The weights as the host lays them out. -/
def hostW (W : FVec Ideal S1x2048x16 .f32) : FVec Ideal S2048x128 .f32 :=
  pad S2048x128 ![0, 0] ![0, 112] ![0, 0] (shapeCast S2048x16 W shapeCasts_S1x2048x16_S2048x16) (sitofp .f32 (constantI S_ 32 0#32) : FVec Ideal S_ .f32) pads_S2048x16_S2048x128_000_01120 h_S_
theorem hostW_at (W : FVec Ideal S1x2048x16 .f32) (k : Fin 2048) (e : Fin 16) : hostW W (ix2 k ⟨e.val, by omega⟩) = W (ix3 0 k e) := by
  pointwise [hostW]
theorem host_w (c : Dev nD) (k : Fin 2048) (e : Fin 16) : V m c main_v1 (ix2 k ⟨e.val, by omega⟩) = wts m c k e := by
  simp only [V, hostOps0, hostOps0_1, List.flatten_cons, List.flatten_nil, List.cons_append, List.nil_append, List.append_nil]
  after_results_simp
  exact hostW_at _ k e
section
variable (c : Dev nD) (t : Fin cfg0.N)
theorem blk0 (r : Fin 256) (k : Fin 2048) (w : Fin 32768) (hw : w.val = t.val * 256 + r.val) : iblk m c 0 t (ix2 r k) = xrow m c w k := by
  blk_ext [iblk, V, idx t]
theorem blk1 (k : Fin 2048) : iblk m c 1 t (ix2 0 k) = gain m c k := by
  blk_ext [iblk, V, idx t]
theorem blk2 (k : Fin 2048) (e : Fin 16) : iblk m c 2 t (ix2 k ⟨e.val, by omega⟩) = wts m c k e := by
  refine Eq.trans ?_ (host_w m c k e)
  blk_ext [iblk, idx t]
theorem out3 (r : Fin 256) (k : Fin 2048) (w : Fin 32768) (hw : w.val = t.val * 256 + r.val) :
    out0_3 (iblk m c 0 t) (iblk m c 1 t) (iblk m c 2 t) (ix2 r k) = nrm (xrow m c w) (gain m c) k := by
  unfold out0_3
  frame_out
  rw [pay1_at]
  exact congrArg₂ (fun a b => nrm a b k) (funext fun k => blk0 m c t r k w hw) (funext fun k => blk1 m c t k)
theorem out4 (hG : ∀ k, ∃ v : ℝ, gain m c k = (v : EReal)) (hW : ∀ k e, ∃ v : ℝ, wts m c k e = (v : EReal))
    (e : Fin 16) (r : Fin 256) (w : Fin 32768) (hw : w.val = t.val * 256 + r.val) :
    out0_4 (iblk m c 0 t) (iblk m c 1 t) (iblk m c 2 t) (ix2 e r) = soft (logit (xrow m c w) (gain m c) (wts m c)) e := by
  unfold out0_4
  frame_out
  refine (pay2_at _ _ _ (wts m c) (blk2 m c t) (fun r k => nrm_real _ _ (fun k => ?_) k) hW e r).trans ?_
  · obtain ⟨v, hv⟩ := hG k
    exact ⟨v, (blk1 m c t k).trans hv⟩
  · exact congrArg₂ (fun a b => soft (logit a b (wts m c)) e) (funext fun k => blk0 m c t r k w hw) (funext fun k => blk1 m c t k)
end

variable (c : Dev nD)
/-- The normalised rows are the reference's. -/
theorem final_hn : (dats m 0 c).arrAt 3 cfg0.N = Cert.RouterRefIdeal.Rtr.hn (m ((c : Thread nD τ).loc main_arg0)) (m ((c : Thread nD τ).loc main_arg1)) := by
  refine Dat.arrAt_eq_of_covers (dats m 0 c) 3 _ (by decide +kernel) fun t _ y => ?_
  blk_simp
  rw [after0_3]
  have hN := N128 t
  idx_vars y
  refine (out3 m c t y0 y1 ⟨t.val * 256 + y0.val, by omega⟩ rfl).trans ?_
  refine (Cert.RouterRefIdeal.Rtr.hn_at (m ((c : Thread nD τ).loc main_arg0)) (m ((c : Thread nD τ).loc main_arg1)) ⟨t.val * 256 + y0.val, by omega⟩ y1).symm.trans ?_
  blk_ext [idx t]
/-- The affinities are the reference's, for real gains and weights. -/
theorem final_aff (hG : ∀ k, ∃ v : ℝ, gain m c k = (v : EReal)) (hW : ∀ k e, ∃ v : ℝ, wts m c k e = (v : EReal)) :
    (dats m 0 c).arrAt 4 cfg0.N
      = Cert.RouterRefIdeal.Rtr.out (m ((c : Thread nD τ).loc main_arg0)) (m ((c : Thread nD τ).loc main_arg1)) (m ((c : Thread nD τ).loc main_arg2)) := by
  refine Dat.arrAt_eq_of_covers (dats m 0 c) 4 _ (by decide +kernel) fun t _ y => ?_
  blk_simp
  rw [after0_4]
  have hN := N128 t
  idx_vars y
  refine (out4 m c t hG hW y0 y1 ⟨t.val * 256 + y1.val, by omega⟩ rfl).trans ?_
  refine (Cert.RouterRefIdeal.Rtr.out_at (m ((c : Thread nD τ).loc main_arg0)) (m ((c : Thread nD τ).loc main_arg1)) (m ((c : Thread nD τ).loc main_arg2)) y0 ⟨t.val * 256 + y1.val, by omega⟩).symm.trans ?_
  generalize Cert.RouterRefIdeal.Rtr.out (m ((c : Thread nD τ).loc main_arg0)) (m ((c : Thread nD τ).loc main_arg1)) (m ((c : Thread nD τ).loc main_arg2)) = T
  blk_ext [idx t]
end Cert.RouterIdeal.Rtr
-- ==== Proof.Rtr.Finite.lean ====
module
public import proofs.«01_k».proof.Pre_router_finite
public import proofs.«01_k».proof.Proof.Rtr.Final
public import proofs.«01_k».proof.Proof.Att.Finite
public import Idealize.ShloMosaic.Lib.ReduceAll
@[expose] public section
noncomputable section
open Idealize.ShloMosaic
/-! What the precondition says: the gains and the router's weights are real numbers. -/
namespace Cert.RouterFinite

open Cert.Pre_router_finite in
theorem facts : Cert.Pre_router_finite.Facts where
  bcast_S_S1x2048 := by decide
  reducesTo_S1x2048_S_d0_1 := by decide
  h_S_ := by decide
  bcast_S_S1x2048x16 := by decide
  reducesTo_S1x2048x16_S_d0_1_2 := by decide

instance : Subsingleton Cert.Pre_router_finite.S_.Idx := ⟨fun a b => funext fun k => k.elim0⟩

variable [Cert.Pre_router_finite.Facts]
open Cert.Pre_router_finite in
theorem split (a0 : FVec Ideal S32768x2048 .f32) (a1 : FVec Ideal S1x2048 .f32) (a2 : FVec Ideal S1x2048x16 .f32)
    (h : fn (F := Ideal) a0 a1 a2 = fun _ => 1#1) : (∀ i, ∃ v : ℝ, a1 i = (v : EReal)) ∧ ∀ i, ∃ v : ℝ, a2 i = (v : EReal) := by
  have h0 := congrFun h ix0
  obtain ⟨e0, e1⟩ := IntOp.andi_eq_one.1 h0
  have q0 := Cert.Finite.real_of_all _ _ (fun _ => rfl) _ _ _ _ e0
  have q1 := Cert.Finite.real_of_all _ _ (fun _ => rfl) _ _ _ _ e1
  exact ⟨fun i => ⟨_, q0 i⟩, fun i => ⟨_, q1 i⟩⟩
end Cert.RouterFinite
-- ==== Proof.Mrg.Math.lean ====
module
public import Idealize.ShloMosaic.Lib.Pointwise
public import proofs.«01_k».proof.Proof.Att.Math
@[expose] public section
set_option maxRecDepth 16384
noncomputable section
open Idealize.ShloMosaic Idealize.ShloMosaic.TcCoe Idealize.SL.Sem
namespace Cert.Mrg
open Cert.Att

/-! The merge of the two branches, one row at a time. -/

/-- The mean of the 64 columns of the head that column `c` lies in. -/
def mu (y : Fin 1024 → EReal) (c : Fin 1024) : EReal := Ideal.div (∑ j : Fin 64, y ⟨c.val / 64 * 64 + j.val, by omega⟩) (Ideal.ofBits .f32 0x42800000#32)
/-- A column less its head's mean. -/
def cen (y : Fin 1024 → EReal) (c : Fin 1024) : EReal := y c - mu y c
/-- A column normalised over its head. -/
def nrm (y : Fin 1024 → EReal) (c : Fin 1024) : EReal :=
  cen y c * Ideal.rsqrt (mu (fun c => cen y c * cen y c) c + Ideal.ofBits .f32 0x3A27C5AC#32)
/-- The recurrent branch before its projection. -/
def rw (y G B g : Fin 1024 → EReal) (c : Fin 1024) : EReal := (nrm y c * G c + B c) * g c
def sig (x : EReal) : EReal := Ideal.div 1 (1 + Ideal.exp (-x))
/-- One entry of the merged row. -/
def merged (ga gb : Fin 2048 → EReal) (a o : Fin 1024 → EReal) (wa wo : Fin 1024 → Fin 2048 → EReal) (d : Fin 2048) : EReal :=
  sig (ga d) * (∑ k, a k * wa k d) + sig (gb d) * ∑ k, o k * wo k d

/-- The half of the lanes that lane `l` lies in, summed through a mask. -/
theorem mask (f : Fin 128 → EReal) (l : Fin 128) :
    (∑ k : Fin 128, f k * (if k.val / 64 = l.val / 64 then 1 else 0)) = ∑ j : Fin 64, f ⟨l.val / 64 * 64 + j.val, by omega⟩ := by
  have hl := l.isLt
  rw [show (∑ k : Fin 128, f k * (if k.val / 64 = l.val / 64 then 1 else 0)) = ∑ k : Fin (64 + 64), f k * (if k.val / 64 = l.val / 64 then 1 else 0) from rfl, Fin.sum_univ_add]
  by_cases h : l.val / 64 = 0
  · have z : (∑ i : Fin 64, f (Fin.natAdd 64 i) * (if (Fin.natAdd 64 i).val / 64 = l.val / 64 then 1 else 0)) = 0 := by
      refine Finset.sum_eq_zero fun i _ => ?_
      rw [if_neg (by show ¬ (64 + i.val) / 64 = _; omega), mul_zero]
    rw [z, add_zero]
    refine Finset.sum_congr rfl fun i _ => ?_
    rw [if_pos (by show i.val / 64 = _; omega), mul_one]
    exact congrArg f (Fin.ext (by show i.val = _; dsimp only; omega))
  · have z : (∑ i : Fin 64, f (Fin.castAdd 64 i) * (if (Fin.castAdd 64 i).val / 64 = l.val / 64 then 1 else 0)) = 0 := by
      refine Finset.sum_eq_zero fun i _ => ?_
      rw [if_neg (by show ¬ i.val / 64 = _; omega), mul_zero]
    rw [z, zero_add]
    refine Finset.sum_congr rfl fun i _ => ?_
    rw [if_pos (by show (64 + i.val) / 64 = _; omega), mul_one]
    exact congrArg f (Fin.ext (by show 64 + i.val = _; dsimp only; omega))

theorem ofBits_64 : Ideal.ofBits .f32 0x42800000#32 = ((64 : ℝ) : EReal) := by
  simp [Ideal.ofBits, Ideal.ieee, -EReal.coe_mul]; norm_num
theorem ofBits_inv64 : Ideal.ofBits .f32 0x3C800000#32 = ((1 / 64 : ℝ) : EReal) := by
  simp [Ideal.ofBits, Ideal.ieee, -EReal.coe_mul]; norm_num
theorem div64 (x : EReal) : x * Ideal.ofBits .f32 0x3C800000#32 = Ideal.div x (Ideal.ofBits .f32 0x42800000#32) := by
  rw [ofBits_64, ofBits_inv64, Ideal.div_coe (by norm_num)]

/-- The sum under the mask of a real row, of what is left of it after itself, and of what is left after that. -/
theorem split_sum (y : Fin 128 → ℝ) (M : Fin 128 → EReal) :
    (∑ x, (y x : EReal) * M x) + (∑ x, ((y x : EReal) - (y x : EReal)) * M x) + (∑ x, ((y x : EReal) - (y x : EReal) - ((y x : EReal) - (y x : EReal))) * M x)
      = ∑ x, (y x : EReal) * M x := by
  have e : ∀ x, (y x : EReal) - (y x : EReal) = 0 := fun x => by rw [← EReal.coe_sub, sub_self, EReal.coe_zero]
  simp only [e, sub_zero, zero_mul, Finset.sum_const_zero, add_zero]

/-- The mean of a real row is real. -/
theorem mu_real (y : Fin 1024 → EReal) (hy : ∀ c, ∃ v : ℝ, y c = (v : EReal)) (c : Fin 1024) : ∃ v : ℝ, mu y c = (v : EReal) := by
  choose v hv using hy
  refine ⟨(∑ j : Fin 64, v ⟨c.val / 64 * 64 + j.val, by omega⟩) / 64, ?_⟩
  unfold mu
  rw [ofBits_64, ← div_coe_coe _ _ (by norm_num), ← coe_sum]
  simp only [hv]
theorem cen_real (y : Fin 1024 → EReal) (hy : ∀ c, ∃ v : ℝ, y c = (v : EReal)) (c : Fin 1024) : ∃ v : ℝ, cen y c = (v : EReal) := by
  obtain ⟨a, ha⟩ := hy c
  obtain ⟨b, hb⟩ := mu_real y hy c
  exact ⟨a - b, by unfold cen; rw [ha, hb, EReal.coe_sub]⟩
/-- The mean of a head, by lanes of the slab that holds it. -/
theorem mu_slab (y : Fin 1024 → EReal) (s : Fin 8) (l : Fin 128) (Y : Fin 128 → EReal) (h : ∀ x : Fin 128, Y x = y ⟨s.val * 128 + x.val, by omega⟩) (M : Fin 128 → EReal)
    (hM : ∀ k, M k = if k.val / 64 = l.val / 64 then 1 else 0) :
    (∑ k, Y k * M k) * Ideal.ofBits .f32 0x3C800000#32 = mu y ⟨s.val * 128 + l.val, by omega⟩ := by
  rw [div64]
  unfold mu
  simp only [hM]
  rw [mask]
  refine congrArg (fun z => Ideal.div z _) (Finset.sum_congr rfl fun j _ => ?_)
  rw [h]
  exact congrArg y (Fin.ext (by dsimp only; omega))
end Cert.Mrg
-- ==== Proof.Mrg.Pay.lean ====
module
public import proofs.«01_k».proof.Proof.Gen.MergeIdeal.Skeleton
public import Idealize.ShloMosaic.Lib.Pointwise
public import proofs.«01_k».proof.Proof.Mrg.Math
public import Idealize.ShloMosaic.Lib.Pipeline.Value
@[expose] public section
set_option maxRecDepth 16384
noncomputable section
open Idealize.ShloMosaic Idealize.ShloMosaic.TcCoe Idealize.SL.Sem
namespace Cert.MergeIdeal.Mrg
open Cert.MergeIdeal Cert.MergeIdeal.Gen Facts Cert.Mrg

theorem half : ∀ k : Fin 128, (BitVec.ofNat 32 k.val).sshiftRight 6 = BitVec.ofNat 32 (k.val / 64) := by decide +kernel
theorem pay1_cond : ∀ k l : Fin 128, IntOp.cmpi CmpIPredicate.eq (IntOp.shrsi ArithUnit.vector (BitVec.ofNat 32 k.val) 6#32) (IntOp.shrsi ArithUnit.vector (BitVec.ofNat 32 l.val) 6#32)
    = if k.val / 64 = l.val / 64 then 1#1 else 0#1 := by decide +kernel
theorem pay1_at (k l : Fin 128) : k0_pay1 (F := Ideal) (ix2 k l) = if k.val / 64 = l.val / 64 then 1 else 0 := by
  pointwise [k0_pay1]
  rw [pay1_cond]
  split <;> rfl

/-- One pair of heads: normalised, scaled, shifted and gated. -/
def head (A B : Vec Ideal S1x256x128 .f32) (g b : Vec Ideal S1x1x128 .f32) (gg : Vec Ideal S1x256x128 .f32) : FVec Ideal S256x128 .bf16 :=
  k0_pay9 (F := Ideal) k0_pay1 (k0_pay2 A B) (k0_pay7 A B) (k0_pay8 A B) (constant S256x128 .f32 0x00000000#32) g b gg

theorem pay2_at (A B : Vec Ideal S1x256x128 .f32) (r : Fin 256) (y : Fin 1024 → EReal) (hy : ∀ c, ∃ v : ℝ, y c = (v : EReal)) (s : Fin 8)
    (h : ∀ x : Fin 128, A (ix3 0 r x) + B (ix3 0 r x) = y ⟨s.val * 128 + x.val, by omega⟩) (l : Fin 128) :
    k0_pay2 (F := Ideal) A B (ix2 r l) = cen y ⟨s.val * 128 + l.val, by omega⟩ := by
  pointwise [k0_pay2]
  choose v hv using hy
  have h2 : ∀ x : Fin 128, A (ix3 0 r x) + B (ix3 0 r x) = ((v ⟨s.val * 128 + x.val, by omega⟩ : ℝ) : EReal) := fun x => (h x).trans (hv _)
  simp only [h2]
  rw [split_sum (fun x : Fin 128 => v ⟨s.val * 128 + x.val, by omega⟩) (fun x => k0_pay1 (F := Ideal) (ix2 x l)),
    mu_slab y s l (fun x => ((v ⟨s.val * 128 + x.val, by omega⟩ : ℝ) : EReal)) (fun x => (hv _).symm) _ (fun k => pay1_at k l), ← hv]
  rfl

theorem pay87_at (A B : Vec Ideal S1x256x128 .f32) (r : Fin 256) (y : Fin 1024 → EReal) (hy : ∀ c, ∃ v : ℝ, y c = (v : EReal)) (s : Fin 8)
    (h : ∀ x : Fin 128, A (ix3 0 r x) + B (ix3 0 r x) = y ⟨s.val * 128 + x.val, by omega⟩) (l : Fin 128) :
    (k0_pay8 (F := Ideal) A B (ix2 r l) + ∑ x : Fin 128, k0_pay7 (F := Ideal) A B (ix2 r x) * k0_pay1 (F := Ideal) (ix2 x l)) * Ideal.ofBits .f32 0x3C800000#32
      = mu (fun c => cen y c * cen y c) ⟨s.val * 128 + l.val, by omega⟩ := by
  pointwise [k0_pay8, k0_pay7, k0_pay6, k0_pay5, k0_pay4, k0_pay3]
  choose v hv using cen_real y hy
  have h2 : ∀ x : Fin 128, k0_pay2 (F := Ideal) A B (ix2 r x) * k0_pay2 (F := Ideal) A B (ix2 r x)
      = ((v ⟨s.val * 128 + x.val, by omega⟩ * v ⟨s.val * 128 + x.val, by omega⟩ : ℝ) : EReal) := fun x => by
    rw [pay2_at A B r y hy s h x, hv, EReal.coe_mul]
  simp only [h2]
  rw [split_sum (fun x : Fin 128 => v ⟨s.val * 128 + x.val, by omega⟩ * v ⟨s.val * 128 + x.val, by omega⟩) (fun x => k0_pay1 (F := Ideal) (ix2 x l))]
  exact mu_slab (fun c => cen y c * cen y c) s l (fun x => ((v ⟨s.val * 128 + x.val, by omega⟩ * v ⟨s.val * 128 + x.val, by omega⟩ : ℝ) : EReal))
    (fun x => by rw [EReal.coe_mul, ← hv]) _ (fun k => pay1_at k l)

theorem head_at (A B : Vec Ideal S1x256x128 .f32) (g b : Vec Ideal S1x1x128 .f32) (gg : Vec Ideal S1x256x128 .f32) (r : Fin 256)
    (y G Bb gt : Fin 1024 → EReal) (hy : ∀ c, ∃ v : ℝ, y c = (v : EReal)) (s : Fin 8)
    (h : ∀ x : Fin 128, A (ix3 0 r x) + B (ix3 0 r x) = y ⟨s.val * 128 + x.val, by omega⟩)
    (hG : ∀ x : Fin 128, g (ix3 0 0 x) = G ⟨s.val * 128 + x.val, by omega⟩) (hB : ∀ x : Fin 128, b (ix3 0 0 x) = Bb ⟨s.val * 128 + x.val, by omega⟩)
    (hg : ∀ x : Fin 128, gg (ix3 0 r x) = gt ⟨s.val * 128 + x.val, by omega⟩) (l : Fin 128) :
    head A B g b gg (ix2 r l) = rw y G Bb gt ⟨s.val * 128 + l.val, by omega⟩ := by
  pointwise [head, k0_pay9]
  rw [pay87_at A B r y hy s h l, pay2_at A B r y hy s h l, hG, hB, hg]
  rfl

theorem head1 (A B : Vec Ideal S1x256x128 .f32) (g b : Vec Ideal S1x1x128 .f32) (gg : Vec Ideal S1x256x128 .f32) :
    k0_pay12 (F := Ideal) k0_pay1 (k0_pay10 A B) (k0_pay11 k0_pay1 A B) g b gg = head A B g b gg := rfl
theorem head2 (A B : Vec Ideal S1x256x128 .f32) (g b : Vec Ideal S1x1x128 .f32) (gg : Vec Ideal S1x256x128 .f32) :
    k0_pay17 (F := Ideal) (k0_pay16 k0_pay1 (k0_pay13 A B) (k0_pay14 A B) (k0_pay15 A B) g b gg) = head A B g b gg := rfl
theorem head3 (A B : Vec Ideal S1x256x128 .f32) (g b : Vec Ideal S1x1x128 .f32) (gg : Vec Ideal S1x256x128 .f32) :
    k0_pay20 (F := Ideal) (k0_pay18 k0_pay1 A B) (k0_pay19 g) b gg = head A B g b gg := rfl
theorem head4 (A B : Vec Ideal S1x256x128 .f32) (g b : Vec Ideal S1x1x128 .f32) (gg : Vec Ideal S1x256x128 .f32) :
    k0_pay28 (F := Ideal) k0_pay1 (k0_pay21 k0_pay1 A B) (k0_pay26 k0_pay1 A B) (k0_pay27 k0_pay1 A B) (constant S256x128 .f32 0x00000000#32) g b gg = head A B g b gg := rfl
theorem head5 (A B : Vec Ideal S1x256x128 .f32) (g b : Vec Ideal S1x1x128 .f32) (gg : Vec Ideal S1x256x128 .f32) :
    k0_pay31 (F := Ideal) k0_pay1 (k0_pay29 A B) (k0_pay30 k0_pay1 A B) g b gg = head A B g b gg := rfl
theorem head6 (A B : Vec Ideal S1x256x128 .f32) (g b : Vec Ideal S1x1x128 .f32) (gg : Vec Ideal S1x256x128 .f32) :
    k0_pay36 (F := Ideal) (k0_pay35 k0_pay1 (k0_pay32 A B) (k0_pay33 A B) (k0_pay34 A B) g b gg) = head A B g b gg := rfl
theorem head7 (A B : Vec Ideal S1x256x128 .f32) (g b : Vec Ideal S1x1x128 .f32) (gg : Vec Ideal S1x256x128 .f32) :
    k0_pay20 (F := Ideal) (k0_pay37 k0_pay1 A B) (k0_pay38 g) b gg = head A B g b gg := rfl

/-- Eight slabs side by side, read at a column. -/
theorem cat8 (P : Fin 8 → FVec Ideal S256x128 .bf16) (r : Fin 256) (l : Fin 1024) :
    concatenate S256x1024 1 (List.ofFn fun n : Fin 8 => (⟨S256x128, P n⟩ : (s : Shape) × (s.Idx → EReal))) concatenates_S256x128_S256x128_S256x128_S256x128_S256x128_S256x128_S256x128_S256x128_S256x1024_d1 (ix2 r l)
      = P ⟨l.val / 128, by omega⟩ (ix2 r ⟨l.val % 128, by omega⟩) :=
  Idealize.ShloMosaic.concatenate_ofFn_apply (t := S256x1024) (s₁ := S256x128) 1 P _ rfl 128 rfl (ix2 r l) ⟨l.val / 128, by omega⟩ rfl (ix2 r ⟨l.val % 128, by omega⟩) rfl
    (fun b hb => by fin_cases b <;> first | rfl | exact absurd rfl hb)
/-- Sixteen slabs side by side, read at a column. -/
theorem cat16 (P : Fin 16 → FVec Ideal S256x128 .bf16) (r : Fin 256) (l : Fin 2048) :
    concatenate S256x2048 1 (List.ofFn fun n : Fin 16 => (⟨S256x128, P n⟩ : (s : Shape) × (s.Idx → EReal))) concatenates_S256x128_S256x128_S256x128_S256x128_S256x128_S256x128_S256x128_S256x128_S256x128_S256x128_S256x128_S256x128_S256x128_S256x128_S256x128_S256x128_S256x2048_d1 (ix2 r l)
      = P ⟨l.val / 128, by omega⟩ (ix2 r ⟨l.val % 128, by omega⟩) :=
  Idealize.ShloMosaic.concatenate_ofFn_apply (t := S256x2048) (s₁ := S256x128) 1 P _ rfl 128 rfl (ix2 r l) ⟨l.val / 128, by omega⟩ rfl (ix2 r ⟨l.val % 128, by omega⟩) rfl
    (fun b hb => by fin_cases b <;> first | rfl | exact absurd rfl hb)
/-- A slab as a matrix. -/
def flat (p : Vec Ideal S1x256x128 .bf16) : FVec Ideal S256x128 .bf16 := shapeCast S256x128 p shapeCasts_S1x256x128_S256x128
theorem flat_at (p : Vec Ideal S1x256x128 .bf16) (r : Fin 256) (l : Fin 128) : flat p (ix2 r l) = p (ix3 0 r l) := by
  pointwise [flat]
def row (q : Vec Ideal S1x1x2048 .f32) : FVec Ideal S256x2048 .f32 := broadcastTo S256x2048 (shapeCast S1x2048 q shapeCasts_S1x1x2048_S1x2048) broadcasts_S1x2048_S256x2048
theorem row_at (q : Vec Ideal S1x1x2048 .f32) (r : Fin 256) (l : Fin 2048) : row q (ix2 r l) = q (ix3 0 0 l) := by
  pointwise [row]

theorem pay39_eq (p0 p1 p2 p3 p4 p5 p6 : FVec Ideal S256x128 .bf16) (A B : Vec Ideal S1x256x128 .f32) (g b : Vec Ideal S1x1x128 .f32) (gg : Vec Ideal S1x256x128 .f32) :
    k0_pay39 (F := Ideal) p0 p1 p2 p3 p4 p5 p6 (k0_pay37 k0_pay1 A B) (k0_pay38 g) b gg
      = concatenate S256x1024 1 [⟨S256x128, p0⟩, ⟨S256x128, p1⟩, ⟨S256x128, p2⟩, ⟨S256x128, p3⟩, ⟨S256x128, p4⟩, ⟨S256x128, p5⟩, ⟨S256x128, p6⟩, ⟨S256x128, head A B g b gg⟩]
          concatenates_S256x128_S256x128_S256x128_S256x128_S256x128_S256x128_S256x128_S256x128_S256x1024_d1 := by
  rw [← head7]; rfl

/-- The recurrent branch of a block of rows, as the kernel puts it together. -/
def orw (A B : Fin 8 → Vec Ideal S1x256x128 .f32) (g b : Fin 8 → Vec Ideal S1x1x128 .f32) (gg : Fin 8 → Vec Ideal S1x256x128 .f32) : FVec Ideal S256x1024 .bf16 :=
  k0_pay39 (F := Ideal) (k0_pay9 k0_pay1 (k0_pay2 (A 0) (B 0)) (k0_pay7 (A 0) (B 0)) (k0_pay8 (A 0) (B 0)) (constant S256x128 .f32 0x00000000#32) (g 0) (b 0) (gg 0)) (k0_pay12 k0_pay1 (k0_pay10 (A 1) (B 1)) (k0_pay11 k0_pay1 (A 1) (B 1)) (g 1) (b 1) (gg 1)) (k0_pay17 (k0_pay16 k0_pay1 (k0_pay13 (A 2) (B 2)) (k0_pay14 (A 2) (B 2)) (k0_pay15 (A 2) (B 2)) (g 2) (b 2) (gg 2))) (k0_pay20 (k0_pay18 k0_pay1 (A 3) (B 3)) (k0_pay19 (g 3)) (b 3) (gg 3)) (k0_pay28 k0_pay1 (k0_pay21 k0_pay1 (A 4) (B 4)) (k0_pay26 k0_pay1 (A 4) (B 4)) (k0_pay27 k0_pay1 (A 4) (B 4)) (constant S256x128 .f32 0x00000000#32) (g 4) (b 4) (gg 4)) (k0_pay31 k0_pay1 (k0_pay29 (A 5) (B 5)) (k0_pay30 k0_pay1 (A 5) (B 5)) (g 5) (b 5) (gg 5)) (k0_pay36 (k0_pay35 k0_pay1 (k0_pay32 (A 6) (B 6)) (k0_pay33 (A 6) (B 6)) (k0_pay34 (A 6) (B 6)) (g 6) (b 6) (gg 6))) (k0_pay37 k0_pay1 (A 7) (B 7)) (k0_pay38 (g 7)) (b 7) (gg 7)
theorem orw_at (A B : Fin 8 → Vec Ideal S1x256x128 .f32) (g b : Fin 8 → Vec Ideal S1x1x128 .f32) (gg : Fin 8 → Vec Ideal S1x256x128 .f32) (r : Fin 256) (l : Fin 1024) :
    orw A B g b gg (ix2 r l) = head (A ⟨l.val / 128, by omega⟩) (B ⟨l.val / 128, by omega⟩) (g ⟨l.val / 128, by omega⟩) (b ⟨l.val / 128, by omega⟩) (gg ⟨l.val / 128, by omega⟩) (ix2 r ⟨l.val % 128, by omega⟩) := by
  unfold orw
  rw [pay39_eq, head1, head2, head3, head4, head5, head6]
  exact cat8 (fun n => head (A n) (B n) (g n) (b n) (gg n)) r l
def oat (P : Fin 8 → Vec Ideal S1x256x128 .bf16) : FVec Ideal S256x1024 .bf16 := k0_pay40 (F := Ideal) (P 0) (P 1) (P 2) (P 3) (P 4) (P 5) (P 6) (P 7)
theorem oat_at (P : Fin 8 → Vec Ideal S1x256x128 .bf16) (r : Fin 256) (l : Fin 1024) :
    oat P (ix2 r l) = P ⟨l.val / 128, by omega⟩ (ix3 0 r ⟨l.val % 128, by omega⟩) :=
  (cat8 (fun n => flat (P n)) r l).trans (flat_at _ _ _)

def gateA (P : Fin 16 → Vec Ideal S1x256x128 .bf16) (q : Vec Ideal S1x1x2048 .f32) : FVec Ideal S256x2048 .f32 :=
  k0_pay53 (F := Ideal) (k0_pay41 (P 0)) (k0_pay42 (P 1)) (k0_pay43 (P 2)) (k0_pay44 (P 3)) (k0_pay45 (P 4)) (k0_pay46 (P 5)) (k0_pay47 (P 6)) (k0_pay48 (P 7)) (k0_pay49 (P 8)) (k0_pay50 (P 9)) (k0_pay51 (P 10)) (k0_pay52 (P 11)) (P 12) (P 13) (P 14) (P 15) q
theorem gateA_at (P : Fin 16 → Vec Ideal S1x256x128 .bf16) (q : Vec Ideal S1x1x2048 .f32) (r : Fin 256) (l : Fin 2048) :
    gateA P q (ix2 r l) = P ⟨l.val / 128, by omega⟩ (ix3 0 r ⟨l.val % 128, by omega⟩) + q (ix3 0 0 l) :=
  congrArg₂ (fun a b : EReal => a + b) ((cat16 (fun n => flat (P n)) r l).trans (flat_at _ _ _)) (row_at q r l)

def gateB (P : Fin 16 → Vec Ideal S1x256x128 .bf16) (q : Vec Ideal S1x1x2048 .f32) : FVec Ideal S256x2048 .f32 :=
  k0_pay60 (F := Ideal) (k0_pay54 (P 0)) (k0_pay55 (P 1)) (k0_pay56 (P 2)) (k0_pay57 (P 3)) (k0_pay58 (P 4)) (k0_pay59 (P 5)) (P 6) (P 7) (P 8) (P 9) (P 10) (P 11) (P 12) (P 13) (P 14) (P 15) q
theorem gateB_at (P : Fin 16 → Vec Ideal S1x256x128 .bf16) (q : Vec Ideal S1x1x2048 .f32) (r : Fin 256) (l : Fin 2048) :
    gateB P q (ix2 r l) = P ⟨l.val / 128, by omega⟩ (ix3 0 r ⟨l.val % 128, by omega⟩) + q (ix3 0 0 l) :=
  congrArg₂ (fun a b : EReal => a + b) ((cat16 (fun n => flat (P n)) r l).trans (flat_at _ _ _)) (row_at q r l)

theorem pay62_at (o a : FVec Ideal S256x1024 .bf16) (gb ga : FVec Ideal S256x2048 .f32) (wa wo : Vec Ideal S1024x2048 .bf16) (x : Vec Ideal S256x2048 .f32) (w : Vec Ideal S2048x2048 .bf16)
    (r : Fin 256) (l : Fin 2048) :
    k0_pay62 (F := Ideal) o a gb (k0_pay61 ga) wa wo x w (ix2 r l)
      = x (ix2 r l) + ∑ d : Fin 2048, merged (fun d => ga (ix2 r d)) (fun d => gb (ix2 r d)) (fun k => a (ix2 r k)) (fun k => o (ix2 r k)) (fun k d => wa (ix2 k d)) (fun k d => wo (ix2 k d)) d * w (ix2 d l) := by
  pointwise [k0_pay62, k0_pay61]
  simp only [zero_sub]
  rfl
end Cert.MergeIdeal.Mrg
-- ==== Proof.Mrg.Ref.lean ====
module
public import proofs.«01_k».proof.Proof.Gen.MergeRefIdeal.Run
public import proofs.«01_k».proof.Proof.Mrg.Math
public import Idealize.ShloMosaic.Lib.Pointwise
@[expose] public section
set_option maxRecDepth 16384
noncomputable section
open Idealize.ShloMosaic Idealize.ShloMosaic.TcCoe Idealize.SL.Sem
namespace Cert.MergeRefIdeal.Mrg
open Cert.MergeRefIdeal Cert.MergeRefIdeal.Gen Cert.MergeRefIdeal.Value Facts Cert.Mrg
variable (m : (ℓ : Loc nD τ sig) → Buf (Elt Ideal) ℓ)

/-- The two directions of the recurrence, summed. -/
def yy (a2 : FVec Ideal S8x32768x128 .f32) (a3 : FVec Ideal S8x32768x128 .f32) : FVec Ideal S32768x1024 .f32 :=
  addf (shapeCast _ (transpose S32768x8x128 [1, 0, 2] a2 transposes_S8x32768x128_S32768x8x128_1_0_2) shapeCasts_S32768x8x128_S32768x1024) (shapeCast _ (transpose S32768x8x128 [1, 0, 2] a3 transposes_S8x32768x128_S32768x8x128_1_0_2) shapeCasts_S32768x8x128_S32768x1024)
/-- By heads. -/
def y3 (a2 : FVec Ideal S8x32768x128 .f32) (a3 : FVec Ideal S8x32768x128 .f32) : FVec Ideal S32768x16x64 .f32 :=
  shapeCast _ (yy a2 a3) shapeCasts_S32768x1024_S32768x16x64
/-- The mean of each head. -/
def mean (a2 : FVec Ideal S8x32768x128 .f32) (a3 : FVec Ideal S8x32768x128 .f32) : FVec Ideal S32768x16x1 .f32 :=
  Host.divf (broadcastInDim S32768x16x1 ![0, 1] bcast_S32768x16_S32768x16x1_0_1 (Host.reduceAdd (y3 a2 a3) (constant S_ .f32 0x00000000#32) reducesTo_S32768x16x64_S32768x16_d2 h_S_)) (broadcastInDim S32768x16x1 ![] bcast_S_S32768x16x1 (constant S_ .f32 0x42800000#32))
/-- Each head less its mean. -/
def cen3 (a2 : FVec Ideal S8x32768x128 .f32) (a3 : FVec Ideal S8x32768x128 .f32) : FVec Ideal S32768x16x64 .f32 :=
  subf (y3 a2 a3) (broadcastInDim S32768x16x64 ![0, 1, 2] bcast_S32768x16x1_S32768x16x64_0_1_2 (mean a2 a3))
/-- The variance of each head. -/
def var3 (a2 : FVec Ideal S8x32768x128 .f32) (a3 : FVec Ideal S8x32768x128 .f32) : FVec Ideal S32768x16x1 .f32 :=
  Host.divf (broadcastInDim S32768x16x1 ![0, 1] bcast_S32768x16_S32768x16x1_0_1 (Host.reduceAdd (mulf (cen3 a2 a3) (cen3 a2 a3)) (constant S_ .f32 0x00000000#32) reducesTo_S32768x16x64_S32768x16_d2 h_S_)) (broadcastInDim S32768x16x1 ![] bcast_S_S32768x16x1 (constant S_ .f32 0x42800000#32))
/-- Each head normalised. -/
def nrm3 (a2 : FVec Ideal S8x32768x128 .f32) (a3 : FVec Ideal S8x32768x128 .f32) : FVec Ideal S32768x16x64 .f32 :=
  mulf (cen3 a2 a3) (broadcastInDim S32768x16x64 ![0, 1, 2] bcast_S32768x16x1_S32768x16x64_0_1_2 (Host.rsqrt (addf (var3 a2 a3) (broadcastInDim S32768x16x1 ![] bcast_S_S32768x16x1 (constant S_ .f32 0x3A27C5AC#32)))))
/-- The recurrent branch before its projection. -/
def orw (a2 : FVec Ideal S8x32768x128 .f32) (a3 : FVec Ideal S8x32768x128 .f32) (a4 : FVec Ideal S8x32768x128 .f32) (a7 : FVec Ideal S1x1024 .f32) (a8 : FVec Ideal S1x1024 .f32) : FVec Ideal S32768x1024 .f32 :=
  mulf (addf (mulf (shapeCast _ (nrm3 a2 a3) shapeCasts_S32768x16x64_S32768x1024) (broadcastInDim S32768x1024 ![0, 1] bcast_S1x1024_S32768x1024_0_1 (broadcastInDim S1x1024 ![1] bcast_S1024_S1x1024_1 (shapeCast _ a7 shapeCasts_S1x1024_S1024)))) (broadcastInDim S32768x1024 ![0, 1] bcast_S1x1024_S32768x1024_0_1 (broadcastInDim S1x1024 ![1] bcast_S1024_S1x1024_1 (shapeCast _ a8 shapeCasts_S1x1024_S1024)))) (shapeCast _ (transpose S32768x8x128 [1, 0, 2] a4 transposes_S8x32768x128_S32768x8x128_1_0_2) shapeCasts_S32768x8x128_S32768x1024)
/-- The gates. -/
def sg (a5 : FVec Ideal S84x32768x128 .bf16) (a6 : FVec Ideal S1x2x2048 .f32) : FVec Ideal S32768x4096 .f32 :=
  Host.divf (broadcastInDim S32768x4096 ![] bcast_S_S32768x4096 (constant S_ .f32 0x3F800000#32)) (addf (broadcastInDim S32768x4096 ![] bcast_S_S32768x4096 (constant S_ .f32 0x3F800000#32)) (Host.exp (Host.negf (addf (extf .f32 (shapeCast _ (transpose S32768x32x128 [1, 0, 2] (extractStridedSlice S32x32768x128 ![0, 0, 0] a5 slices_S84x32768x128_S32x32768x128_0_0_0) transposes_S32x32768x128_S32768x32x128_1_0_2) shapeCasts_S32768x32x128_S32768x4096) bitsLt_bf16_f32) (broadcastInDim S32768x4096 ![0, 1] bcast_S1x4096_S32768x4096_0_1 (broadcastInDim S1x4096 ![1] bcast_S4096_S1x4096_1 (shapeCast _ (shapeCast _ a6 shapeCasts_S1x2x2048_S2x2048) shapeCasts_S2x2048_S4096)))))))
/-- The attention branch before its projection. -/
def oa (a1 : FVec Ideal S8x32768x128 .bf16) : FVec Ideal S32768x1024 .f32 :=
  extf .f32 (shapeCast _ (transpose S32768x8x128 [1, 0, 2] a1 transposes_S8x32768x128_S32768x8x128_1_0_2) shapeCasts_S32768x8x128_S32768x1024) bitsLt_bf16_f32
/-- The merged branches. -/
def mg (a1 : FVec Ideal S8x32768x128 .bf16) (a2 : FVec Ideal S8x32768x128 .f32) (a3 : FVec Ideal S8x32768x128 .f32) (a4 : FVec Ideal S8x32768x128 .f32) (a5 : FVec Ideal S84x32768x128 .bf16) (a6 : FVec Ideal S1x2x2048 .f32) (a7 : FVec Ideal S1x1024 .f32) (a8 : FVec Ideal S1x1024 .f32) (a9 : FVec Ideal S1x1024x2048 .f32) (a10 : FVec Ideal S1x1024x2048 .f32) : FVec Ideal S32768x2048 .f32 :=
  addf (mulf (extractStridedSlice S32768x2048 ![0, 0] (sg a5 a6) slices_S32768x4096_S32768x2048_0_0) (Host.dotGeneral dot_S32768x1024_S1024x2048_S32768x2048_1_0_0_1_n_n none (oa a1) (shapeCast _ a9 shapeCasts_S1x1024x2048_S1024x2048))) (mulf (extractStridedSlice S32768x2048 ![0, 2048] (sg a5 a6) slices_S32768x4096_S32768x2048_0_2048) (Host.dotGeneral dot_S32768x1024_S1024x2048_S32768x2048_1_0_0_1_n_n none (orw a2 a3 a4 a7 a8) (shapeCast _ a10 shapeCasts_S1x1024x2048_S1024x2048)))
/-- The reference of the merge. -/
def out (a0 : FVec Ideal S8x4096x2048 .f32) (a1 : FVec Ideal S8x32768x128 .bf16) (a2 : FVec Ideal S8x32768x128 .f32) (a3 : FVec Ideal S8x32768x128 .f32) (a4 : FVec Ideal S8x32768x128 .f32) (a5 : FVec Ideal S84x32768x128 .bf16) (a6 : FVec Ideal S1x2x2048 .f32) (a7 : FVec Ideal S1x1024 .f32) (a8 : FVec Ideal S1x1024 .f32) (a9 : FVec Ideal S1x1024x2048 .f32) (a10 : FVec Ideal S1x1024x2048 .f32) (a11 : FVec Ideal S1x2048x2048 .f32) : FVec Ideal S32768x2048 .f32 :=
  addf (shapeCast _ a0 shapeCasts_S8x4096x2048_S32768x2048) (Host.dotGeneral dot_S32768x2048_S2048x2048_S32768x2048_1_0_0_1_n_n none (mg a1 a2 a3 a4 a5 a6 a7 a8 a9 a10) (shapeCast _ a11 shapeCasts_S1x2048x2048_S2048x2048))
theorem res_eq (c : Dev nD) : res_main_v66 m c = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := rfl

variable (a0 : FVec Ideal S8x4096x2048 .f32) (a1 : FVec Ideal S8x32768x128 .bf16) (a2 a3 a4 : FVec Ideal S8x32768x128 .f32) (a5 : FVec Ideal S84x32768x128 .bf16)
  (a6 : FVec Ideal S1x2x2048 .f32) (a7 a8 : FVec Ideal S1x1024 .f32) (a9 a10 : FVec Ideal S1x1024x2048 .f32) (a11 : FVec Ideal S1x2048x2048 .f32)

/-- Row `w` of the summed directions. -/
def yrow (w : Fin 32768) (k : Fin 1024) : EReal := a2 (ix3 ⟨k.val / 128, by omega⟩ w ⟨k.val % 128, by omega⟩) + a3 (ix3 ⟨k.val / 128, by omega⟩ w ⟨k.val % 128, by omega⟩)
theorem yy_at (w : Fin 32768) (k : Fin 1024) : yy a2 a3 (ix2 w k) = yrow a2 a3 w k := by
  pointwise [yy]
  rfl
theorem y3_at (w : Fin 32768) (h : Fin 16) (j : Fin 64) : y3 a2 a3 (ix3 w h j) = yrow a2 a3 w ⟨h.val * 64 + j.val, by omega⟩ := by
  pointwise [y3]
  exact yy_at _ _ _ _
theorem mean_at (w : Fin 32768) (h : Fin 16) (k : Fin 1024) (hk : k.val / 64 = h.val) : mean a2 a3 (ix3 w h 0) = mu (yrow a2 a3 w) k := by
  pointwise [mean]
  simp only [y3_at, ← hk]
  rfl
theorem cen3_at (w : Fin 32768) (h : Fin 16) (j : Fin 64) : cen3 a2 a3 (ix3 w h j) = cen (yrow a2 a3 w) ⟨h.val * 64 + j.val, by omega⟩ := by
  pointwise [cen3]
  rw [y3_at, mean_at a2 a3 w h ⟨h.val * 64 + j.val, by omega⟩ (by dsimp only; omega)]
  rfl
theorem var3_at (w : Fin 32768) (h : Fin 16) (k : Fin 1024) (hk : k.val / 64 = h.val) : var3 a2 a3 (ix3 w h 0) = mu (fun k => cen (yrow a2 a3 w) k * cen (yrow a2 a3 w) k) k := by
  pointwise [var3]
  simp only [cen3_at, ← hk]
  rfl
theorem nrm3_at (w : Fin 32768) (h : Fin 16) (j : Fin 64) : nrm3 a2 a3 (ix3 w h j) = nrm (yrow a2 a3 w) ⟨h.val * 64 + j.val, by omega⟩ := by
  pointwise [nrm3]
  rw [cen3_at, var3_at a2 a3 w h ⟨h.val * 64 + j.val, by omega⟩ (by dsimp only; omega)]
  rfl
theorem orw_at (w : Fin 32768) (k : Fin 1024) : orw a2 a3 a4 a7 a8 (ix2 w k)
    = rw (yrow a2 a3 w) (fun k => a7 (ix2 0 k)) (fun k => a8 (ix2 0 k)) (fun k => a4 (ix3 ⟨k.val / 128, by omega⟩ w ⟨k.val % 128, by omega⟩)) k := by
  pointwise [orw]
  rw [nrm3_at]
  unfold rw
  have e : (⟨k.val / 64 * 64 + k.val % 64, by omega⟩ : Fin 1024) = k := Fin.ext (by dsimp only; omega)
  exact congrArg (fun z => (nrm (yrow a2 a3 w) z * a7 (ix2 0 k) + a8 (ix2 0 k)) * a4 (ix3 ⟨k.val / 128, by omega⟩ w ⟨k.val % 128, by omega⟩)) e
theorem oa_at (w : Fin 32768) (k : Fin 1024) : oa a1 (ix2 w k) = a1 (ix3 ⟨k.val / 128, by omega⟩ w ⟨k.val % 128, by omega⟩) := by
  pointwise [oa]
theorem sg_at (w : Fin 32768) (k : Fin 4096) : sg a5 a6 (ix2 w k) = Cert.Mrg.sig (a5 (ix3 ⟨k.val / 128, by omega⟩ w ⟨k.val % 128, by omega⟩) + a6 (ix3 0 ⟨k.val / 2048, by omega⟩ ⟨k.val % 2048, by omega⟩)) := by
  pointwise [sg]
  rfl
/-- The gate of the attention branch before its sigmoid. -/
def gaRow (w : Fin 32768) (d : Fin 2048) : EReal := a5 (ix3 ⟨d.val / 128, by omega⟩ w ⟨d.val % 128, by omega⟩) + a6 (ix3 0 0 d)
/-- The gate of the recurrent branch before its sigmoid. -/
def gbRow (w : Fin 32768) (d : Fin 2048) : EReal := a5 (ix3 ⟨16 + d.val / 128, by omega⟩ w ⟨d.val % 128, by omega⟩) + a6 (ix3 0 1 d)
theorem mg_at (w : Fin 32768) (d : Fin 2048) : mg a1 a2 a3 a4 a5 a6 a7 a8 a9 a10 (ix2 w d)
    = merged (gaRow a5 a6 w) (gbRow a5 a6 w) (fun k => a1 (ix3 ⟨k.val / 128, by omega⟩ w ⟨k.val % 128, by omega⟩))
      (rw (yrow a2 a3 w) (fun k => a7 (ix2 0 k)) (fun k => a8 (ix2 0 k)) (fun k => a4 (ix3 ⟨k.val / 128, by omega⟩ w ⟨k.val % 128, by omega⟩)))
      (fun k d => a9 (ix3 0 k d)) (fun k d => a10 (ix3 0 k d)) d := by
  pointwise [mg]
  simp only [orw_at, oa_at]
  rw [sg_at, sg_at]
  unfold merged
  have e1 : Cert.Mrg.sig (a5 (ix3 ⟨d.val / 128, by omega⟩ w ⟨d.val % 128, by omega⟩) + a6 (ix3 0 ⟨d.val / 2048, by omega⟩ ⟨d.val % 2048, by omega⟩)) = Cert.Mrg.sig (gaRow a5 a6 w d) := by
    unfold gaRow
    have q1 : (⟨d.val / 2048, by omega⟩ : Fin 2) = 0 := Fin.ext (by show d.val / 2048 = 0; omega)
    have q2 : (⟨d.val % 2048, by omega⟩ : Fin 2048) = d := Fin.ext (by show d.val % 2048 = d.val; omega)
    rw [q1, q2]
  have e2 : Cert.Mrg.sig (a5 (ix3 ⟨(2048 + d.val) / 128, by omega⟩ w ⟨(2048 + d.val) % 128, by omega⟩) + a6 (ix3 0 ⟨(2048 + d.val) / 2048, by omega⟩ ⟨(2048 + d.val) % 2048, by omega⟩)) = Cert.Mrg.sig (gbRow a5 a6 w d) := by
    unfold gbRow
    have q1 : (⟨(2048 + d.val) / 2048, by omega⟩ : Fin 2) = 1 := Fin.ext (by show (2048 + d.val) / 2048 = 1; omega)
    have q2 : (⟨(2048 + d.val) % 2048, by omega⟩ : Fin 2048) = d := Fin.ext (by show (2048 + d.val) % 2048 = d.val; omega)
    have q3 : (⟨(2048 + d.val) / 128, by omega⟩ : Fin 84) = ⟨16 + d.val / 128, by omega⟩ := Fin.ext (by show (2048 + d.val) / 128 = 16 + d.val / 128; omega)
    have q4 : (⟨(2048 + d.val) % 128, by omega⟩ : Fin 128) = ⟨d.val % 128, by omega⟩ := Fin.ext (by show (2048 + d.val) % 128 = d.val % 128; omega)
    rw [q1, q2, q3, q4]
  exact congrArg₂ (fun p q => p * (∑ k, a1 (ix3 ⟨k.val / 128, by omega⟩ w ⟨k.val % 128, by omega⟩) * a9 (ix3 0 k d))
    + q * ∑ k, rw (yrow a2 a3 w) (fun k => a7 (ix2 0 k)) (fun k => a8 (ix2 0 k)) (fun k => a4 (ix3 ⟨k.val / 128, by omega⟩ w ⟨k.val % 128, by omega⟩)) k * a10 (ix3 0 k d)) e1 e2
theorem out_at (w : Fin 32768) (e : Fin 2048) : out a0 a1 a2 a3 a4 a5 a6 a7 a8 a9 a10 a11 (ix2 w e)
    = a0 (ix3 ⟨w.val / 4096, by omega⟩ ⟨w.val % 4096, by omega⟩ e)
      + ∑ d : Fin 2048, merged (gaRow a5 a6 w) (gbRow a5 a6 w) (fun k => a1 (ix3 ⟨k.val / 128, by omega⟩ w ⟨k.val % 128, by omega⟩))
      (rw (yrow a2 a3 w) (fun k => a7 (ix2 0 k)) (fun k => a8 (ix2 0 k)) (fun k => a4 (ix3 ⟨k.val / 128, by omega⟩ w ⟨k.val % 128, by omega⟩)))
      (fun k d => a9 (ix3 0 k d)) (fun k d => a10 (ix3 0 k d)) d * a11 (ix3 0 d e) := by
  pointwise [out]
  simp only [mg_at]
end Cert.MergeRefIdeal.Mrg
-- ==== Proof.Mrg.Final.lean ====
module
public import proofs.«01_k».proof.Proof.Gen.MergeIdeal.Value
public import proofs.«01_k».proof.Proof.Mrg.Pay
public import proofs.«01_k».proof.Proof.Mrg.Ref
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.MergeIdeal.Mrg
open Cert.MergeIdeal Cert.MergeIdeal.Gen Facts Cert.Mrg
variable (m : (ℓ : Loc nD τ sig) → Buf (Elt Ideal) ℓ)

theorem N128 (t : Fin cfg0.N) : t.val < 128 := lt_of_lt_of_eq t.isLt N_0
theorem idx : ∀ t : Fin grid0.N,
    win0_0.index t = ![t.val, 0] ∧ win0_1.index t = ![0, t.val, 0] ∧ win0_2.index t = ![0, t.val, 0] ∧ win0_3.index t = ![0, t.val, 0] ∧ win0_4.index t = ![0, t.val, 0]
    ∧ win0_5.index t = ![0, t.val, 0] ∧ win0_6.index t = ![0, 0, 0] ∧ win0_7.index t = ![0, 0, 0] ∧ win0_8.index t = ![0, 0, 0] ∧ win0_9.index t = ![0, 0]
    ∧ win0_10.index t = ![0, 0] ∧ win0_11.index t = ![0, 0] ∧ win0_12.index t = ![t.val, 0] := by decide +kernel

/-! What the host hands over. -/
theorem host0 (c : Dev nD) (w : Fin 32768) (k : Fin 2048) : V m c main_v0 (ix2 w k) = m ((c : Thread nD τ).loc main_arg0) (ix3 ⟨w.val / 4096, by omega⟩ ⟨w.val % 4096, by omega⟩ k) := by
  entry_read; pointwise
theorem host6 (c : Dev nD) (j : Fin 2) (k : Fin 2048) : V m c main_v2 (ix3 j 0 k) = m ((c : Thread nD τ).loc main_arg6) (ix3 0 j k) := by
  entry_read; pointwise
theorem host7 (c : Dev nD) (j : Fin 8) (k : Fin 128) : V m c main_v4 (ix3 j 0 k) = m ((c : Thread nD τ).loc main_arg7) (ix2 0 ⟨j.val * 128 + k.val, by omega⟩) := by
  entry_read; pointwise
theorem host8 (c : Dev nD) (j : Fin 8) (k : Fin 128) : V m c main_v6 (ix3 j 0 k) = m ((c : Thread nD τ).loc main_arg8) (ix2 0 ⟨j.val * 128 + k.val, by omega⟩) := by
  entry_read; pointwise
theorem host9 (c : Dev nD) (k : Fin 1024) (d : Fin 2048) : V m c main_v8 (ix2 k d) = m ((c : Thread nD τ).loc main_arg9) (ix3 0 k d) := by
  entry_read; pointwise
theorem host10 (c : Dev nD) (k : Fin 1024) (d : Fin 2048) : V m c main_v10 (ix2 k d) = m ((c : Thread nD τ).loc main_arg10) (ix3 0 k d) := by
  entry_read; pointwise
theorem host11 (c : Dev nD) (k : Fin 2048) (d : Fin 2048) : V m c main_v12 (ix2 k d) = m ((c : Thread nD τ).loc main_arg11) (ix3 0 k d) := by
  entry_read; pointwise

/-! What a point's blocks hold. -/
section
variable (c : Dev nD) (t : Fin cfg0.N)
theorem blk0 (r : Fin 256) (k : Fin 2048) (w : Fin 32768) (hw : w.val = t.val * 256 + r.val) :
    iblk m c 0 t (ix2 r k) = m ((c : Thread nD τ).loc main_arg0) (ix3 ⟨w.val / 4096, by omega⟩ ⟨w.val % 4096, by omega⟩ k) := by
  refine Eq.trans ?_ (host0 m c w k)
  blk_ext [iblk, idx t]
theorem blk1 (s : Fin 8) (r : Fin 256) (l : Fin 128) (w : Fin 32768) (hw : w.val = t.val * 256 + r.val) :
    iblk m c 1 t (ix3 s r l) = m ((c : Thread nD τ).loc main_arg1) (ix3 s w l) := by
  blk_ext [iblk, V, idx t]
theorem blk2 (s : Fin 8) (r : Fin 256) (l : Fin 128) (w : Fin 32768) (hw : w.val = t.val * 256 + r.val) :
    iblk m c 2 t (ix3 s r l) = m ((c : Thread nD τ).loc main_arg2) (ix3 s w l) := by
  blk_ext [iblk, V, idx t]
theorem blk3 (s : Fin 8) (r : Fin 256) (l : Fin 128) (w : Fin 32768) (hw : w.val = t.val * 256 + r.val) :
    iblk m c 3 t (ix3 s r l) = m ((c : Thread nD τ).loc main_arg3) (ix3 s w l) := by
  blk_ext [iblk, V, idx t]
theorem blk4 (s : Fin 8) (r : Fin 256) (l : Fin 128) (w : Fin 32768) (hw : w.val = t.val * 256 + r.val) :
    iblk m c 4 t (ix3 s r l) = m ((c : Thread nD τ).loc main_arg4) (ix3 s w l) := by
  blk_ext [iblk, V, idx t]
theorem blk5 (s : Fin 32) (r : Fin 256) (l : Fin 128) (w : Fin 32768) (hw : w.val = t.val * 256 + r.val) :
    X0_5 m c t (ix3 s r l) = m ((c : Thread nD τ).loc main_arg5) (ix3 ⟨s.val, by omega⟩ w l) := by
  unfold X0_5
  unfold Pipeline.Window.fill
  rw [dif_pos (moved0_5 t _)]
  blk_ext [iblk, V, idx t]
theorem blk6 (j : Fin 2) (k : Fin 2048) : iblk m c 6 t (ix3 j 0 k) = m ((c : Thread nD τ).loc main_arg6) (ix3 0 j k) := by
  refine Eq.trans ?_ (host6 m c j k)
  blk_ext [iblk, idx t]
theorem blk7 (j : Fin 8) (k : Fin 128) : iblk m c 7 t (ix3 j 0 k) = m ((c : Thread nD τ).loc main_arg7) (ix2 0 ⟨j.val * 128 + k.val, by omega⟩) := by
  refine Eq.trans ?_ (host7 m c j k)
  blk_ext [iblk, idx t]
theorem blk8 (j : Fin 8) (k : Fin 128) : iblk m c 8 t (ix3 j 0 k) = m ((c : Thread nD τ).loc main_arg8) (ix2 0 ⟨j.val * 128 + k.val, by omega⟩) := by
  refine Eq.trans ?_ (host8 m c j k)
  blk_ext [iblk, idx t]
theorem blk9 (k : Fin 1024) (d : Fin 2048) : iblk m c 9 t (ix2 k d) = m ((c : Thread nD τ).loc main_arg9) (ix3 0 k d) := by
  refine Eq.trans ?_ (host9 m c k d)
  blk_ext [iblk, idx t]
theorem blk10 (k : Fin 1024) (d : Fin 2048) : iblk m c 10 t (ix2 k d) = m ((c : Thread nD τ).loc main_arg10) (ix3 0 k d) := by
  refine Eq.trans ?_ (host10 m c k d)
  blk_ext [iblk, idx t]
theorem blk11 (k : Fin 2048) (d : Fin 2048) : iblk m c 11 t (ix2 k d) = m ((c : Thread nD τ).loc main_arg11) (ix3 0 k d) := by
  refine Eq.trans ?_ (host11 m c k d)
  blk_ext [iblk, idx t]
end

/-! The slabs the body loads. -/
theorem inbS {n a b : Nat} (i : Nat) (h : i < n) : ∀ k, (![i, 0, 0] : Fin 3 → Nat) k + (![1, a, b] : Fin 3 → Nat) k ≤ (⟨3, ![n, a, b]⟩ : Shape).size k := fun k => by
  fin_cases k
  · show i + 1 ≤ n; omega
  · show 0 + a ≤ a; omega
  · show 0 + b ≤ b; omega
/-- Slab `i` of an array, as the body loads it. -/
def ldS {n a b : Nat} {e : EltTy} (X : Vec Ideal ⟨3, ![n, a, b]⟩ e) (i : Nat) (h : i < n) : Vec Ideal ⟨3, ![1, a, b]⟩ e :=
  View.ld (Val := Elt Ideal) (S := ⟨3, ![n, a, b]⟩) (e' := e) X (Rect.unit (s := ⟨3, ![n, a, b]⟩) ![i, 0, 0] ![1, a, b] (inbS i h))
theorem ldS_at {n a b : Nat} {e : EltTy} (X : Vec Ideal ⟨3, ![n, a, b]⟩ e) (i : Nat) (h : i < n) (r : Fin a) (l : Fin b) : ldS X i h (ix3 0 r l) = X (ix3 ⟨i, h⟩ r l) :=
  View.ld_unit_apply_of X ![i, 0, 0] ![1, a, b] (inbS i h) (ix3 0 r l) (ix3 ⟨i, h⟩ r l) (fun k => by
    fin_cases k
    · show i = i + 0; omega
    · show r.val = 0 + r.val; omega
    · show l.val = 0 + l.val; omega)

/-- What a point writes, put together from the slabs. -/
theorem outs_eq (c : Dev nD) (t : Fin cfg0.N) : outsAt0 m c t
    = k0_pay62 (F := Ideal)
        (orw (fun s => ldS (n := 8) (a := 256) (b := 128) (e := .f32) (iblk m c 2 t) s.val s.isLt) (fun s => ldS (n := 8) (a := 256) (b := 128) (e := .f32) (iblk m c 3 t) s.val s.isLt)
          (fun s => ldS (n := 8) (a := 1) (b := 128) (e := .f32) (iblk m c 7 t) s.val s.isLt) (fun s => ldS (n := 8) (a := 1) (b := 128) (e := .f32) (iblk m c 8 t) s.val s.isLt)
          (fun s => ldS (n := 8) (a := 256) (b := 128) (e := .f32) (iblk m c 4 t) s.val s.isLt))
        (oat (fun s => ldS (n := 8) (a := 256) (b := 128) (e := .bf16) (iblk m c 1 t) s.val s.isLt))
        (gateB (fun s => ldS (n := 32) (a := 256) (b := 128) (e := .bf16) (X0_5 m c t) (16 + s.val) (by omega)) (ldS (n := 2) (a := 1) (b := 2048) (e := .f32) (iblk m c 6 t) 1 (by omega)))
        (k0_pay61 (gateA (fun s => ldS (n := 32) (a := 256) (b := 128) (e := .bf16) (X0_5 m c t) s.val (by omega)) (ldS (n := 2) (a := 1) (b := 2048) (e := .f32) (iblk m c 6 t) 0 (by omega))))
        (iblk m c 9 t) (iblk m c 10 t) (iblk m c 0 t) (iblk m c 11 t) := by
  unfold outsAt0
  frame_out
  rfl

variable (c : Dev nD)
/-- The rows the host's arrays hold. -/
def hg (k : Fin 1024) : EReal := m ((c : Thread nD τ).loc main_arg7) (ix2 0 k)
def hb (k : Fin 1024) : EReal := m ((c : Thread nD τ).loc main_arg8) (ix2 0 k)
def hx (w : Fin 32768) (e : Fin 2048) : EReal := m ((c : Thread nD τ).loc main_arg0) (ix3 ⟨w.val / 4096, by omega⟩ ⟨w.val % 4096, by omega⟩ e)
def hwo (d e : Fin 2048) : EReal := m ((c : Thread nD τ).loc main_arg11) (ix3 0 d e)
def hgt (w : Fin 32768) (k : Fin 1024) : EReal := m ((c : Thread nD τ).loc main_arg4) (ix3 ⟨k.val / 128, by omega⟩ w ⟨k.val % 128, by omega⟩)
def ho (w : Fin 32768) (k : Fin 1024) : EReal := m ((c : Thread nD τ).loc main_arg1) (ix3 ⟨k.val / 128, by omega⟩ w ⟨k.val % 128, by omega⟩)
theorem ix_slab {n N : Nat} (hN : N = n * 128) (A : (⟨3, ![n, 32768, 128]⟩ : Shape).Idx → EReal) (w : Fin 32768) (s : Fin n) (x : Fin 128) (k : Fin N) (hk : k.val = s.val * 128 + x.val) :
    A (ix3 s w x) = A (ix3 ⟨k.val / 128, by omega⟩ w ⟨k.val % 128, by omega⟩) := by
  have e1 : (⟨k.val / 128, by omega⟩ : Fin n) = s := Fin.ext (by dsimp only; omega)
  have e2 : (⟨k.val % 128, by omega⟩ : Fin 128) = x := Fin.ext (by dsimp only; omega)
  rw [e1, e2]

open Cert.MergeRefIdeal.Mrg (yrow gaRow gbRow)

theorem out_t (t : Fin cfg0.N) (hy : ∀ w k, ∃ v : ℝ, yrow (m ((c : Thread nD τ).loc main_arg2)) (m ((c : Thread nD τ).loc main_arg3)) w k = (v : EReal))
    (r : Fin 256) (e : Fin 2048) (w : Fin 32768) (hw : w.val = t.val * 256 + r.val) :
    outsAt0 m c t (ix2 r e)
      = hx m c w e
        + ∑ d : Fin 2048, merged (gaRow (m ((c : Thread nD τ).loc main_arg5)) (m ((c : Thread nD τ).loc main_arg6)) w) (gbRow (m ((c : Thread nD τ).loc main_arg5)) (m ((c : Thread nD τ).loc main_arg6)) w)
            (ho m c w) (rw (yrow (m ((c : Thread nD τ).loc main_arg2)) (m ((c : Thread nD τ).loc main_arg3)) w) (hg m c) (hb m c) (hgt m c w))
            (fun k d => m ((c : Thread nD τ).loc main_arg9) (ix3 0 k d)) (fun k d => m ((c : Thread nD τ).loc main_arg10) (ix3 0 k d)) d * hwo m c d e := by
  rw [outs_eq, pay62_at, blk0 m c t r e w hw]
  refine congrArg₂ (fun a b : EReal => a + b) rfl (Finset.sum_congr rfl fun d _ => ?_)
  rw [blk11]
  have ga : (fun d => gateA (fun s => ldS (n := 32) (a := 256) (b := 128) (e := .bf16) (X0_5 m c t) s.val (by omega)) (ldS (n := 2) (a := 1) (b := 2048) (e := .f32) (iblk m c 6 t) 0 (by omega)) (ix2 r d))
      = gaRow (m ((c : Thread nD τ).loc main_arg5)) (m ((c : Thread nD τ).loc main_arg6)) w := by
    funext d
    rw [gateA_at, ldS_at, ldS_at, blk5 m c t _ r _ w hw]
    exact congrArg₂ (fun a b : EReal => a + b) rfl (blk6 m c t 0 d)
  have gb : (fun d => gateB (fun s => ldS (n := 32) (a := 256) (b := 128) (e := .bf16) (X0_5 m c t) (16 + s.val) (by omega)) (ldS (n := 2) (a := 1) (b := 2048) (e := .f32) (iblk m c 6 t) 1 (by omega)) (ix2 r d))
      = gbRow (m ((c : Thread nD τ).loc main_arg5)) (m ((c : Thread nD τ).loc main_arg6)) w := by
    funext d
    rw [gateB_at, ldS_at, ldS_at, blk5 m c t _ r _ w hw]
    exact congrArg₂ (fun a b : EReal => a + b) rfl (blk6 m c t 1 d)
  have ha : (fun k => oat (fun s => ldS (n := 8) (a := 256) (b := 128) (e := .bf16) (iblk m c 1 t) s.val s.isLt) (ix2 r k)) = ho m c w := by
    funext k
    rw [oat_at, ldS_at, blk1 m c t _ r _ w hw]
    rfl
  have hr : (fun k => orw (fun s => ldS (n := 8) (a := 256) (b := 128) (e := .f32) (iblk m c 2 t) s.val s.isLt) (fun s => ldS (n := 8) (a := 256) (b := 128) (e := .f32) (iblk m c 3 t) s.val s.isLt)
          (fun s => ldS (n := 8) (a := 1) (b := 128) (e := .f32) (iblk m c 7 t) s.val s.isLt) (fun s => ldS (n := 8) (a := 1) (b := 128) (e := .f32) (iblk m c 8 t) s.val s.isLt)
          (fun s => ldS (n := 8) (a := 256) (b := 128) (e := .f32) (iblk m c 4 t) s.val s.isLt) (ix2 r k))
      = rw (yrow (m ((c : Thread nD τ).loc main_arg2)) (m ((c : Thread nD τ).loc main_arg3)) w) (hg m c) (hb m c) (hgt m c w) := by
    funext k
    rw [orw_at]
    refine (head_at _ _ _ _ _ r (yrow (m ((c : Thread nD τ).loc main_arg2)) (m ((c : Thread nD τ).loc main_arg3)) w) (hg m c) (hb m c) (hgt m c w) (hy w) ⟨k.val / 128, by omega⟩ ?_ ?_ ?_ ?_ ⟨k.val % 128, by omega⟩).trans ?_
    · intro x
      rw [ldS_at, ldS_at, blk2 m c t _ r _ w hw, blk3 m c t _ r _ w hw]
      exact congrArg₂ (fun a b : EReal => a + b) (ix_slab (n := 8) (N := 1024) rfl _ w _ x _ rfl) (ix_slab (n := 8) (N := 1024) rfl _ w _ x _ rfl)
    · intro x
      rw [ldS_at]
      exact blk7 m c t ⟨k.val / 128, by omega⟩ x
    · intro x
      rw [ldS_at]
      exact blk8 m c t ⟨k.val / 128, by omega⟩ x
    · intro x
      rw [ldS_at, blk4 m c t _ r _ w hw]
      exact ix_slab (n := 8) (N := 1024) rfl _ w _ x _ rfl
    · exact congrArg (rw (yrow (m ((c : Thread nD τ).loc main_arg2)) (m ((c : Thread nD τ).loc main_arg3)) w) (hg m c) (hb m c) (hgt m c w)) (Fin.ext (by dsimp only; omega))
  have wa : (fun (k : Fin 1024) (d : Fin 2048) => iblk m c 9 t (ix2 k d)) = fun k d => m ((c : Thread nD τ).loc main_arg9) (ix3 0 k d) := funext fun k => funext fun d => blk9 m c t k d
  have wo : (fun (k : Fin 1024) (d : Fin 2048) => iblk m c 10 t (ix2 k d)) = fun k d => m ((c : Thread nD τ).loc main_arg10) (ix3 0 k d) := funext fun k => funext fun d => blk10 m c t k d
  rw [ga, gb, ha, hr]
  exact congrArg₂ (fun p q => merged (gaRow (m ((c : Thread nD τ).loc main_arg5)) (m ((c : Thread nD τ).loc main_arg6)) w) (gbRow (m ((c : Thread nD τ).loc main_arg5)) (m ((c : Thread nD τ).loc main_arg6)) w)
            (ho m c w) (rw (yrow (m ((c : Thread nD τ).loc main_arg2)) (m ((c : Thread nD τ).loc main_arg3)) w) (hg m c) (hb m c) (hgt m c w)) p q d * hwo m c d e) wa wo

/-- The result array is the reference's. -/
theorem final (hy : ∀ w k, ∃ v : ℝ, yrow (m ((c : Thread nD τ).loc main_arg2)) (m ((c : Thread nD τ).loc main_arg3)) w k = (v : EReal)) :
    (dats m 0 c).arrAt 12 cfg0.N
      = Cert.MergeRefIdeal.Mrg.out (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11)) := by
  refine Dat.arrAt_eq_of_covers (dats m 0 c) 12 _ (by decide +kernel) fun t _ y => ?_
  blk_simp
  rw [after0_12]
  have hN := N128 t
  idx_vars y
  refine (out_t m c t hy y0 y1 ⟨t.val * 256 + y0.val, by omega⟩ rfl).trans ?_
  refine (Cert.MergeRefIdeal.Mrg.out_at (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11)) ⟨t.val * 256 + y0.val, by omega⟩ y1).symm.trans ?_
  blk_ext [idx t]
end Cert.MergeIdeal.Mrg
-- ==== Proof.Mrg.Finite.lean ====
module
public import proofs.«01_k».proof.Pre_scans_finite
public import proofs.«01_k».proof.Proof.Mrg.Final
public import proofs.«01_k».proof.Proof.Att.Finite
public import Idealize.ShloMosaic.Lib.ReduceAll
@[expose] public section
noncomputable section
open Idealize.ShloMosaic
/-! What the precondition says: the two directions of the recurrence are real numbers, and so are their sums. -/
namespace Cert.ScansFinite

open Cert.Pre_scans_finite in
theorem facts : Cert.Pre_scans_finite.Facts where
  bcast_S_S8x32768x128 := by decide
  reducesTo_S8x32768x128_S_d0_1_2 := by decide
  h_S_ := by decide

instance : Subsingleton Cert.Pre_scans_finite.S_.Idx := ⟨fun a b => funext fun k => k.elim0⟩

variable [Cert.Pre_scans_finite.Facts]
open Cert.Pre_scans_finite in
theorem split (a0 : FVec Ideal S8x4096x2048 .f32) (a1 : FVec Ideal S8x32768x128 .bf16) (a2 a3 a4 : FVec Ideal S8x32768x128 .f32) (a5 : FVec Ideal S84x32768x128 .bf16)
    (a6 : FVec Ideal S1x2x2048 .f32) (a7 a8 : FVec Ideal S1x1024 .f32) (a9 a10 : FVec Ideal S1x1024x2048 .f32) (a11 : FVec Ideal S1x2048x2048 .f32)
    (h : fn (F := Ideal) a0 a1 a2 a3 a4 a5 a6 a7 a8 a9 a10 a11 = fun _ => 1#1) (w : Fin 32768) (k : Fin 1024) :
    ∃ v : ℝ, Cert.MergeRefIdeal.Mrg.yrow a2 a3 w k = (v : EReal) := by
  have h0 := congrFun h ix0
  obtain ⟨e0, e1⟩ := IntOp.andi_eq_one.1 h0
  have q0 := Cert.Finite.real_of_all _ _ (fun _ => rfl) _ _ _ _ e0
  have q1 := Cert.Finite.real_of_all _ _ (fun _ => rfl) _ _ _ _ e1
  refine ⟨_, (congrArg₂ (fun a b : EReal => a + b) (q0 (ix3 ⟨k.val / 128, by omega⟩ w ⟨k.val % 128, by omega⟩)) (q1 (ix3 ⟨k.val / 128, by omega⟩ w ⟨k.val % 128, by omega⟩))).trans
    (EReal.coe_add _ _).symm⟩
end Cert.ScansFinite
-- ==== Proof.Rwp.Math.lean ====
module
public import Idealize.ShloMosaic.Lib.Pointwise
public import proofs.«01_k».proof.Proof.Mrg.Math
@[expose] public section
set_option maxRecDepth 16384
noncomputable section
open Idealize.ShloMosaic Idealize.ShloMosaic.TcCoe Idealize.SL.Sem
namespace Cert.Rwp
open Cert.Mrg (sig)
open Cert.Att (div_coe_coe exp_coe)

/-! The token shift and the recurrence's arguments, one token at a time. A token is a row of the eight sequences laid end to end; columns are those of
    the 28 slabs. -/

/-- The row before, zero at a sequence's first token. -/
def shp (A : Fin 32768 → EReal) (n : Fin 32768) : EReal := if h : n.val % 4096 = 0 then 0 else A ⟨n.val - 1, by omega⟩
/-- The row after, zero at a sequence's last token. -/
def shn (A : Fin 32768 → EReal) (n : Fin 32768) : EReal := if h : n.val % 4096 = 4095 then 0 else A ⟨n.val + 1, by omega⟩
/-- The token shift of one column. -/
def mix (A : Fin 32768 → EReal) (m0 m1 : EReal) (n : Fin 32768) : EReal := A n + m0 * (shp A n - A n) + m1 * (shn A n - A n)
/-- A slab's column for a column of the projection. -/
def cq (j : Fin 3520) : Fin 3584 := if h : j.val < 3168 then ⟨j.val, by omega⟩ else if h2 : j.val < 3264 then ⟨j.val + 32, by omega⟩ else ⟨j.val + 64, by omega⟩
/-- The shift's coefficients by columns of the slabs, zero where no column of the projection lies. -/
def muS (mu : Fin 3520 → EReal) (q : Fin 3584) : EReal :=
  if h : q.val < 3168 then mu ⟨q.val, by omega⟩ else if h1 : q.val < 3200 then 0 else if h2 : q.val < 3296 then mu ⟨q.val - 32, by omega⟩
    else if h3 : q.val < 3328 then 0 else mu ⟨q.val - 64, by omega⟩
theorem muS_cq (mu : Fin 3520 → EReal) (j : Fin 3520) : muS mu (cq j) = mu j := by
  have hj := j.isLt
  by_cases h : j.val < 3168
  · have e : cq j = ⟨j.val, by omega⟩ := dif_pos h
    rw [e]; unfold muS; rw [dif_pos h]
  · by_cases h2 : j.val < 3264
    · have e : cq j = ⟨j.val + 32, by omega⟩ := (dif_neg h).trans (dif_pos h2)
      rw [e]; unfold muS; rw [dif_neg (by dsimp only; omega), dif_neg (by dsimp only; omega), dif_pos (by dsimp only; omega)]
      exact congrArg mu (Fin.ext (by dsimp only; omega))
    · have e : cq j = ⟨j.val + 64, by omega⟩ := (dif_neg h).trans (dif_neg h2)
      rw [e]; unfold muS; rw [dif_neg (by dsimp only; omega), dif_neg (by dsimp only; omega), dif_neg (by dsimp only; omega), dif_neg (by dsimp only; omega)]
      exact congrArg mu (Fin.ext (by dsimp only; omega))

section Spec
variable (S : Fin 28 → Fin 32768 → Fin 128 → EReal) (mu0 mu1 : Fin 3520 → EReal)
/-- The shifted projection. -/
def zk (n : Fin 32768) (q : Fin 3584) : EReal := mix (fun n => S ⟨q.val / 128, by omega⟩ n ⟨q.val % 128, by omega⟩) (muS mu0 q) (muS mu1 q) n
variable (z : Fin 3584 → EReal)
def kv (kk : Fin 1024 → EReal) (j : Fin 1024) : EReal := z ⟨1024 + j.val, by omega⟩ * kk j
/-- The key divided by its head's norm. -/
def kn (kk : Fin 1024 → EReal) (j : Fin 1024) : EReal :=
  Ideal.div (kv z kk j) (max (Ideal.sqrt (∑ i : Fin 64, kv z kk ⟨j.val / 64 * 64 + i.val, by omega⟩ * kv z kk ⟨j.val / 64 * 64 + i.val, by omega⟩)) (Ideal.ofBits .f32 0x2B8CBCCC#32))
/-- The output gate. -/
def gt (g2 : Fin 256 → Fin 1024 → EReal) (j : Fin 1024) : EReal := ∑ x : Fin 256, sig (z ⟨3328 + x.val, by omega⟩) * g2 x j
/-- The decay's logarithm. -/
def dec (w0 : Fin 1024 → EReal) (w2 : Fin 96 → Fin 1024 → EReal) (j : Fin 1024) : EReal :=
  Ideal.ofBits .f32 0xBF1B4598#32 * sig (w0 j + ∑ x : Fin 96, Ideal.tanh (z ⟨3072 + x.val, by omega⟩) * w2 x j)
def asg (a0 : Fin 1024 → EReal) (a2 : Fin 96 → Fin 1024 → EReal) (j : Fin 1024) : EReal := sig (a0 j + ∑ x : Fin 96, z ⟨3200 + x.val, by omega⟩ * a2 x j)
def kd (a : Fin 1024 → EReal) (ka : Fin 1024 → EReal) (j : Fin 1024) : EReal := z ⟨1024 + j.val, by omega⟩ * (1 + (a j - 1) * ka j)
end Spec

/-- A sum over 128 lanes whose weights past 96 vanish. -/
theorem sum96 (f : Fin 128 → EReal) (w : Fin 96 → EReal) (W : Fin 128 → EReal) (hW : ∀ x : Fin 128, W x = if h : x.val < 96 then w ⟨x.val, h⟩ else 0) :
    (∑ x : Fin 128, f x * W x) = ∑ x : Fin 96, f ⟨x.val, by omega⟩ * w x := by
  rw [show (∑ x : Fin 128, f x * W x) = ∑ x : Fin (96 + 32), f x * W x from rfl, Fin.sum_univ_add]
  have z : (∑ i : Fin 32, f (Fin.natAdd 96 i) * W (Fin.natAdd 96 i)) = 0 := by
    refine Finset.sum_eq_zero fun i _ => ?_
    rw [hW, dif_neg (by show ¬ 96 + i.val < 96; omega), mul_zero]
  rw [z, add_zero]
  refine Finset.sum_congr rfl fun i _ => ?_
  rw [hW, dif_pos (by show i.val < 96; omega)]
  rfl

theorem log1p_exp (r : ℝ) : Ideal.log1p ((Real.exp r : ℝ) : EReal) = ((Real.log (1 + Real.exp r) : ℝ) : EReal) := by
  have h : (1 : EReal) + ((Real.exp r : ℝ) : EReal) = ((1 + Real.exp r : ℝ) : EReal) := by rw [EReal.coe_add, EReal.coe_one]
  have p := Real.exp_pos r
  unfold Ideal.log1p
  rw [h]
  exact if_neg (by linarith)
theorem div_one_coe (r : ℝ) (h : r ≠ 0) : Ideal.div 1 (r : EReal) = ((r⁻¹ : ℝ) : EReal) := by
  have e := div_coe_coe 1 r h
  rw [EReal.coe_one] at e
  rw [e, one_div]

/-- The logistic function through the softplus. -/
theorem softplus_sig (x : EReal) : Ideal.exp (-(max x 0 + Ideal.log1p (Ideal.exp (-max x (-x))))) = Ideal.div 1 (1 + Ideal.exp x) := by
  induction x using EReal.rec with
  | bot =>
    have e1 : max (⊥ : EReal) (-⊥) = ⊤ := by simp
    have e2 : Ideal.exp (-⊤) = 0 := rfl
    have e3 : Ideal.exp ⊥ = 0 := rfl
    have e4 : Ideal.log1p 0 = 0 := by
      have h := log1p_exp 0
      unfold Ideal.log1p
      rw [add_zero]
      show (if (1 : ℝ) ≤ 0 then (⊥ : EReal) else (Real.log 1 : EReal)) = 0
      rw [if_neg (by norm_num), Real.log_one, EReal.coe_zero]
    have e5 : Ideal.exp 0 = 1 := by
      show ((Real.exp 0 : ℝ) : EReal) = 1
      rw [Real.exp_zero, EReal.coe_one]
    have e6 := div_one_coe 1 one_ne_zero
    rw [EReal.coe_one, inv_one, EReal.coe_one] at e6
    rw [e1, e2, e3, e4, max_eq_right bot_le, add_zero, add_zero, neg_zero, e5, e6]
  | top =>
    have e2 : Ideal.exp (-⊤) = 0 := rfl
    have e3 : Ideal.exp ⊤ = ⊤ := rfl
    have e4 : Ideal.log1p 0 = 0 := by
      unfold Ideal.log1p
      rw [add_zero]
      show (if (1 : ℝ) ≤ 0 then (⊥ : EReal) else (Real.log 1 : EReal)) = 0
      rw [if_neg (by norm_num), Real.log_one, EReal.coe_zero]
    rw [max_eq_left le_top, max_eq_left le_top, e2, e4, add_zero, e2, e3, EReal.add_top_of_ne_bot (by decide)]
    unfold Ideal.div
    rw [if_neg (by decide), EReal.inv_top, mul_zero]
  | coe r =>
    have hm : max (r : EReal) (-(r : EReal)) = ((max r (-r) : ℝ) : EReal) := by rw [← EReal.coe_neg, EReal.coe_strictMono.monotone.map_max]
    have h0 : max (r : EReal) 0 = ((max r 0 : ℝ) : EReal) := by rw [← EReal.coe_zero, EReal.coe_strictMono.monotone.map_max]
    rw [hm, h0, ← EReal.coe_neg, exp_coe, log1p_exp, ← EReal.coe_add, ← EReal.coe_neg, exp_coe, exp_coe,
      show (1 : EReal) + ((Real.exp r : ℝ) : EReal) = ((1 + Real.exp r : ℝ) : EReal) by rw [EReal.coe_add, EReal.coe_one],
      div_one_coe _ (by positivity)]
    refine congrArg _ ?_
    have p := Real.exp_pos r
    rw [Real.exp_neg, Real.exp_add, Real.exp_log (by positivity)]
    refine congrArg _ ?_
    rcases le_total 0 r with h | h
    · rw [max_eq_left h, max_eq_left (by linarith), mul_add, ← Real.exp_add]; simp [add_comm]
    · rw [max_eq_right h, max_eq_right (by linarith), neg_neg]; simp
end Cert.Rwp
-- ==== Proof.Rwp.Load.lean ====
module
public import Idealize.ShloMosaic.Lib.Pipeline.ValueKit
public import proofs.«01_k».proof.Proof.Rwp.Math
public import Idealize.ShloMosaic.Lib.Pipeline.Value
@[expose] public section
set_option maxRecDepth 16384
noncomputable section
open Idealize.ShloMosaic Idealize.ShloMosaic.TcCoe Idealize.SL.Sem
namespace Cert.Rwp
/-- A sum of one term, chosen by a word. -/
theorem one_hot (f : Fin 288 → EReal) (k : Fin 288) (c : Fin 288 → BitVec 1) (hc : ∀ x : Fin 288, c x = if x.val = k.val then 1#1 else 0#1) : (∑ x : Fin 288, Scalar.select (c x) (f x) 0) = f k := by
  rw [Finset.sum_eq_single k]
  · rw [hc, if_pos rfl]; rfl
  · intro x _ hx
    rw [hc, if_neg (fun h => hx (Fin.ext h))]; rfl
  · intro h; exact absurd (Finset.mem_univ k) h

/-! The slabs the body loads. -/
theorem inbS {n a b : Nat} (i : Nat) (h : i < n) : ∀ k, (![i, 0, 0] : Fin 3 → Nat) k + (![1, a, b] : Fin 3 → Nat) k ≤ (⟨3, ![n, a, b]⟩ : Shape).size k := fun k => by
  fin_cases k
  · show i + 1 ≤ n; omega
  · show 0 + a ≤ a; omega
  · show 0 + b ≤ b; omega
/-- Slab `i` of an array, as the body loads it. -/
def ldS {n a b : Nat} {e : EltTy} (X : Vec Ideal ⟨3, ![n, a, b]⟩ e) (i : Nat) (h : i < n) : Vec Ideal ⟨3, ![1, a, b]⟩ e :=
  View.ld (Val := Elt Ideal) (S := ⟨3, ![n, a, b]⟩) (e' := e) X (Rect.unit (s := ⟨3, ![n, a, b]⟩) ![i, 0, 0] ![1, a, b] (inbS i h))
theorem ldS_at {n a b : Nat} {e : EltTy} (X : Vec Ideal ⟨3, ![n, a, b]⟩ e) (i : Nat) (h : i < n) (r : Fin a) (l : Fin b) : ldS X i h (ix3 0 r l) = X (ix3 ⟨i, h⟩ r l) :=
  View.ld_unit_apply_of X ![i, 0, 0] ![1, a, b] (inbS i h) (ix3 0 r l) (ix3 ⟨i, h⟩ r l) (fun k => by
    fin_cases k
    · show i = i + 0; omega
    · show r.val = 0 + r.val; omega
    · show l.val = 0 + l.val; omega)
theorem inbT {m n b : Nat} (d i : Nat) (hd : d < m) (h : i < n) : ∀ k, (![d, i, 0, 0] : Fin 4 → Nat) k + (![1, 1, 1, b] : Fin 4 → Nat) k ≤ (⟨4, ![m, n, 1, b]⟩ : Shape).size k := fun k => by
  fin_cases k
  · show d + 1 ≤ m; omega
  · show i + 1 ≤ n; omega
  · show 0 + 1 ≤ 1; omega
  · show 0 + b ≤ b; omega
def ldT {m n b : Nat} {e : EltTy} (X : Vec Ideal ⟨4, ![m, n, 1, b]⟩ e) (d i : Nat) (hd : d < m) (h : i < n) : Vec Ideal ⟨4, ![1, 1, 1, b]⟩ e :=
  View.ld (Val := Elt Ideal) (S := ⟨4, ![m, n, 1, b]⟩) (e' := e) X (Rect.unit (s := ⟨4, ![m, n, 1, b]⟩) ![d, i, 0, 0] ![1, 1, 1, b] (inbT d i hd h))
theorem ldT_at {m n b : Nat} {e : EltTy} (X : Vec Ideal ⟨4, ![m, n, 1, b]⟩ e) (d i : Nat) (hd : d < m) (h : i < n) (l : Fin b) : ldT X d i hd h (ix4 0 0 0 l) = X (ix4 ⟨d, hd⟩ ⟨i, h⟩ 0 l) :=
  View.ld_unit_apply_of X ![d, i, 0, 0] ![1, 1, 1, b] (inbT d i hd h) (ix4 0 0 0 l) (ix4 ⟨d, hd⟩ ⟨i, h⟩ 0 l) (fun k => by
    fin_cases k
    · show d = d + 0; omega
    · show i = i + 0; omega
    · rfl
    · show l.val = 0 + l.val; omega)
end Cert.Rwp
-- ==== Proof.Rwp.Pay.lean ====
module
public import proofs.«01_k».proof.Proof.Gen.RwprepIdeal.Frame
public import Idealize.ShloMosaic.Lib.Pointwise
public import proofs.«01_k».proof.Proof.Rwp.Load
public import Idealize.ShloMosaic.Lib.Pipeline.Value
@[expose] public section
set_option maxRecDepth 16384
noncomputable section
open Idealize.ShloMosaic Idealize.ShloMosaic.TcCoe Idealize.SL.Sem
namespace Cert.RwprepIdeal.Rwp
open Cert.RwprepIdeal Cert.RwprepIdeal.Gen Facts Cert.Rwp
open Cert.Mrg (sig)

variable (i : grid0.Coords) (x0 : Vec Ideal S28x256x128 .bf16) (x1 x2 : Vec Ideal S28x16x128 .bf16) (x3 : Vec Ideal S2x1x3584 .f32)
  (x4 x5 : Vec Ideal S2x8x1x128 .f32) (x6 x7 : Vec Ideal S8x1x128 .f32) (x8 x9 : Vec Ideal S2x128x1024 .bf16) (x10 : Vec Ideal S256x1024 .bf16)

/-- A slab of the block, and of a halo, as a matrix. -/
def flM (p : Vec Ideal S1x256x128 .bf16) : FVec Ideal S256x128 .bf16 := shapeCast S256x128 p shapeCasts_S1x256x128_S256x128
def flH (p : Vec Ideal S1x16x128 .bf16) : FVec Ideal S16x128 .bf16 := shapeCast S16x128 p shapeCasts_S1x16x128_S16x128
theorem flM_at (p : Vec Ideal S1x256x128 .bf16) (r : Fin 256) (l : Fin 128) : flM p (ix2 r l) = p (ix3 0 r l) := by
  pointwise [flM]
theorem flH_at (p : Vec Ideal S1x16x128 .bf16) (r : Fin 16) (l : Fin 128) : flH p (ix2 r l) = p (ix3 0 r l) := by
  pointwise [flH]
def mS (x : Vec Ideal S28x256x128 .bf16) (s : Fin 28) : FVec Ideal S256x128 .bf16 := flM (ldS (n := 28) (a := 256) (b := 128) (e := .bf16) x s.val s.isLt)
def hS (x : Vec Ideal S28x16x128 .bf16) (s : Fin 28) : FVec Ideal S16x128 .bf16 := flH (ldS (n := 28) (a := 16) (b := 128) (e := .bf16) x s.val s.isLt)
theorem mS_at (s : Fin 28) (r : Fin 256) (l : Fin 128) : mS x0 s (ix2 r l) = x0 (ix3 s r l) :=
  (flM_at _ r l).trans (ldS_at (n := 28) (a := 256) (b := 128) (e := .bf16) x0 s.val s.isLt r l)
theorem hS_at (s : Fin 28) (r : Fin 16) (l : Fin 128) : hS x1 s (ix2 r l) = x1 (ix3 s r l) :=
  (flH_at _ r l).trans (ldS_at (n := 28) (a := 16) (b := 128) (e := .bf16) x1 s.val s.isLt r l)
theorem catM (P : Fin 28 → FVec Ideal S256x128 .bf16) (h) (r : Fin 256) (l : Fin 3584) :
    concatenate S256x3584 1 (List.ofFn fun n : Fin 28 => (⟨S256x128, P n⟩ : (s : Shape) × (s.Idx → EReal))) h (ix2 r l)
      = P ⟨l.val / 128, by omega⟩ (ix2 r ⟨l.val % 128, by omega⟩) :=
  Idealize.ShloMosaic.concatenate_ofFn_apply (t := S256x3584) (s₁ := S256x128) 1 P _ rfl 128 rfl (ix2 r l) ⟨l.val / 128, by omega⟩ rfl (ix2 r ⟨l.val % 128, by omega⟩) rfl
    (fun b hb => by fin_cases b <;> first | rfl | exact absurd rfl hb)
theorem catH (P : Fin 28 → FVec Ideal S16x128 .bf16) (h) (r : Fin 16) (l : Fin 3584) :
    concatenate S16x3584 1 (List.ofFn fun n : Fin 28 => (⟨S16x128, P n⟩ : (s : Shape) × (s.Idx → EReal))) h (ix2 r l)
      = P ⟨l.val / 128, by omega⟩ (ix2 r ⟨l.val % 128, by omega⟩) :=
  Idealize.ShloMosaic.concatenate_ofFn_apply (t := S16x3584) (s₁ := S16x128) 1 P _ rfl 128 rfl (ix2 r l) ⟨l.val / 128, by omega⟩ rfl (ix2 r ⟨l.val % 128, by omega⟩) rfl
    (fun b hb => by fin_cases b <;> first | rfl | exact absurd rfl hb)

theorem pay236_at (r : Fin 256) (q : Fin 3584) : k0_pay236 i x0 x1 x2 x3 x4 x5 x6 x7 x8 x9 x10 (ix2 r q) = x0 (ix3 ⟨q.val / 128, by omega⟩ r ⟨q.val % 128, by omega⟩) :=
  (catM (mS x0) concatenates_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x3584_d1 r q).trans (mS_at x0 _ _ _)
/-- A halo's slabs side by side. -/
def cat (x : Vec Ideal S28x16x128 .bf16) : FVec Ideal S16x3584 .bf16 := concatenate S16x3584 1 (List.ofFn fun n : Fin 28 => (⟨S16x128, hS x n⟩ : (s : Shape) × (s.Idx → EReal))) concatenates_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x3584_d1
theorem cat_at (r : Fin 16) (q : Fin 3584) : cat x1 (ix2 r q) = x1 (ix3 ⟨q.val / 128, by omega⟩ r ⟨q.val % 128, by omega⟩) :=
  (catH (hS x1) _ r q).trans (hS_at x1 _ _ _)
theorem pay237_eq : k0_pay237 i x0 x1 x2 x3 x4 x5 x6 x7 x8 x9 x10
    = Scalar.select (Scalar.cmpi .sgt (BitVec.ofNat 32 (i 1).val) 0#32) (cat x1) (broadcast S16x3584 (Scalar.ofBits .bf16 0x0000#16)) := rfl

/-- The halo after the block, side by side. -/
def nxt : FVec Ideal S16x3584 .bf16 := Scalar.select (Scalar.cmpi .slt (BitVec.ofNat 32 (i 1).val) 15#32) (cat x2) (broadcast S16x3584 (Scalar.ofBits .bf16 0x0000#16))
/-- The block between its halos. -/
def halo (A : FVec Ideal S16x3584 .bf16) (B : FVec Ideal S256x3584 .bf16) (C : FVec Ideal S16x3584 .bf16) : FVec Ideal S288x3584 .bf16 :=
  concatenate S288x3584 0 [⟨S16x3584, A⟩, ⟨S256x3584, B⟩, ⟨S16x3584, C⟩] concatenates_S16x3584_S256x3584_S16x3584_S288x3584_d0
theorem halo_at (A : FVec Ideal S16x3584 .bf16) (B : FVec Ideal S256x3584 .bf16) (C : FVec Ideal S16x3584 .bf16) (u : Fin 288) (q : Fin 3584) :
    halo A B C (ix2 u q) = if h : u.val < 16 then A (ix2 ⟨u.val, h⟩ q) else if h2 : u.val < 272 then B (ix2 ⟨u.val - 16, by omega⟩ q) else C (ix2 ⟨u.val - 272, by omega⟩ q) := by
  pointwise [halo]
  by_cases h : u.val < 16
  · rw [dif_pos h, dif_pos h]
  · rw [dif_neg h, dif_neg h]
    by_cases h2 : u.val < 272
    · rw [dif_pos (show u.val - 16 < 256 by omega), dif_pos h2]
    · rw [dif_neg (show ¬ u.val - 16 < 256 by omega), dif_neg h2]
      exact congrArg (fun x => C (ix2 x q)) (Fin.ext (by dsimp only; omega))
/-- The rows `o` from the block's own, out of the block between its halos. -/
def sel (up : Bool) (H : FVec Ideal S288x3584 .bf16) : FVec Ideal S256x3584 .f32 :=
  matmul dot_S256x288_S288x3584_S256x3584_1_0_0_1_n_n none
    (truncf .bf16 (select (cmpi .eq (iota .tc S256x288 32 [1] iota_S256x288_d1_w32)
      (if up then addi (addi (iota .tc S256x288 32 [0] iota_S256x288_d0_w32) (broadcast S256x288 16#32)) (broadcast S256x288 1#32)
        else subi (addi (iota .tc S256x288 32 [0] iota_S256x288_d0_w32) (broadcast S256x288 16#32)) (broadcast S256x288 1#32)))
      (broadcast S256x288 (Scalar.ofBits .f32 0x3F800000#32)) (broadcast S256x288 (Scalar.ofBits .f32 0x00000000#32))) bitsLt_bf16_f32) H (constant S256x3584 .f32 0x00000000#32)
theorem pay263_eq : k0_pay263 i x0 x1 x2 x3 x4 x5 x6 x7 x8 x9 x10 = sel true (halo (k0_pay237 i x0 x1 x2 x3 x4 x5 x6 x7 x8 x9 x10) (k0_pay236 i x0 x1 x2 x3 x4 x5 x6 x7 x8 x9 x10) (nxt i x2)) := rfl
theorem pay265_eq : k0_pay265 i x0 x1 x2 x3 x4 x5 x6 x7 x8 x9 x10
    = addf (k0_pay264 i x0 x1 x2 x3 x4 x5 x6 x7 x8 x9 x10) (mulf (broadcastTo S256x3584 (shapeCast S1x3584 (View.ld x3 r0_56 : Vec Ideal S1x1x3584 .f32) shapeCasts_S1x1x3584_S1x3584) broadcasts_S1x3584_S256x3584)
        (subf (sel false (halo (k0_pay237 i x0 x1 x2 x3 x4 x5 x6 x7 x8 x9 x10) (k0_pay236 i x0 x1 x2 x3 x4 x5 x6 x7 x8 x9 x10) (nxt i x2))) (k0_pay264 i x0 x1 x2 x3 x4 x5 x6 x7 x8 x9 x10))) := rfl
theorem up_cond : ∀ (r : Fin 256) (u : Fin 288), IntOp.cmpi CmpIPredicate.eq (BitVec.ofNat 32 u.val) (IntOp.addi (IntOp.addi (BitVec.ofNat 32 r.val) 16#32) 1#32)
    = if u.val = r.val + 17 then 1#1 else 0#1 := by decide +kernel
theorem dn_cond : ∀ (r : Fin 256) (u : Fin 288), IntOp.cmpi CmpIPredicate.eq (BitVec.ofNat 32 u.val) (IntOp.subi (IntOp.addi (BitVec.ofNat 32 r.val) 16#32) 1#32)
    = if u.val = r.val + 15 then 1#1 else 0#1 := by decide +kernel
theorem sel_up (H : FVec Ideal S288x3584 .bf16) (r : Fin 256) (q : Fin 3584) : sel true H (ix2 r q) = H (ix2 ⟨r.val + 17, by omega⟩ q) := by
  unfold sel
  rw [if_pos rfl]
  pointwise
  exact one_hot (fun x => H (ix2 x q)) ⟨r.val + 17, by omega⟩ _ fun x => up_cond r x
theorem sel_dn (H : FVec Ideal S288x3584 .bf16) (r : Fin 256) (q : Fin 3584) : sel false H (ix2 r q) = H (ix2 ⟨r.val + 15, by omega⟩ q) := by
  unfold sel
  rw [if_neg Bool.false_ne_true]
  pointwise
  exact one_hot (fun x => H (ix2 x q)) ⟨r.val + 15, by omega⟩ _ fun x => dn_cond r x
theorem pay264_at (r : Fin 256) (q : Fin 3584) : k0_pay264 i x0 x1 x2 x3 x4 x5 x6 x7 x8 x9 x10 (ix2 r q) = x0 (ix3 ⟨q.val / 128, by omega⟩ r ⟨q.val % 128, by omega⟩) :=
  pay236_at i x0 x1 x2 x3 x4 x5 x6 x7 x8 x9 x10 r q
end Cert.RwprepIdeal.Rwp
-- ==== Proof.Rwp.Piece.lean ====
module
public import proofs.«01_k».proof.Proof.Gen.RwprepIdeal.Frame
public import proofs.«01_k».proof.Proof.Rwp.Load
public import Idealize.ShloMosaic.Lib.Pointwise
public import Idealize.ShloMosaic.Lib.Pipeline.Value
@[expose] public section
set_option maxRecDepth 16384
noncomputable section
open Idealize.ShloMosaic Idealize.ShloMosaic.TcCoe Idealize.SL.Sem
namespace Cert.RwprepIdeal.Rwp
open Cert.RwprepIdeal Cert.RwprepIdeal.Gen Facts Cert.Rwp
open Cert.Mrg (mask split_sum)

/-! What the body computes from a block's shifted rows, one slab of 128 columns at a time. -/

theorem slz_h : ∀ (s : Fin 28), S256x3584.Slices ![0, s.val * 128] S256x128 := by decide
theorem sld_h : ∀ (s : Fin 8), S256x1024.Slices ![0, s.val * 128] S256x128 := by decide
/-- A slab of the shifted rows, and of a product. -/
def slz (Z : FVec Ideal S256x3584 .f32) (s : Fin 28) : FVec Ideal S256x128 .f32 := extractStridedSlice S256x128 ![0, s.val * 128] Z (slz_h s)
def sld (D : FVec Ideal S256x1024 .f32) (s : Fin 8) : FVec Ideal S256x128 .f32 := extractStridedSlice S256x128 ![0, s.val * 128] D (sld_h s)
theorem slz_at (Z : FVec Ideal S256x3584 .f32) (s : Fin 28) (r : Fin 256) (l : Fin 128) : slz Z s (ix2 r l) = Z (ix2 r ⟨s.val * 128 + l.val, by omega⟩) := by
  pointwise [slz]
theorem sld_at (Z : FVec Ideal S256x1024 .f32) (s : Fin 8) (r : Fin 256) (l : Fin 128) : sld Z s (ix2 r l) = Z (ix2 r ⟨s.val * 128 + l.val, by omega⟩) := by
  pointwise [sld]
def row3 (x : Vec Ideal S1x1x128 .f32) : FVec Ideal S256x128 .f32 := broadcastTo S256x128 (shapeCast S1x128 x shapeCasts_S1x1x128_S1x128) broadcasts_S1x128_S256x128
def row4 (x : Vec Ideal S1x1x1x128 .f32) : FVec Ideal S256x128 .f32 := broadcastTo S256x128 (shapeCast S1x128 x shapeCasts_S1x1x1x128_S1x128) broadcasts_S1x128_S256x128
theorem row3_at (x : Vec Ideal S1x1x128 .f32) (r : Fin 256) (l : Fin 128) : row3 x (ix2 r l) = x (ix3 0 0 l) := by
  pointwise [row3]
theorem row4_at (x : Vec Ideal S1x1x1x128 .f32) (r : Fin 256) (l : Fin 128) : row4 x (ix2 r l) = x (ix4 0 0 0 l) := by
  pointwise [row4]
/-- The logistic function of a slab. -/
def sgp (B : FVec Ideal S256x128 .f32) : FVec Ideal S256x128 .f32 :=
  divf (broadcast S256x128 (Scalar.ofBits .f32 0x3F800000#32)) (addf (broadcast S256x128 (Scalar.ofBits .f32 0x3F800000#32)) (exp (subf (broadcast S256x128 (Scalar.ofBits .f32 0x00000000#32)) B)))
theorem sgp_at (B : FVec Ideal S256x128 .f32) (r : Fin 256) (l : Fin 128) : sgp B (ix2 r l) = Cert.Mrg.sig (B (ix2 r l)) := by
  pointwise [sgp]
  simp only [zero_sub]
  rfl
def dcp (B : FVec Ideal S256x128 .f32) : FVec Ideal S256x128 .f32 := mulf (broadcast S256x128 (Scalar.ofBits .f32 0xBF1B4598#32)) (sgp B)
theorem dcp_at (B : FVec Ideal S256x128 .f32) (r : Fin 256) (l : Fin 128) : dcp B (ix2 r l) = Ideal.ofBits .f32 0xBF1B4598#32 * Cert.Mrg.sig (B (ix2 r l)) :=
  congrArg (fun y : EReal => Ideal.ofBits .f32 0xBF1B4598#32 * y) (sgp_at B r l)
def kdp (K A W : FVec Ideal S256x128 .f32) : FVec Ideal S256x128 .f32 :=
  mulf K (addf (broadcast S256x128 (Scalar.ofBits .f32 0x3F800000#32)) (mulf (subf A (broadcast S256x128 (Scalar.ofBits .f32 0x3F800000#32))) W))
theorem kdp_at (K A W : FVec Ideal S256x128 .f32) (r : Fin 256) (l : Fin 128) : kdp K A W (ix2 r l) = K (ix2 r l) * (1 + (A (ix2 r l) - 1) * W (ix2 r l)) := by
  pointwise [kdp]
def ngp (K : FVec Ideal S256x128 .f32) : FVec Ideal S256x128 .f32 := subf (broadcast S256x128 (Scalar.ofBits .f32 0x00000000#32)) K
theorem ngp_at (K : FVec Ideal S256x128 .f32) (r : Fin 256) (l : Fin 128) : ngp K (ix2 r l) = -K (ix2 r l) := by
  pointwise [ngp]
  simp only [zero_sub]
theorem mul_at (K A : FVec Ideal S256x128 .f32) (r : Fin 256) (l : Fin 128) : mulf K A (ix2 r l) = K (ix2 r l) * A (ix2 r l) := by
  pointwise
theorem add_at (K A : FVec Ideal S256x128 .f32) (r : Fin 256) (l : Fin 128) : addf K A (ix2 r l) = K (ix2 r l) + A (ix2 r l) := by
  pointwise
/-- A slab of keys divided by its heads' norms. -/
def nmp (M : FVec Ideal S128x128 .bf16) (Y : FVec Ideal S256x128 .f32) : FVec Ideal S256x128 .f32 :=
  have v258 : FVec Ideal S256x128 .f32 := mulf Y Y
  have v259 : FVec Ideal S256x128 .bf16 := truncf .bf16 v258 bitsLt_bf16_f32
  have v260 : FVec Ideal S256x128 .f32 := extf .f32 v259 bitsLt_bf16_f32
  have v261 : FVec Ideal S256x128 .f32 := subf v258 v260
  have v262 : FVec Ideal S256x128 .bf16 := truncf .bf16 v261 bitsLt_bf16_f32
  have v263 : FVec Ideal S256x128 .f32 := extf .f32 v262 bitsLt_bf16_f32
  have v264 : FVec Ideal S256x128 .f32 := subf v261 v263
  have v265 : FVec Ideal S256x128 .bf16 := truncf .bf16 v264 bitsLt_bf16_f32
  divf Y (maximumf (sqrt (addf (addf (matmul dot_S256x128_S128x128_S256x128_1_0_0_1_n_n none v259 M (constant S256x128 .f32 0x00000000#32))
    (matmul dot_S256x128_S128x128_S256x128_1_0_0_1_n_n none v262 M (constant S256x128 .f32 0x00000000#32)))
    (matmul dot_S256x128_S128x128_S256x128_1_0_0_1_n_n none v265 M (constant S256x128 .f32 0x00000000#32)))) (broadcast S256x128 (Scalar.ofBits .f32 0x2B8CBCCC#32)))
theorem nmp_at (M : FVec Ideal S128x128 .bf16) (Y : FVec Ideal S256x128 .f32) (r : Fin 256) (l : Fin 128) (y : Fin 128 → EReal) (hY : ∀ x, Y (ix2 r x) = y x) (hy : ∀ x, ∃ v : ℝ, y x = (v : EReal))
    (hM : ∀ k, M (ix2 k l) = if k.val / 64 = l.val / 64 then 1 else 0) :
    nmp M Y (ix2 r l) = Ideal.div (y l) (max (Ideal.sqrt (∑ j : Fin 64, y ⟨l.val / 64 * 64 + j.val, by omega⟩ * y ⟨l.val / 64 * 64 + j.val, by omega⟩)) (Ideal.ofBits .f32 0x2B8CBCCC#32)) := by
  pointwise [nmp]
  choose v hv using hy
  simp only [hY]
  have h2 : ∀ x : Fin 128, y x * y x = ((v x * v x : ℝ) : EReal) := fun x => by rw [hv, EReal.coe_mul]
  simp only [h2, hM]
  rw [split_sum (fun x : Fin 128 => v x * v x) (fun k => if k.val / 64 = l.val / 64 then 1 else 0), mask]
def ca3 (X : FVec Ideal S256x128 .f32) : FVec Ideal S1x256x128 .f32 := shapeCast S1x256x128 X shapeCasts_S256x128_S1x256x128
def ca4 (X : FVec Ideal S256x128 .f32) : FVec Ideal S1x1x256x128 .f32 := shapeCast S1x1x256x128 X shapeCasts_S256x128_S1x1x256x128
def ca5 (X : FVec Ideal S256x128 .f32) : FVec Ideal S1x1x1x256x128 .f32 := shapeCast S1x1x1x256x128 X shapeCasts_S256x128_S1x1x1x256x128
theorem ca3_at (X : FVec Ideal S256x128 .f32) (r : Fin 256) (l : Fin 128) : ca3 X (ix3 0 r l) = X (ix2 r l) := by
  pointwise [ca3]
theorem ca4_at (X : FVec Ideal S256x128 .f32) (r : Fin 256) (l : Fin 128) : ca4 X (ix4 0 0 r l) = X (ix2 r l) := by
  pointwise [ca4]
theorem ca5_at (X : FVec Ideal S256x128 .f32) (r : Fin 256) (l : Fin 128) : ca5 X (ix5 0 0 0 r l) = X (ix2 r l) := by
  pointwise [ca5]

/-! The slabs written, from the shifted rows, the heads' mask and the products. -/
def key (Z : FVec Ideal S256x3584 .f32) (s : Fin 8) : FVec Ideal S256x128 .f32 := slz Z ⟨8 + s.val, by omega⟩
def nkey (Z : FVec Ideal S256x3584 .f32) (M : FVec Ideal S128x128 .bf16) (x6 : Vec Ideal S8x1x128 .f32) (s : Fin 8) : FVec Ideal S256x128 .f32 :=
  nmp M (mulf (key Z s) (row3 (ldS (n := 8) (a := 1) (b := 128) (e := .f32) x6 s.val s.isLt)))
def sga (x5 : Vec Ideal S2x8x1x128 .f32) (D : Fin 2 → FVec Ideal S256x1024 .f32) (d : Fin 2) (s : Fin 8) : FVec Ideal S256x128 .f32 :=
  addf (row4 (ldT (m := 2) (n := 8) (b := 128) (e := .f32) x5 d.val s.val d.isLt s.isLt)) (sld (D d) s)
def p11 (Z : FVec Ideal S256x3584 .f32) (M : FVec Ideal S128x128 .bf16) (x6 : Vec Ideal S8x1x128 .f32) (k : Fin 3) (s : Fin 8) : FVec Ideal S1x1x256x128 .f32 :=
  ![ca4 (slz Z ⟨s.val, by omega⟩), ca4 (slz Z ⟨16 + s.val, by omega⟩), ca4 (ngp (nkey Z M x6 s))] k
def p12 (D : FVec Ideal S256x1024 .f32) (s : Fin 8) : FVec Ideal S1x256x128 .f32 := ca3 (sld D s)
def p13 (Z : FVec Ideal S256x3584 .f32) (M : FVec Ideal S128x128 .bf16) (x4 x5 : Vec Ideal S2x8x1x128 .f32) (x6 x7 : Vec Ideal S8x1x128 .f32) (Dw Da : Fin 2 → FVec Ideal S256x1024 .f32) (d : Fin 2) (j : Fin 3) (s : Fin 8) :
    FVec Ideal S1x1x1x256x128 .f32 :=
  ![ca5 (kdp (key Z s) (sgp (sga x5 Da d s)) (row3 (ldS (n := 8) (a := 1) (b := 128) (e := .f32) x7 s.val s.isLt))), ca5 (mulf (nkey Z M x6 s) (sgp (sga x5 Da d s))), ca5 (dcp (sga x4 Dw d s))] j
end Cert.RwprepIdeal.Rwp
-- ==== Proof.Rwp.Zrow.lean ====
module
public import proofs.«01_k».proof.Proof.Rwp.Pay
public import proofs.«01_k».proof.Proof.Rwp.Piece
public import Idealize.ShloMosaic.Lib.Pipeline.ValueKit
@[expose] public section
set_option maxRecDepth 16384
noncomputable section
open Idealize.ShloMosaic Idealize.ShloMosaic.TcCoe Idealize.SL.Sem
namespace Cert.RwprepIdeal.Rwp
open Cert.RwprepIdeal Cert.RwprepIdeal.Gen Facts Cert.Rwp

variable (i : grid0.Coords) (x0 : Vec Ideal S28x256x128 .bf16) (x1 x2 : Vec Ideal S28x16x128 .bf16) (x3 : Vec Ideal S2x1x3584 .f32)
  (x4 x5 : Vec Ideal S2x8x1x128 .f32) (x6 x7 : Vec Ideal S8x1x128 .f32) (x8 x9 : Vec Ideal S2x128x1024 .bf16) (x10 : Vec Ideal S256x1024 .bf16)

theorem gt_cond : ∀ v : Fin 16, Scalar.cmpi .sgt (BitVec.ofNat 32 v.val) 0#32 = if v.val = 0 then 0#1 else 1#1 := by decide +kernel
theorem lt_cond : ∀ v : Fin 16, Scalar.cmpi .slt (BitVec.ofNat 32 v.val) 15#32 = if v.val = 15 then 0#1 else 1#1 := by decide +kernel
theorem zero_fill (r : Fin 16) (q : Fin 3584) : (broadcast S16x3584 (Scalar.ofBits (F := Ideal) .bf16 0x0000#16) : FVec Ideal S16x3584 .bf16) (ix2 r q) = 0 := by
  pointwise
theorem pay237_zero (h : (i 1).val = 0) (r : Fin 16) (q : Fin 3584) : k0_pay237 i x0 x1 x2 x3 x4 x5 x6 x7 x8 x9 x10 (ix2 r q) = 0 := by
  rw [pay237_eq, h, gt_cond ⟨0, by omega⟩]
  exact zero_fill r q
theorem pay237_row (T : Fin 16) (hT : T.val ≠ 0) (h : (i 1).val = T.val) (r : Fin 16) (q : Fin 3584) : k0_pay237 i x0 x1 x2 x3 x4 x5 x6 x7 x8 x9 x10 (ix2 r q)
    = x1 (ix3 ⟨q.val / 128, by omega⟩ r ⟨q.val % 128, by omega⟩) := by
  rw [pay237_eq, h, gt_cond T, if_neg hT]
  exact cat_at x1 r q
theorem nxt_zero (h : (i 1).val = 15) (r : Fin 16) (q : Fin 3584) : nxt i x2 (ix2 r q) = 0 := by
  unfold nxt
  rw [h, lt_cond ⟨15, by omega⟩]
  exact zero_fill r q
theorem nxt_row (T : Fin 16) (hT : T.val ≠ 15) (h : (i 1).val = T.val) (r : Fin 16) (q : Fin 3584) : nxt i x2 (ix2 r q)
    = x2 (ix3 ⟨q.val / 128, by omega⟩ r ⟨q.val % 128, by omega⟩) := by
  unfold nxt
  rw [h, lt_cond T, if_neg hT]
  exact cat_at x2 r q
section
variable (S : Fin 28 → Fin 32768 → Fin 128 → EReal) (t : Nat) (ht : t < 128) (hi : (i 1).val = t % 16)
  (h0 : ∀ s (r : Fin 256) l (n : Fin 32768), n.val = t * 256 + r.val → x0 (ix3 s r l) = S s n l)
  (h1 : ∀ s l (n : Fin 32768), n.val + 1 = t * 256 → x1 (ix3 s 15 l) = S s n l)
  (h2 : ∀ s l (n : Fin 32768), n.val = t * 256 + 256 → x2 (ix3 s 0 l) = S s n l)
include ht hi h0 h1 in
/-- The row before a row of the block. -/
theorem dn_at (r : Fin 256) (q : Fin 3584) (n : Fin 32768) (hn : n.val = t * 256 + r.val) :
    sel false (halo (k0_pay237 i x0 x1 x2 x3 x4 x5 x6 x7 x8 x9 x10) (k0_pay236 i x0 x1 x2 x3 x4 x5 x6 x7 x8 x9 x10) (nxt i x2)) (ix2 r q)
      = shp (fun n => S ⟨q.val / 128, by omega⟩ n ⟨q.val % 128, by omega⟩) n := by
  rw [sel_dn, halo_at]
  unfold shp
  by_cases hr : r.val = 0
  · rw [dif_pos (by dsimp only; omega)]
    by_cases hT : t % 16 = 0
    · rw [dif_pos (by omega)]
      exact pay237_zero i x0 x1 x2 x3 x4 x5 x6 x7 x8 x9 x10 (hi.trans hT) _ q
    · rw [dif_neg (by omega)]
      refine (pay237_row i x0 x1 x2 x3 x4 x5 x6 x7 x8 x9 x10 ⟨t % 16, by omega⟩ hT hi _ q).trans ?_
      have e : (⟨r.val + 15, by omega⟩ : Fin 16) = 15 := Fin.ext (by show r.val + 15 = 15; omega)
      refine (congrArg (fun u : Fin 16 => x1 (ix3 ⟨q.val / 128, by omega⟩ u ⟨q.val % 128, by omega⟩)) e).trans ?_
      exact h1 _ _ _ (by dsimp only; omega)
  · rw [dif_neg (by dsimp only; omega), dif_pos (by dsimp only; omega), dif_neg (by omega), pay236_at]
    exact h0 _ _ _ _ (by dsimp only; omega)
include ht hi h0 h2 in
/-- The row after a row of the block. -/
theorem up_at (r : Fin 256) (q : Fin 3584) (n : Fin 32768) (hn : n.val = t * 256 + r.val) :
    k0_pay263 i x0 x1 x2 x3 x4 x5 x6 x7 x8 x9 x10 (ix2 r q) = shn (fun n => S ⟨q.val / 128, by omega⟩ n ⟨q.val % 128, by omega⟩) n := by
  rw [pay263_eq, sel_up, halo_at]
  unfold shn
  by_cases hr : r.val = 255
  · rw [dif_neg (by dsimp only; omega), dif_neg (by dsimp only; omega)]
    by_cases hT : t % 16 = 15
    · rw [dif_pos (by omega)]
      exact nxt_zero i x2 (hi.trans hT) _ q
    · rw [dif_neg (by omega)]
      refine (nxt_row i x2 ⟨t % 16, by omega⟩ hT hi _ q).trans ?_
      have e : (⟨r.val + 17 - 272, by omega⟩ : Fin 16) = 0 := Fin.ext (by show r.val + 17 - 272 = 0; omega)
      refine (congrArg (fun u : Fin 16 => x2 (ix3 ⟨q.val / 128, by omega⟩ u ⟨q.val % 128, by omega⟩)) e).trans ?_
      exact h2 _ _ _ (by dsimp only; omega)
  · rw [dif_neg (by dsimp only; omega), dif_pos (by dsimp only; omega), dif_neg (by omega), pay236_at]
    exact h0 _ _ _ _ (by dsimp only; omega)
end
theorem pay75_at (zn z zc : FVec Ideal S256x3584 .f32) (w : Vec Ideal S1x1x3584 .f32) (r : Fin 256) (q : Fin 3584) :
    k0_pay75 zn z zc w (ix2 r q) = zc (ix2 r q) + w (ix3 0 0 q) * (zn (ix2 r q) - z (ix2 r q)) := by
  pointwise [k0_pay75]
theorem first_at (z zp : FVec Ideal S256x3584 .f32) (w : Vec Ideal S1x1x3584 .f32) (r : Fin 256) (q : Fin 3584) :
    addf z (mulf (broadcastTo S256x3584 (shapeCast S1x3584 w shapeCasts_S1x1x3584_S1x3584) broadcasts_S1x3584_S256x3584) (subf zp z)) (ix2 r q)
      = z (ix2 r q) + w (ix3 0 0 q) * (zp (ix2 r q) - z (ix2 r q)) := by
  pointwise
theorem mu_at (d : Fin 2) (q : Fin 3584) : ldS (n := 2) (a := 1) (b := 3584) (e := .f32) x3 d.val d.isLt (ix3 0 0 q) = x3 (ix3 d 0 q) :=
  ldS_at (n := 2) (a := 1) (b := 3584) (e := .f32) x3 d.val d.isLt 0 q
theorem pay265_at (r : Fin 256) (q : Fin 3584) : k0_pay265 i x0 x1 x2 x3 x4 x5 x6 x7 x8 x9 x10 (ix2 r q)
    = k0_pay264 i x0 x1 x2 x3 x4 x5 x6 x7 x8 x9 x10 (ix2 r q) + x3 (ix3 0 0 q) * (sel false (halo (k0_pay237 i x0 x1 x2 x3 x4 x5 x6 x7 x8 x9 x10) (k0_pay236 i x0 x1 x2 x3 x4 x5 x6 x7 x8 x9 x10) (nxt i x2)) (ix2 r q)
      - k0_pay264 i x0 x1 x2 x3 x4 x5 x6 x7 x8 x9 x10 (ix2 r q)) := by
  rw [pay265_eq]
  refine (first_at _ _ _ r q).trans ?_
  rw [← mu_at x3 0 q]
  rfl
theorem pay268_raw (r : Fin 256) (q : Fin 3584) : k0_pay268 i x0 x1 x2 x3 x4 x5 x6 x7 x8 x9 x10 (ix2 r q)
    = k0_pay265 i x0 x1 x2 x3 x4 x5 x6 x7 x8 x9 x10 (ix2 r q) + x3 (ix3 1 0 q) * (k0_pay263 i x0 x1 x2 x3 x4 x5 x6 x7 x8 x9 x10 (ix2 r q)
      - k0_pay264 i x0 x1 x2 x3 x4 x5 x6 x7 x8 x9 x10 (ix2 r q)) := by
  unfold k0_pay268
  refine (pay75_at _ _ _ _ r q).trans ?_
  rw [← mu_at x3 1 q]
  rfl
/-- A block's shifted rows. -/
theorem pay268_at (S : Fin 28 → Fin 32768 → Fin 128 → EReal) (mu : Fin 2 → Fin 3520 → EReal) (t : Nat) (ht : t < 128) (hi : (i 1).val = t % 16)
    (h0 : ∀ s (r : Fin 256) l (n : Fin 32768), n.val = t * 256 + r.val → x0 (ix3 s r l) = S s n l)
    (h1 : ∀ s l (n : Fin 32768), n.val + 1 = t * 256 → x1 (ix3 s 15 l) = S s n l)
    (h2 : ∀ s l (n : Fin 32768), n.val = t * 256 + 256 → x2 (ix3 s 0 l) = S s n l)
    (h3 : ∀ d q, x3 (ix3 d 0 q) = muS (mu d) q) (r : Fin 256) (q : Fin 3584) (n : Fin 32768) (hn : n.val = t * 256 + r.val) :
    k0_pay268 i x0 x1 x2 x3 x4 x5 x6 x7 x8 x9 x10 (ix2 r q) = zk S (mu 0) (mu 1) n q := by
  rw [pay268_raw, pay265_at, dn_at i x0 x1 x2 x3 x4 x5 x6 x7 x8 x9 x10 S t ht hi h0 h1 r q n hn,
    up_at i x0 x1 x2 x3 x4 x5 x6 x7 x8 x9 x10 S t ht hi h0 h2 r q n hn, pay264_at, h0 _ _ _ n hn, h3, h3]
  rfl
end Cert.RwprepIdeal.Rwp
-- ==== Proof.Rwp.Dots.lean ====
module
public import proofs.«01_k».proof.Proof.Rwp.Pay
public import proofs.«01_k».proof.Proof.Rwp.Piece
public import Idealize.ShloMosaic.Lib.Pipeline.ValueKit
@[expose] public section
set_option maxRecDepth 16384
noncomputable section
open Idealize.ShloMosaic Idealize.ShloMosaic.TcCoe Idealize.SL.Sem
namespace Cert.RwprepIdeal.Rwp
open Cert.RwprepIdeal Cert.RwprepIdeal.Gen Facts Cert.Rwp

variable (i : grid0.Coords) (x0 : Vec Ideal S28x256x128 .bf16) (x1 x2 : Vec Ideal S28x16x128 .bf16) (x3 : Vec Ideal S2x1x3584 .f32)
  (x4 x5 : Vec Ideal S2x8x1x128 .f32) (x6 x7 : Vec Ideal S8x1x128 .f32) (x8 x9 : Vec Ideal S2x128x1024 .bf16) (x10 : Vec Ideal S256x1024 .bf16)

/-! The products and the heads' mask. -/
def ldot (A : FVec Ideal S256x128 .bf16) (w : Vec Ideal S1x128x1024 .bf16) : FVec Ideal S256x1024 .f32 :=
  matmul dot_S256x128_S128x1024_S256x1024_1_0_0_1_n_n none A (shapeCast S128x1024 w shapeCasts_S1x128x1024_S128x1024 : FVec Ideal S128x1024 .bf16) (constant S256x1024 .f32 0x00000000#32)
theorem ldot_at (A : FVec Ideal S256x128 .bf16) (w : Vec Ideal S1x128x1024 .bf16) (r : Fin 256) (j : Fin 1024) :
    ldot A w (ix2 r j) = ∑ x : Fin 128, A (ix2 r x) * w (ix3 0 x j) := by
  pointwise [ldot]
def thz (Z : FVec Ideal S256x3584 .f32) : FVec Ideal S256x128 .bf16 := truncf .bf16 (tanh (slz Z 24)) bitsLt_bf16_f32
def idz (Z : FVec Ideal S256x3584 .f32) : FVec Ideal S256x128 .bf16 := truncf .bf16 (slz Z 25) bitsLt_bf16_f32
theorem thz_at (Z : FVec Ideal S256x3584 .f32) (r : Fin 256) (x : Fin 128) : thz Z (ix2 r x) = Ideal.tanh (Z (ix2 r ⟨3072 + x.val, by omega⟩)) :=
  congrArg (fun y : EReal => Ideal.tanh y) (slz_at Z 24 r x)
theorem idz_at (Z : FVec Ideal S256x3584 .f32) (r : Fin 256) (x : Fin 128) : idz Z (ix2 r x) = Z (ix2 r ⟨3200 + x.val, by omega⟩) := slz_at Z 25 r x
def sgz (Z : FVec Ideal S256x3584 .f32) (w : FVec Ideal S256x1024 .bf16) : FVec Ideal S256x1024 .f32 :=
  matmul dot_S256x256_S256x1024_S256x1024_1_0_0_1_n_n none (truncf .bf16 (divf (broadcast S256x256 (Scalar.ofBits .f32 0x3F800000#32)) (addf (broadcast S256x256 (Scalar.ofBits .f32 0x3F800000#32))
    (exp (subf (broadcast S256x256 (Scalar.ofBits .f32 0x00000000#32)) (extractStridedSlice S256x256 ![0, 3328] Z slices_S256x3584_o0_3328_S256x256))))) bitsLt_bf16_f32 : FVec Ideal S256x256 .bf16)
    (shapeCast S256x1024 w shapeCasts_S256x1024_S256x1024 : FVec Ideal S256x1024 .bf16) (constant S256x1024 .f32 0x00000000#32)
theorem sgz_at (Z : FVec Ideal S256x3584 .f32) (w : FVec Ideal S256x1024 .bf16) (r : Fin 256) (j : Fin 1024) :
    sgz Z w (ix2 r j) = ∑ x : Fin 256, Cert.Mrg.sig (Z (ix2 r ⟨3328 + x.val, by omega⟩)) * w (ix2 x j) := by
  pointwise [sgz]
  simp only [zero_sub]
  rfl
theorem inbF {a b : Nat} : ∀ k, (![0, 0] : Fin 2 → Nat) k + (![a, b] : Fin 2 → Nat) k ≤ (⟨2, ![a, b]⟩ : Shape).size k := fun k => by
  fin_cases k
  · show 0 + a ≤ a; omega
  · show 0 + b ≤ b; omega
def ldF {a b : Nat} {e : EltTy} (X : Vec Ideal ⟨2, ![a, b]⟩ e) : Vec Ideal ⟨2, ![a, b]⟩ e :=
  View.ld (Val := Elt Ideal) (S := ⟨2, ![a, b]⟩) (e' := e) X (Rect.unit (s := ⟨2, ![a, b]⟩) ![0, 0] ![a, b] inbF)
theorem ldF_at {a b : Nat} {e : EltTy} (X : Vec Ideal ⟨2, ![a, b]⟩ e) (r : Fin a) (l : Fin b) : ldF X (ix2 r l) = X (ix2 r l) :=
  View.ld_unit_apply_of X ![0, 0] ![a, b] inbF (ix2 r l) (ix2 r l) (fun k => by
    fin_cases k
    · show r.val = 0 + r.val; omega
    · show l.val = 0 + l.val; omega)
section
variable (z : Fin 3584 → EReal) (r : Fin 256) (hz : ∀ q, k0_pay268 i x0 x1 x2 x3 x4 x5 x6 x7 x8 x9 x10 (ix2 r q) = z q)
include hz
theorem pay269_at (g2 : Fin 256 → Fin 1024 → EReal) (h : ∀ x j, x10 (ix2 x j) = g2 x j) (j : Fin 1024) : k0_pay269 i x0 x1 x2 x3 x4 x5 x6 x7 x8 x9 x10 (ix2 r j) = gt z g2 j := by
  have e : k0_pay269 i x0 x1 x2 x3 x4 x5 x6 x7 x8 x9 x10 = sgz (k0_pay268 i x0 x1 x2 x3 x4 x5 x6 x7 x8 x9 x10) (ldF (a := 256) (b := 1024) (e := .bf16) x10) := rfl
  rw [e, sgz_at]
  refine Finset.sum_congr rfl fun x _ => ?_
  rw [hz]
  exact congrArg (fun y : EReal => Cert.Mrg.sig (z ⟨3328 + x.val, by omega⟩) * y) ((ldF_at (a := 256) (b := 1024) (e := .bf16) x10 x j).trans (h x j))
theorem ldw_at (d : Fin 2) (w2 : Fin 96 → Fin 1024 → EReal) (h : ∀ (x : Fin 128) j, x8 (ix3 d x j) = if h : x.val < 96 then w2 ⟨x.val, h⟩ j else 0) (j : Fin 1024) :
    ldot (thz (k0_pay268 i x0 x1 x2 x3 x4 x5 x6 x7 x8 x9 x10)) (ldS (n := 2) (a := 128) (b := 1024) (e := .bf16) x8 d.val d.isLt) (ix2 r j)
      = ∑ x : Fin 96, Ideal.tanh (z ⟨3072 + x.val, by omega⟩) * w2 x j := by
  rw [ldot_at]
  simp only [thz_at, hz]
  exact sum96 (fun x : Fin 128 => Ideal.tanh (z ⟨3072 + x.val, by omega⟩)) (fun x => w2 x j) _ fun x => (ldS_at (n := 2) (a := 128) (b := 1024) (e := .bf16) x8 d.val d.isLt x j).trans (h x j)
theorem lda_at (d : Fin 2) (w2 : Fin 96 → Fin 1024 → EReal) (h : ∀ (x : Fin 128) j, x9 (ix3 d x j) = if h : x.val < 96 then w2 ⟨x.val, h⟩ j else 0) (j : Fin 1024) :
    ldot (idz (k0_pay268 i x0 x1 x2 x3 x4 x5 x6 x7 x8 x9 x10)) (ldS (n := 2) (a := 128) (b := 1024) (e := .bf16) x9 d.val d.isLt) (ix2 r j)
      = ∑ x : Fin 96, z ⟨3200 + x.val, by omega⟩ * w2 x j := by
  rw [ldot_at]
  simp only [idz_at, hz]
  exact sum96 (fun x : Fin 128 => z ⟨3200 + x.val, by omega⟩) (fun x => w2 x j) _ fun x => (ldS_at (n := 2) (a := 128) (b := 1024) (e := .bf16) x9 d.val d.isLt x j).trans (h x j)
theorem dw_at (d : Fin 2) (w2 : Fin 96 → Fin 1024 → EReal) (h : ∀ (x : Fin 128) j, x8 (ix3 d x j) = if h : x.val < 96 then w2 ⟨x.val, h⟩ j else 0) (j : Fin 1024) :
    (![k0_pay270 i x0 x1 x2 x3 x4 x5 x6 x7 x8 x9 x10, k0_pay271 i x0 x1 x2 x3 x4 x5 x6 x7 x8 x9 x10] : Fin 2 → FVec Ideal S256x1024 .f32) d (ix2 r j)
      = ∑ x : Fin 96, Ideal.tanh (z ⟨3072 + x.val, by omega⟩) * w2 x j := by
  refine Eq.trans ?_ (ldw_at i x0 x1 x2 x3 x4 x5 x6 x7 x8 x9 x10 z r hz d w2 h j)
  fin_cases d
  · rfl
  · rfl
theorem da_at (d : Fin 2) (w2 : Fin 96 → Fin 1024 → EReal) (h : ∀ (x : Fin 128) j, x9 (ix3 d x j) = if h : x.val < 96 then w2 ⟨x.val, h⟩ j else 0) (j : Fin 1024) :
    (![k0_pay272 i x0 x1 x2 x3 x4 x5 x6 x7 x8 x9 x10, k0_pay273 i x0 x1 x2 x3 x4 x5 x6 x7 x8 x9 x10] : Fin 2 → FVec Ideal S256x1024 .f32) d (ix2 r j)
      = ∑ x : Fin 96, z ⟨3200 + x.val, by omega⟩ * w2 x j := by
  refine Eq.trans ?_ (lda_at i x0 x1 x2 x3 x4 x5 x6 x7 x8 x9 x10 z r hz d w2 h j)
  fin_cases d
  · rfl
  · rfl
end
theorem lane_lt (s : Fin 8) (l : Fin 128) : s.val * 128 + l.val < 1024 := by omega
theorem decay_lt (x : Fin 96) : 3072 + x.val < 3584 := by omega
theorem rate_lt (x : Fin 96) : 3200 + x.val < 3584 := by omega
theorem mask_cond : ∀ k l : Fin 128, IntOp.cmpi CmpIPredicate.eq (IntOp.shrsi ArithUnit.vector (BitVec.ofNat 32 k.val) 6#32) (IntOp.shrsi ArithUnit.vector (BitVec.ofNat 32 l.val) 6#32)
    = if k.val / 64 = l.val / 64 then 1#1 else 0#1 := by decide +kernel
theorem pay83_at (k l : Fin 128) : k0_pay83 (F := Ideal) (iota .tc S128x128 32 [0] iota_S128x128_d0_w32) (iota .tc S128x128 32 [1] iota_S128x128_d1_w32) (ix2 k l) = if k.val / 64 = l.val / 64 then 1 else 0 := by
  pointwise [k0_pay83]
  rw [mask_cond]
  split <;> rfl
theorem pay274_at (k l : Fin 128) : k0_pay274 i x0 x1 x2 x3 x4 x5 x6 x7 x8 x9 x10 (ix2 k l) = if k.val / 64 = l.val / 64 then 1 else 0 := pay83_at k l
section
variable (Z : FVec Ideal S256x3584 .f32) (M : FVec Ideal S128x128 .bf16) (Dw Da : Fin 2 → FVec Ideal S256x1024 .f32)
  (z : Fin 3584 → EReal) (r : Fin 256) (hz : ∀ q, Z (ix2 r q) = z q) (hM : ∀ k l, M (ix2 k l) = if k.val / 64 = l.val / 64 then 1 else 0)
  (kk : Fin 1024 → EReal) (hkk : ∀ (s : Fin 8) (l : Fin 128), x6 (ix3 s 0 l) = kk ⟨s.val * 128 + l.val, lane_lt s l⟩)
  (hr : ∀ j, ∃ v : ℝ, kv z kk j = (v : EReal))
include hz hM hkk hr in
theorem nkey_at (s : Fin 8) (l : Fin 128) : nkey Z M x6 s (ix2 r l) = kn z kk ⟨s.val * 128 + l.val, by omega⟩ := by
  refine (nmp_at M _ r l (fun x => kv z kk ⟨s.val * 128 + x.val, by omega⟩) (fun x => ?_) (fun x => hr _) (fun k => hM k l)).trans ?_
  · rw [mul_at, row3_at]
    refine congrArg₂ (fun a b : EReal => a * b) ?_ ((ldS_at (n := 8) (a := 1) (b := 128) (e := .f32) x6 s.val s.isLt 0 x).trans (hkk s x))
    exact (slz_at Z ⟨8 + s.val, by omega⟩ r x).trans ((hz _).trans (congrArg z (Fin.ext (by dsimp only; omega))))
  · unfold kn
    have e : ∀ j : Fin 64, (⟨s.val * 128 + (l.val / 64 * 64 + j.val), by omega⟩ : Fin 1024) = ⟨(s.val * 128 + l.val) / 64 * 64 + j.val, by omega⟩ := fun j => Fin.ext (by dsimp only; omega)
    simp only [e]
include hz hM hkk hr in
theorem p11_at (k : Fin 3) (s : Fin 8) (l : Fin 128) : p11 Z M x6 k s (ix4 0 0 r l)
    = (![z ⟨s.val * 128 + l.val, by omega⟩, z ⟨2048 + (s.val * 128 + l.val), by omega⟩, -kn z kk ⟨s.val * 128 + l.val, by omega⟩] : Fin 3 → EReal) k := by
  fin_cases k
  · exact (ca4_at _ r l).trans ((slz_at Z ⟨s.val, by omega⟩ r l).trans (hz _))
  · exact (ca4_at _ r l).trans ((slz_at Z ⟨16 + s.val, by omega⟩ r l).trans ((hz _).trans (congrArg z (Fin.ext (by dsimp only; omega)))))
  · exact (ca4_at _ r l).trans ((ngp_at _ r l).trans (congrArg (fun y : EReal => -y) (nkey_at x6 Z M z r hz hM kk hkk hr s l)))
variable (w0 a0 : Fin 2 → Fin 1024 → EReal) (ka : Fin 1024 → EReal) (w2 a2 : Fin 2 → Fin 96 → Fin 1024 → EReal)
  (h4 : ∀ (d : Fin 2) (s : Fin 8) (l : Fin 128), x4 (ix4 d s 0 l) = w0 d ⟨s.val * 128 + l.val, lane_lt s l⟩)
  (h5 : ∀ (d : Fin 2) (s : Fin 8) (l : Fin 128), x5 (ix4 d s 0 l) = a0 d ⟨s.val * 128 + l.val, lane_lt s l⟩)
  (h7 : ∀ (s : Fin 8) (l : Fin 128), x7 (ix3 s 0 l) = ka ⟨s.val * 128 + l.val, lane_lt s l⟩)
  (hw : ∀ d j, Dw d (ix2 r j) = ∑ x : Fin 96, Ideal.tanh (z ⟨3072 + x.val, decay_lt x⟩) * w2 d x j)
  (ha : ∀ d j, Da d (ix2 r j) = ∑ x : Fin 96, z ⟨3200 + x.val, rate_lt x⟩ * a2 d x j)
include h5 ha in
theorem asg_at (d : Fin 2) (s : Fin 8) (l : Fin 128) : sgp (sga x5 Da d s) (ix2 r l) = asg z (a0 d) (a2 d) ⟨s.val * 128 + l.val, by omega⟩ := by
  rw [sgp_at]
  refine congrArg Cert.Mrg.sig ((add_at _ _ r l).trans ?_)
  rw [row4_at, sld_at, ha]
  exact congrArg (fun y : EReal => y + _) ((ldT_at (m := 2) (n := 8) (b := 128) (e := .f32) x5 d.val s.val d.isLt s.isLt l).trans (h5 d s l))
include h4 hw in
theorem dec_at (d : Fin 2) (s : Fin 8) (l : Fin 128) : dcp (sga x4 Dw d s) (ix2 r l) = dec z (w0 d) (w2 d) ⟨s.val * 128 + l.val, by omega⟩ := by
  rw [dcp_at]
  refine congrArg (fun y : EReal => Ideal.ofBits .f32 0xBF1B4598#32 * Cert.Mrg.sig y) ((add_at _ _ r l).trans ?_)
  rw [row4_at, sld_at, hw]
  exact congrArg (fun y : EReal => y + _) ((ldT_at (m := 2) (n := 8) (b := 128) (e := .f32) x4 d.val s.val d.isLt s.isLt l).trans (h4 d s l))
include hz h5 h7 ha in
theorem kd_at (d : Fin 2) (s : Fin 8) (l : Fin 128) : kdp (key Z s) (sgp (sga x5 Da d s)) (row3 (ldS (n := 8) (a := 1) (b := 128) (e := .f32) x7 s.val s.isLt)) (ix2 r l)
    = kd z (asg z (a0 d) (a2 d)) ka ⟨s.val * 128 + l.val, by omega⟩ := by
  rw [kdp_at, asg_at x5 Da z r a0 a2 h5 ha d s l, row3_at]
  have e1 : key Z s (ix2 r l) = z ⟨1024 + (s.val * 128 + l.val), by omega⟩ :=
    (slz_at Z ⟨8 + s.val, by omega⟩ r l).trans ((hz _).trans (congrArg z (Fin.ext (by dsimp only; omega))))
  have e2 := (ldS_at (n := 8) (a := 1) (b := 128) (e := .f32) x7 s.val s.isLt 0 l).trans (h7 s l)
  exact congrArg₂ (fun a b : EReal => a * (1 + (asg z (a0 d) (a2 d) ⟨s.val * 128 + l.val, by omega⟩ - 1) * b)) e1 e2
include hz hM hkk hr h5 ha in
theorem bs_at (d : Fin 2) (s : Fin 8) (l : Fin 128) : mulf (nkey Z M x6 s) (sgp (sga x5 Da d s)) (ix2 r l)
    = kn z kk ⟨s.val * 128 + l.val, by omega⟩ * asg z (a0 d) (a2 d) ⟨s.val * 128 + l.val, by omega⟩ := by
  rw [mul_at, asg_at x5 Da z r a0 a2 h5 ha d s l, nkey_at x6 Z M z r hz hM kk hkk hr s l]
include hz hM hkk hr h4 h5 h7 hw ha in
theorem p13_at (d : Fin 2) (k : Fin 3) (s : Fin 8) (l : Fin 128) : p13 Z M x4 x5 x6 x7 Dw Da d k s (ix5 0 0 0 r l)
    = (![kd z (asg z (a0 d) (a2 d)) ka ⟨s.val * 128 + l.val, by omega⟩, kn z kk ⟨s.val * 128 + l.val, by omega⟩ * asg z (a0 d) (a2 d) ⟨s.val * 128 + l.val, by omega⟩,
        dec z (w0 d) (w2 d) ⟨s.val * 128 + l.val, by omega⟩] : Fin 3 → EReal) k := by
  fin_cases k
  · exact (ca5_at _ r l).trans (kd_at x5 x7 Z Da z r hz a0 ka a2 h5 h7 ha d s l)
  · exact (ca5_at _ r l).trans (bs_at x5 x6 Z M Da z r hz hM kk hkk hr a0 a2 h5 ha d s l)
  · exact (ca5_at _ r l).trans (dec_at x4 Dw z r w0 w2 h4 hw d s l)
end
end Cert.RwprepIdeal.Rwp
-- ==== Proof.Rwp.OutA.lean ====
module
public import proofs.«01_k».proof.Proof.Rwp.Piece
public import Idealize.ShloMosaic.Lib.Pipeline.ValueKit
@[expose] public section
set_option maxRecDepth 16384
noncomputable section
open Idealize.ShloMosaic Idealize.ShloMosaic.TcCoe Idealize.SL.Sem
namespace Cert.RwprepIdeal.Rwp
open Cert.RwprepIdeal Cert.RwprepIdeal.Gen Facts Cert.Rwp
open Cert.Mrg (mask split_sum)
variable (i : grid0.Coords) (x0 : Vec Ideal S28x256x128 .bf16) (x1 x2 : Vec Ideal S28x16x128 .bf16) (x3 : Vec Ideal S2x1x3584 .f32)
  (x4 x5 : Vec Ideal S2x8x1x128 .f32) (x6 x7 : Vec Ideal S8x1x128 .f32) (x8 x9 : Vec Ideal S2x128x1024 .bf16) (x10 : Vec Ideal S256x1024 .bf16)

/-- The slabs of a window read at an index. -/
theorem tile11 (P : Fin 3 → Fin 8 → FVec Ideal S1x1x256x128 .f32) (k : Fin 3) (s : Fin 8) (r : Fin 256) (l : Fin 128) (k0 : Fin 3) (s0 : Fin 8) :
    View.TileAt (Val := Elt Ideal) (e := .f32) (S := S3x8x256x128) (ix4 k s r l) ![k0.val, s0.val, 0, 0] S1x1x256x128.size (P k0 s0) (P k s (ix4 0 0 r l)) := by
  intro x hx
  have g0 : (k).val = k0.val + (x 0).val := hx 0
  have q0 : (x 0).val < 1 := (x 0).isLt
  have e0 : k = k0 := Fin.ext (by omega)
  have g1 : (s).val = s0.val + (x 1).val := hx 1
  have q1 : (x 1).val < 1 := (x 1).isLt
  have e1 : s = s0 := Fin.ext (by omega)
  have gr : r.val = 0 + (x 2).val := hx 2
  have gl : l.val = 0 + (x 3).val := hx 3
  subst e0 e1
  refine congrArg (P k s) (funext fun a => Fin.ext ?_)
  fin_cases a
  · show (x 0).val = 0; omega
  · show (x 1).val = 0; omega
  · show (x 2).val = r.val; omega
  · show (x 3).val = l.val; omega
theorem canon11 (P : Fin 3 → Fin 8 → FVec Ideal S1x1x256x128 .f32) (k : Fin 3) (s : Fin 8) (r : Fin 256) (l : Fin 128) :
    View.canon (Val := Elt Ideal) (e := .f32) (s := S3x8x256x128) [⟨r0_155, P 2 7⟩, ⟨r0_154, P 1 7⟩, ⟨r0_153, P 0 7⟩, ⟨r0_142, P 2 6⟩, ⟨r0_141, P 1 6⟩, ⟨r0_140, P 0 6⟩, ⟨r0_129, P 2 5⟩, ⟨r0_128, P 1 5⟩, ⟨r0_127, P 0 5⟩, ⟨r0_116, P 2 4⟩, ⟨r0_115, P 1 4⟩, ⟨r0_114, P 0 4⟩, ⟨r0_103, P 2 3⟩, ⟨r0_102, P 1 3⟩, ⟨r0_101, P 0 3⟩, ⟨r0_90, P 2 2⟩, ⟨r0_89, P 1 2⟩, ⟨r0_88, P 0 2⟩, ⟨r0_77, P 2 1⟩, ⟨r0_76, P 1 1⟩, ⟨r0_75, P 0 1⟩, ⟨r0_64, P 2 0⟩, ⟨r0_63, P 1 0⟩, ⟨r0_62, P 0 0⟩] (ix4 k s r l) = P k s (ix4 0 0 r l) :=
  View.canon_eq_of_allAt _ _ _ (cover0_11 _ _ _ _ _ _ _ _ _ _ _ _ _ _ _ _ _ _ _ _ _ _ _ _ _)
    ((View.allAt_cons_unit _ _ _ _ _ (tile11 P k s r l 2 7) (View.allAt_cons_unit _ _ _ _ _ (tile11 P k s r l 1 7) (View.allAt_cons_unit _ _ _ _ _ (tile11 P k s r l 0 7) (View.allAt_cons_unit _ _ _ _ _ (tile11 P k s r l 2 6) (View.allAt_cons_unit _ _ _ _ _ (tile11 P k s r l 1 6) (View.allAt_cons_unit _ _ _ _ _ (tile11 P k s r l 0 6) (View.allAt_cons_unit _ _ _ _ _ (tile11 P k s r l 2 5) (View.allAt_cons_unit _ _ _ _ _ (tile11 P k s r l 1 5) (View.allAt_cons_unit _ _ _ _ _ (tile11 P k s r l 0 5) (View.allAt_cons_unit _ _ _ _ _ (tile11 P k s r l 2 4) (View.allAt_cons_unit _ _ _ _ _ (tile11 P k s r l 1 4) (View.allAt_cons_unit _ _ _ _ _ (tile11 P k s r l 0 4) (View.allAt_cons_unit _ _ _ _ _ (tile11 P k s r l 2 3) (View.allAt_cons_unit _ _ _ _ _ (tile11 P k s r l 1 3) (View.allAt_cons_unit _ _ _ _ _ (tile11 P k s r l 0 3) (View.allAt_cons_unit _ _ _ _ _ (tile11 P k s r l 2 2) (View.allAt_cons_unit _ _ _ _ _ (tile11 P k s r l 1 2) (View.allAt_cons_unit _ _ _ _ _ (tile11 P k s r l 0 2) (View.allAt_cons_unit _ _ _ _ _ (tile11 P k s r l 2 1) (View.allAt_cons_unit _ _ _ _ _ (tile11 P k s r l 1 1) (View.allAt_cons_unit _ _ _ _ _ (tile11 P k s r l 0 1) (View.allAt_cons_unit _ _ _ _ _ (tile11 P k s r l 2 0) (View.allAt_cons_unit _ _ _ _ _ (tile11 P k s r l 1 0) (View.allAt_cons_unit _ _ _ _ _ (tile11 P k s r l 0 0) (View.allAt_nil _ _))))))))))))))))))))))))))
theorem out11_eq : out0_11 i x0 x1 x2 x3 x4 x5 x6 x7 x8 x9 x10 = View.canon (Val := Elt Ideal) (e := .f32) (s := S3x8x256x128) [⟨r0_155, (p11 (k0_pay268 i x0 x1 x2 x3 x4 x5 x6 x7 x8 x9 x10) (k0_pay274 i x0 x1 x2 x3 x4 x5 x6 x7 x8 x9 x10) x6) 2 7⟩, ⟨r0_154, (p11 (k0_pay268 i x0 x1 x2 x3 x4 x5 x6 x7 x8 x9 x10) (k0_pay274 i x0 x1 x2 x3 x4 x5 x6 x7 x8 x9 x10) x6) 1 7⟩, ⟨r0_153, (p11 (k0_pay268 i x0 x1 x2 x3 x4 x5 x6 x7 x8 x9 x10) (k0_pay274 i x0 x1 x2 x3 x4 x5 x6 x7 x8 x9 x10) x6) 0 7⟩, ⟨r0_142, (p11 (k0_pay268 i x0 x1 x2 x3 x4 x5 x6 x7 x8 x9 x10) (k0_pay274 i x0 x1 x2 x3 x4 x5 x6 x7 x8 x9 x10) x6) 2 6⟩, ⟨r0_141, (p11 (k0_pay268 i x0 x1 x2 x3 x4 x5 x6 x7 x8 x9 x10) (k0_pay274 i x0 x1 x2 x3 x4 x5 x6 x7 x8 x9 x10) x6) 1 6⟩, ⟨r0_140, (p11 (k0_pay268 i x0 x1 x2 x3 x4 x5 x6 x7 x8 x9 x10) (k0_pay274 i x0 x1 x2 x3 x4 x5 x6 x7 x8 x9 x10) x6) 0 6⟩, ⟨r0_129, (p11 (k0_pay268 i x0 x1 x2 x3 x4 x5 x6 x7 x8 x9 x10) (k0_pay274 i x0 x1 x2 x3 x4 x5 x6 x7 x8 x9 x10) x6) 2 5⟩, ⟨r0_128, (p11 (k0_pay268 i x0 x1 x2 x3 x4 x5 x6 x7 x8 x9 x10) (k0_pay274 i x0 x1 x2 x3 x4 x5 x6 x7 x8 x9 x10) x6) 1 5⟩, ⟨r0_127, (p11 (k0_pay268 i x0 x1 x2 x3 x4 x5 x6 x7 x8 x9 x10) (k0_pay274 i x0 x1 x2 x3 x4 x5 x6 x7 x8 x9 x10) x6) 0 5⟩, ⟨r0_116, (p11 (k0_pay268 i x0 x1 x2 x3 x4 x5 x6 x7 x8 x9 x10) (k0_pay274 i x0 x1 x2 x3 x4 x5 x6 x7 x8 x9 x10) x6) 2 4⟩, ⟨r0_115, (p11 (k0_pay268 i x0 x1 x2 x3 x4 x5 x6 x7 x8 x9 x10) (k0_pay274 i x0 x1 x2 x3 x4 x5 x6 x7 x8 x9 x10) x6) 1 4⟩, ⟨r0_114, (p11 (k0_pay268 i x0 x1 x2 x3 x4 x5 x6 x7 x8 x9 x10) (k0_pay274 i x0 x1 x2 x3 x4 x5 x6 x7 x8 x9 x10) x6) 0 4⟩, ⟨r0_103, (p11 (k0_pay268 i x0 x1 x2 x3 x4 x5 x6 x7 x8 x9 x10) (k0_pay274 i x0 x1 x2 x3 x4 x5 x6 x7 x8 x9 x10) x6) 2 3⟩, ⟨r0_102, (p11 (k0_pay268 i x0 x1 x2 x3 x4 x5 x6 x7 x8 x9 x10) (k0_pay274 i x0 x1 x2 x3 x4 x5 x6 x7 x8 x9 x10) x6) 1 3⟩, ⟨r0_101, (p11 (k0_pay268 i x0 x1 x2 x3 x4 x5 x6 x7 x8 x9 x10) (k0_pay274 i x0 x1 x2 x3 x4 x5 x6 x7 x8 x9 x10) x6) 0 3⟩, ⟨r0_90, (p11 (k0_pay268 i x0 x1 x2 x3 x4 x5 x6 x7 x8 x9 x10) (k0_pay274 i x0 x1 x2 x3 x4 x5 x6 x7 x8 x9 x10) x6) 2 2⟩, ⟨r0_89, (p11 (k0_pay268 i x0 x1 x2 x3 x4 x5 x6 x7 x8 x9 x10) (k0_pay274 i x0 x1 x2 x3 x4 x5 x6 x7 x8 x9 x10) x6) 1 2⟩, ⟨r0_88, (p11 (k0_pay268 i x0 x1 x2 x3 x4 x5 x6 x7 x8 x9 x10) (k0_pay274 i x0 x1 x2 x3 x4 x5 x6 x7 x8 x9 x10) x6) 0 2⟩, ⟨r0_77, (p11 (k0_pay268 i x0 x1 x2 x3 x4 x5 x6 x7 x8 x9 x10) (k0_pay274 i x0 x1 x2 x3 x4 x5 x6 x7 x8 x9 x10) x6) 2 1⟩, ⟨r0_76, (p11 (k0_pay268 i x0 x1 x2 x3 x4 x5 x6 x7 x8 x9 x10) (k0_pay274 i x0 x1 x2 x3 x4 x5 x6 x7 x8 x9 x10) x6) 1 1⟩, ⟨r0_75, (p11 (k0_pay268 i x0 x1 x2 x3 x4 x5 x6 x7 x8 x9 x10) (k0_pay274 i x0 x1 x2 x3 x4 x5 x6 x7 x8 x9 x10) x6) 0 1⟩, ⟨r0_64, (p11 (k0_pay268 i x0 x1 x2 x3 x4 x5 x6 x7 x8 x9 x10) (k0_pay274 i x0 x1 x2 x3 x4 x5 x6 x7 x8 x9 x10) x6) 2 0⟩, ⟨r0_63, (p11 (k0_pay268 i x0 x1 x2 x3 x4 x5 x6 x7 x8 x9 x10) (k0_pay274 i x0 x1 x2 x3 x4 x5 x6 x7 x8 x9 x10) x6) 1 0⟩, ⟨r0_62, (p11 (k0_pay268 i x0 x1 x2 x3 x4 x5 x6 x7 x8 x9 x10) (k0_pay274 i x0 x1 x2 x3 x4 x5 x6 x7 x8 x9 x10) x6) 0 0⟩] := rfl
theorem out11_at (k : Fin 3) (s : Fin 8) (r : Fin 256) (l : Fin 128) : out0_11 i x0 x1 x2 x3 x4 x5 x6 x7 x8 x9 x10 (ix4 k s r l) = p11 (k0_pay268 i x0 x1 x2 x3 x4 x5 x6 x7 x8 x9 x10) (k0_pay274 i x0 x1 x2 x3 x4 x5 x6 x7 x8 x9 x10) x6 k s (ix4 0 0 r l) := by
  rw [out11_eq]
  exact canon11 (p11 (k0_pay268 i x0 x1 x2 x3 x4 x5 x6 x7 x8 x9 x10) (k0_pay274 i x0 x1 x2 x3 x4 x5 x6 x7 x8 x9 x10) x6) k s r l
end Cert.RwprepIdeal.Rwp
-- ==== Proof.Rwp.OutG.lean ====
module
public import proofs.«01_k».proof.Proof.Rwp.Piece
public import Idealize.ShloMosaic.Lib.Pipeline.ValueKit
@[expose] public section
set_option maxRecDepth 16384
noncomputable section
open Idealize.ShloMosaic Idealize.ShloMosaic.TcCoe Idealize.SL.Sem
namespace Cert.RwprepIdeal.Rwp
open Cert.RwprepIdeal Cert.RwprepIdeal.Gen Facts Cert.Rwp
open Cert.Mrg (mask split_sum)
variable (i : grid0.Coords) (x0 : Vec Ideal S28x256x128 .bf16) (x1 x2 : Vec Ideal S28x16x128 .bf16) (x3 : Vec Ideal S2x1x3584 .f32)
  (x4 x5 : Vec Ideal S2x8x1x128 .f32) (x6 x7 : Vec Ideal S8x1x128 .f32) (x8 x9 : Vec Ideal S2x128x1024 .bf16) (x10 : Vec Ideal S256x1024 .bf16)

/-- The slabs of a window read at an index. -/
theorem tile12 (P : Fin 8 → FVec Ideal S1x256x128 .f32) (s : Fin 8) (r : Fin 256) (l : Fin 128) (s0 : Fin 8) :
    View.TileAt (Val := Elt Ideal) (e := .f32) (S := S8x256x128) (ix3 s r l) ![s0.val, 0, 0] S1x256x128.size (P s0) (P s (ix3 0 r l)) := by
  intro x hx
  have g0 : (s).val = s0.val + (x 0).val := hx 0
  have q0 : (x 0).val < 1 := (x 0).isLt
  have e0 : s = s0 := Fin.ext (by omega)
  have gr : r.val = 0 + (x 1).val := hx 1
  have gl : l.val = 0 + (x 2).val := hx 2
  subst e0
  refine congrArg (P s) (funext fun a => Fin.ext ?_)
  fin_cases a
  · show (x 0).val = 0; omega
  · show (x 1).val = r.val; omega
  · show (x 2).val = l.val; omega
theorem canon12 (P : Fin 8 → FVec Ideal S1x256x128 .f32) (s : Fin 8) (r : Fin 256) (l : Fin 128) :
    View.canon (Val := Elt Ideal) (e := .f32) (s := S8x256x128) [⟨r0_156, P 7⟩, ⟨r0_143, P 6⟩, ⟨r0_130, P 5⟩, ⟨r0_117, P 4⟩, ⟨r0_104, P 3⟩, ⟨r0_91, P 2⟩, ⟨r0_78, P 1⟩, ⟨r0_65, P 0⟩] (ix3 s r l) = P s (ix3 0 r l) :=
  View.canon_eq_of_allAt _ _ _ (cover0_12 _ _ _ _ _ _ _ _ _)
    ((View.allAt_cons_unit _ _ _ _ _ (tile12 P s r l 7) (View.allAt_cons_unit _ _ _ _ _ (tile12 P s r l 6) (View.allAt_cons_unit _ _ _ _ _ (tile12 P s r l 5) (View.allAt_cons_unit _ _ _ _ _ (tile12 P s r l 4) (View.allAt_cons_unit _ _ _ _ _ (tile12 P s r l 3) (View.allAt_cons_unit _ _ _ _ _ (tile12 P s r l 2) (View.allAt_cons_unit _ _ _ _ _ (tile12 P s r l 1) (View.allAt_cons_unit _ _ _ _ _ (tile12 P s r l 0) (View.allAt_nil _ _))))))))))
theorem out12_eq : out0_12 i x0 x1 x2 x3 x4 x5 x6 x7 x8 x9 x10 = View.canon (Val := Elt Ideal) (e := .f32) (s := S8x256x128) [⟨r0_156, (p12 (k0_pay269 i x0 x1 x2 x3 x4 x5 x6 x7 x8 x9 x10)) 7⟩, ⟨r0_143, (p12 (k0_pay269 i x0 x1 x2 x3 x4 x5 x6 x7 x8 x9 x10)) 6⟩, ⟨r0_130, (p12 (k0_pay269 i x0 x1 x2 x3 x4 x5 x6 x7 x8 x9 x10)) 5⟩, ⟨r0_117, (p12 (k0_pay269 i x0 x1 x2 x3 x4 x5 x6 x7 x8 x9 x10)) 4⟩, ⟨r0_104, (p12 (k0_pay269 i x0 x1 x2 x3 x4 x5 x6 x7 x8 x9 x10)) 3⟩, ⟨r0_91, (p12 (k0_pay269 i x0 x1 x2 x3 x4 x5 x6 x7 x8 x9 x10)) 2⟩, ⟨r0_78, (p12 (k0_pay269 i x0 x1 x2 x3 x4 x5 x6 x7 x8 x9 x10)) 1⟩, ⟨r0_65, (p12 (k0_pay269 i x0 x1 x2 x3 x4 x5 x6 x7 x8 x9 x10)) 0⟩] := rfl
theorem out12_at (s : Fin 8) (r : Fin 256) (l : Fin 128) : out0_12 i x0 x1 x2 x3 x4 x5 x6 x7 x8 x9 x10 (ix3 s r l) = p12 (k0_pay269 i x0 x1 x2 x3 x4 x5 x6 x7 x8 x9 x10) s (ix3 0 r l) := by
  rw [out12_eq]
  exact canon12 (p12 (k0_pay269 i x0 x1 x2 x3 x4 x5 x6 x7 x8 x9 x10)) s r l
end Cert.RwprepIdeal.Rwp
-- ==== Proof.Rwp.OutD.lean ====
module
public import proofs.«01_k».proof.Proof.Rwp.Piece
public import Idealize.ShloMosaic.Lib.Pipeline.ValueKit
@[expose] public section
set_option maxRecDepth 16384
noncomputable section
open Idealize.ShloMosaic Idealize.ShloMosaic.TcCoe Idealize.SL.Sem
namespace Cert.RwprepIdeal.Rwp
open Cert.RwprepIdeal Cert.RwprepIdeal.Gen Facts Cert.Rwp
open Cert.Mrg (mask split_sum)
variable (i : grid0.Coords) (x0 : Vec Ideal S28x256x128 .bf16) (x1 x2 : Vec Ideal S28x16x128 .bf16) (x3 : Vec Ideal S2x1x3584 .f32)
  (x4 x5 : Vec Ideal S2x8x1x128 .f32) (x6 x7 : Vec Ideal S8x1x128 .f32) (x8 x9 : Vec Ideal S2x128x1024 .bf16) (x10 : Vec Ideal S256x1024 .bf16)

/-- The slabs of a window read at an index. -/
theorem tile13 (P : Fin 2 → Fin 3 → Fin 8 → FVec Ideal S1x1x1x256x128 .f32) (d : Fin 2) (k : Fin 3) (s : Fin 8) (r : Fin 256) (l : Fin 128) (d0 : Fin 2) (k0 : Fin 3) (s0 : Fin 8) :
    View.TileAt (Val := Elt Ideal) (e := .f32) (S := S2x3x8x256x128) (ix5 d k s r l) ![d0.val, k0.val, s0.val, 0, 0] S1x1x1x256x128.size (P d0 k0 s0) (P d k s (ix5 0 0 0 r l)) := by
  intro x hx
  have g0 : (d).val = d0.val + (x 0).val := hx 0
  have q0 : (x 0).val < 1 := (x 0).isLt
  have e0 : d = d0 := Fin.ext (by omega)
  have g1 : (k).val = k0.val + (x 1).val := hx 1
  have q1 : (x 1).val < 1 := (x 1).isLt
  have e1 : k = k0 := Fin.ext (by omega)
  have g2 : (s).val = s0.val + (x 2).val := hx 2
  have q2 : (x 2).val < 1 := (x 2).isLt
  have e2 : s = s0 := Fin.ext (by omega)
  have gr : r.val = 0 + (x 3).val := hx 3
  have gl : l.val = 0 + (x 4).val := hx 4
  subst e0 e1 e2
  refine congrArg (P d k s) (funext fun a => Fin.ext ?_)
  fin_cases a
  · show (x 0).val = 0; omega
  · show (x 1).val = 0; omega
  · show (x 2).val = 0; omega
  · show (x 3).val = r.val; omega
  · show (x 4).val = l.val; omega
theorem canon13 (P : Fin 2 → Fin 3 → Fin 8 → FVec Ideal S1x1x1x256x128 .f32) (d : Fin 2) (k : Fin 3) (s : Fin 8) (r : Fin 256) (l : Fin 128) :
    View.canon (Val := Elt Ideal) (e := .f32) (s := S2x3x8x256x128) [⟨r0_164, P 1 1 7⟩, ⟨r0_163, P 1 0 7⟩, ⟨r0_162, P 1 2 7⟩, ⟨r0_160, P 0 1 7⟩, ⟨r0_159, P 0 0 7⟩, ⟨r0_158, P 0 2 7⟩, ⟨r0_151, P 1 1 6⟩, ⟨r0_150, P 1 0 6⟩, ⟨r0_149, P 1 2 6⟩, ⟨r0_147, P 0 1 6⟩, ⟨r0_146, P 0 0 6⟩, ⟨r0_145, P 0 2 6⟩, ⟨r0_138, P 1 1 5⟩, ⟨r0_137, P 1 0 5⟩, ⟨r0_136, P 1 2 5⟩, ⟨r0_134, P 0 1 5⟩, ⟨r0_133, P 0 0 5⟩, ⟨r0_132, P 0 2 5⟩, ⟨r0_125, P 1 1 4⟩, ⟨r0_124, P 1 0 4⟩, ⟨r0_123, P 1 2 4⟩, ⟨r0_121, P 0 1 4⟩, ⟨r0_120, P 0 0 4⟩, ⟨r0_119, P 0 2 4⟩, ⟨r0_112, P 1 1 3⟩, ⟨r0_111, P 1 0 3⟩, ⟨r0_110, P 1 2 3⟩, ⟨r0_108, P 0 1 3⟩, ⟨r0_107, P 0 0 3⟩, ⟨r0_106, P 0 2 3⟩, ⟨r0_99, P 1 1 2⟩, ⟨r0_98, P 1 0 2⟩, ⟨r0_97, P 1 2 2⟩, ⟨r0_95, P 0 1 2⟩, ⟨r0_94, P 0 0 2⟩, ⟨r0_93, P 0 2 2⟩, ⟨r0_86, P 1 1 1⟩, ⟨r0_85, P 1 0 1⟩, ⟨r0_84, P 1 2 1⟩, ⟨r0_82, P 0 1 1⟩, ⟨r0_81, P 0 0 1⟩, ⟨r0_80, P 0 2 1⟩, ⟨r0_73, P 1 1 0⟩, ⟨r0_72, P 1 0 0⟩, ⟨r0_71, P 1 2 0⟩, ⟨r0_69, P 0 1 0⟩, ⟨r0_68, P 0 0 0⟩, ⟨r0_67, P 0 2 0⟩] (ix5 d k s r l) = P d k s (ix5 0 0 0 r l) :=
  View.canon_eq_of_allAt _ _ _ (cover0_13 _ _ _ _ _ _ _ _ _ _ _ _ _ _ _ _ _ _ _ _ _ _ _ _ _ _ _ _ _ _ _ _ _ _ _ _ _ _ _ _ _ _ _ _ _ _ _ _ _)
    ((View.allAt_cons_unit _ _ _ _ _ (tile13 P d k s r l 1 1 7) (View.allAt_cons_unit _ _ _ _ _ (tile13 P d k s r l 1 0 7) (View.allAt_cons_unit _ _ _ _ _ (tile13 P d k s r l 1 2 7) (View.allAt_cons_unit _ _ _ _ _ (tile13 P d k s r l 0 1 7) (View.allAt_cons_unit _ _ _ _ _ (tile13 P d k s r l 0 0 7) (View.allAt_cons_unit _ _ _ _ _ (tile13 P d k s r l 0 2 7) (View.allAt_cons_unit _ _ _ _ _ (tile13 P d k s r l 1 1 6) (View.allAt_cons_unit _ _ _ _ _ (tile13 P d k s r l 1 0 6) (View.allAt_cons_unit _ _ _ _ _ (tile13 P d k s r l 1 2 6) (View.allAt_cons_unit _ _ _ _ _ (tile13 P d k s r l 0 1 6) (View.allAt_cons_unit _ _ _ _ _ (tile13 P d k s r l 0 0 6) (View.allAt_cons_unit _ _ _ _ _ (tile13 P d k s r l 0 2 6) (View.allAt_cons_unit _ _ _ _ _ (tile13 P d k s r l 1 1 5) (View.allAt_cons_unit _ _ _ _ _ (tile13 P d k s r l 1 0 5) (View.allAt_cons_unit _ _ _ _ _ (tile13 P d k s r l 1 2 5) (View.allAt_cons_unit _ _ _ _ _ (tile13 P d k s r l 0 1 5) (View.allAt_cons_unit _ _ _ _ _ (tile13 P d k s r l 0 0 5) (View.allAt_cons_unit _ _ _ _ _ (tile13 P d k s r l 0 2 5) (View.allAt_cons_unit _ _ _ _ _ (tile13 P d k s r l 1 1 4) (View.allAt_cons_unit _ _ _ _ _ (tile13 P d k s r l 1 0 4) (View.allAt_cons_unit _ _ _ _ _ (tile13 P d k s r l 1 2 4) (View.allAt_cons_unit _ _ _ _ _ (tile13 P d k s r l 0 1 4) (View.allAt_cons_unit _ _ _ _ _ (tile13 P d k s r l 0 0 4) (View.allAt_cons_unit _ _ _ _ _ (tile13 P d k s r l 0 2 4) (View.allAt_cons_unit _ _ _ _ _ (tile13 P d k s r l 1 1 3) (View.allAt_cons_unit _ _ _ _ _ (tile13 P d k s r l 1 0 3) (View.allAt_cons_unit _ _ _ _ _ (tile13 P d k s r l 1 2 3) (View.allAt_cons_unit _ _ _ _ _ (tile13 P d k s r l 0 1 3) (View.allAt_cons_unit _ _ _ _ _ (tile13 P d k s r l 0 0 3) (View.allAt_cons_unit _ _ _ _ _ (tile13 P d k s r l 0 2 3) (View.allAt_cons_unit _ _ _ _ _ (tile13 P d k s r l 1 1 2) (View.allAt_cons_unit _ _ _ _ _ (tile13 P d k s r l 1 0 2) (View.allAt_cons_unit _ _ _ _ _ (tile13 P d k s r l 1 2 2) (View.allAt_cons_unit _ _ _ _ _ (tile13 P d k s r l 0 1 2) (View.allAt_cons_unit _ _ _ _ _ (tile13 P d k s r l 0 0 2) (View.allAt_cons_unit _ _ _ _ _ (tile13 P d k s r l 0 2 2) (View.allAt_cons_unit _ _ _ _ _ (tile13 P d k s r l 1 1 1) (View.allAt_cons_unit _ _ _ _ _ (tile13 P d k s r l 1 0 1) (View.allAt_cons_unit _ _ _ _ _ (tile13 P d k s r l 1 2 1) (View.allAt_cons_unit _ _ _ _ _ (tile13 P d k s r l 0 1 1) (View.allAt_cons_unit _ _ _ _ _ (tile13 P d k s r l 0 0 1) (View.allAt_cons_unit _ _ _ _ _ (tile13 P d k s r l 0 2 1) (View.allAt_cons_unit _ _ _ _ _ (tile13 P d k s r l 1 1 0) (View.allAt_cons_unit _ _ _ _ _ (tile13 P d k s r l 1 0 0) (View.allAt_cons_unit _ _ _ _ _ (tile13 P d k s r l 1 2 0) (View.allAt_cons_unit _ _ _ _ _ (tile13 P d k s r l 0 1 0) (View.allAt_cons_unit _ _ _ _ _ (tile13 P d k s r l 0 0 0) (View.allAt_cons_unit _ _ _ _ _ (tile13 P d k s r l 0 2 0) (View.allAt_nil _ _))))))))))))))))))))))))))))))))))))))))))))))))))
theorem out13_eq : out0_13 i x0 x1 x2 x3 x4 x5 x6 x7 x8 x9 x10 = View.canon (Val := Elt Ideal) (e := .f32) (s := S2x3x8x256x128) [⟨r0_164, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 1 1 7⟩, ⟨r0_163, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 1 0 7⟩, ⟨r0_162, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 1 2 7⟩, ⟨r0_160, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 0 1 7⟩, ⟨r0_159, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 0 0 7⟩, ⟨r0_158, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 0 2 7⟩, ⟨r0_151, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 1 1 6⟩, ⟨r0_150, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 1 0 6⟩, ⟨r0_149, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 1 2 6⟩, ⟨r0_147, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 0 1 6⟩, ⟨r0_146, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 0 0 6⟩, ⟨r0_145, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 0 2 6⟩, ⟨r0_138, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 1 1 5⟩, ⟨r0_137, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 1 0 5⟩, ⟨r0_136, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 1 2 5⟩, ⟨r0_134, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 0 1 5⟩, ⟨r0_133, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 0 0 5⟩, ⟨r0_132, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 0 2 5⟩, ⟨r0_125, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 1 1 4⟩, ⟨r0_124, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 1 0 4⟩, ⟨r0_123, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 1 2 4⟩, ⟨r0_121, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 0 1 4⟩, ⟨r0_120, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 0 0 4⟩, ⟨r0_119, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 0 2 4⟩, ⟨r0_112, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 1 1 3⟩, ⟨r0_111, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 1 0 3⟩, ⟨r0_110, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 1 2 3⟩, ⟨r0_108, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 0 1 3⟩, ⟨r0_107, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 0 0 3⟩, ⟨r0_106, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 0 2 3⟩, ⟨r0_99, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 1 1 2⟩, ⟨r0_98, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 1 0 2⟩, ⟨r0_97, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 1 2 2⟩, ⟨r0_95, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 0 1 2⟩, ⟨r0_94, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 0 0 2⟩, ⟨r0_93, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 0 2 2⟩, ⟨r0_86, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 1 1 1⟩, ⟨r0_85, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 1 0 1⟩, ⟨r0_84, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 1 2 1⟩, ⟨r0_82, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 0 1 1⟩, ⟨r0_81, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 0 0 1⟩, ⟨r0_80, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 0 2 1⟩, ⟨r0_73, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 1 1 0⟩, ⟨r0_72, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 1 0 0⟩, ⟨r0_71, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 1 2 0⟩, ⟨r0_69, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 0 1 0⟩, ⟨r0_68, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 0 0 0⟩, ⟨r0_67, (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) 0 2 0⟩] := rfl
theorem out13_at (d : Fin 2) (k : Fin 3) (s : Fin 8) (r : Fin 256) (l : Fin 128) : out0_13 i x0 x1 x2 x3 x4 x5 x6 x7 x8 x9 x10 (ix5 d k s r l) = p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10] d k s (ix5 0 0 0 r l) := by
  rw [out13_eq]
  exact canon13 (p13 (k0_pay268 i x0 x1 x2 x3 x4 x5 x6 x7 x8 x9 x10) (k0_pay274 i x0 x1 x2 x3 x4 x5 x6 x7 x8 x9 x10) x4 x5 x6 x7 ![k0_pay270 i x0 x1 x2 x3 x4 x5 x6 x7 x8 x9 x10, k0_pay271 i x0 x1 x2 x3 x4 x5 x6 x7 x8 x9 x10] ![k0_pay272 i x0 x1 x2 x3 x4 x5 x6 x7 x8 x9 x10, k0_pay273 i x0 x1 x2 x3 x4 x5 x6 x7 x8 x9 x10]) d k s r l
end Cert.RwprepIdeal.Rwp
-- ==== Proof.Rwp.Host.lean ====
module
public import proofs.«01_k».proof.Proof.Gen.RwprepIdeal.Value
public import proofs.«01_k».proof.Proof.Rwp.Math
public import Idealize.ShloMosaic.Lib.Pointwise
public import Idealize.ShloMosaic.Lib.Pipeline.ValueKit
@[expose] public section
set_option maxRecDepth 16384
noncomputable section
open Idealize.ShloMosaic Idealize.ShloMosaic.TcCoe Idealize.SL.Sem
namespace Cert.RwprepIdeal.Rwp
open Cert.RwprepIdeal Cert.RwprepIdeal.Gen Facts Cert.Rwp
variable (m : (ℓ : Loc nD τ sig) → Buf (Elt Ideal) ℓ)

/-! The weights and the shift's coefficients as the host lays them out. -/
def zf : FVec Ideal S_ .f32 := sitofp .f32 (constantI S_ 32 0#32)
theorem zf_at (j : S_.Idx) : zf j = 0 := by
  show (((0#32 : BitVec 32).toInt : ℝ) : EReal) = 0
  simp
def wide (X : FVec Ideal S2x3520 .f32) : FVec Ideal S2x10688 .f32 := pad S2x10688 ![0, 3072] ![0, 4096] ![0, 0] X zf pads_S2x3520_S2x10688_000_307240960 h_S_
def back (X : FVec Ideal S2x3520 .f32) : FVec Ideal S2x3520 .f32 := extractStridedSlice S2x3520 ![0, 3072] (wide X) slices_S2x10688_S2x3520_0_3072
theorem back_at (X : FVec Ideal S2x3520 .f32) (d : Fin 2) (j : Fin 3520) : back X (ix2 d j) = X (ix2 d j) := by
  pointwise [back, wide]
def p96 (X : FVec Ideal S2x96 .f32) : FVec Ideal S2x128 .f32 := pad S2x128 ![0, 0] ![0, 32] ![0, 0] X zf pads_S2x96_S2x128_000_0320 h_S_
theorem p96_at (X : FVec Ideal S2x96 .f32) (d : Fin 2) (j : Fin 128) : p96 X (ix2 d j) = if h : j.val < 96 then X (ix2 d ⟨j.val, h⟩) else 0 := by
  pointwise [p96, zf_at]
def six (A4 : FVec Ideal S2x4096 .f32) (A2 A9 : FVec Ideal S2x3072 .f32) (A6 A8 : FVec Ideal S2x128 .f32) (A10 : FVec Ideal S2x256 .f32) : FVec Ideal S2x1x3584 .f32 :=
  shapeCast S2x1x3584 (extractStridedSlice S2x3584 ![0, 7168] (concatenate S2x10752 1 [⟨S2x4096, A4⟩, ⟨S2x3072, A2⟩, ⟨S2x3072, A9⟩, ⟨S2x128, A6⟩, ⟨S2x128, A8⟩, ⟨S2x256, A10⟩]
    concatenates_S2x4096_S2x3072_S2x3072_S2x128_S2x128_S2x256_S2x10752_d1 : FVec Ideal S2x10752 .f32) slices_S2x10752_S2x3584_0_7168 : FVec Ideal S2x3584 .f32) shapeCasts_S2x3584_S2x1x3584
theorem six_at (A4 : FVec Ideal S2x4096 .f32) (A2 A9 : FVec Ideal S2x3072 .f32) (A6 A8 : FVec Ideal S2x128 .f32) (A10 : FVec Ideal S2x256 .f32) (d : Fin 2) (q : Fin 3584) :
    six A4 A2 A9 A6 A8 A10 (ix3 d 0 q) = if h : q.val < 3072 then A9 (ix2 d ⟨q.val, h⟩) else if h : q.val < 3200 then A6 (ix2 d ⟨q.val - 3072, by omega⟩)
      else if h : q.val < 3328 then A8 (ix2 d ⟨q.val - 3200, by omega⟩) else A10 (ix2 d ⟨q.val - 3328, by omega⟩) := by
  pointwise [six]
  rw [dif_neg (by omega), dif_neg (by omega)]
  by_cases h1 : q.val < 3072
  · rw [dif_pos (by omega), dif_pos h1]
    exact congrArg (fun u => A9 (ix2 d u)) (Fin.ext (by dsimp only; omega))
  rw [dif_neg (by omega), dif_neg h1]
  by_cases h2 : q.val < 3200
  · rw [dif_pos (by omega), dif_pos h2]
    exact congrArg (fun u => A6 (ix2 d u)) (Fin.ext (by dsimp only; omega))
  rw [dif_neg (by omega), dif_neg h2]
  by_cases h3 : q.val < 3328
  · rw [dif_pos (by omega), dif_pos h3]
    exact congrArg (fun u => A8 (ix2 d u)) (Fin.ext (by dsimp only; omega))
  rw [dif_neg (by omega), dif_neg h3]
  exact congrArg (fun u => A10 (ix2 d u)) (Fin.ext (by dsimp only; omega))
def flat (X : FVec Ideal S1x2x3520 .f32) : FVec Ideal S2x3520 .f32 := shapeCast S2x3520 X shapeCasts_S1x2x3520_S2x3520
theorem flat_at (X : FVec Ideal S1x2x3520 .f32) (d : Fin 2) (j : Fin 3520) : flat X (ix2 d j) = X (ix3 0 d j) := by
  pointwise [flat]
def m9 (B : FVec Ideal S2x3520 .f32) : FVec Ideal S2x3072 .f32 := extractStridedSlice S2x3072 ![0, 0] B slices_S2x3520_S2x3072_0_0
theorem m9_at (B : FVec Ideal S2x3520 .f32) (d : Fin 2) (j : Fin 3072) : m9 B (ix2 d j) = B (ix2 d ⟨j.val, by omega⟩) := by
  pointwise [m9]
def m5 (B : FVec Ideal S2x3520 .f32) : FVec Ideal S2x96 .f32 := extractStridedSlice S2x96 ![0, 3072] B slices_S2x3520_S2x96_0_3072
theorem m5_at (B : FVec Ideal S2x3520 .f32) (d : Fin 2) (j : Fin 96) : m5 B (ix2 d j) = B (ix2 d ⟨3072 + j.val, by omega⟩) := by
  pointwise [m5]
def m7 (B : FVec Ideal S2x3520 .f32) : FVec Ideal S2x96 .f32 := extractStridedSlice S2x96 ![0, 3168] B slices_S2x3520_S2x96_0_3168
theorem m7_at (B : FVec Ideal S2x3520 .f32) (d : Fin 2) (j : Fin 96) : m7 B (ix2 d j) = B (ix2 d ⟨3168 + j.val, by omega⟩) := by
  pointwise [m7]
def m10 (B : FVec Ideal S2x3520 .f32) : FVec Ideal S2x256 .f32 := extractStridedSlice S2x256 ![0, 3264] B slices_S2x3520_S2x256_0_3264
theorem m10_at (B : FVec Ideal S2x3520 .f32) (d : Fin 2) (j : Fin 256) : m10 B (ix2 d j) = B (ix2 d ⟨3264 + j.val, by omega⟩) := by
  pointwise [m10]
def hostMu (X : FVec Ideal S1x2x3520 .f32) : FVec Ideal S2x1x3584 .f32 :=
  six (extractStridedSlice S2x4096 ![0, 6592] (wide (flat X)) slices_S2x10688_S2x4096_0_6592) (extractStridedSlice S2x3072 ![0, 0] (wide (flat X)) slices_S2x10688_S2x3072_0_0)
    (m9 (back (flat X))) (p96 (m5 (back (flat X)))) (p96 (m7 (back (flat X)))) (m10 (back (flat X)))
theorem hostMu_at (X : FVec Ideal S1x2x3520 .f32) (d : Fin 2) (q : Fin 3584) : hostMu X (ix3 d 0 q) = muS (fun j => X (ix3 0 d j)) q := by
  unfold hostMu
  rw [six_at]
  unfold muS
  simp only [m9_at, p96_at, m5_at, m7_at, m10_at, back_at, flat_at]
  by_cases h1 : q.val < 3072
  · rw [dif_pos h1, dif_pos (by omega)]
  rw [dif_neg h1]
  by_cases h2 : q.val < 3168
  · rw [dif_pos (by omega), dif_pos (by omega), dif_pos h2]
    exact congrArg (fun u => X (ix3 0 d u)) (Fin.ext (by dsimp only; omega))
  rw [dif_neg h2]
  by_cases h3 : q.val < 3200
  · rw [dif_pos h3, dif_neg (by omega), dif_pos h3]
  rw [dif_neg h3, dif_neg h3]
  by_cases h4 : q.val < 3296
  · rw [dif_pos (by omega), dif_pos (by omega), dif_pos h4]
    exact congrArg (fun u => X (ix3 0 d u)) (Fin.ext (by dsimp only; omega))
  rw [dif_neg h4]
  by_cases h5 : q.val < 3328
  · rw [dif_pos h5, dif_neg (by omega), dif_pos h5]
  rw [dif_neg h5, dif_neg h5]
  exact congrArg (fun u => X (ix3 0 d u)) (Fin.ext (by dsimp only; omega))
def hostD (X : FVec Ideal S1x2x1024 .f32) : FVec Ideal S2x8x1x128 .f32 := shapeCast S2x8x1x128 (shapeCast S2x1024 X shapeCasts_S1x2x1024_S2x1024 : FVec Ideal S2x1024 .f32) shapeCasts_S2x1024_S2x8x1x128
theorem hostD_at (X : FVec Ideal S1x2x1024 .f32) (d : Fin 2) (s : Fin 8) (l : Fin 128) : hostD X (ix4 d s 0 l) = X (ix3 0 d ⟨s.val * 128 + l.val, by omega⟩) := by
  pointwise [hostD]
def hostK (X : FVec Ideal S1x1024 .f32) : FVec Ideal S8x1x128 .f32 := shapeCast S8x1x128 (shapeCast S1024 X shapeCasts_S1x1024_S1024 : FVec Ideal S1024 .f32) shapeCasts_S1024_S8x1x128
theorem hostK_at (X : FVec Ideal S1x1024 .f32) (s : Fin 8) (l : Fin 128) : hostK X (ix3 s 0 l) = X (ix2 0 ⟨s.val * 128 + l.val, by omega⟩) := by
  pointwise [hostK]
def hostW (X : FVec Ideal S1x2x96x1024 .f32) : FVec Ideal S2x128x1024 .bf16 :=
  truncf .bf16 (pad S2x128x1024 ![0, 0, 0] ![0, 32, 0] ![0, 0, 0] (shapeCast S2x96x1024 X shapeCasts_S1x2x96x1024_S2x96x1024 : FVec Ideal S2x96x1024 .f32) zf pads_S2x96x1024_S2x128x1024_000_0320_000 h_S_) bitsLt_bf16_f32
theorem hostW_at (X : FVec Ideal S1x2x96x1024 .f32) (d : Fin 2) (x : Fin 128) (j : Fin 1024) : hostW X (ix3 d x j) = if h : x.val < 96 then X (ix4 0 d ⟨x.val, h⟩ j) else 0 := by
  pointwise [hostW, zf_at]
def hostG (X : FVec Ideal S1x256x1024 .f32) : FVec Ideal S256x1024 .bf16 := truncf .bf16 (shapeCast S256x1024 X shapeCasts_S1x256x1024_S256x1024 : FVec Ideal S256x1024 .f32) bitsLt_bf16_f32
theorem hostG_at (X : FVec Ideal S1x256x1024 .f32) (x : Fin 256) (j : Fin 1024) : hostG X (ix2 x j) = X (ix3 0 x j) := by
  pointwise [hostG]
end Cert.RwprepIdeal.Rwp
-- ==== Proof.Rwp.HostV.lean ====
module
public import proofs.«01_k».proof.Proof.Rwp.Host
@[expose] public section
set_option maxRecDepth 16384
noncomputable section
open Idealize.ShloMosaic Idealize.ShloMosaic.TcCoe Idealize.SL.Sem
namespace Cert.RwprepIdeal.Rwp
open Cert.RwprepIdeal Cert.RwprepIdeal.Gen Facts Cert.Rwp
variable (m : (ℓ : Loc nD τ sig) → Buf (Elt Ideal) ℓ)

theorem host_13 (c : Dev nD) : V m c main_v13 = hostMu (m ((c : Thread nD τ).loc main_arg1)) := by
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_results_simp <;> (try dsimp only [Matrix.cons_val]) <;> (try after_results_simp) <;> rfl
theorem host_15 (c : Dev nD) : V m c main_v15 = hostD (m ((c : Thread nD τ).loc main_arg2)) := by
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_results_simp <;> (try dsimp only [Matrix.cons_val]) <;> (try after_results_simp) <;> rfl
theorem host_17 (c : Dev nD) : V m c main_v17 = hostD (m ((c : Thread nD τ).loc main_arg3)) := by
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_results_simp <;> (try dsimp only [Matrix.cons_val]) <;> (try after_results_simp) <;> rfl
theorem host_19 (c : Dev nD) : V m c main_v19 = hostK (m ((c : Thread nD τ).loc main_arg4)) := by
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_results_simp <;> (try dsimp only [Matrix.cons_val]) <;> (try after_results_simp) <;> rfl
theorem host_21 (c : Dev nD) : V m c main_v21 = hostK (m ((c : Thread nD τ).loc main_arg5)) := by
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_results_simp <;> (try dsimp only [Matrix.cons_val]) <;> (try after_results_simp) <;> rfl
theorem host_24 (c : Dev nD) : V m c main_v24 = hostW (m ((c : Thread nD τ).loc main_arg6)) := by
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_results_simp <;> (try dsimp only [Matrix.cons_val]) <;> (try after_results_simp) <;> rfl
theorem host_27 (c : Dev nD) : V m c main_v27 = hostW (m ((c : Thread nD τ).loc main_arg7)) := by
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_results_simp <;> (try dsimp only [Matrix.cons_val]) <;> (try after_results_simp) <;> rfl
theorem host_29 (c : Dev nD) : V m c main_v29 = hostG (m ((c : Thread nD τ).loc main_arg8)) := by
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_results_simp <;> (try dsimp only [Matrix.cons_val]) <;> (try after_results_simp) <;> rfl
end Cert.RwprepIdeal.Rwp
-- ==== Proof.Rwp.RefD.lean ====
module
public import proofs.«01_k».proof.Proof.Gen.RwprepRefIdeal.Run
public import proofs.«01_k».proof.Proof.Rwp.Math
@[expose] public section
set_option maxRecDepth 16384
noncomputable section
open Idealize.ShloMosaic Idealize.ShloMosaic.TcCoe Idealize.SL.Sem Idealize.ShloMosaic.StableHlo
namespace Cert.RwprepRefIdeal.Rwp
open Cert.RwprepRefIdeal Cert.RwprepRefIdeal.Gen Cert.RwprepRefIdeal.Value Cert.Rwp
variable (V0 : Valuation τ sig (Elt Ideal))

/-! The reference's values at an index, over the arguments of one launch. -/

def Sl (s : Fin 28) (n : Fin 32768) (l : Fin 128) : EReal := (V0 (Proc.devRef .tc main_arg0)) (ix3 ⟨56 + s.val, by omega⟩ n l)
def Mu (d : Fin 2) (j : Fin 3520) : EReal := (V0 (Proc.devRef .tc main_arg1)) (ix3 0 d j)
def W0 (d : Fin 2) (j : Fin 1024) : EReal := (V0 (Proc.devRef .tc main_arg2)) (ix3 0 d j)
def A0 (d : Fin 2) (j : Fin 1024) : EReal := (V0 (Proc.devRef .tc main_arg3)) (ix3 0 d j)
def KK (j : Fin 1024) : EReal := (V0 (Proc.devRef .tc main_arg4)) (ix2 0 j)
def KA (j : Fin 1024) : EReal := (V0 (Proc.devRef .tc main_arg5)) (ix2 0 j)
def W2 (d : Fin 2) (x : Fin 96) (j : Fin 1024) : EReal := (V0 (Proc.devRef .tc main_arg6)) (ix4 0 d x j)
def A2 (d : Fin 2) (x : Fin 96) (j : Fin 1024) : EReal := (V0 (Proc.devRef .tc main_arg7)) (ix4 0 d x j)
def G2 (x : Fin 256) (j : Fin 1024) : EReal := (V0 (Proc.devRef .tc main_arg8)) (ix3 0 x j)
/-- A token's shifted row. -/
def Z (n : Fin 32768) (q : Fin 3584) : EReal := zk (Sl V0) (Mu V0 0) (Mu V0 1) n q
/-! The named values, as extended reals. -/
def z7 (b : Fin 8) (t : Fin 4096) (j : Fin 3520) : EReal := res_main_v7 V0 (ix3 b t j)
def z25 (b : Fin 8) (t : Fin 4096) (j : Fin 3520) : EReal := res_main_v25 V0 (ix3 b t j)
def z28 (b : Fin 8) (t : Fin 4096) (h : Fin 16) (i : Fin 64) : EReal := res_main_v28 V0 (ix4 b t h i)
def z31 (b : Fin 8) (t : Fin 4096) (x : Fin 96) : EReal := res_main_v31 V0 (ix3 b t x)
def z32 (b : Fin 8) (t : Fin 4096) (x : Fin 96) : EReal := res_main_v32 V0 (ix3 b t x)
def z46 (b : Fin 8) (t : Fin 4096) (h : Fin 16) (i : Fin 64) : EReal := res_main_v46 V0 (ix4 b t h i)
def z51 (b : Fin 8) (t : Fin 4096) (h : Fin 16) (i : Fin 64) : EReal := res_main_v51 V0 (ix4 b t h i)
def z60 (b : Fin 8) (t : Fin 4096) (j : Fin 1024) : EReal := res_main_v60 V0 (ix3 b t j)
def z111 (b : Fin 8) (t : Fin 4096) (j : Fin 1024) : EReal := res_main_v111 V0 (ix3 b t j)
def z80 (b : Fin 8) (t : Fin 4096) (h : Fin 16) (i : Fin 64) : EReal := res_main_v80 V0 (ix4 b t h i)
def z131 (b : Fin 8) (t : Fin 4096) (h : Fin 16) (i : Fin 64) : EReal := res_main_v131 V0 (ix4 b t h i)
end Cert.RwprepRefIdeal.Rwp
-- ==== Proof.Rwp.RefA.lean ====
module
public import proofs.«01_k».proof.Proof.Rwp.RefD
public import proofs.«01_k».proof.Proof.Rwp.Math
@[expose] public section
set_option maxRecDepth 16384
noncomputable section
open Idealize.ShloMosaic Idealize.ShloMosaic.TcCoe Idealize.SL.Sem Idealize.ShloMosaic.StableHlo
namespace Cert.RwprepRefIdeal.Rwp
open Cert.RwprepRefIdeal Cert.RwprepRefIdeal.Gen Cert.RwprepRefIdeal.Value Cert.Rwp
variable (V0 : Valuation τ sig (Elt Ideal))

theorem v3_at (b : Fin 8) (t : Fin 4096) (q : Fin 3584) : res_main_v3 V0 (ix3 b t q) = Sl V0 ⟨q.val / 128, by omega⟩ ⟨b.val * 4096 + t.val, by omega⟩ ⟨q.val % 128, by omega⟩ := by
  pointwise [res_main_v3, Sl]
theorem v7_at (b : Fin 8) (t : Fin 4096) (j : Fin 3520) : res_main_v7 V0 (ix3 b t j) = res_main_v3 V0 (ix3 b t (cq j)) := by
  unfold res_main_v7
  generalize res_main_v3 V0 = X
  pointwise [cq]
  by_cases h : j.val < 3168
  · simp only [dif_pos h]
  · by_cases h2 : j.val < 3264
    · simp only [dif_neg h, dif_pos h2, dif_pos (show j.val - 3168 < 96 by omega)]
      exact congrArg (fun q => X (ix3 b t q)) (Fin.ext (by dsimp only; omega))
    · simp only [dif_neg h, dif_neg h2, dif_neg (show ¬ j.val - 3168 < 96 by omega)]
      exact congrArg (fun q => X (ix3 b t q)) (Fin.ext (by dsimp only; omega))
end Cert.RwprepRefIdeal.Rwp
-- ==== Proof.Rwp.RefZ.lean ====
module
public import proofs.«01_k».proof.Proof.Rwp.RefA
public import proofs.«01_k».proof.Proof.Rwp.Math
@[expose] public section
set_option maxRecDepth 16384
noncomputable section
open Idealize.ShloMosaic Idealize.ShloMosaic.TcCoe Idealize.SL.Sem Idealize.ShloMosaic.StableHlo
namespace Cert.RwprepRefIdeal.Rwp
open Cert.RwprepRefIdeal Cert.RwprepRefIdeal.Gen Cert.RwprepRefIdeal.Value Cert.Rwp
variable (V0 : Valuation τ sig (Elt Ideal))

theorem zero_int : (FloatOps.sitofp (F := Ideal) FTy.f32 (0#32) : EReal) = 0 := by
  show (((0#32 : BitVec 32).toInt : ℝ) : EReal) = 0
  simp
theorem v25_raw (b : Fin 8) (t : Fin 4096) (j : Fin 3520) : z25 V0 b t j = z7 V0 b t j
    + Mu V0 0 j * ((if h : t.val = 0 then 0 else z7 V0 b ⟨t.val - 1, by omega⟩ j) - z7 V0 b t j)
    + Mu V0 1 j * ((if h : t.val = 4095 then 0 else z7 V0 b ⟨t.val + 1, by omega⟩ j) - z7 V0 b t j) := by
  unfold z25 z7 res_main_v25
  generalize res_main_v7 V0 = X
  pointwise [Mu]
  have hz : (FloatOps.sitofp (F := Ideal) FTy.f32 (0#32) : EReal) = 0 := zero_int
  obtain ⟨x, hx⟩ : ∃ x : Fin 8 → Fin 4096 → Fin 3520 → EReal, ∀ b t j, X (ix3 b t j) = x b t j := ⟨fun b t j => X (ix3 b t j), fun _ _ _ => rfl⟩
  simp only [hx]
  have h1 : (if h : 1 ≤ t.val ∧ t.val - 1 < 4095 then x b ⟨t.val - 1, by omega⟩ j else FloatOps.sitofp (F := Ideal) FTy.f32 (0#32) : EReal) = (if h : t.val = 0 then 0 else x b ⟨t.val - 1, by omega⟩ j) := by
    by_cases h : t.val = 0
    · rw [dif_neg (by omega), dif_pos h, hz]
    · rw [dif_pos (by omega), dif_neg h]
  have h2 : (if h : t.val < 4095 then x b ⟨1 + t.val, by omega⟩ j else FloatOps.sitofp (F := Ideal) FTy.f32 (0#32) : EReal) = (if h : t.val = 4095 then 0 else x b ⟨t.val + 1, by omega⟩ j) := by
    by_cases h : t.val = 4095
    · rw [dif_neg (by omega), dif_pos h, hz]
    · rw [dif_pos (by omega), dif_neg h]
      exact congrArg (fun u => x b u j) (Fin.ext (by dsimp only; omega))
  exact congrArg₂ (fun A B : EReal => x b t j + Mu V0 0 j * (A - x b t j) + Mu V0 1 j * (B - x b t j)) h1 h2
end Cert.RwprepRefIdeal.Rwp
-- ==== Proof.Rwp.RefE.lean ====
module
public import proofs.«01_k».proof.Proof.Rwp.RefD
public import proofs.«01_k».proof.Proof.Rwp.Math
@[expose] public section
set_option maxRecDepth 16384
noncomputable section
open Idealize.ShloMosaic Idealize.ShloMosaic.TcCoe Idealize.SL.Sem Idealize.ShloMosaic.StableHlo
namespace Cert.RwprepRefIdeal.Rwp
open Cert.RwprepRefIdeal Cert.RwprepRefIdeal.Gen Cert.RwprepRefIdeal.Value Cert.Rwp
variable (V0 : Valuation τ sig (Elt Ideal))

theorem v60_at (b : Fin 8) (t : Fin 4096) (j : Fin 1024) : z60 V0 b t j = -(W0 V0 0 j + ∑ x : Fin 96, z31 V0 b t x * W2 V0 0 x j) := by
  unfold z60 z31 res_main_v60
  generalize res_main_v31 V0 = X
  pointwise [W0, W2]
theorem v111_at (b : Fin 8) (t : Fin 4096) (j : Fin 1024) : z111 V0 b t j = -(W0 V0 1 j + ∑ x : Fin 96, z31 V0 b t x * W2 V0 1 x j) := by
  unfold z111 z31 res_main_v111
  generalize res_main_v31 V0 = X
  pointwise [W0, W2]
theorem v80_at (b : Fin 8) (t : Fin 4096) (h : Fin 16) (i : Fin 64) : z80 V0 b t h i
    = Cert.Mrg.sig (A0 V0 0 ⟨h.val * 64 + i.val, by omega⟩ + ∑ x : Fin 96, z32 V0 b t x * A2 V0 0 x ⟨h.val * 64 + i.val, by omega⟩) := by
  unfold z80 z32 res_main_v80
  generalize res_main_v32 V0 = X
  pointwise [A0, A2, Cert.Mrg.sig]
theorem v131_at (b : Fin 8) (t : Fin 4096) (h : Fin 16) (i : Fin 64) : z131 V0 b t h i
    = Cert.Mrg.sig (A0 V0 1 ⟨h.val * 64 + i.val, by omega⟩ + ∑ x : Fin 96, z32 V0 b t x * A2 V0 1 x ⟨h.val * 64 + i.val, by omega⟩) := by
  unfold z131 z32 res_main_v131
  generalize res_main_v32 V0 = X
  pointwise [A0, A2, Cert.Mrg.sig]
end Cert.RwprepRefIdeal.Rwp
-- ==== Proof.Rwp.RefR.lean ====
module
public import proofs.«01_k».proof.Proof.Rwp.RefD
public import proofs.«01_k».proof.Proof.Rwp.Math
@[expose] public section
set_option maxRecDepth 16384
noncomputable section
open Idealize.ShloMosaic Idealize.ShloMosaic.TcCoe Idealize.SL.Sem Idealize.ShloMosaic.StableHlo
namespace Cert.RwprepRefIdeal.Rwp
open Cert.RwprepRefIdeal Cert.RwprepRefIdeal.Gen Cert.RwprepRefIdeal.Value Cert.Rwp
variable (V0 : Valuation τ sig (Elt Ideal))

/-- The recurrence's r, v and a. -/
def out0 : Vec Ideal S3x8x32768x128 .f32 := (concatenate S3x8x32768x128 0 [⟨S1x8x32768x128, ((broadcastInDim S1x8x32768x128 ![1, 2, 3] bcast_S8x32768x128_S1x8x32768x128_1_2_3 (transpose S8x32768x128 [1, 0, 2] (shapeCast _ (extractStridedSlice S8x4096x1024 ![0, 0, 0] (res_main_v25 V0) slices_S8x4096x3520_S8x4096x1024_0_0_0) shapeCasts_S8x4096x1024_S32768x8x128) transposes_S32768x8x128_S8x32768x128_1_0_2)) : (⟨S1x8x32768x128, .f32⟩ : BufTy).Contents (Elt Ideal))⟩, ⟨S1x8x32768x128, ((broadcastInDim S1x8x32768x128 ![1, 2, 3] bcast_S8x32768x128_S1x8x32768x128_1_2_3 (transpose S8x32768x128 [1, 0, 2] (shapeCast _ (extractStridedSlice S8x4096x1024 ![0, 0, 2048] (res_main_v25 V0) slices_S8x4096x3520_S8x4096x1024_0_0_2048) shapeCasts_S8x4096x1024_S32768x8x128) transposes_S32768x8x128_S8x32768x128_1_0_2)) : (⟨S1x8x32768x128, .f32⟩ : BufTy).Contents (Elt Ideal))⟩, ⟨S1x8x32768x128, ((broadcastInDim S1x8x32768x128 ![1, 2, 3] bcast_S8x32768x128_S1x8x32768x128_1_2_3 (transpose S8x32768x128 [1, 0, 2] (shapeCast _ (Host.negf (res_main_v51 V0)) shapeCasts_S8x4096x16x64_S32768x8x128) transposes_S32768x8x128_S8x32768x128_1_0_2)) : (⟨S1x8x32768x128, .f32⟩ : BufTy).Contents (Elt Ideal))⟩] concatenates_S1x8x32768x128_S1x8x32768x128_S1x8x32768x128_S3x8x32768x128_d0 : (⟨S3x8x32768x128, .f32⟩ : BufTy).Contents (Elt Ideal))
/-- The gate's second weights. -/
def g2v : FVec Ideal S1x256x1024 .f32 := V0 (Proc.devRef .tc main_arg8)
/-- The output gate. -/
def out1 : Vec Ideal S8x32768x128 .f32 := transpose S8x32768x128 [1, 0, 2] (shapeCast _ (Host.dotGeneral dot_S8x4096x256_S256x1024_S8x4096x1024_2_0_01_1_n_n none (Host.divf (broadcastInDim S8x4096x256 ![] bcast_S_S8x4096x256 (constant S_ .f32 0x3F800000#32)) (addf (broadcastInDim S8x4096x256 ![] bcast_S_S8x4096x256 (constant S_ .f32 0x3F800000#32)) (Host.exp (Host.negf (extractStridedSlice S8x4096x256 ![0, 0, 3264] (res_main_v25 V0) slices_S8x4096x3520_S8x4096x256_0_0_3264))))) (shapeCast _ (g2v V0) shapeCasts_S1x256x1024_S256x1024)) shapeCasts_S8x4096x1024_S32768x8x128) transposes_S32768x8x128_S8x32768x128_1_0_2
/-- Each direction's k, b and the logarithm of its decay. -/
def out2 : Vec Ideal S2x3x8x32768x128 .f32 := res_main_v169 V0
theorem r_at (s : Fin 8) (n : Fin 32768) (l : Fin 128) : out0 V0 (ix4 0 s n l) = z25 V0 ⟨n.val / 4096, by omega⟩ ⟨n.val % 4096, by omega⟩ ⟨s.val * 128 + l.val, by omega⟩ := by
  unfold out0 z25
  generalize res_main_v25 V0 = X
  generalize res_main_v51 V0 = Y
  pointwise
theorem v_at (s : Fin 8) (n : Fin 32768) (l : Fin 128) : out0 V0 (ix4 1 s n l) = z25 V0 ⟨n.val / 4096, by omega⟩ ⟨n.val % 4096, by omega⟩ ⟨2048 + (s.val * 128 + l.val), by omega⟩ := by
  unfold out0 z25
  generalize res_main_v25 V0 = X
  generalize res_main_v51 V0 = Y
  pointwise
theorem a_at (s : Fin 8) (n : Fin 32768) (l : Fin 128) : out0 V0 (ix4 2 s n l) = -z51 V0 ⟨n.val / 4096, by omega⟩ ⟨n.val % 4096, by omega⟩ ⟨s.val * 2 + l.val / 64, by omega⟩ ⟨l.val % 64, by omega⟩ := by
  unfold out0 z51
  generalize res_main_v25 V0 = X
  generalize res_main_v51 V0 = Y
  pointwise
theorem g_at (s : Fin 8) (n : Fin 32768) (l : Fin 128) : out1 V0 (ix3 s n l) = ∑ x : Fin 256, Cert.Mrg.sig (z25 V0 ⟨n.val / 4096, by omega⟩ ⟨n.val % 4096, by omega⟩ ⟨3264 + x.val, by omega⟩) * G2 V0 x ⟨s.val * 128 + l.val, by omega⟩ := by
  unfold out1 z25
  generalize res_main_v25 V0 = X
  pointwise [G2, g2v, Cert.Mrg.sig]
end Cert.RwprepRefIdeal.Rwp
-- ==== Proof.Rwp.RefT.lean ====
module
public import proofs.«01_k».proof.Proof.Rwp.RefR
public import proofs.«01_k».proof.Proof.Rwp.Math
@[expose] public section
set_option maxRecDepth 16384
noncomputable section
open Idealize.ShloMosaic Idealize.ShloMosaic.TcCoe Idealize.SL.Sem Idealize.ShloMosaic.StableHlo
namespace Cert.RwprepRefIdeal.Rwp
open Cert.RwprepRefIdeal Cert.RwprepRefIdeal.Gen Cert.RwprepRefIdeal.Value Cert.Rwp
variable (V0 : Valuation τ sig (Elt Ideal))

theorem w0_at (s : Fin 8) (n : Fin 32768) (l : Fin 128) : out2 V0 (ix5 0 2 s n l) = -(Ideal.exp (-(max (z60 V0 ⟨n.val / 4096, by omega⟩ ⟨n.val % 4096, by omega⟩ ⟨s.val * 128 + l.val, by omega⟩) 0
    + Ideal.log1p (Ideal.exp (-max (z60 V0 ⟨n.val / 4096, by omega⟩ ⟨n.val % 4096, by omega⟩ ⟨s.val * 128 + l.val, by omega⟩) (-z60 V0 ⟨n.val / 4096, by omega⟩ ⟨n.val % 4096, by omega⟩ ⟨s.val * 128 + l.val, by omega⟩))))) * Ideal.ofBits .f32 0x3F1B4598#32) := by
  unfold out2 z60 res_main_v169 res_main_call3_v3 res_main_call4_v3 res_main_call3_cst res_main_call4_cst
  generalize res_main_v28 V0 = X
  generalize res_main_v80 V0 = Y
  generalize res_main_v131 V0 = Y1
  generalize res_main_v51 V0 = Y2
  generalize res_main_v60 V0 = Y3
  generalize res_main_v111 V0 = Y4
  pointwise
  rw [if_neg (not_not_intro rfl)]
  rfl
theorem w1_at (s : Fin 8) (n : Fin 32768) (l : Fin 128) : out2 V0 (ix5 1 2 s n l) = -(Ideal.exp (-(max (z111 V0 ⟨n.val / 4096, by omega⟩ ⟨n.val % 4096, by omega⟩ ⟨s.val * 128 + l.val, by omega⟩) 0
    + Ideal.log1p (Ideal.exp (-max (z111 V0 ⟨n.val / 4096, by omega⟩ ⟨n.val % 4096, by omega⟩ ⟨s.val * 128 + l.val, by omega⟩) (-z111 V0 ⟨n.val / 4096, by omega⟩ ⟨n.val % 4096, by omega⟩ ⟨s.val * 128 + l.val, by omega⟩))))) * Ideal.ofBits .f32 0x3F1B4598#32) := by
  unfold out2 z111 res_main_v169 res_main_call3_v3 res_main_call4_v3 res_main_call3_cst res_main_call4_cst
  generalize res_main_v28 V0 = X
  generalize res_main_v80 V0 = Y
  generalize res_main_v131 V0 = Y1
  generalize res_main_v51 V0 = Y2
  generalize res_main_v60 V0 = Y3
  generalize res_main_v111 V0 = Y4
  pointwise
  rw [if_neg (not_not_intro rfl)]
  rfl
end Cert.RwprepRefIdeal.Rwp
-- ==== Proof.Rwp.RefV.lean ====
module
public import proofs.«01_k».proof.Proof.Rwp.RefD
public import proofs.«01_k».proof.Proof.Rwp.Math
@[expose] public section
set_option maxRecDepth 16384
noncomputable section
open Idealize.ShloMosaic Idealize.ShloMosaic.TcCoe Idealize.SL.Sem Idealize.ShloMosaic.StableHlo
namespace Cert.RwprepRefIdeal.Rwp
open Cert.RwprepRefIdeal Cert.RwprepRefIdeal.Gen Cert.RwprepRefIdeal.Value Cert.Rwp
variable (V0 : Valuation τ sig (Elt Ideal))

/-- A vector of 1024 laid by heads and repeated for every token. -/
def vec (a : FVec Ideal S1x1024 .f32) : FVec Ideal S8x4096x16x64 .f32 :=
  broadcastInDim S8x4096x16x64 ![0, 1, 2, 3] bcast_S1x1x16x64_S8x4096x16x64_0_1_2_3 (broadcastInDim S1x1x16x64 ![2, 3] bcast_S16x64_S1x1x16x64_2_3 (shapeCast S16x64 (shapeCast S1024 a shapeCasts_S1x1024_S1024) shapeCasts_S1024_S16x64))
theorem vec1 (Y : FVec Ideal S1024 .f32) (h : Fin 16) (i : Fin 64) : shapeCast S16x64 Y shapeCasts_S1024_S16x64 (ix2 h i) = Y (ix1 ⟨h.val * 64 + i.val, by omega⟩) := by
  pointwise
theorem vec2 (Y : FVec Ideal S16x64 .f32) (b : Fin 8) (t : Fin 4096) (h : Fin 16) (i : Fin 64) :
    broadcastInDim S8x4096x16x64 ![0, 1, 2, 3] bcast_S1x1x16x64_S8x4096x16x64_0_1_2_3 (broadcastInDim S1x1x16x64 ![2, 3] bcast_S16x64_S1x1x16x64_2_3 Y) (ix4 b t h i) = Y (ix2 h i) := by
  pointwise
theorem vec3 (a : FVec Ideal S1x1024 .f32) (j : Fin 1024) : shapeCast S1024 a shapeCasts_S1x1024_S1024 (ix1 j) = a (ix2 0 j) := by
  pointwise
theorem vec_at (a : FVec Ideal S1x1024 .f32) (b : Fin 8) (t : Fin 4096) (h : Fin 16) (i : Fin 64) : vec a (ix4 b t h i) = a (ix2 0 ⟨h.val * 64 + i.val, by omega⟩) :=
  (vec2 _ b t h i).trans ((vec1 _ h i).trans (vec3 a _))
end Cert.RwprepRefIdeal.Rwp
-- ==== Proof.Rwp.RefS.lean ====
module
public import proofs.«01_k».proof.Proof.Rwp.RefR
public import proofs.«01_k».proof.Proof.Rwp.Math
public import proofs.«01_k».proof.Proof.Rwp.RefV
@[expose] public section
set_option maxRecDepth 16384
noncomputable section
open Idealize.ShloMosaic Idealize.ShloMosaic.TcCoe Idealize.SL.Sem Idealize.ShloMosaic.StableHlo
namespace Cert.RwprepRefIdeal.Rwp
open Cert.RwprepRefIdeal Cert.RwprepRefIdeal.Gen Cert.RwprepRefIdeal.Value Cert.Rwp
variable (V0 : Valuation τ sig (Elt Ideal))

/-- By slabs of 128 lanes. -/
def sl (X : FVec Ideal S8x4096x16x64 .f32) : FVec Ideal S8x32768x128 .f32 := transpose S8x32768x128 [1, 0, 2] (shapeCast S32768x8x128 X shapeCasts_S8x4096x16x64_S32768x8x128) transposes_S32768x8x128_S8x32768x128_1_0_2
theorem sl_at (X : FVec Ideal S8x4096x16x64 .f32) (s : Fin 8) (n : Fin 32768) (l : Fin 128) : sl X (ix3 s n l) = X (ix4 ⟨n.val / 4096, by omega⟩ ⟨n.val % 4096, by omega⟩ ⟨s.val * 2 + l.val / 64, by omega⟩ ⟨l.val % 64, by omega⟩) := by
  pointwise [sl]
def st3 (A B C : FVec Ideal S8x32768x128 .f32) : FVec Ideal S3x8x32768x128 .f32 := concatenate S3x8x32768x128 0 [⟨S1x8x32768x128, broadcastInDim S1x8x32768x128 ![1, 2, 3] bcast_S8x32768x128_S1x8x32768x128_1_2_3 A⟩, ⟨S1x8x32768x128, broadcastInDim S1x8x32768x128 ![1, 2, 3] bcast_S8x32768x128_S1x8x32768x128_1_2_3 B⟩, ⟨S1x8x32768x128, broadcastInDim S1x8x32768x128 ![1, 2, 3] bcast_S8x32768x128_S1x8x32768x128_1_2_3 C⟩] concatenates_S1x8x32768x128_S1x8x32768x128_S1x8x32768x128_S3x8x32768x128_d0
def st2 (A B : FVec Ideal S3x8x32768x128 .f32) : FVec Ideal S2x3x8x32768x128 .f32 := concatenate S2x3x8x32768x128 0 [⟨S1x3x8x32768x128, broadcastInDim S1x3x8x32768x128 ![1, 2, 3, 4] bcast_S3x8x32768x128_S1x3x8x32768x128_1_2_3_4 A⟩, ⟨S1x3x8x32768x128, broadcastInDim S1x3x8x32768x128 ![1, 2, 3, 4] bcast_S3x8x32768x128_S1x3x8x32768x128_1_2_3_4 B⟩] concatenates_S1x3x8x32768x128_S1x3x8x32768x128_S2x3x8x32768x128_d0
theorem st3_0 (A B C : FVec Ideal S8x32768x128 .f32) (s : Fin 8) (n : Fin 32768) (l : Fin 128) : st3 A B C (ix4 0 s n l) = A (ix3 s n l) := by
  pointwise [st3]
theorem st3_1 (A B C : FVec Ideal S8x32768x128 .f32) (s : Fin 8) (n : Fin 32768) (l : Fin 128) : st3 A B C (ix4 1 s n l) = B (ix3 s n l) := by
  pointwise [st3]
theorem st2_0 (A B : FVec Ideal S3x8x32768x128 .f32) (j : Fin 3) (s : Fin 8) (n : Fin 32768) (l : Fin 128) : st2 A B (ix5 0 j s n l) = A (ix4 j s n l) := by
  pointwise [st2]
theorem st2_1 (A B : FVec Ideal S3x8x32768x128 .f32) (j : Fin 3) (s : Fin 8) (n : Fin 32768) (l : Fin 128) : st2 A B (ix5 1 j s n l) = B (ix4 j s n l) := by
  pointwise [st2]
def kav : FVec Ideal S1x1024 .f32 := V0 (Proc.devRef .tc main_arg5)
def q28 : FVec Ideal S8x4096x16x64 .f32 := res_main_v28 V0
def q51 : FVec Ideal S8x4096x16x64 .f32 := res_main_v51 V0
def q80 : FVec Ideal S8x4096x16x64 .f32 := res_main_v80 V0
def q131 : FVec Ideal S8x4096x16x64 .f32 := res_main_v131 V0
def kdv (K A W : FVec Ideal S8x4096x16x64 .f32) : FVec Ideal S8x4096x16x64 .f32 := mulf K (addf (broadcastInDim S8x4096x16x64 ![] bcast_S_S8x4096x16x64 (constant S_ .f32 0x3F800000#32)) (mulf (subf A (broadcastInDim S8x4096x16x64 ![] bcast_S_S8x4096x16x64 (constant S_ .f32 0x3F800000#32))) W))
theorem kdv_at (K A W : FVec Ideal S8x4096x16x64 .f32) (b : Fin 8) (t : Fin 4096) (h : Fin 16) (i : Fin 64) : kdv K A W (ix4 b t h i) = K (ix4 b t h i) * (1 + (A (ix4 b t h i) - 1) * W (ix4 b t h i)) := by
  pointwise [kdv]
theorem bv_at (K A : FVec Ideal S8x4096x16x64 .f32) (b : Fin 8) (t : Fin 4096) (h : Fin 16) (i : Fin 64) : mulf K A (ix4 b t h i) = K (ix4 b t h i) * A (ix4 b t h i) := by
  pointwise
theorem out2_eq : ∃ C D, out2 V0 = st2 (st3 (sl (kdv (q28 V0) (q80 V0) (vec (kav V0)))) (sl (mulf (q51 V0) (q80 V0))) C) (st3 (sl (kdv (q28 V0) (q131 V0) (vec (kav V0)))) (sl (mulf (q51 V0) (q131 V0))) D) := by
  unfold out2 res_main_v169 q28 q51 q80 q131 kav vec st2 st3 sl kdv
  exact ⟨_, _, rfl⟩
theorem k0_at (s : Fin 8) (n : Fin 32768) (l : Fin 128) : out2 V0 (ix5 0 0 s n l) = z28 V0 ⟨n.val / 4096, by omega⟩ ⟨n.val % 4096, by omega⟩ ⟨s.val * 2 + l.val / 64, by omega⟩ ⟨l.val % 64, by omega⟩ * (1 + (z80 V0 ⟨n.val / 4096, by omega⟩ ⟨n.val % 4096, by omega⟩ ⟨s.val * 2 + l.val / 64, by omega⟩ ⟨l.val % 64, by omega⟩ - 1) * KA V0 ⟨s.val * 128 + l.val, by omega⟩) := by
  obtain ⟨C, D, e⟩ := out2_eq V0
  have e2 : (⟨(s.val * 2 + l.val / 64) * 64 + l.val % 64, by omega⟩ : Fin 1024) = ⟨s.val * 128 + l.val, by omega⟩ := Fin.ext (by dsimp only; omega)
  rw [e, st2_0, st3_0, sl_at, kdv_at, vec_at, e2]
  rfl
theorem b0_at (s : Fin 8) (n : Fin 32768) (l : Fin 128) : out2 V0 (ix5 0 1 s n l) = z51 V0 ⟨n.val / 4096, by omega⟩ ⟨n.val % 4096, by omega⟩ ⟨s.val * 2 + l.val / 64, by omega⟩ ⟨l.val % 64, by omega⟩ * z80 V0 ⟨n.val / 4096, by omega⟩ ⟨n.val % 4096, by omega⟩ ⟨s.val * 2 + l.val / 64, by omega⟩ ⟨l.val % 64, by omega⟩ := by
  obtain ⟨C, D, e⟩ := out2_eq V0
  rw [e, st2_0, st3_1, sl_at, bv_at]
  rfl
theorem k1_at (s : Fin 8) (n : Fin 32768) (l : Fin 128) : out2 V0 (ix5 1 0 s n l) = z28 V0 ⟨n.val / 4096, by omega⟩ ⟨n.val % 4096, by omega⟩ ⟨s.val * 2 + l.val / 64, by omega⟩ ⟨l.val % 64, by omega⟩ * (1 + (z131 V0 ⟨n.val / 4096, by omega⟩ ⟨n.val % 4096, by omega⟩ ⟨s.val * 2 + l.val / 64, by omega⟩ ⟨l.val % 64, by omega⟩ - 1) * KA V0 ⟨s.val * 128 + l.val, by omega⟩) := by
  obtain ⟨C, D, e⟩ := out2_eq V0
  have e2 : (⟨(s.val * 2 + l.val / 64) * 64 + l.val % 64, by omega⟩ : Fin 1024) = ⟨s.val * 128 + l.val, by omega⟩ := Fin.ext (by dsimp only; omega)
  rw [e, st2_1, st3_0, sl_at, kdv_at, vec_at, e2]
  rfl
theorem b1_at (s : Fin 8) (n : Fin 32768) (l : Fin 128) : out2 V0 (ix5 1 1 s n l) = z51 V0 ⟨n.val / 4096, by omega⟩ ⟨n.val % 4096, by omega⟩ ⟨s.val * 2 + l.val / 64, by omega⟩ ⟨l.val % 64, by omega⟩ * z131 V0 ⟨n.val / 4096, by omega⟩ ⟨n.val % 4096, by omega⟩ ⟨s.val * 2 + l.val / 64, by omega⟩ ⟨l.val % 64, by omega⟩ := by
  obtain ⟨C, D, e⟩ := out2_eq V0
  rw [e, st2_1, st3_1, sl_at, bv_at]
  rfl
end Cert.RwprepRefIdeal.Rwp
-- ==== Proof.Rwp.RefB28.lean ====
module
public import proofs.«01_k».proof.Proof.Rwp.RefD
public import proofs.«01_k».proof.Proof.Rwp.Math
@[expose] public section
set_option maxRecDepth 16384
noncomputable section
open Idealize.ShloMosaic Idealize.ShloMosaic.TcCoe Idealize.SL.Sem Idealize.ShloMosaic.StableHlo
namespace Cert.RwprepRefIdeal.Rwp
open Cert.RwprepRefIdeal Cert.RwprepRefIdeal.Gen Cert.RwprepRefIdeal.Value Cert.Rwp
variable (V0 : Valuation τ sig (Elt Ideal))

theorem v28_gen (X : Vec Ideal S8x4096x3520 .f32) (b : Fin 8) (t : Fin 4096) (h : Fin 16) (i : Fin 64) :
    shapeCast S8x4096x16x64 (extractStridedSlice S8x4096x1024 ![0, 0, 1024] X slices_S8x4096x3520_S8x4096x1024_0_0_1024) shapeCasts_S8x4096x1024_S8x4096x16x64 (ix4 b t h i)
      = X (ix3 b t ⟨1024 + (h.val * 64 + i.val), by omega⟩) := by
  pointwise
theorem v28_at (b : Fin 8) (t : Fin 4096) (h : Fin 16) (i : Fin 64) : z28 V0 b t h i = z25 V0 b t ⟨1024 + (h.val * 64 + i.val), by omega⟩ :=
  v28_gen (res_main_v25 V0) b t h i
end Cert.RwprepRefIdeal.Rwp
-- ==== Proof.Rwp.RefB31.lean ====
module
public import proofs.«01_k».proof.Proof.Rwp.RefD
public import proofs.«01_k».proof.Proof.Rwp.Math
@[expose] public section
set_option maxRecDepth 16384
noncomputable section
open Idealize.ShloMosaic Idealize.ShloMosaic.TcCoe Idealize.SL.Sem Idealize.ShloMosaic.StableHlo
namespace Cert.RwprepRefIdeal.Rwp
open Cert.RwprepRefIdeal Cert.RwprepRefIdeal.Gen Cert.RwprepRefIdeal.Value Cert.Rwp
variable (V0 : Valuation τ sig (Elt Ideal))

theorem v31_at (b : Fin 8) (t : Fin 4096) (x : Fin 96) : z31 V0 b t x = Ideal.tanh (z25 V0 b t ⟨3072 + x.val, by omega⟩) := by
  unfold z31 z25 res_main_v31
  generalize res_main_v25 V0 = X
  pointwise
end Cert.RwprepRefIdeal.Rwp
-- ==== Proof.Rwp.RefB32.lean ====
module
public import proofs.«01_k».proof.Proof.Rwp.RefD
public import proofs.«01_k».proof.Proof.Rwp.Math
@[expose] public section
set_option maxRecDepth 16384
noncomputable section
open Idealize.ShloMosaic Idealize.ShloMosaic.TcCoe Idealize.SL.Sem Idealize.ShloMosaic.StableHlo
namespace Cert.RwprepRefIdeal.Rwp
open Cert.RwprepRefIdeal Cert.RwprepRefIdeal.Gen Cert.RwprepRefIdeal.Value Cert.Rwp
variable (V0 : Valuation τ sig (Elt Ideal))

theorem v32_at (b : Fin 8) (t : Fin 4096) (x : Fin 96) : z32 V0 b t x = z25 V0 b t ⟨3168 + x.val, by omega⟩ := by
  unfold z32 z25 res_main_v32
  generalize res_main_v25 V0 = X
  pointwise
end Cert.RwprepRefIdeal.Rwp
-- ==== Proof.Rwp.RefB46.lean ====
module
public import proofs.«01_k».proof.Proof.Rwp.RefV
public import proofs.«01_k».proof.Proof.Rwp.Math
@[expose] public section
set_option maxRecDepth 16384
noncomputable section
open Idealize.ShloMosaic Idealize.ShloMosaic.TcCoe Idealize.SL.Sem Idealize.ShloMosaic.StableHlo
namespace Cert.RwprepRefIdeal.Rwp
open Cert.RwprepRefIdeal Cert.RwprepRefIdeal.Gen Cert.RwprepRefIdeal.Value Cert.Rwp
variable (V0 : Valuation τ sig (Elt Ideal))

def kkv : FVec Ideal S1x1024 .f32 := V0 (Proc.devRef .tc main_arg4)
def p28 : FVec Ideal S8x4096x16x64 .f32 := res_main_v28 V0
theorem v46_gen (X Y : FVec Ideal S8x4096x16x64 .f32) (x y : EReal) (b : Fin 8) (t : Fin 4096) (h : Fin 16) (i : Fin 64) (hx : X (ix4 b t h i) = x) (hy : Y (ix4 b t h i) = y) :
    mulf X Y (ix4 b t h i) = x * y := by
  rw [← hx, ← hy]; rfl
theorem v46_eq : res_main_v46 V0 = mulf (p28 V0) (vec (kkv V0)) := by
  unfold res_main_v46 p28 vec kkv
  rfl
theorem v46_at (b : Fin 8) (t : Fin 4096) (h : Fin 16) (i : Fin 64) : z46 V0 b t h i = z28 V0 b t h i * KK V0 ⟨h.val * 64 + i.val, by omega⟩ := by
  unfold z46
  rw [v46_eq]
  exact v46_gen _ _ _ _ b t h i rfl (vec_at (kkv V0) b t h i)
end Cert.RwprepRefIdeal.Rwp
-- ==== Proof.Rwp.RefB51.lean ====
module
public import proofs.«01_k».proof.Proof.Rwp.RefD
public import proofs.«01_k».proof.Proof.Rwp.Math
@[expose] public section
set_option maxRecDepth 16384
noncomputable section
open Idealize.ShloMosaic Idealize.ShloMosaic.TcCoe Idealize.SL.Sem Idealize.ShloMosaic.StableHlo
namespace Cert.RwprepRefIdeal.Rwp
open Cert.RwprepRefIdeal Cert.RwprepRefIdeal.Gen Cert.RwprepRefIdeal.Value Cert.Rwp
variable (V0 : Valuation τ sig (Elt Ideal))

theorem v51_gen (X : FVec Ideal S8x4096x16x64 .f32) (b : Fin 8) (t : Fin 4096) (h : Fin 16) (i : Fin 64) :
    Host.divf (F := Ideal) X (broadcastInDim S8x4096x16x64 ![0, 1, 2, 3] bcast_S8x4096x16x1_S8x4096x16x64_0_1_2_3 (maximumf (Host.sqrt (broadcastInDim S8x4096x16x1 ![0, 1, 2] bcast_S8x4096x16_S8x4096x16x1_0_1_2 (Host.reduceAdd (mulf X X) (constant S_ .f32 0x00000000#32) reducesTo_S8x4096x16x64_S8x4096x16_d3 h_S_))) (broadcastInDim S8x4096x16x1 ![] bcast_S_S8x4096x16x1 (constant S_ .f32 0x2B8CBCCC#32)))) (ix4 b t h i)
    = Ideal.div (X (ix4 b t h i)) (max (Ideal.sqrt (∑ j : Fin 64, X (ix4 b t h j) * X (ix4 b t h j))) (Ideal.ofBits .f32 0x2B8CBCCC#32)) := by
  pointwise
theorem v51_at (b : Fin 8) (t : Fin 4096) (h : Fin 16) (i : Fin 64) : z51 V0 b t h i
    = Ideal.div (z46 V0 b t h i) (max (Ideal.sqrt (∑ j : Fin 64, z46 V0 b t h j * z46 V0 b t h j)) (Ideal.ofBits .f32 0x2B8CBCCC#32)) := by
  unfold z51 z46 res_main_v51
  exact v51_gen (res_main_v46 V0) b t h i
end Cert.RwprepRefIdeal.Rwp
-- ==== Proof.Rwp.RefF.lean ====
module
public import proofs.«01_k».proof.Proof.Rwp.RefA
public import proofs.«01_k».proof.Proof.Rwp.RefZ
public import proofs.«01_k».proof.Proof.Rwp.RefE
public import proofs.«01_k».proof.Proof.Rwp.RefR
public import proofs.«01_k».proof.Proof.Rwp.RefT
public import proofs.«01_k».proof.Proof.Rwp.RefS
public import proofs.«01_k».proof.Proof.Rwp.RefB28
public import proofs.«01_k».proof.Proof.Rwp.RefB31
public import proofs.«01_k».proof.Proof.Rwp.RefB32
public import proofs.«01_k».proof.Proof.Rwp.RefB46
public import proofs.«01_k».proof.Proof.Rwp.RefB51
@[expose] public section
set_option maxRecDepth 16384
noncomputable section
open Idealize.ShloMosaic Idealize.ShloMosaic.TcCoe Idealize.SL.Sem Idealize.ShloMosaic.StableHlo
namespace Cert.RwprepRefIdeal.Rwp
open Cert.RwprepRefIdeal Cert.RwprepRefIdeal.Gen Cert.RwprepRefIdeal.Value Cert.Rwp
variable (V0 : Valuation τ sig (Elt Ideal))

theorem z7_eq (b : Fin 8) (t : Fin 4096) (j : Fin 3520) : z7 V0 b t j = Sl V0 ⟨(cq j).val / 128, by omega⟩ ⟨b.val * 4096 + t.val, by omega⟩ ⟨(cq j).val % 128, by omega⟩ :=
  (v7_at V0 b t j).trans (v3_at V0 b t (cq j))
/-- The reference's shifted rows. -/
theorem z25_eq (b : Fin 8) (t : Fin 4096) (j : Fin 3520) (n : Fin 32768) (hn : n.val = b.val * 4096 + t.val) : z25 V0 b t j = Z V0 n (cq j) := by
  have en : (⟨b.val * 4096 + t.val, by omega⟩ : Fin 32768) = n := Fin.ext hn.symm
  rw [v25_raw, z7_eq, en]
  unfold Z zk mix
  rw [muS_cq, muS_cq]
  have e1 : (if h : t.val = 0 then 0 else z7 V0 b ⟨t.val - 1, by omega⟩ j : EReal) = shp (fun n => Sl V0 ⟨(cq j).val / 128, by omega⟩ n ⟨(cq j).val % 128, by omega⟩) n := by
    unfold shp
    by_cases h : t.val = 0
    · rw [dif_pos h, dif_pos (by omega)]
    · rw [dif_neg h, dif_neg (by omega), z7_eq]
      exact congrArg (fun u => Sl V0 ⟨(cq j).val / 128, by omega⟩ u ⟨(cq j).val % 128, by omega⟩) (Fin.ext (by dsimp only; omega))
  have e2 : (if h : t.val = 4095 then 0 else z7 V0 b ⟨t.val + 1, by omega⟩ j : EReal) = shn (fun n => Sl V0 ⟨(cq j).val / 128, by omega⟩ n ⟨(cq j).val % 128, by omega⟩) n := by
    unfold shn
    by_cases h : t.val = 4095
    · rw [dif_pos h, dif_pos (by omega)]
    · rw [dif_neg h, dif_neg (by omega), z7_eq]
      exact congrArg (fun u => Sl V0 ⟨(cq j).val / 128, by omega⟩ u ⟨(cq j).val % 128, by omega⟩) (Fin.ext (by dsimp only; omega))
  rw [e1, e2]
theorem cq_lo (j : Fin 3520) (h : j.val < 3168) : cq j = ⟨j.val, by omega⟩ := dif_pos h
theorem cq_mid (x : Fin 96) : cq ⟨3168 + x.val, by omega⟩ = ⟨3200 + x.val, by omega⟩ := by
    unfold cq
    rw [dif_neg (by dsimp only; omega), dif_pos (by dsimp only; omega)]
    exact Fin.ext (by dsimp only; omega)
theorem cq_hi (x : Fin 256) : cq ⟨3264 + x.val, by omega⟩ = ⟨3328 + x.val, by omega⟩ := by
    unfold cq
    rw [dif_neg (by dsimp only; omega), dif_neg (by dsimp only; omega)]
    exact Fin.ext (by dsimp only; omega)
theorem neg_const : Ideal.ofBits .f32 0xBF1B4598#32 = -Ideal.ofBits .f32 0x3F1B4598#32 := by
  simp [Ideal.ofBits, Ideal.ieee, -EReal.coe_mul]
section
variable (n : Fin 32768) (s : Fin 8) (l : Fin 128)
theorem at25 (j : Fin 3520) : z25 V0 ⟨n.val / 4096, by omega⟩ ⟨n.val % 4096, by omega⟩ j = Z V0 n (cq j) := z25_eq V0 _ _ j n (by dsimp only; omega)
theorem at28 (h : Fin 16) (i : Fin 64) : z28 V0 ⟨n.val / 4096, by omega⟩ ⟨n.val % 4096, by omega⟩ h i = Z V0 n ⟨1024 + (h.val * 64 + i.val), by omega⟩ := by
  rw [v28_at, at25, cq_lo _ (by dsimp only; omega)]
theorem at46 (h : Fin 16) (i : Fin 64) : z46 V0 ⟨n.val / 4096, by omega⟩ ⟨n.val % 4096, by omega⟩ h i = kv (Z V0 n) (KK V0) ⟨h.val * 64 + i.val, by omega⟩ := by
  rw [v46_at, at28]
  rfl
theorem at51 : z51 V0 ⟨n.val / 4096, by omega⟩ ⟨n.val % 4096, by omega⟩ ⟨s.val * 2 + l.val / 64, by omega⟩ ⟨l.val % 64, by omega⟩ = kn (Z V0 n) (KK V0) ⟨s.val * 128 + l.val, by omega⟩ := by
  rw [v51_at]
  simp only [at46]
  unfold kn
  have e : ∀ j : Fin 64, (⟨(s.val * 2 + l.val / 64) * 64 + j.val, by omega⟩ : Fin 1024) = ⟨(s.val * 128 + l.val) / 64 * 64 + j.val, by omega⟩ := fun j => Fin.ext (by dsimp only; omega)
  have e2 : (⟨(s.val * 2 + l.val / 64) * 64 + l.val % 64, by omega⟩ : Fin 1024) = ⟨s.val * 128 + l.val, by omega⟩ := Fin.ext (by dsimp only; omega)
  simp only [e]
  rw [e2]
theorem at31 (x : Fin 96) : z31 V0 ⟨n.val / 4096, by omega⟩ ⟨n.val % 4096, by omega⟩ x = Ideal.tanh (Z V0 n ⟨3072 + x.val, by omega⟩) := by
  rw [v31_at, at25, cq_lo _ (by dsimp only; omega)]
theorem at32 (x : Fin 96) : z32 V0 ⟨n.val / 4096, by omega⟩ ⟨n.val % 4096, by omega⟩ x = Z V0 n ⟨3200 + x.val, by omega⟩ := by
  rw [v32_at, at25, cq_mid]
theorem at80 : z80 V0 ⟨n.val / 4096, by omega⟩ ⟨n.val % 4096, by omega⟩ ⟨s.val * 2 + l.val / 64, by omega⟩ ⟨l.val % 64, by omega⟩ = asg (Z V0 n) (A0 V0 0) (A2 V0 0) ⟨s.val * 128 + l.val, by omega⟩ := by
  have e2 : (⟨(s.val * 2 + l.val / 64) * 64 + l.val % 64, by omega⟩ : Fin 1024) = ⟨s.val * 128 + l.val, by omega⟩ := Fin.ext (by dsimp only; omega)
  rw [v80_at]
  simp only [at32, e2]
  rfl
theorem at131 : z131 V0 ⟨n.val / 4096, by omega⟩ ⟨n.val % 4096, by omega⟩ ⟨s.val * 2 + l.val / 64, by omega⟩ ⟨l.val % 64, by omega⟩ = asg (Z V0 n) (A0 V0 1) (A2 V0 1) ⟨s.val * 128 + l.val, by omega⟩ := by
  have e2 : (⟨(s.val * 2 + l.val / 64) * 64 + l.val % 64, by omega⟩ : Fin 1024) = ⟨s.val * 128 + l.val, by omega⟩ := Fin.ext (by dsimp only; omega)
  rw [v131_at]
  simp only [at32, e2]
  rfl
theorem decay (u : EReal) : -(Ideal.exp (-(max (-u) 0 + Ideal.log1p (Ideal.exp (-max (-u) (-(-u)))))) * Ideal.ofBits .f32 0x3F1B4598#32) = Ideal.ofBits .f32 0xBF1B4598#32 * Cert.Mrg.sig u := by
  rw [softplus_sig, neg_const, EReal.neg_mul, mul_comm]
  rfl
theorem out0_at (k : Fin 3) : out0 V0 (ix4 k s n l)
    = (![Z V0 n ⟨s.val * 128 + l.val, by omega⟩, Z V0 n ⟨2048 + (s.val * 128 + l.val), by omega⟩, -kn (Z V0 n) (KK V0) ⟨s.val * 128 + l.val, by omega⟩] : Fin 3 → EReal) k := by
  fin_cases k
  · refine (r_at V0 s n l).trans ?_
    rw [at25, cq_lo _ (by dsimp only; omega)]
    rfl
  · refine (v_at V0 s n l).trans ?_
    rw [at25, cq_lo _ (by dsimp only; omega)]
    rfl
  · exact (a_at V0 s n l).trans (congrArg (fun y : EReal => -y) (at51 V0 n s l))
theorem out1_at : out1 V0 (ix3 s n l) = gt (Z V0 n) (G2 V0) ⟨s.val * 128 + l.val, by omega⟩ := by
  rw [g_at]
  unfold gt
  simp only [at25, cq_hi]
theorem kd_of (a : EReal) (A : Fin 1024 → EReal) (h : a = A ⟨s.val * 128 + l.val, by omega⟩) :
    z28 V0 ⟨n.val / 4096, by omega⟩ ⟨n.val % 4096, by omega⟩ ⟨s.val * 2 + l.val / 64, by omega⟩ ⟨l.val % 64, by omega⟩ * (1 + (a - 1) * KA V0 ⟨s.val * 128 + l.val, by omega⟩)
      = kd (Z V0 n) A (KA V0) ⟨s.val * 128 + l.val, by omega⟩ := by
  have e2 : (⟨1024 + ((s.val * 2 + l.val / 64) * 64 + l.val % 64), by omega⟩ : Fin 3584) = ⟨1024 + (s.val * 128 + l.val), by omega⟩ := Fin.ext (by dsimp only; omega)
  rw [at28, h]
  dsimp only
  rw [e2]
  rfl
theorem out2_at (d : Fin 2) (k : Fin 3) : out2 V0 (ix5 d k s n l)
    = (![kd (Z V0 n) (asg (Z V0 n) (A0 V0 d) (A2 V0 d)) (KA V0) ⟨s.val * 128 + l.val, by omega⟩,
        kn (Z V0 n) (KK V0) ⟨s.val * 128 + l.val, by omega⟩ * asg (Z V0 n) (A0 V0 d) (A2 V0 d) ⟨s.val * 128 + l.val, by omega⟩,
        dec (Z V0 n) (W0 V0 d) (W2 V0 d) ⟨s.val * 128 + l.val, by omega⟩] : Fin 3 → EReal) k := by
  fin_cases d
  · fin_cases k
    · exact (k0_at V0 s n l).trans (kd_of V0 n s l _ _ (at80 V0 n s l))
    · exact (b0_at V0 s n l).trans (congrArg₂ (fun a b : EReal => a * b) (at51 V0 n s l) (at80 V0 n s l))
    · refine (w0_at V0 s n l).trans ?_
      rw [v60_at]
      refine (decay _).trans ?_
      simp only [at31]
      rfl
  · fin_cases k
    · exact (k1_at V0 s n l).trans (kd_of V0 n s l _ _ (at131 V0 n s l))
    · exact (b1_at V0 s n l).trans (congrArg₂ (fun a b : EReal => a * b) (at51 V0 n s l) (at131 V0 n s l))
    · refine (w1_at V0 s n l).trans ?_
      rw [v111_at]
      refine (decay _).trans ?_
      simp only [at31]
      rfl
end
variable (m : (ℓ : Loc nD τ sig) → Buf (Elt Ideal) ℓ)
/-- Every run of the reference ends with these three results and the arguments it started from. -/
theorem run (g : Dev nD → PrngReg) : θ_run defs (onTc (τ := τ) (main (F := Ideal))) ⟨m, fun _ => 0, g⟩ fun r => ∀ c : Dev nD,
      r.2.mem ((c.tc : Thread nD τ).loc main_v164) = out0 (launchContents m c) ∧ r.2.mem ((c.tc : Thread nD τ).loc main_v166) = out1 (launchContents m c)
      ∧ r.2.mem ((c.tc : Thread nD τ).loc main_v169) = out2 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  Value.run m g
end Cert.RwprepRefIdeal.Rwp
-- ==== Proof.Rwp.Finite.lean ====
module
public import proofs.«01_k».proof.Pre_keys_finite
public import proofs.«01_k».proof.Proof.Rwp.Math
public import proofs.«01_k».proof.Proof.Att.Finite
public import Idealize.ShloMosaic.Lib.ReduceAll
@[expose] public section
noncomputable section
open Idealize.ShloMosaic
/-! What the precondition says: the keys' projection, the shift's coefficients of its columns and the keys' scales are real numbers. -/
namespace Cert.KeysFinite

open Cert.Pre_keys_finite in
theorem facts : Cert.Pre_keys_finite.Facts where
  slices_S84x32768x128_S8x32768x128_64_0_0 := by decide
  bitsLt_bf16_f32 := by decide
  slices_S1x2x3520_S1x2x1024_0_0_1024 := by decide
  bcast_S_S8x32768x128 := by decide
  reducesTo_S8x32768x128_S_d0_1_2 := by decide
  h_S_ := by decide
  bcast_S_S1x2x1024 := by decide
  reducesTo_S1x2x1024_S_d0_1_2 := by decide
  bcast_S_S1x1024 := by decide
  reducesTo_S1x1024_S_d0_1 := by decide

instance : Subsingleton Cert.Pre_keys_finite.S_.Idx := ⟨fun a b => funext fun k => k.elim0⟩

section
variable [Cert.Pre_keys_finite.Facts]
open Cert.Pre_keys_finite in
theorem split (a0 : FVec Ideal S84x32768x128 .bf16) (a1 : FVec Ideal S1x2x3520 .f32) (a2 a3 : FVec Ideal S1x2x1024 .f32) (a4 a5 : FVec Ideal S1x1024 .f32)
    (a6 a7 : FVec Ideal S1x2x96x1024 .f32) (a8 : FVec Ideal S1x256x1024 .f32)
    (h : fn (F := Ideal) a0 a1 a2 a3 a4 a5 a6 a7 a8 = fun _ => 1#1) :
    (∀ (s : Fin 84) (n : Fin 32768) (l : Fin 128), 64 ≤ s.val → s.val < 72 → ∃ v : ℝ, a0 (ix3 s n l) = (v : EReal))
      ∧ (∀ (d : Fin 2) (j : Fin 3520), 1024 ≤ j.val → j.val < 2048 → ∃ v : ℝ, a1 (ix3 0 d j) = (v : EReal)) ∧ ∀ i, ∃ v : ℝ, a4 i = (v : EReal) := by
  have h0 := congrFun h ix0
  obtain ⟨e01, e4⟩ := IntOp.andi_eq_one.1 h0
  obtain ⟨e0, e1⟩ := IntOp.andi_eq_one.1 e01
  have q0 := Cert.Finite.real_of_all _ _ (fun _ => rfl) _ _ _ _ e0
  have q1 := Cert.Finite.real_of_all _ _ (fun _ => rfl) _ _ _ _ e1
  have q4 := Cert.Finite.real_of_all _ _ (fun _ => rfl) _ _ _ _ e4
  refine ⟨fun s n l h1 h2 => ?_, fun d j h1 h2 => ?_, fun i => ⟨_, q4 i⟩⟩
  · have e : extractStridedSlice S8x32768x128 ![64, 0, 0] a0 Facts.slices_S84x32768x128_S8x32768x128_64_0_0 (ix3 ⟨s.val - 64, by omega⟩ n l) = a0 (ix3 s n l) := by
      refine congrArg a0 (funext fun k => Fin.ext ?_)
      fin_cases k
      · show 64 + (s.val - 64) = s.val
        omega
      · show 0 + n.val = n.val
        omega
      · show 0 + l.val = l.val
        omega
    have e' : (extf (F := Ideal) .f32 (extractStridedSlice S8x32768x128 ![64, 0, 0] a0 Facts.slices_S84x32768x128_S8x32768x128_64_0_0) Facts.bitsLt_bf16_f32) (ix3 ⟨s.val - 64, by omega⟩ n l) = a0 (ix3 s n l) := e
    exact ⟨_, e'.symm.trans (q0 (ix3 ⟨s.val - 64, by omega⟩ n l))⟩
  · have e : extractStridedSlice S1x2x1024 ![0, 0, 1024] a1 Facts.slices_S1x2x3520_S1x2x1024_0_0_1024 (ix3 0 d ⟨j.val - 1024, by omega⟩) = a1 (ix3 0 d j) := by
      refine congrArg a1 (funext fun k => Fin.ext ?_)
      fin_cases k
      · rfl
      · show 0 + d.val = d.val
        omega
      · show 1024 + (j.val - 1024) = j.val
        omega
    exact ⟨_, e.symm.trans (q1 (ix3 0 d ⟨j.val - 1024, by omega⟩))⟩
end
open Cert.Rwp
def R (x : EReal) : Prop := ∃ v : ℝ, x = (v : EReal)
theorem R.add {x y : EReal} : R x → R y → R (x + y) := fun ⟨a, ha⟩ ⟨b, hb⟩ => ⟨a + b, by rw [ha, hb, EReal.coe_add]⟩
theorem R.mul {x y : EReal} : R x → R y → R (x * y) := fun ⟨a, ha⟩ ⟨b, hb⟩ => ⟨a * b, by rw [ha, hb, EReal.coe_mul]⟩
theorem R.sub {x y : EReal} : R x → R y → R (x - y) := fun ⟨a, ha⟩ ⟨b, hb⟩ => ⟨a - b, by rw [ha, hb, EReal.coe_sub]⟩
theorem R.zero : R 0 := ⟨0, EReal.coe_zero.symm⟩
/-- A shifted row's keys are real numbers. -/
theorem zk_real (S : Fin 28 → Fin 32768 → Fin 128 → EReal) (mu0 mu1 : Fin 3520 → EReal) (hS : ∀ (s : Fin 28) n l, 8 ≤ s.val → s.val < 16 → R (S s n l))
    (h0 : ∀ j : Fin 3520, 1024 ≤ j.val → j.val < 2048 → R (mu0 j)) (h1 : ∀ j : Fin 3520, 1024 ≤ j.val → j.val < 2048 → R (mu1 j))
    (n : Fin 32768) (q : Fin 3584) (hq : 1024 ≤ q.val) (hq' : q.val < 2048) : R (zk S mu0 mu1 n q) := by
  have hm : ∀ mu : Fin 3520 → EReal, (∀ j : Fin 3520, 1024 ≤ j.val → j.val < 2048 → R (mu j)) → R (muS mu q) := fun mu h => by
    unfold muS
    rw [dif_pos (by omega)]
    exact h _ hq hq'
  have hs : ∀ n l, R (S ⟨q.val / 128, by omega⟩ n l) := fun n l => hS _ n l (by dsimp only; omega) (by dsimp only; omega)
  have hp : R (shp (fun n => S ⟨q.val / 128, by omega⟩ n ⟨q.val % 128, by omega⟩) n) := by
    unfold shp
    split
    · exact R.zero
    exact hs _ _
  have hn : R (shn (fun n => S ⟨q.val / 128, by omega⟩ n ⟨q.val % 128, by omega⟩) n) := by
    unfold shn
    split
    · exact R.zero
    exact hs _ _
  exact ((hs _ _).add ((hm mu0 h0).mul (hp.sub (hs _ _)))).add ((hm mu1 h1).mul (hn.sub (hs _ _)))
theorem kv_real (z : Fin 3584 → EReal) (kk : Fin 1024 → EReal) (hz : ∀ q : Fin 3584, 1024 ≤ q.val → q.val < 2048 → R (z q)) (hk : ∀ j, R (kk j)) (j : Fin 1024) : R (kv z kk j) :=
  (hz _ (by dsimp only; omega) (by dsimp only; omega)).mul (hk _)
end Cert.KeysFinite
-- ==== Proof.Rwp.Final.lean ====
module
public import proofs.«01_k».proof.Proof.Gen.RwprepIdeal.Value
public import proofs.«01_k».proof.Proof.Rwp.Zrow
public import proofs.«01_k».proof.Proof.Rwp.Dots
public import proofs.«01_k».proof.Proof.Rwp.OutA
public import proofs.«01_k».proof.Proof.Rwp.OutG
public import proofs.«01_k».proof.Proof.Rwp.OutD
public import proofs.«01_k».proof.Proof.Rwp.HostV
public import proofs.«01_k».proof.Proof.Rwp.RefF
public import proofs.«01_k».proof.Proof.Rwp.Finite
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.RwprepIdeal.Rwp
open Cert.RwprepIdeal Cert.RwprepIdeal.Gen Facts Cert.Rwp
open Cert.KeysFinite (R)
variable (m : (ℓ : Loc nD τ sig) → Buf (Elt Ideal) ℓ)

theorem N128 (t : Fin cfg0.N) : t.val < 128 := lt_of_lt_of_eq t.isLt N_0
theorem idxA : ∀ t : Fin grid0.N, win0_0.index t = ![2, t.val, 0] ∧ win0_1.index t = ![2, t.val * 16 - 1, 0] ∧ win0_2.index t = ![2, min (t.val * 16 + 16) 2047, 0]
    ∧ (grid0.coords t 1).val = t.val % 16 := by decide +kernel
theorem idxB : ∀ t : Fin grid0.N, win0_3.index t = ![0, 0, 0] ∧ win0_4.index t = ![0, 0, 0, 0] ∧ win0_5.index t = ![0, 0, 0, 0] ∧ win0_6.index t = ![0, 0, 0] ∧ win0_7.index t = ![0, 0, 0]
    ∧ win0_8.index t = ![0, 0, 0] ∧ win0_9.index t = ![0, 0, 0] ∧ win0_10.index t = ![0, 0] := by decide +kernel
theorem idxC : ∀ t : Fin grid0.N, win0_11.index t = ![0, 0, t.val, 0] ∧ win0_12.index t = ![0, t.val, 0] ∧ win0_13.index t = ![0, 0, 0, t.val, 0] := by decide +kernel

/-! The rows and weights the argument arrays hold. -/
def aS (c : Dev nD) (s : Fin 28) (n : Fin 32768) (l : Fin 128) : EReal := m ((c : Thread nD τ).loc main_arg0) (ix3 ⟨56 + s.val, by omega⟩ n l)
def aMu (c : Dev nD) (d : Fin 2) (j : Fin 3520) : EReal := m ((c : Thread nD τ).loc main_arg1) (ix3 0 d j)
def aW0 (c : Dev nD) (d : Fin 2) (j : Fin 1024) : EReal := m ((c : Thread nD τ).loc main_arg2) (ix3 0 d j)
def aA0 (c : Dev nD) (d : Fin 2) (j : Fin 1024) : EReal := m ((c : Thread nD τ).loc main_arg3) (ix3 0 d j)
def aKK (c : Dev nD) (j : Fin 1024) : EReal := m ((c : Thread nD τ).loc main_arg4) (ix2 0 j)
def aKA (c : Dev nD) (j : Fin 1024) : EReal := m ((c : Thread nD τ).loc main_arg5) (ix2 0 j)
def aW2 (c : Dev nD) (d : Fin 2) (x : Fin 96) (j : Fin 1024) : EReal := m ((c : Thread nD τ).loc main_arg6) (ix4 0 d x j)
def aA2 (c : Dev nD) (d : Fin 2) (x : Fin 96) (j : Fin 1024) : EReal := m ((c : Thread nD τ).loc main_arg7) (ix4 0 d x j)
def aG2 (c : Dev nD) (x : Fin 256) (j : Fin 1024) : EReal := m ((c : Thread nD τ).loc main_arg8) (ix3 0 x j)
def aZ (c : Dev nD) (n : Fin 32768) (q : Fin 3584) : EReal := zk (aS m c) (aMu m c 0) (aMu m c 1) n q

section
variable (c : Dev nD) (t : Fin cfg0.N)
theorem blk0 (s : Fin 28) (r : Fin 256) (l : Fin 128) (n : Fin 32768) (hn : n.val = t.val * 256 + r.val) : iblk m c 0 t (ix3 s r l) = aS m c s n l := by
  blk_ext [iblk, V, idxA t]
theorem blk1 (s : Fin 28) (l : Fin 128) (n : Fin 32768) (hn : n.val + 1 = t.val * 256) : iblk m c 1 t (ix3 s 15 l) = aS m c s n l := by
  blk_ext [iblk, V, idxA t]
theorem blk2 (s : Fin 28) (l : Fin 128) (n : Fin 32768) (hn : n.val = t.val * 256 + 256) : iblk m c 2 t (ix3 s 0 l) = aS m c s n l := by
  blk_ext [iblk, V, idxA t]
theorem blk3 (d : Fin 2) (q : Fin 3584) : iblk m c 3 t (ix3 d 0 q) = muS (aMu m c d) q := by
  refine Eq.trans ?_ (hostMu_at (m ((c : Thread nD τ).loc main_arg1)) d q)
  rw [← host_13]
  blk_ext [iblk, idxB t]
theorem blk4 (d : Fin 2) (s : Fin 8) (l : Fin 128) : iblk m c 4 t (ix4 d s 0 l) = aW0 m c d ⟨s.val * 128 + l.val, by omega⟩ := by
  refine Eq.trans ?_ (hostD_at (m ((c : Thread nD τ).loc main_arg2)) d s l)
  rw [← host_15]
  blk_ext [iblk, idxB t]
theorem blk5 (d : Fin 2) (s : Fin 8) (l : Fin 128) : iblk m c 5 t (ix4 d s 0 l) = aA0 m c d ⟨s.val * 128 + l.val, by omega⟩ := by
  refine Eq.trans ?_ (hostD_at (m ((c : Thread nD τ).loc main_arg3)) d s l)
  rw [← host_17]
  blk_ext [iblk, idxB t]
theorem blk6 (s : Fin 8) (l : Fin 128) : iblk m c 6 t (ix3 s 0 l) = aKK m c ⟨s.val * 128 + l.val, by omega⟩ := by
  refine Eq.trans ?_ (hostK_at (m ((c : Thread nD τ).loc main_arg4)) s l)
  rw [← host_19]
  blk_ext [iblk, idxB t]
theorem blk7 (s : Fin 8) (l : Fin 128) : iblk m c 7 t (ix3 s 0 l) = aKA m c ⟨s.val * 128 + l.val, by omega⟩ := by
  refine Eq.trans ?_ (hostK_at (m ((c : Thread nD τ).loc main_arg5)) s l)
  rw [← host_21]
  blk_ext [iblk, idxB t]
theorem blk8 (d : Fin 2) (x : Fin 128) (j : Fin 1024) : iblk m c 8 t (ix3 d x j) = if h : x.val < 96 then aW2 m c d ⟨x.val, h⟩ j else 0 := by
  refine Eq.trans ?_ (hostW_at (m ((c : Thread nD τ).loc main_arg6)) d x j)
  rw [← host_24]
  blk_ext [iblk, idxB t]
theorem blk9 (d : Fin 2) (x : Fin 128) (j : Fin 1024) : iblk m c 9 t (ix3 d x j) = if h : x.val < 96 then aA2 m c d ⟨x.val, h⟩ j else 0 := by
  refine Eq.trans ?_ (hostW_at (m ((c : Thread nD τ).loc main_arg7)) d x j)
  rw [← host_27]
  blk_ext [iblk, idxB t]
theorem blk10 (x : Fin 256) (j : Fin 1024) : iblk m c 10 t (ix2 x j) = aG2 m c x j := by
  refine Eq.trans ?_ (hostG_at (m ((c : Thread nD τ).loc main_arg8)) x j)
  rw [← host_29]
  blk_ext [iblk, idxB t]
/-- A block's shifted rows are the arrays'. -/
theorem zrow (r : Fin 256) (n : Fin 32768) (hn : n.val = t.val * 256 + r.val) (q : Fin 3584) :
    k0_pay268 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r q)
      = aZ m c n q :=
  pay268_at _ _ _ _ _ _ _ _ _ _ _ _ (aS m c) (aMu m c) t.val (N128 t) (idxA t).2.2.2 (blk0 m c t) (blk1 m c t) (blk2 m c t) (blk3 m c t) r q n hn
variable (hr : ∀ n j, R (kv (aZ m c n) (aKK m c) j))
include hr
theorem out11 (k : Fin 3) (s : Fin 8) (r : Fin 256) (l : Fin 128) (n : Fin 32768) (hn : n.val = t.val * 256 + r.val) :
    out0_11 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix4 k s r l)
      = (![aZ m c n ⟨s.val * 128 + l.val, by omega⟩, aZ m c n ⟨2048 + (s.val * 128 + l.val), by omega⟩, -kn (aZ m c n) (aKK m c) ⟨s.val * 128 + l.val, by omega⟩] : Fin 3 → EReal) k :=
  (out11_at _ _ _ _ _ _ _ _ _ _ _ _ k s r l).trans (p11_at _ _ _ (aZ m c n) r (zrow m c t r n hn) (pay274_at _ _ _ _ _ _ _ _ _ _ _ _) (aKK m c) (blk6 m c t) (hr n) k s l)
omit hr in
theorem out12 (s : Fin 8) (r : Fin 256) (l : Fin 128) (n : Fin 32768) (hn : n.val = t.val * 256 + r.val) :
    out0_12 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 s r l)
      = gt (aZ m c n) (aG2 m c) ⟨s.val * 128 + l.val, by omega⟩ :=
  (out12_at _ _ _ _ _ _ _ _ _ _ _ _ s r l).trans ((ca3_at _ r l).trans ((sld_at _ s r l).trans
    (pay269_at _ _ _ _ _ _ _ _ _ _ _ _ (aZ m c n) r (zrow m c t r n hn) (aG2 m c) (blk10 m c t) _)))
theorem out13 (d : Fin 2) (k : Fin 3) (s : Fin 8) (r : Fin 256) (l : Fin 128) (n : Fin 32768) (hn : n.val = t.val * 256 + r.val) :
    out0_13 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix5 d k s r l)
      = (![kd (aZ m c n) (asg (aZ m c n) (aA0 m c d) (aA2 m c d)) (aKA m c) ⟨s.val * 128 + l.val, by omega⟩,
        kn (aZ m c n) (aKK m c) ⟨s.val * 128 + l.val, by omega⟩ * asg (aZ m c n) (aA0 m c d) (aA2 m c d) ⟨s.val * 128 + l.val, by omega⟩,
        dec (aZ m c n) (aW0 m c d) (aW2 m c d) ⟨s.val * 128 + l.val, by omega⟩] : Fin 3 → EReal) k :=
  (out13_at _ _ _ _ _ _ _ _ _ _ _ _ d k s r l).trans (p13_at _ _ _ _ _ _ _ _ (aZ m c n) r (zrow m c t r n hn) (pay274_at _ _ _ _ _ _ _ _ _ _ _ _) (aKK m c) (blk6 m c t) (hr n)
    (aW0 m c) (aA0 m c) (aKA m c) (aW2 m c) (aA2 m c) (blk4 m c t) (blk5 m c t) (blk7 m c t)
    (fun d j => dw_at _ _ _ _ _ _ _ _ _ _ _ _ (aZ m c n) r (zrow m c t r n hn) d (aW2 m c d) (blk8 m c t d) j)
    (fun d j => da_at _ _ _ _ _ _ _ _ _ _ _ _ (aZ m c n) r (zrow m c t r n hn) d (aA2 m c d) (blk9 m c t d) j) d k s l)
end

section
variable (c : Dev nD) (V0 : Valuation Cert.RwprepRefIdeal.τ Cert.RwprepRefIdeal.sig (Elt Ideal))
  (hS : Cert.RwprepRefIdeal.Rwp.Sl V0 = aS m c) (hMu : Cert.RwprepRefIdeal.Rwp.Mu V0 = aMu m c) (hW0 : Cert.RwprepRefIdeal.Rwp.W0 V0 = aW0 m c) (hA0 : Cert.RwprepRefIdeal.Rwp.A0 V0 = aA0 m c)
  (hKK : Cert.RwprepRefIdeal.Rwp.KK V0 = aKK m c) (hKA : Cert.RwprepRefIdeal.Rwp.KA V0 = aKA m c) (hW2 : Cert.RwprepRefIdeal.Rwp.W2 V0 = aW2 m c) (hA2 : Cert.RwprepRefIdeal.Rwp.A2 V0 = aA2 m c)
  (hG2 : Cert.RwprepRefIdeal.Rwp.G2 V0 = aG2 m c) (hr : ∀ n j, R (kv (aZ m c n) (aKK m c) j))
include hS hMu in
theorem z_eq (n : Fin 32768) : Cert.RwprepRefIdeal.Rwp.Z V0 n = aZ m c n := by
  funext q
  unfold Cert.RwprepRefIdeal.Rwp.Z aZ
  rw [hS, hMu]
include hS hMu hKK hr in
/-- The recurrence's r, v and a are the reference's. -/
theorem final11 : (dats m 0 c).arrAt 11 cfg0.N = Cert.RwprepRefIdeal.Rwp.out0 V0 := by
  refine Dat.arrAt_eq_of_covers (dats m 0 c) 11 _ (by decide +kernel) fun t _ y => ?_
  blk_simp
  rw [after0_11]
  have hN := N128 t
  idx_vars y
  refine (out11 m c t hr y0 y1 y2 y3 ⟨t.val * 256 + y2.val, by omega⟩ rfl).trans ?_
  rw [← hKK, ← z_eq m c V0 hS hMu]
  refine (Cert.RwprepRefIdeal.Rwp.out0_at V0 ⟨t.val * 256 + y2.val, by omega⟩ y1 y3 y0).symm.trans ?_
  generalize Cert.RwprepRefIdeal.Rwp.out0 V0 = T
  blk_ext [idxC t]
include hS hMu hG2 in
/-- The output gate is the reference's. -/
theorem final12 : (dats m 0 c).arrAt 12 cfg0.N = Cert.RwprepRefIdeal.Rwp.out1 V0 := by
  refine Dat.arrAt_eq_of_covers (dats m 0 c) 12 _ (by decide +kernel) fun t _ y => ?_
  blk_simp
  rw [after0_12]
  have hN := N128 t
  idx_vars y
  refine (out12 m c t y0 y1 y2 ⟨t.val * 256 + y1.val, by omega⟩ rfl).trans ?_
  rw [← hG2, ← z_eq m c V0 hS hMu]
  refine (Cert.RwprepRefIdeal.Rwp.out1_at V0 ⟨t.val * 256 + y1.val, by omega⟩ y0 y2).symm.trans ?_
  generalize Cert.RwprepRefIdeal.Rwp.out1 V0 = T
  blk_ext [idxC t]
include hS hMu hW0 hA0 hKK hKA hW2 hA2 hr in
/-- Each direction's k, b and decay are the reference's. -/
theorem final13 : (dats m 0 c).arrAt 13 cfg0.N = Cert.RwprepRefIdeal.Rwp.out2 V0 := by
  refine Dat.arrAt_eq_of_covers (dats m 0 c) 13 _ (by decide +kernel) fun t _ y => ?_
  blk_simp
  rw [after0_13]
  have hN := N128 t
  idx_vars y
  refine (out13 m c t hr y0 y1 y2 y3 y4 ⟨t.val * 256 + y3.val, by omega⟩ rfl).trans ?_
  rw [← hKK, ← hW0, ← hA0, ← hKA, ← hW2, ← hA2, ← z_eq m c V0 hS hMu]
  refine (Cert.RwprepRefIdeal.Rwp.out2_at V0 ⟨t.val * 256 + y3.val, by omega⟩ y2 y4 y0 y1).symm.trans ?_
  generalize Cert.RwprepRefIdeal.Rwp.out2 V0 = T
  blk_ext [idxC t]
end
end Cert.RwprepIdeal.Rwp
-- ==== Proof.lean ====
/- The certificate's claims, from the modules beside this one. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.InprojRefIdeal.Run
public import proofs.«01_k».proof.Proof.Gen.MergeRefIdeal.Run
public import proofs.«01_k».proof.Proof.Gen.Router
public import proofs.«01_k».proof.Proof.Gen.Router.Skeleton
public import proofs.«01_k».proof.Proof.Gen.Router.Launch
public import proofs.«01_k».proof.Proof.Gen.Router.Points
public import proofs.«01_k».proof.Proof.Gen.Router.Frame
public import proofs.«01_k».proof.Proof.Gen.RouterIdeal
public import proofs.«01_k».proof.Proof.Gen.RouterIdeal.Skeleton
public import proofs.«01_k».proof.Proof.Gen.RouterIdeal.Launch
public import proofs.«01_k».proof.Proof.Gen.RouterIdeal.Points
public import proofs.«01_k».proof.Proof.Gen.RouterIdeal.Frame
public import proofs.«01_k».proof.Proof.Gen.RouterIdeal.Value
public import proofs.«01_k».proof.Proof.Gen.RouterRefIdeal.Run
public import proofs.«01_k».proof.Proof.Gen.Rwprep
public import proofs.«01_k».proof.Proof.Gen.Rwprep.Skeleton
public import proofs.«01_k».proof.Proof.Gen.Rwprep.Launch
public import proofs.«01_k».proof.Proof.Gen.Rwprep.Points
public import proofs.«01_k».proof.Proof.Gen.Rwprep.Frame
public import proofs.«01_k».proof.Proof.Gen.RwprepIdeal
public import proofs.«01_k».proof.Proof.Gen.RwprepIdeal.Skeleton
public import proofs.«01_k».proof.Proof.Gen.RwprepIdeal.Launch
public import proofs.«01_k».proof.Proof.Gen.RwprepIdeal.Points
public import proofs.«01_k».proof.Proof.Gen.RwprepIdeal.Frame
public import proofs.«01_k».proof.Proof.Gen.RwprepIdeal.Value
public import proofs.«01_k».proof.Proof.Gen.RwprepRefIdeal.Run
public import proofs.«01_k».proof.Proof.Att.Finite
public import proofs.«01_k».proof.Proof.Inp.Final
public import proofs.«01_k».proof.Proof.Rtr.Finite
public import proofs.«01_k».proof.Proof.Mrg.Finite
public import proofs.«01_k».proof.Proof.Rwp.Final
public import proofs.«01_k».proof.Proof.Rwp.Finite
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference leaves its arguments, and it has no semaphores. -/
theorem frame_ref : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩) (Cert.ReferenceIdeal.Value.run m g)

/-- The attention's result is the reference's, for finite queries, keys, values and lambda vectors. -/
theorem algebraic : Cert.algebraic_KernelIdeal_ReferenceIdeal_pre_finite (hKernelIdeal := Cert.KernelIdeal.Gen.facts) (hReferenceIdeal := Cert.ReferenceIdeal.Gen.facts) (hPre_finite := Cert.Finite.facts) := by
  haveI := Cert.Finite.facts
  pair_intro
  · run_from Cert.KernelIdeal.Value.run_blocks m g
  · run_from Cert.ReferenceIdeal.Value.run m' g'
    obtain ⟨hX, h1, h2, h3, h4⟩ := Cert.Finite.split _ _ _ _ _ _ (hpre c)
    obtain ⟨L, hL⟩ := Cert.Finite.lam_real _ _ _ _ h1 h2 h3 h4
    obtain ⟨e0, e1, e2, e3, e4, e5⟩ := hagree c
    refine (Cert.ReferenceIdeal.Att.res_eq m' c).trans ?_
    rw [e0, e1, e2, e3, e4, e5]
    exact (Cert.KernelIdeal.Att.final m c hX L hL).symm

theorem frame_inproj_ref : Cert.quiescent_InprojRefIdeal (hInprojRefIdeal := Cert.InprojRefIdeal.Gen.facts) := fun m g _ =>
  (θ_run Cert.InprojRefIdeal.defs _ _).mono (fun r h => ⟨fun c => (h c).2, sem_eq_zero_of_no_sems (by decide) r.2⟩) (Cert.InprojRefIdeal.Value.run m g)

/-- The projection's result is the reference's, for all inputs. -/
theorem algebraic_inproj : Cert.algebraic_InprojIdeal_InprojRefIdeal (hInprojIdeal := Cert.InprojIdeal.Gen.facts) (hInprojRefIdeal := Cert.InprojRefIdeal.Gen.facts) := by
  pair_intro
  · run_from Cert.InprojIdeal.Value.run m g
  · run_from Cert.InprojRefIdeal.Value.run m' g'
    obtain ⟨e0, e1, e2⟩ := hagree c
    refine (Cert.InprojRefIdeal.Inp.res_eq m' c).trans ?_
    rw [e0, e1, e2]
    exact (Cert.InprojIdeal.Inp.final m c).symm.trans (Cert.InprojIdeal.Value.final3 m c)

theorem frame_merge_ref : Cert.quiescent_MergeRefIdeal (hMergeRefIdeal := Cert.MergeRefIdeal.Gen.facts) := fun m g _ =>
  (θ_run Cert.MergeRefIdeal.defs _ _).mono (fun r h => ⟨fun c => (h c).2, sem_eq_zero_of_no_sems (by decide) r.2⟩) (Cert.MergeRefIdeal.Value.run m g)

/-- The merge's result is the reference's, when the two directions of the recurrence are finite. -/
theorem algebraic_merge : Cert.algebraic_MergeIdeal_MergeRefIdeal_pre_scans_finite (hMergeIdeal := Cert.MergeIdeal.Gen.facts) (hMergeRefIdeal := Cert.MergeRefIdeal.Gen.facts) (hPre_scans_finite := Cert.ScansFinite.facts) := by
  haveI := Cert.ScansFinite.facts
  pair_intro
  · run_from Cert.MergeIdeal.Value.run_blocks m g
  · run_from Cert.MergeRefIdeal.Value.run m' g'
    obtain ⟨e0, e1, e2, e3, e4, e5, e6, e7, e8, e9, e10, e11⟩ := hagree c
    refine (Cert.MergeRefIdeal.Mrg.res_eq m' c).trans ?_
    rw [e0, e1, e2, e3, e4, e5, e6, e7, e8, e9, e10, e11]
    exact (Cert.MergeIdeal.Mrg.final m c (Cert.ScansFinite.split _ _ _ _ _ _ _ _ _ _ _ _ (hpre c))).symm

theorem frame_router_ref : Cert.quiescent_RouterRefIdeal (hRouterRefIdeal := Cert.RouterRefIdeal.Gen.facts) := fun m g _ =>
  (θ_run Cert.RouterRefIdeal.defs _ _).mono (fun r h => ⟨fun c => (h c).2.2, sem_eq_zero_of_no_sems (by decide) r.2⟩) (Cert.RouterRefIdeal.Value.run m g)

/-- The router's two results are the reference's, for finite gains and router weights. -/
theorem algebraic_router : Cert.algebraic_RouterIdeal_RouterRefIdeal_pre_router_finite (hRouterIdeal := Cert.RouterIdeal.Gen.facts) (hRouterRefIdeal := Cert.RouterRefIdeal.Gen.facts) (hPre_router_finite := Cert.RouterFinite.facts) := by
  haveI := Cert.RouterFinite.facts
  pair_intro
  · run_from Cert.RouterIdeal.Value.run_blocks m g
  · refine Idealize.ShloMosaic.θ_run_mono (Cert.RouterRefIdeal.Rtr.run m' g') fun r hr c => ?_
    obtain ⟨h0, h1, h2⟩ := hr c
    obtain ⟨e0, e1, e2⟩ := hagree c
    obtain ⟨hG, hW⟩ := Cert.RouterFinite.split _ _ _ (hpre c)
    refine ⟨h0.trans ?_, h1.trans ?_, h2⟩
    · rw [e0, e1]
      exact (Cert.RouterIdeal.Rtr.final_hn m c).symm
    · rw [e0, e1, e2]
      exact (Cert.RouterIdeal.Rtr.final_aff m c (fun _ => hG _) fun _ _ => hW _).symm

theorem frame_rwprep_ref : Cert.quiescent_RwprepRefIdeal (hRwprepRefIdeal := Cert.RwprepRefIdeal.Gen.facts) := fun m g _ =>
  (θ_run Cert.RwprepRefIdeal.defs _ _).mono (fun r h => ⟨fun c => (h c).2.2.2, sem_eq_zero_of_no_sems (by decide) r.2⟩) (Cert.RwprepRefIdeal.Value.run m g)

/-- The recurrence's arguments are the reference's, if the keys' projection, shift and scale are finite. -/
theorem algebraic_rwprep : Cert.algebraic_RwprepIdeal_RwprepRefIdeal_pre_keys_finite (hRwprepIdeal := Cert.RwprepIdeal.Gen.facts) (hRwprepRefIdeal := Cert.RwprepRefIdeal.Gen.facts) (hPre_keys_finite := Cert.KeysFinite.facts) := by
  haveI := Cert.KeysFinite.facts
  pair_intro
  · run_from Cert.RwprepIdeal.Value.run_blocks m g
  · refine Idealize.ShloMosaic.θ_run_mono (Cert.RwprepRefIdeal.Rwp.run m' g') fun r hr c => ?_
    obtain ⟨h0, h1, h2, hk⟩ := hr c
    obtain ⟨e0, e1, e2, e3, e4, e5, e6, e7, e8⟩ := hagree c
    obtain ⟨hX, hM, hK⟩ := Cert.KeysFinite.split _ _ _ _ _ _ _ _ _ (hpre c)
    have f0 : Cert.RwprepRefIdeal.Rwp.Sl (StableHlo.launchContents m' c) = Cert.RwprepIdeal.Rwp.aS m c := funext fun s => funext fun n => funext fun l => congrFun e0 _
    have f1 : Cert.RwprepRefIdeal.Rwp.Mu (StableHlo.launchContents m' c) = Cert.RwprepIdeal.Rwp.aMu m c := funext fun d => funext fun j => congrFun e1 _
    have f2 : Cert.RwprepRefIdeal.Rwp.W0 (StableHlo.launchContents m' c) = Cert.RwprepIdeal.Rwp.aW0 m c := funext fun d => funext fun j => congrFun e2 _
    have f3 : Cert.RwprepRefIdeal.Rwp.A0 (StableHlo.launchContents m' c) = Cert.RwprepIdeal.Rwp.aA0 m c := funext fun d => funext fun j => congrFun e3 _
    have f4 : Cert.RwprepRefIdeal.Rwp.KK (StableHlo.launchContents m' c) = Cert.RwprepIdeal.Rwp.aKK m c := funext fun j => congrFun e4 _
    have f5 : Cert.RwprepRefIdeal.Rwp.KA (StableHlo.launchContents m' c) = Cert.RwprepIdeal.Rwp.aKA m c := funext fun j => congrFun e5 _
    have f6 : Cert.RwprepRefIdeal.Rwp.W2 (StableHlo.launchContents m' c) = Cert.RwprepIdeal.Rwp.aW2 m c := funext fun d => funext fun x => funext fun j => congrFun e6 _
    have f7 : Cert.RwprepRefIdeal.Rwp.A2 (StableHlo.launchContents m' c) = Cert.RwprepIdeal.Rwp.aA2 m c := funext fun d => funext fun x => funext fun j => congrFun e7 _
    have f8 : Cert.RwprepRefIdeal.Rwp.G2 (StableHlo.launchContents m' c) = Cert.RwprepIdeal.Rwp.aG2 m c := funext fun x => funext fun j => congrFun e8 _
    have hr : ∀ n j, Cert.KeysFinite.R (Cert.Rwp.kv (Cert.RwprepIdeal.Rwp.aZ m c n) (Cert.RwprepIdeal.Rwp.aKK m c) j) := fun n j =>
      Cert.KeysFinite.kv_real _ _ (fun q => Cert.KeysFinite.zk_real (Cert.RwprepIdeal.Rwp.aS m c) (Cert.RwprepIdeal.Rwp.aMu m c 0) (Cert.RwprepIdeal.Rwp.aMu m c 1) (fun s i l h1 h2 => hX ⟨56 + s.val, by omega⟩ i l (by dsimp only; omega) (by dsimp only; omega)) (fun j => hM 0 j) (fun j => hM 1 j) n q) (fun _ => hK _) j
    refine ⟨h0.trans ?_, h1.trans ?_, h2.trans ?_, hk⟩
    · exact (Cert.RwprepIdeal.Rwp.final11 m c _ f0 f1 f4 hr).symm
    · exact (Cert.RwprepIdeal.Rwp.final12 m c _ f0 f1 f8).symm
    · exact (Cert.RwprepIdeal.Rwp.final13 m c _ f0 f1 f2 f3 f4 f5 f6 f7 hr).symm

theorem claim : Cert.Claim :=
  ⟨Cert.Kernel.Gen.facts, Cert.KernelIdeal.Gen.facts, Cert.ReferenceIdeal.Gen.facts,
    Cert.Inproj.Gen.facts, Cert.InprojIdeal.Gen.facts, Cert.InprojRefIdeal.Gen.facts,
    Cert.Merge.Gen.facts, Cert.MergeIdeal.Gen.facts, Cert.MergeRefIdeal.Gen.facts,
    Cert.Router.Gen.facts, Cert.RouterIdeal.Gen.facts, Cert.RouterRefIdeal.Gen.facts,
    Cert.Rwprep.Gen.facts, Cert.RwprepIdeal.Gen.facts, Cert.RwprepRefIdeal.Gen.facts, Cert.Finite.facts, Cert.ScansFinite.facts, Cert.RouterFinite.facts, Cert.KeysFinite.facts,
    fun m g _ => Cert.Kernel.Gen.frame m g,
    fun m g _ => Cert.KernelIdeal.Gen.frame m g,
    fun m g _ => Cert.KernelIdeal.Gen.frame m g,
    fun m g _ => frame_ref m g trivial,
    fun m g _ => frame_ref m g trivial,
    fun m g _ => Cert.Inproj.Gen.frame m g,
    fun m g _ => Cert.InprojIdeal.Gen.frame m g,
    frame_inproj_ref,
    fun m g _ => Cert.Merge.Gen.frame m g,
    fun m g _ => Cert.MergeIdeal.Gen.frame m g,
    fun m g _ => Cert.MergeIdeal.Gen.frame m g,
    fun m g _ => frame_merge_ref m g trivial,
    fun m g _ => frame_merge_ref m g trivial,
    fun m g _ => Cert.Router.Gen.frame m g,
    fun m g _ => Cert.RouterIdeal.Gen.frame m g,
    fun m g _ => Cert.RouterIdeal.Gen.frame m g,
    fun m g _ => frame_router_ref m g trivial,
    fun m g _ => frame_router_ref m g trivial,
    fun m g _ => Cert.Rwprep.Gen.frame m g,
    fun m g _ => Cert.RwprepIdeal.Gen.frame m g,
    fun m g _ => Cert.RwprepIdeal.Gen.frame m g,
    fun m g _ => frame_rwprep_ref m g trivial,
    fun m g _ => frame_rwprep_ref m g trivial,
    trivial, algebraic, trivial, algebraic_inproj, trivial, algebraic_merge, trivial, algebraic_router,
    trivial, algebraic_rwprep⟩

end Cert.Proof

end
